-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInReferenceIdeal (m : (ℓ : Loc Cert.SsmInReferenceIdeal.nD Cert.SsmInReferenceIdeal.τ Cert.SsmInReferenceIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxReferenceIdeal (m : (ℓ : Loc Cert.SsmInDxReferenceIdeal.nD Cert.SsmInDxReferenceIdeal.τ Cert.SsmInDxReferenceIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwReferenceIdeal (m : (ℓ : Loc Cert.SsmInDwReferenceIdeal.nD Cert.SsmInDwReferenceIdeal.τ Cert.SsmInDwReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxReferenceIdeal (m : (ℓ : Loc Cert.SsmOutDxReferenceIdeal.nD Cert.SsmOutDxReferenceIdeal.τ Cert.SsmOutDxReferenceIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwReferenceIdeal (m : (ℓ : Loc Cert.SsmOutDwReferenceIdeal.nD Cert.SsmOutDwReferenceIdeal.τ Cert.SsmOutDwReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxReferenceIdeal (m : (ℓ : Loc Cert.QkvDxReferenceIdeal.nD Cert.QkvDxReferenceIdeal.τ Cert.QkvDxReferenceIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwReferenceIdeal (m : (ℓ : Loc Cert.QkvDwReferenceIdeal.nD Cert.QkvDwReferenceIdeal.τ Cert.QkvDwReferenceIdeal.sig) → Buf (Elt Ideal) ℓ) : Prop :=
  True

def Pre_SbO (m : (ℓ : Loc Cert.SbO.nD Cert.SbO.τ Cert.SbO.sig) → Buf (Elt Bits) ℓ) : Prop :=
  True

def Pre_SbOIdeal (m : (ℓ : Loc Cert.SbOIdeal.nD Cert.SbOIdeal.τ Cert.SbOIdeal.sig) → Buf (Elt Ideal) ℓ) : Prop :=
  True

def Pre_SbOReferenceIdeal (m : (ℓ : Loc Cert.SbOReferenceIdeal.nD Cert.SbOReferenceIdeal.τ Cert.SbOReferenceIdeal.sig) → Buf (Elt Ideal) ℓ) : Prop :=
  True

def Pre_SbODx (m : (ℓ : Loc Cert.SbODx.nD Cert.SbODx.τ Cert.SbODx.sig) → Buf (Elt Bits) ℓ) : Prop :=
  True

def Pre_SbODxIdeal (m : (ℓ : Loc Cert.SbODxIdeal.nD Cert.SbODxIdeal.τ Cert.SbODxIdeal.sig) → Buf (Elt Ideal) ℓ) : Prop :=
  True

def Pre_SbODxReferenceIdeal (m : (ℓ : Loc Cert.SbODxReferenceIdeal.nD Cert.SbODxReferenceIdeal.τ Cert.SbODxReferenceIdeal.sig) → Buf (Elt Ideal) ℓ) : Prop :=
  True

def Pre_SbODw (m : (ℓ : Loc Cert.SbODw.nD Cert.SbODw.τ Cert.SbODw.sig) → Buf (Elt Bits) ℓ) : Prop :=
  True

def Pre_SbODwIdeal (m : (ℓ : Loc Cert.SbODwIdeal.nD Cert.SbODwIdeal.τ Cert.SbODwIdeal.sig) → Buf (Elt Ideal) ℓ) : Prop :=
  True

def Pre_SbODwReferenceIdeal (m : (ℓ : Loc Cert.SbODwReferenceIdeal.nD Cert.SbODwReferenceIdeal.τ Cert.SbODwReferenceIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_qk [hPre_finite_qk : Cert.Pre_finite_qk.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_qk.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))).1 = (fun _ => 1#1)
    ∧ (Cert.Pre_finite_qk.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))).2 = (fun _ => 1#1)

def Pre_SbFwdReferenceIdeal (m : (ℓ : Loc Cert.SbFwdReferenceIdeal.nD Cert.SbFwdReferenceIdeal.τ Cert.SbFwdReferenceIdeal.sig) → Buf (Elt Ideal) ℓ) : Prop :=
  True

def Pre_SbFwdReferenceIdeal_finite_qk [hPre_finite_qk : Cert.Pre_finite_qk.Facts] (m : (ℓ : Loc Cert.SbFwdReferenceIdeal.nD Cert.SbFwdReferenceIdeal.τ Cert.SbFwdReferenceIdeal.sig) → Buf (Elt Ideal) ℓ) : Prop :=
  ∀ c : Dev Cert.SbFwdReferenceIdeal.nD,
    (Cert.Pre_finite_qk.fn (F := Ideal) (m ((c.tc : Thread Cert.SbFwdReferenceIdeal.nD Cert.SbFwdReferenceIdeal.τ).loc Cert.SbFwdReferenceIdeal.main_arg0)) (m ((c.tc : Thread Cert.SbFwdReferenceIdeal.nD Cert.SbFwdReferenceIdeal.τ).loc Cert.SbFwdReferenceIdeal.main_arg1)) (m ((c.tc : Thread Cert.SbFwdReferenceIdeal.nD Cert.SbFwdReferenceIdeal.τ).loc Cert.SbFwdReferenceIdeal.main_arg2))).1 = (fun _ => 1#1)
    ∧ (Cert.Pre_finite_qk.fn (F := Ideal) (m ((c.tc : Thread Cert.SbFwdReferenceIdeal.nD Cert.SbFwdReferenceIdeal.τ).loc Cert.SbFwdReferenceIdeal.main_arg0)) (m ((c.tc : Thread Cert.SbFwdReferenceIdeal.nD Cert.SbFwdReferenceIdeal.τ).loc Cert.SbFwdReferenceIdeal.main_arg1)) (m ((c.tc : Thread Cert.SbFwdReferenceIdeal.nD Cert.SbFwdReferenceIdeal.τ).loc Cert.SbFwdReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInReferenceIdeal [hSsmInReferenceIdeal : Cert.SsmInReferenceIdeal.Facts] : Prop :=
  ∀ (m : (ℓ : Loc Cert.SsmInReferenceIdeal.nD Cert.SsmInReferenceIdeal.τ Cert.SsmInReferenceIdeal.sig) → Buf (Elt Ideal) ℓ) (g : Dev Cert.SsmInReferenceIdeal.nD → PrngReg), Pre_SsmInReferenceIdeal m →
    θ_run (Cert.SsmInReferenceIdeal.defs (F := Ideal)) (onTc (τ := Cert.SsmInReferenceIdeal.τ) (Cert.SsmInReferenceIdeal.main (F := Ideal))) ⟨m, fun _ => 0, g⟩ (fun r => (∀ c : Dev Cert.SsmInReferenceIdeal.nD,
      r.2.mem ((c.tc : Thread Cert.SsmInReferenceIdeal.nD Cert.SsmInReferenceIdeal.τ).loc Cert.SsmInReferenceIdeal.main_arg0) = m ((c.tc : Thread Cert.SsmInReferenceIdeal.nD Cert.SsmInReferenceIdeal.τ).loc Cert.SsmInReferenceIdeal.main_arg0)
      ∧ r.2.mem ((c.tc : Thread Cert.SsmInReferenceIdeal.nD Cert.SsmInReferenceIdeal.τ).loc Cert.SsmInReferenceIdeal.main_arg1) = m ((c.tc : Thread Cert.SsmInReferenceIdeal.nD Cert.SsmInReferenceIdeal.τ).loc Cert.SsmInReferenceIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxReferenceIdeal [hSsmInDxReferenceIdeal : Cert.SsmInDxReferenceIdeal.Facts] : Prop :=
  ∀ (m : (ℓ : Loc Cert.SsmInDxReferenceIdeal.nD Cert.SsmInDxReferenceIdeal.τ Cert.SsmInDxReferenceIdeal.sig) → Buf (Elt Ideal) ℓ) (g : Dev Cert.SsmInDxReferenceIdeal.nD → PrngReg), Pre_SsmInDxReferenceIdeal m →
    θ_run (Cert.SsmInDxReferenceIdeal.defs (F := Ideal)) (onTc (τ := Cert.SsmInDxReferenceIdeal.τ) (Cert.SsmInDxReferenceIdeal.main (F := Ideal))) ⟨m, fun _ => 0, g⟩ (fun r => (∀ c : Dev Cert.SsmInDxReferenceIdeal.nD,
      r.2.mem ((c.tc : Thread Cert.SsmInDxReferenceIdeal.nD Cert.SsmInDxReferenceIdeal.τ).loc Cert.SsmInDxReferenceIdeal.main_arg0) = m ((c.tc : Thread Cert.SsmInDxReferenceIdeal.nD Cert.SsmInDxReferenceIdeal.τ).loc Cert.SsmInDxReferenceIdeal.main_arg0)
      ∧ r.2.mem ((c.tc : Thread Cert.SsmInDxReferenceIdeal.nD Cert.SsmInDxReferenceIdeal.τ).loc Cert.SsmInDxReferenceIdeal.main_arg1) = m ((c.tc : Thread Cert.SsmInDxReferenceIdeal.nD Cert.SsmInDxReferenceIdeal.τ).loc Cert.SsmInDxReferenceIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwReferenceIdeal [hSsmInDwReferenceIdeal : Cert.SsmInDwReferenceIdeal.Facts] : Prop :=
  ∀ (m : (ℓ : Loc Cert.SsmInDwReferenceIdeal.nD Cert.SsmInDwReferenceIdeal.τ Cert.SsmInDwReferenceIdeal.sig) → Buf (Elt Ideal) ℓ) (g : Dev Cert.SsmInDwReferenceIdeal.nD → PrngReg), Pre_SsmInDwReferenceIdeal m →
    θ_run (Cert.SsmInDwReferenceIdeal.defs (F := Ideal)) (onTc (τ := Cert.SsmInDwReferenceIdeal.τ) (Cert.SsmInDwReferenceIdeal.main (F := Ideal))) ⟨m, fun _ => 0, g⟩ (fun r => (∀ c : Dev Cert.SsmInDwReferenceIdeal.nD,
      r.2.mem ((c.tc : Thread Cert.SsmInDwReferenceIdeal.nD Cert.SsmInDwReferenceIdeal.τ).loc Cert.SsmInDwReferenceIdeal.main_arg0) = m ((c.tc : Thread Cert.SsmInDwReferenceIdeal.nD Cert.SsmInDwReferenceIdeal.τ).loc Cert.SsmInDwReferenceIdeal.main_arg0)
      ∧ r.2.mem ((c.tc : Thread Cert.SsmInDwReferenceIdeal.nD Cert.SsmInDwReferenceIdeal.τ).loc Cert.SsmInDwReferenceIdeal.main_arg1) = m ((c.tc : Thread Cert.SsmInDwReferenceIdeal.nD Cert.SsmInDwReferenceIdeal.τ).loc Cert.SsmInDwReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxReferenceIdeal [hSsmOutDxReferenceIdeal : Cert.SsmOutDxReferenceIdeal.Facts] : Prop :=
  ∀ (m : (ℓ : Loc Cert.SsmOutDxReferenceIdeal.nD Cert.SsmOutDxReferenceIdeal.τ Cert.SsmOutDxReferenceIdeal.sig) → Buf (Elt Ideal) ℓ) (g : Dev Cert.SsmOutDxReferenceIdeal.nD → PrngReg), Pre_SsmOutDxReferenceIdeal m →
    θ_run (Cert.SsmOutDxReferenceIdeal.defs (F := Ideal)) (onTc (τ := Cert.SsmOutDxReferenceIdeal.τ) (Cert.SsmOutDxReferenceIdeal.main (F := Ideal))) ⟨m, fun _ => 0, g⟩ (fun r => (∀ c : Dev Cert.SsmOutDxReferenceIdeal.nD,
      r.2.mem ((c.tc : Thread Cert.SsmOutDxReferenceIdeal.nD Cert.SsmOutDxReferenceIdeal.τ).loc Cert.SsmOutDxReferenceIdeal.main_arg0) = m ((c.tc : Thread Cert.SsmOutDxReferenceIdeal.nD Cert.SsmOutDxReferenceIdeal.τ).loc Cert.SsmOutDxReferenceIdeal.main_arg0)
      ∧ r.2.mem ((c.tc : Thread Cert.SsmOutDxReferenceIdeal.nD Cert.SsmOutDxReferenceIdeal.τ).loc Cert.SsmOutDxReferenceIdeal.main_arg1) = m ((c.tc : Thread Cert.SsmOutDxReferenceIdeal.nD Cert.SsmOutDxReferenceIdeal.τ).loc Cert.SsmOutDxReferenceIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwReferenceIdeal [hSsmOutDwReferenceIdeal : Cert.SsmOutDwReferenceIdeal.Facts] : Prop :=
  ∀ (m : (ℓ : Loc Cert.SsmOutDwReferenceIdeal.nD Cert.SsmOutDwReferenceIdeal.τ Cert.SsmOutDwReferenceIdeal.sig) → Buf (Elt Ideal) ℓ) (g : Dev Cert.SsmOutDwReferenceIdeal.nD → PrngReg), Pre_SsmOutDwReferenceIdeal m →
    θ_run (Cert.SsmOutDwReferenceIdeal.defs (F := Ideal)) (onTc (τ := Cert.SsmOutDwReferenceIdeal.τ) (Cert.SsmOutDwReferenceIdeal.main (F := Ideal))) ⟨m, fun _ => 0, g⟩ (fun r => (∀ c : Dev Cert.SsmOutDwReferenceIdeal.nD,
      r.2.mem ((c.tc : Thread Cert.SsmOutDwReferenceIdeal.nD Cert.SsmOutDwReferenceIdeal.τ).loc Cert.SsmOutDwReferenceIdeal.main_arg0) = m ((c.tc : Thread Cert.SsmOutDwReferenceIdeal.nD Cert.SsmOutDwReferenceIdeal.τ).loc Cert.SsmOutDwReferenceIdeal.main_arg0)
      ∧ r.2.mem ((c.tc : Thread Cert.SsmOutDwReferenceIdeal.nD Cert.SsmOutDwReferenceIdeal.τ).loc Cert.SsmOutDwReferenceIdeal.main_arg1) = m ((c.tc : Thread Cert.SsmOutDwReferenceIdeal.nD Cert.SsmOutDwReferenceIdeal.τ).loc Cert.SsmOutDwReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxReferenceIdeal [hQkvDxReferenceIdeal : Cert.QkvDxReferenceIdeal.Facts] : Prop :=
  ∀ (m : (ℓ : Loc Cert.QkvDxReferenceIdeal.nD Cert.QkvDxReferenceIdeal.τ Cert.QkvDxReferenceIdeal.sig) → Buf (Elt Ideal) ℓ) (g : Dev Cert.QkvDxReferenceIdeal.nD → PrngReg), Pre_QkvDxReferenceIdeal m →
    θ_run (Cert.QkvDxReferenceIdeal.defs (F := Ideal)) (onTc (τ := Cert.QkvDxReferenceIdeal.τ) (Cert.QkvDxReferenceIdeal.main (F := Ideal))) ⟨m, fun _ => 0, g⟩ (fun r => (∀ c : Dev Cert.QkvDxReferenceIdeal.nD,
      r.2.mem ((c.tc : Thread Cert.QkvDxReferenceIdeal.nD Cert.QkvDxReferenceIdeal.τ).loc Cert.QkvDxReferenceIdeal.main_arg0) = m ((c.tc : Thread Cert.QkvDxReferenceIdeal.nD Cert.QkvDxReferenceIdeal.τ).loc Cert.QkvDxReferenceIdeal.main_arg0)
      ∧ r.2.mem ((c.tc : Thread Cert.QkvDxReferenceIdeal.nD Cert.QkvDxReferenceIdeal.τ).loc Cert.QkvDxReferenceIdeal.main_arg1) = m ((c.tc : Thread Cert.QkvDxReferenceIdeal.nD Cert.QkvDxReferenceIdeal.τ).loc Cert.QkvDxReferenceIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwReferenceIdeal [hQkvDwReferenceIdeal : Cert.QkvDwReferenceIdeal.Facts] : Prop :=
  ∀ (m : (ℓ : Loc Cert.QkvDwReferenceIdeal.nD Cert.QkvDwReferenceIdeal.τ Cert.QkvDwReferenceIdeal.sig) → Buf (Elt Ideal) ℓ) (g : Dev Cert.QkvDwReferenceIdeal.nD → PrngReg), Pre_QkvDwReferenceIdeal m →
    θ_run (Cert.QkvDwReferenceIdeal.defs (F := Ideal)) (onTc (τ := Cert.QkvDwReferenceIdeal.τ) (Cert.QkvDwReferenceIdeal.main (F := Ideal))) ⟨m, fun _ => 0, g⟩ (fun r => (∀ c : Dev Cert.QkvDwReferenceIdeal.nD,
      r.2.mem ((c.tc : Thread Cert.QkvDwReferenceIdeal.nD Cert.QkvDwReferenceIdeal.τ).loc Cert.QkvDwReferenceIdeal.main_arg0) = m ((c.tc : Thread Cert.QkvDwReferenceIdeal.nD Cert.QkvDwReferenceIdeal.τ).loc Cert.QkvDwReferenceIdeal.main_arg0)
      ∧ r.2.mem ((c.tc : Thread Cert.QkvDwReferenceIdeal.nD Cert.QkvDwReferenceIdeal.τ).loc Cert.QkvDwReferenceIdeal.main_arg1) = m ((c.tc : Thread Cert.QkvDwReferenceIdeal.nD Cert.QkvDwReferenceIdeal.τ).loc Cert.QkvDwReferenceIdeal.main_arg1))
      ∧ r.2.sem = fun _ => 0)

def quiescent_SbO [hSbO : Cert.SbO.Facts] : Prop :=
  ∀ (m : (ℓ : Loc Cert.SbO.nD Cert.SbO.τ Cert.SbO.sig) → Buf (Elt Bits) ℓ) (g : Dev Cert.SbO.nD → PrngReg), Pre_SbO m →
    θ_run (Cert.SbO.defs (F := Bits)) (onTc (τ := Cert.SbO.τ) (Cert.SbO.main (F := Bits))) ⟨m, fun _ => 0, g⟩ (fun r => (∀ c : Dev Cert.SbO.nD,
      r.2.mem ((c.tc : Thread Cert.SbO.nD Cert.SbO.τ).loc Cert.SbO.main_arg0) = m ((c.tc : Thread Cert.SbO.nD Cert.SbO.τ).loc Cert.SbO.main_arg0)
      ∧ r.2.mem ((c.tc : Thread Cert.SbO.nD Cert.SbO.τ).loc Cert.SbO.main_arg1) = m ((c.tc : Thread Cert.SbO.nD Cert.SbO.τ).loc Cert.SbO.main_arg1))
      ∧ r.2.sem = fun _ => 0)

def quiescent_SbOIdeal [hSbOIdeal : Cert.SbOIdeal.Facts] : Prop :=
  ∀ (m : (ℓ : Loc Cert.SbOIdeal.nD Cert.SbOIdeal.τ Cert.SbOIdeal.sig) → Buf (Elt Ideal) ℓ) (g : Dev Cert.SbOIdeal.nD → PrngReg), Pre_SbOIdeal m →
    θ_run (Cert.SbOIdeal.defs (F := Ideal)) (onTc (τ := Cert.SbOIdeal.τ) (Cert.SbOIdeal.main (F := Ideal))) ⟨m, fun _ => 0, g⟩ (fun r => (∀ c : Dev Cert.SbOIdeal.nD,
      r.2.mem ((c.tc : Thread Cert.SbOIdeal.nD Cert.SbOIdeal.τ).loc Cert.SbOIdeal.main_arg0) = m ((c.tc : Thread Cert.SbOIdeal.nD Cert.SbOIdeal.τ).loc Cert.SbOIdeal.main_arg0)
      ∧ r.2.mem ((c.tc : Thread Cert.SbOIdeal.nD Cert.SbOIdeal.τ).loc Cert.SbOIdeal.main_arg1) = m ((c.tc : Thread Cert.SbOIdeal.nD Cert.SbOIdeal.τ).loc Cert.SbOIdeal.main_arg1))
      ∧ r.2.sem = fun _ => 0)

def quiescent_SbOReferenceIdeal [hSbOReferenceIdeal : Cert.SbOReferenceIdeal.Facts] : Prop :=
  ∀ (m : (ℓ : Loc Cert.SbOReferenceIdeal.nD Cert.SbOReferenceIdeal.τ Cert.SbOReferenceIdeal.sig) → Buf (Elt Ideal) ℓ) (g : Dev Cert.SbOReferenceIdeal.nD → PrngReg), Pre_SbOReferenceIdeal m →
    θ_run (Cert.SbOReferenceIdeal.defs (F := Ideal)) (onTc (τ := Cert.SbOReferenceIdeal.τ) (Cert.SbOReferenceIdeal.main (F := Ideal))) ⟨m, fun _ => 0, g⟩ (fun r => (∀ c : Dev Cert.SbOReferenceIdeal.nD,
      r.2.mem ((c.tc : Thread Cert.SbOReferenceIdeal.nD Cert.SbOReferenceIdeal.τ).loc Cert.SbOReferenceIdeal.main_arg0) = m ((c.tc : Thread Cert.SbOReferenceIdeal.nD Cert.SbOReferenceIdeal.τ).loc Cert.SbOReferenceIdeal.main_arg0)
      ∧ r.2.mem ((c.tc : Thread Cert.SbOReferenceIdeal.nD Cert.SbOReferenceIdeal.τ).loc Cert.SbOReferenceIdeal.main_arg1) = m ((c.tc : Thread Cert.SbOReferenceIdeal.nD Cert.SbOReferenceIdeal.τ).loc Cert.SbOReferenceIdeal.main_arg1))
      ∧ r.2.sem = fun _ => 0)

def quiescent_SbODx [hSbODx : Cert.SbODx.Facts] : Prop :=
  ∀ (m : (ℓ : Loc Cert.SbODx.nD Cert.SbODx.τ Cert.SbODx.sig) → Buf (Elt Bits) ℓ) (g : Dev Cert.SbODx.nD → PrngReg), Pre_SbODx m →
    θ_run (Cert.SbODx.defs (F := Bits)) (onTc (τ := Cert.SbODx.τ) (Cert.SbODx.main (F := Bits))) ⟨m, fun _ => 0, g⟩ (fun r => (∀ c : Dev Cert.SbODx.nD,
      r.2.mem ((c.tc : Thread Cert.SbODx.nD Cert.SbODx.τ).loc Cert.SbODx.main_arg0) = m ((c.tc : Thread Cert.SbODx.nD Cert.SbODx.τ).loc Cert.SbODx.main_arg0)
      ∧ r.2.mem ((c.tc : Thread Cert.SbODx.nD Cert.SbODx.τ).loc Cert.SbODx.main_arg1) = m ((c.tc : Thread Cert.SbODx.nD Cert.SbODx.τ).loc Cert.SbODx.main_arg1))
      ∧ r.2.sem = fun _ => 0)

def quiescent_SbODxIdeal [hSbODxIdeal : Cert.SbODxIdeal.Facts] : Prop :=
  ∀ (m : (ℓ : Loc Cert.SbODxIdeal.nD Cert.SbODxIdeal.τ Cert.SbODxIdeal.sig) → Buf (Elt Ideal) ℓ) (g : Dev Cert.SbODxIdeal.nD → PrngReg), Pre_SbODxIdeal m →
    θ_run (Cert.SbODxIdeal.defs (F := Ideal)) (onTc (τ := Cert.SbODxIdeal.τ) (Cert.SbODxIdeal.main (F := Ideal))) ⟨m, fun _ => 0, g⟩ (fun r => (∀ c : Dev Cert.SbODxIdeal.nD,
      r.2.mem ((c.tc : Thread Cert.SbODxIdeal.nD Cert.SbODxIdeal.τ).loc Cert.SbODxIdeal.main_arg0) = m ((c.tc : Thread Cert.SbODxIdeal.nD Cert.SbODxIdeal.τ).loc Cert.SbODxIdeal.main_arg0)
      ∧ r.2.mem ((c.tc : Thread Cert.SbODxIdeal.nD Cert.SbODxIdeal.τ).loc Cert.SbODxIdeal.main_arg1) = m ((c.tc : Thread Cert.SbODxIdeal.nD Cert.SbODxIdeal.τ).loc Cert.SbODxIdeal.main_arg1))
      ∧ r.2.sem = fun _ => 0)

def quiescent_SbODxReferenceIdeal [hSbODxReferenceIdeal : Cert.SbODxReferenceIdeal.Facts] : Prop :=
  ∀ (m : (ℓ : Loc Cert.SbODxReferenceIdeal.nD Cert.SbODxReferenceIdeal.τ Cert.SbODxReferenceIdeal.sig) → Buf (Elt Ideal) ℓ) (g : Dev Cert.SbODxReferenceIdeal.nD → PrngReg), Pre_SbODxReferenceIdeal m →
    θ_run (Cert.SbODxReferenceIdeal.defs (F := Ideal)) (onTc (τ := Cert.SbODxReferenceIdeal.τ) (Cert.SbODxReferenceIdeal.main (F := Ideal))) ⟨m, fun _ => 0, g⟩ (fun r => (∀ c : Dev Cert.SbODxReferenceIdeal.nD,
      r.2.mem ((c.tc : Thread Cert.SbODxReferenceIdeal.nD Cert.SbODxReferenceIdeal.τ).loc Cert.SbODxReferenceIdeal.main_arg0) = m ((c.tc : Thread Cert.SbODxReferenceIdeal.nD Cert.SbODxReferenceIdeal.τ).loc Cert.SbODxReferenceIdeal.main_arg0)
      ∧ r.2.mem ((c.tc : Thread Cert.SbODxReferenceIdeal.nD Cert.SbODxReferenceIdeal.τ).loc Cert.SbODxReferenceIdeal.main_arg1) = m ((c.tc : Thread Cert.SbODxReferenceIdeal.nD Cert.SbODxReferenceIdeal.τ).loc Cert.SbODxReferenceIdeal.main_arg1))
      ∧ r.2.sem = fun _ => 0)

def quiescent_SbODw [hSbODw : Cert.SbODw.Facts] : Prop :=
  ∀ (m : (ℓ : Loc Cert.SbODw.nD Cert.SbODw.τ Cert.SbODw.sig) → Buf (Elt Bits) ℓ) (g : Dev Cert.SbODw.nD → PrngReg), Pre_SbODw m →
    θ_run (Cert.SbODw.defs (F := Bits)) (onTc (τ := Cert.SbODw.τ) (Cert.SbODw.main (F := Bits))) ⟨m, fun _ => 0, g⟩ (fun r => (∀ c : Dev Cert.SbODw.nD,
      r.2.mem ((c.tc : Thread Cert.SbODw.nD Cert.SbODw.τ).loc Cert.SbODw.main_arg0) = m ((c.tc : Thread Cert.SbODw.nD Cert.SbODw.τ).loc Cert.SbODw.main_arg0)
      ∧ r.2.mem ((c.tc : Thread Cert.SbODw.nD Cert.SbODw.τ).loc Cert.SbODw.main_arg1) = m ((c.tc : Thread Cert.SbODw.nD Cert.SbODw.τ).loc Cert.SbODw.main_arg1))
      ∧ r.2.sem = fun _ => 0)

def quiescent_SbODwIdeal [hSbODwIdeal : Cert.SbODwIdeal.Facts] : Prop :=
  ∀ (m : (ℓ : Loc Cert.SbODwIdeal.nD Cert.SbODwIdeal.τ Cert.SbODwIdeal.sig) → Buf (Elt Ideal) ℓ) (g : Dev Cert.SbODwIdeal.nD → PrngReg), Pre_SbODwIdeal m →
    θ_run (Cert.SbODwIdeal.defs (F := Ideal)) (onTc (τ := Cert.SbODwIdeal.τ) (Cert.SbODwIdeal.main (F := Ideal))) ⟨m, fun _ => 0, g⟩ (fun r => (∀ c : Dev Cert.SbODwIdeal.nD,
      r.2.mem ((c.tc : Thread Cert.SbODwIdeal.nD Cert.SbODwIdeal.τ).loc Cert.SbODwIdeal.main_arg0) = m ((c.tc : Thread Cert.SbODwIdeal.nD Cert.SbODwIdeal.τ).loc Cert.SbODwIdeal.main_arg0)
      ∧ r.2.mem ((c.tc : Thread Cert.SbODwIdeal.nD Cert.SbODwIdeal.τ).loc Cert.SbODwIdeal.main_arg1) = m ((c.tc : Thread Cert.SbODwIdeal.nD Cert.SbODwIdeal.τ).loc Cert.SbODwIdeal.main_arg1))
      ∧ r.2.sem = fun _ => 0)

def quiescent_SbODwReferenceIdeal [hSbODwReferenceIdeal : Cert.SbODwReferenceIdeal.Facts] : Prop :=
  ∀ (m : (ℓ : Loc Cert.SbODwReferenceIdeal.nD Cert.SbODwReferenceIdeal.τ Cert.SbODwReferenceIdeal.sig) → Buf (Elt Ideal) ℓ) (g : Dev Cert.SbODwReferenceIdeal.nD → PrngReg), Pre_SbODwReferenceIdeal m →
    θ_run (Cert.SbODwReferenceIdeal.defs (F := Ideal)) (onTc (τ := Cert.SbODwReferenceIdeal.τ) (Cert.SbODwReferenceIdeal.main (F := Ideal))) ⟨m, fun _ => 0, g⟩ (fun r => (∀ c : Dev Cert.SbODwReferenceIdeal.nD,
      r.2.mem ((c.tc : Thread Cert.SbODwReferenceIdeal.nD Cert.SbODwReferenceIdeal.τ).loc Cert.SbODwReferenceIdeal.main_arg0) = m ((c.tc : Thread Cert.SbODwReferenceIdeal.nD Cert.SbODwReferenceIdeal.τ).loc Cert.SbODwReferenceIdeal.main_arg0)
      ∧ r.2.mem ((c.tc : Thread Cert.SbODwReferenceIdeal.nD Cert.SbODwReferenceIdeal.τ).loc Cert.SbODwReferenceIdeal.main_arg1) = m ((c.tc : Thread Cert.SbODwReferenceIdeal.nD Cert.SbODwReferenceIdeal.τ).loc Cert.SbODwReferenceIdeal.main_arg1))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdIdeal_pre_finite_qk [hSbFwdIdeal : Cert.SbFwdIdeal.Facts] [hPre_finite_qk : Cert.Pre_finite_qk.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_qk m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdReferenceIdeal [hSbFwdReferenceIdeal : Cert.SbFwdReferenceIdeal.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0)
      ∧ r.2.mem ((c.tc : Thread Cert.SbFwdReferenceIdeal.nD Cert.SbFwdReferenceIdeal.τ).loc Cert.SbFwdReferenceIdeal.main_arg1) = m ((c.tc : Thread Cert.SbFwdReferenceIdeal.nD Cert.SbFwdReferenceIdeal.τ).loc Cert.SbFwdReferenceIdeal.main_arg1)
      ∧ r.2.mem ((c.tc : Thread Cert.SbFwdReferenceIdeal.nD Cert.SbFwdReferenceIdeal.τ).loc Cert.SbFwdReferenceIdeal.main_arg2) = m ((c.tc : Thread Cert.SbFwdReferenceIdeal.nD Cert.SbFwdReferenceIdeal.τ).loc Cert.SbFwdReferenceIdeal.main_arg2))
      ∧ r.2.sem = fun _ => 0)

def quiescent_SbFwdReferenceIdeal_pre_finite_qk [hSbFwdReferenceIdeal : Cert.SbFwdReferenceIdeal.Facts] [hPre_finite_qk : Cert.Pre_finite_qk.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal_finite_qk m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0)
      ∧ r.2.mem ((c.tc : Thread Cert.SbFwdReferenceIdeal.nD Cert.SbFwdReferenceIdeal.τ).loc Cert.SbFwdReferenceIdeal.main_arg1) = m ((c.tc : Thread Cert.SbFwdReferenceIdeal.nD Cert.SbFwdReferenceIdeal.τ).loc Cert.SbFwdReferenceIdeal.main_arg1)
      ∧ r.2.mem ((c.tc : Thread Cert.SbFwdReferenceIdeal.nD Cert.SbFwdReferenceIdeal.τ).loc Cert.SbFwdReferenceIdeal.main_arg2) = m ((c.tc : Thread Cert.SbFwdReferenceIdeal.nD Cert.SbFwdReferenceIdeal.τ).loc Cert.SbFwdReferenceIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v18) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v13) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v12) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v5) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v8) = v0 c
          ∧ r.2.mem ((c.tc : Thread Cert.FfnInReferenceIdeal.nD Cert.FfnInReferenceIdeal.τ).loc Cert.FfnInReferenceIdeal.main_v11) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v2) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1))

def preserves_SsmIn_SsmInIdeal : Prop :=
  True

def algebraic_SsmInIdeal_SsmInReferenceIdeal [hSsmInIdeal : Cert.SsmInIdeal.Facts] [hSsmInReferenceIdeal : Cert.SsmInReferenceIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInReferenceIdeal.nD Cert.SsmInReferenceIdeal.τ Cert.SsmInReferenceIdeal.sig) → Buf (Elt Ideal) ℓ) (g' : Dev Cert.SsmInReferenceIdeal.nD → PrngReg), Pre_SsmInIdeal m →
    (∀ c : Dev Cert.SsmInIdeal.nD,
      m' ((c.tc : Thread Cert.SsmInReferenceIdeal.nD Cert.SsmInReferenceIdeal.τ).loc Cert.SsmInReferenceIdeal.main_arg0) = m ((c.tc : Thread Cert.SsmInIdeal.nD Cert.SsmInIdeal.τ).loc Cert.SsmInIdeal.main_arg0)
      ∧ m' ((c.tc : Thread Cert.SsmInReferenceIdeal.nD Cert.SsmInReferenceIdeal.τ).loc Cert.SsmInReferenceIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInReferenceIdeal.defs (F := Ideal)) (onTc (τ := Cert.SsmInReferenceIdeal.τ) (Cert.SsmInReferenceIdeal.main (F := Ideal))) ⟨m', fun _ => 0, g'⟩ (fun r => ∀ c : Dev Cert.SsmInReferenceIdeal.nD,
          r.2.mem ((c.tc : Thread Cert.SsmInReferenceIdeal.nD Cert.SsmInReferenceIdeal.τ).loc Cert.SsmInReferenceIdeal.main_v3) = v0 c
          ∧ r.2.mem ((c.tc : Thread Cert.SsmInReferenceIdeal.nD Cert.SsmInReferenceIdeal.τ).loc Cert.SsmInReferenceIdeal.main_arg0) = m' ((c.tc : Thread Cert.SsmInReferenceIdeal.nD Cert.SsmInReferenceIdeal.τ).loc Cert.SsmInReferenceIdeal.main_arg0)
          ∧ r.2.mem ((c.tc : Thread Cert.SsmInReferenceIdeal.nD Cert.SsmInReferenceIdeal.τ).loc Cert.SsmInReferenceIdeal.main_arg1) = m' ((c.tc : Thread Cert.SsmInReferenceIdeal.nD Cert.SsmInReferenceIdeal.τ).loc Cert.SsmInReferenceIdeal.main_arg1))

def preserves_SsmInDx_SsmInDxIdeal : Prop :=
  True

def algebraic_SsmInDxIdeal_SsmInDxReferenceIdeal [hSsmInDxIdeal : Cert.SsmInDxIdeal.Facts] [hSsmInDxReferenceIdeal : Cert.SsmInDxReferenceIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxReferenceIdeal.nD Cert.SsmInDxReferenceIdeal.τ Cert.SsmInDxReferenceIdeal.sig) → Buf (Elt Ideal) ℓ) (g' : Dev Cert.SsmInDxReferenceIdeal.nD → PrngReg), Pre_SsmInDxIdeal m →
    (∀ c : Dev Cert.SsmInDxIdeal.nD,
      m' ((c.tc : Thread Cert.SsmInDxReferenceIdeal.nD Cert.SsmInDxReferenceIdeal.τ).loc Cert.SsmInDxReferenceIdeal.main_arg0) = m ((c.tc : Thread Cert.SsmInDxIdeal.nD Cert.SsmInDxIdeal.τ).loc Cert.SsmInDxIdeal.main_arg0)
      ∧ m' ((c.tc : Thread Cert.SsmInDxReferenceIdeal.nD Cert.SsmInDxReferenceIdeal.τ).loc Cert.SsmInDxReferenceIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxReferenceIdeal.defs (F := Ideal)) (onTc (τ := Cert.SsmInDxReferenceIdeal.τ) (Cert.SsmInDxReferenceIdeal.main (F := Ideal))) ⟨m', fun _ => 0, g'⟩ (fun r => ∀ c : Dev Cert.SsmInDxReferenceIdeal.nD,
          r.2.mem ((c.tc : Thread Cert.SsmInDxReferenceIdeal.nD Cert.SsmInDxReferenceIdeal.τ).loc Cert.SsmInDxReferenceIdeal.main_v6) = v0 c
          ∧ r.2.mem ((c.tc : Thread Cert.SsmInDxReferenceIdeal.nD Cert.SsmInDxReferenceIdeal.τ).loc Cert.SsmInDxReferenceIdeal.main_arg0) = m' ((c.tc : Thread Cert.SsmInDxReferenceIdeal.nD Cert.SsmInDxReferenceIdeal.τ).loc Cert.SsmInDxReferenceIdeal.main_arg0)
          ∧ r.2.mem ((c.tc : Thread Cert.SsmInDxReferenceIdeal.nD Cert.SsmInDxReferenceIdeal.τ).loc Cert.SsmInDxReferenceIdeal.main_arg1) = m' ((c.tc : Thread Cert.SsmInDxReferenceIdeal.nD Cert.SsmInDxReferenceIdeal.τ).loc Cert.SsmInDxReferenceIdeal.main_arg1))

def preserves_SsmInDw_SsmInDwIdeal : Prop :=
  True

def algebraic_SsmInDwIdeal_SsmInDwReferenceIdeal [hSsmInDwIdeal : Cert.SsmInDwIdeal.Facts] [hSsmInDwReferenceIdeal : Cert.SsmInDwReferenceIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwReferenceIdeal.nD Cert.SsmInDwReferenceIdeal.τ Cert.SsmInDwReferenceIdeal.sig) → Buf (Elt Ideal) ℓ) (g' : Dev Cert.SsmInDwReferenceIdeal.nD → PrngReg), Pre_SsmInDwIdeal m →
    (∀ c : Dev Cert.SsmInDwIdeal.nD,
      m' ((c.tc : Thread Cert.SsmInDwReferenceIdeal.nD Cert.SsmInDwReferenceIdeal.τ).loc Cert.SsmInDwReferenceIdeal.main_arg0) = m ((c.tc : Thread Cert.SsmInDwIdeal.nD Cert.SsmInDwIdeal.τ).loc Cert.SsmInDwIdeal.main_arg0)
      ∧ m' ((c.tc : Thread Cert.SsmInDwReferenceIdeal.nD Cert.SsmInDwReferenceIdeal.τ).loc Cert.SsmInDwReferenceIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwReferenceIdeal.defs (F := Ideal)) (onTc (τ := Cert.SsmInDwReferenceIdeal.τ) (Cert.SsmInDwReferenceIdeal.main (F := Ideal))) ⟨m', fun _ => 0, g'⟩ (fun r => ∀ c : Dev Cert.SsmInDwReferenceIdeal.nD,
          r.2.mem ((c.tc : Thread Cert.SsmInDwReferenceIdeal.nD Cert.SsmInDwReferenceIdeal.τ).loc Cert.SsmInDwReferenceIdeal.main_v6) = v0 c
          ∧ r.2.mem ((c.tc : Thread Cert.SsmInDwReferenceIdeal.nD Cert.SsmInDwReferenceIdeal.τ).loc Cert.SsmInDwReferenceIdeal.main_arg0) = m' ((c.tc : Thread Cert.SsmInDwReferenceIdeal.nD Cert.SsmInDwReferenceIdeal.τ).loc Cert.SsmInDwReferenceIdeal.main_arg0)
          ∧ r.2.mem ((c.tc : Thread Cert.SsmInDwReferenceIdeal.nD Cert.SsmInDwReferenceIdeal.τ).loc Cert.SsmInDwReferenceIdeal.main_arg1) = m' ((c.tc : Thread Cert.SsmInDwReferenceIdeal.nD Cert.SsmInDwReferenceIdeal.τ).loc Cert.SsmInDwReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v2) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1))

def preserves_SsmOutDx_SsmOutDxIdeal : Prop :=
  True

def algebraic_SsmOutDxIdeal_SsmOutDxReferenceIdeal [hSsmOutDxIdeal : Cert.SsmOutDxIdeal.Facts] [hSsmOutDxReferenceIdeal : Cert.SsmOutDxReferenceIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxReferenceIdeal.nD Cert.SsmOutDxReferenceIdeal.τ Cert.SsmOutDxReferenceIdeal.sig) → Buf (Elt Ideal) ℓ) (g' : Dev Cert.SsmOutDxReferenceIdeal.nD → PrngReg), Pre_SsmOutDxIdeal m →
    (∀ c : Dev Cert.SsmOutDxIdeal.nD,
      m' ((c.tc : Thread Cert.SsmOutDxReferenceIdeal.nD Cert.SsmOutDxReferenceIdeal.τ).loc Cert.SsmOutDxReferenceIdeal.main_arg0) = m ((c.tc : Thread Cert.SsmOutDxIdeal.nD Cert.SsmOutDxIdeal.τ).loc Cert.SsmOutDxIdeal.main_arg0)
      ∧ m' ((c.tc : Thread Cert.SsmOutDxReferenceIdeal.nD Cert.SsmOutDxReferenceIdeal.τ).loc Cert.SsmOutDxReferenceIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxReferenceIdeal.defs (F := Ideal)) (onTc (τ := Cert.SsmOutDxReferenceIdeal.τ) (Cert.SsmOutDxReferenceIdeal.main (F := Ideal))) ⟨m', fun _ => 0, g'⟩ (fun r => ∀ c : Dev Cert.SsmOutDxReferenceIdeal.nD,
          r.2.mem ((c.tc : Thread Cert.SsmOutDxReferenceIdeal.nD Cert.SsmOutDxReferenceIdeal.τ).loc Cert.SsmOutDxReferenceIdeal.main_v5) = v0 c
          ∧ r.2.mem ((c.tc : Thread Cert.SsmOutDxReferenceIdeal.nD Cert.SsmOutDxReferenceIdeal.τ).loc Cert.SsmOutDxReferenceIdeal.main_arg0) = m' ((c.tc : Thread Cert.SsmOutDxReferenceIdeal.nD Cert.SsmOutDxReferenceIdeal.τ).loc Cert.SsmOutDxReferenceIdeal.main_arg0)
          ∧ r.2.mem ((c.tc : Thread Cert.SsmOutDxReferenceIdeal.nD Cert.SsmOutDxReferenceIdeal.τ).loc Cert.SsmOutDxReferenceIdeal.main_arg1) = m' ((c.tc : Thread Cert.SsmOutDxReferenceIdeal.nD Cert.SsmOutDxReferenceIdeal.τ).loc Cert.SsmOutDxReferenceIdeal.main_arg1))

def preserves_SsmOutDw_SsmOutDwIdeal : Prop :=
  True

def algebraic_SsmOutDwIdeal_SsmOutDwReferenceIdeal [hSsmOutDwIdeal : Cert.SsmOutDwIdeal.Facts] [hSsmOutDwReferenceIdeal : Cert.SsmOutDwReferenceIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwReferenceIdeal.nD Cert.SsmOutDwReferenceIdeal.τ Cert.SsmOutDwReferenceIdeal.sig) → Buf (Elt Ideal) ℓ) (g' : Dev Cert.SsmOutDwReferenceIdeal.nD → PrngReg), Pre_SsmOutDwIdeal m →
    (∀ c : Dev Cert.SsmOutDwIdeal.nD,
      m' ((c.tc : Thread Cert.SsmOutDwReferenceIdeal.nD Cert.SsmOutDwReferenceIdeal.τ).loc Cert.SsmOutDwReferenceIdeal.main_arg0) = m ((c.tc : Thread Cert.SsmOutDwIdeal.nD Cert.SsmOutDwIdeal.τ).loc Cert.SsmOutDwIdeal.main_arg0)
      ∧ m' ((c.tc : Thread Cert.SsmOutDwReferenceIdeal.nD Cert.SsmOutDwReferenceIdeal.τ).loc Cert.SsmOutDwReferenceIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwReferenceIdeal.defs (F := Ideal)) (onTc (τ := Cert.SsmOutDwReferenceIdeal.τ) (Cert.SsmOutDwReferenceIdeal.main (F := Ideal))) ⟨m', fun _ => 0, g'⟩ (fun r => ∀ c : Dev Cert.SsmOutDwReferenceIdeal.nD,
          r.2.mem ((c.tc : Thread Cert.SsmOutDwReferenceIdeal.nD Cert.SsmOutDwReferenceIdeal.τ).loc Cert.SsmOutDwReferenceIdeal.main_v5) = v0 c
          ∧ r.2.mem ((c.tc : Thread Cert.SsmOutDwReferenceIdeal.nD Cert.SsmOutDwReferenceIdeal.τ).loc Cert.SsmOutDwReferenceIdeal.main_arg0) = m' ((c.tc : Thread Cert.SsmOutDwReferenceIdeal.nD Cert.SsmOutDwReferenceIdeal.τ).loc Cert.SsmOutDwReferenceIdeal.main_arg0)
          ∧ r.2.mem ((c.tc : Thread Cert.SsmOutDwReferenceIdeal.nD Cert.SsmOutDwReferenceIdeal.τ).loc Cert.SsmOutDwReferenceIdeal.main_arg1) = m' ((c.tc : Thread Cert.SsmOutDwReferenceIdeal.nD Cert.SsmOutDwReferenceIdeal.τ).loc Cert.SsmOutDwReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_QkvDx_QkvDxIdeal : Prop :=
  True

def algebraic_QkvDxIdeal_QkvDxReferenceIdeal [hQkvDxIdeal : Cert.QkvDxIdeal.Facts] [hQkvDxReferenceIdeal : Cert.QkvDxReferenceIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxReferenceIdeal.nD Cert.QkvDxReferenceIdeal.τ Cert.QkvDxReferenceIdeal.sig) → Buf (Elt Ideal) ℓ) (g' : Dev Cert.QkvDxReferenceIdeal.nD → PrngReg), Pre_QkvDxIdeal m →
    (∀ c : Dev Cert.QkvDxIdeal.nD,
      m' ((c.tc : Thread Cert.QkvDxReferenceIdeal.nD Cert.QkvDxReferenceIdeal.τ).loc Cert.QkvDxReferenceIdeal.main_arg0) = m ((c.tc : Thread Cert.QkvDxIdeal.nD Cert.QkvDxIdeal.τ).loc Cert.QkvDxIdeal.main_arg0)
      ∧ m' ((c.tc : Thread Cert.QkvDxReferenceIdeal.nD Cert.QkvDxReferenceIdeal.τ).loc Cert.QkvDxReferenceIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxReferenceIdeal.defs (F := Ideal)) (onTc (τ := Cert.QkvDxReferenceIdeal.τ) (Cert.QkvDxReferenceIdeal.main (F := Ideal))) ⟨m', fun _ => 0, g'⟩ (fun r => ∀ c : Dev Cert.QkvDxReferenceIdeal.nD,
          r.2.mem ((c.tc : Thread Cert.QkvDxReferenceIdeal.nD Cert.QkvDxReferenceIdeal.τ).loc Cert.QkvDxReferenceIdeal.main_v6) = v0 c
          ∧ r.2.mem ((c.tc : Thread Cert.QkvDxReferenceIdeal.nD Cert.QkvDxReferenceIdeal.τ).loc Cert.QkvDxReferenceIdeal.main_arg0) = m' ((c.tc : Thread Cert.QkvDxReferenceIdeal.nD Cert.QkvDxReferenceIdeal.τ).loc Cert.QkvDxReferenceIdeal.main_arg0)
          ∧ r.2.mem ((c.tc : Thread Cert.QkvDxReferenceIdeal.nD Cert.QkvDxReferenceIdeal.τ).loc Cert.QkvDxReferenceIdeal.main_arg1) = m' ((c.tc : Thread Cert.QkvDxReferenceIdeal.nD Cert.QkvDxReferenceIdeal.τ).loc Cert.QkvDxReferenceIdeal.main_arg1))

def preserves_QkvDw_QkvDwIdeal : Prop :=
  True

def algebraic_QkvDwIdeal_QkvDwReferenceIdeal [hQkvDwIdeal : Cert.QkvDwIdeal.Facts] [hQkvDwReferenceIdeal : Cert.QkvDwReferenceIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwReferenceIdeal.nD Cert.QkvDwReferenceIdeal.τ Cert.QkvDwReferenceIdeal.sig) → Buf (Elt Ideal) ℓ) (g' : Dev Cert.QkvDwReferenceIdeal.nD → PrngReg), Pre_QkvDwIdeal m →
    (∀ c : Dev Cert.QkvDwIdeal.nD,
      m' ((c.tc : Thread Cert.QkvDwReferenceIdeal.nD Cert.QkvDwReferenceIdeal.τ).loc Cert.QkvDwReferenceIdeal.main_arg0) = m ((c.tc : Thread Cert.QkvDwIdeal.nD Cert.QkvDwIdeal.τ).loc Cert.QkvDwIdeal.main_arg0)
      ∧ m' ((c.tc : Thread Cert.QkvDwReferenceIdeal.nD Cert.QkvDwReferenceIdeal.τ).loc Cert.QkvDwReferenceIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwReferenceIdeal.defs (F := Ideal)) (onTc (τ := Cert.QkvDwReferenceIdeal.τ) (Cert.QkvDwReferenceIdeal.main (F := Ideal))) ⟨m', fun _ => 0, g'⟩ (fun r => ∀ c : Dev Cert.QkvDwReferenceIdeal.nD,
          r.2.mem ((c.tc : Thread Cert.QkvDwReferenceIdeal.nD Cert.QkvDwReferenceIdeal.τ).loc Cert.QkvDwReferenceIdeal.main_v6) = v0 c
          ∧ r.2.mem ((c.tc : Thread Cert.QkvDwReferenceIdeal.nD Cert.QkvDwReferenceIdeal.τ).loc Cert.QkvDwReferenceIdeal.main_arg0) = m' ((c.tc : Thread Cert.QkvDwReferenceIdeal.nD Cert.QkvDwReferenceIdeal.τ).loc Cert.QkvDwReferenceIdeal.main_arg0)
          ∧ r.2.mem ((c.tc : Thread Cert.QkvDwReferenceIdeal.nD Cert.QkvDwReferenceIdeal.τ).loc Cert.QkvDwReferenceIdeal.main_arg1) = m' ((c.tc : Thread Cert.QkvDwReferenceIdeal.nD Cert.QkvDwReferenceIdeal.τ).loc Cert.QkvDwReferenceIdeal.main_arg1))

def preserves_SbO_SbOIdeal : Prop :=
  True

def algebraic_SbOIdeal_SbOReferenceIdeal [hSbOIdeal : Cert.SbOIdeal.Facts] [hSbOReferenceIdeal : Cert.SbOReferenceIdeal.Facts] : Prop :=
  ∀ (m : (ℓ : Loc Cert.SbOIdeal.nD Cert.SbOIdeal.τ Cert.SbOIdeal.sig) → Buf (Elt Ideal) ℓ) (g : Dev Cert.SbOIdeal.nD → PrngReg)
    (m' : (ℓ : Loc Cert.SbOReferenceIdeal.nD Cert.SbOReferenceIdeal.τ Cert.SbOReferenceIdeal.sig) → Buf (Elt Ideal) ℓ) (g' : Dev Cert.SbOReferenceIdeal.nD → PrngReg), Pre_SbOIdeal m →
    (∀ c : Dev Cert.SbOIdeal.nD,
      m' ((c.tc : Thread Cert.SbOReferenceIdeal.nD Cert.SbOReferenceIdeal.τ).loc Cert.SbOReferenceIdeal.main_arg0) = m ((c.tc : Thread Cert.SbOIdeal.nD Cert.SbOIdeal.τ).loc Cert.SbOIdeal.main_arg0)
      ∧ m' ((c.tc : Thread Cert.SbOReferenceIdeal.nD Cert.SbOReferenceIdeal.τ).loc Cert.SbOReferenceIdeal.main_arg1) = m ((c.tc : Thread Cert.SbOIdeal.nD Cert.SbOIdeal.τ).loc Cert.SbOIdeal.main_arg1)) →
    ∃ (v0 : (c : Dev Cert.SbOIdeal.nD) → Buf (Elt Ideal) ((c.tc : Thread Cert.SbOIdeal.nD Cert.SbOIdeal.τ).loc Cert.SbOIdeal.main_v0)),
      θ_run (Cert.SbOIdeal.defs (F := Ideal)) (onTc (τ := Cert.SbOIdeal.τ) (Cert.SbOIdeal.main (F := Ideal))) ⟨m, fun _ => 0, g⟩ (fun r => ∀ c : Dev Cert.SbOIdeal.nD,
          r.2.mem ((c.tc : Thread Cert.SbOIdeal.nD Cert.SbOIdeal.τ).loc Cert.SbOIdeal.main_v0) = v0 c
          ∧ r.2.mem ((c.tc : Thread Cert.SbOIdeal.nD Cert.SbOIdeal.τ).loc Cert.SbOIdeal.main_arg0) = m ((c.tc : Thread Cert.SbOIdeal.nD Cert.SbOIdeal.τ).loc Cert.SbOIdeal.main_arg0)
          ∧ r.2.mem ((c.tc : Thread Cert.SbOIdeal.nD Cert.SbOIdeal.τ).loc Cert.SbOIdeal.main_arg1) = m ((c.tc : Thread Cert.SbOIdeal.nD Cert.SbOIdeal.τ).loc Cert.SbOIdeal.main_arg1))
      ∧ θ_run (Cert.SbOReferenceIdeal.defs (F := Ideal)) (onTc (τ := Cert.SbOReferenceIdeal.τ) (Cert.SbOReferenceIdeal.main (F := Ideal))) ⟨m', fun _ => 0, g'⟩ (fun r => ∀ c : Dev Cert.SbOReferenceIdeal.nD,
          r.2.mem ((c.tc : Thread Cert.SbOReferenceIdeal.nD Cert.SbOReferenceIdeal.τ).loc Cert.SbOReferenceIdeal.main_v2) = v0 c
          ∧ r.2.mem ((c.tc : Thread Cert.SbOReferenceIdeal.nD Cert.SbOReferenceIdeal.τ).loc Cert.SbOReferenceIdeal.main_arg0) = m' ((c.tc : Thread Cert.SbOReferenceIdeal.nD Cert.SbOReferenceIdeal.τ).loc Cert.SbOReferenceIdeal.main_arg0)
          ∧ r.2.mem ((c.tc : Thread Cert.SbOReferenceIdeal.nD Cert.SbOReferenceIdeal.τ).loc Cert.SbOReferenceIdeal.main_arg1) = m' ((c.tc : Thread Cert.SbOReferenceIdeal.nD Cert.SbOReferenceIdeal.τ).loc Cert.SbOReferenceIdeal.main_arg1))

def preserves_SbODx_SbODxIdeal : Prop :=
  True

def algebraic_SbODxIdeal_SbODxReferenceIdeal [hSbODxIdeal : Cert.SbODxIdeal.Facts] [hSbODxReferenceIdeal : Cert.SbODxReferenceIdeal.Facts] : Prop :=
  ∀ (m : (ℓ : Loc Cert.SbODxIdeal.nD Cert.SbODxIdeal.τ Cert.SbODxIdeal.sig) → Buf (Elt Ideal) ℓ) (g : Dev Cert.SbODxIdeal.nD → PrngReg)
    (m' : (ℓ : Loc Cert.SbODxReferenceIdeal.nD Cert.SbODxReferenceIdeal.τ Cert.SbODxReferenceIdeal.sig) → Buf (Elt Ideal) ℓ) (g' : Dev Cert.SbODxReferenceIdeal.nD → PrngReg), Pre_SbODxIdeal m →
    (∀ c : Dev Cert.SbODxIdeal.nD,
      m' ((c.tc : Thread Cert.SbODxReferenceIdeal.nD Cert.SbODxReferenceIdeal.τ).loc Cert.SbODxReferenceIdeal.main_arg0) = m ((c.tc : Thread Cert.SbODxIdeal.nD Cert.SbODxIdeal.τ).loc Cert.SbODxIdeal.main_arg0)
      ∧ m' ((c.tc : Thread Cert.SbODxReferenceIdeal.nD Cert.SbODxReferenceIdeal.τ).loc Cert.SbODxReferenceIdeal.main_arg1) = m ((c.tc : Thread Cert.SbODxIdeal.nD Cert.SbODxIdeal.τ).loc Cert.SbODxIdeal.main_arg1)) →
    ∃ (v0 : (c : Dev Cert.SbODxIdeal.nD) → Buf (Elt Ideal) ((c.tc : Thread Cert.SbODxIdeal.nD Cert.SbODxIdeal.τ).loc Cert.SbODxIdeal.main_v0)),
      θ_run (Cert.SbODxIdeal.defs (F := Ideal)) (onTc (τ := Cert.SbODxIdeal.τ) (Cert.SbODxIdeal.main (F := Ideal))) ⟨m, fun _ => 0, g⟩ (fun r => ∀ c : Dev Cert.SbODxIdeal.nD,
          r.2.mem ((c.tc : Thread Cert.SbODxIdeal.nD Cert.SbODxIdeal.τ).loc Cert.SbODxIdeal.main_v0) = v0 c
          ∧ r.2.mem ((c.tc : Thread Cert.SbODxIdeal.nD Cert.SbODxIdeal.τ).loc Cert.SbODxIdeal.main_arg0) = m ((c.tc : Thread Cert.SbODxIdeal.nD Cert.SbODxIdeal.τ).loc Cert.SbODxIdeal.main_arg0)
          ∧ r.2.mem ((c.tc : Thread Cert.SbODxIdeal.nD Cert.SbODxIdeal.τ).loc Cert.SbODxIdeal.main_arg1) = m ((c.tc : Thread Cert.SbODxIdeal.nD Cert.SbODxIdeal.τ).loc Cert.SbODxIdeal.main_arg1))
      ∧ θ_run (Cert.SbODxReferenceIdeal.defs (F := Ideal)) (onTc (τ := Cert.SbODxReferenceIdeal.τ) (Cert.SbODxReferenceIdeal.main (F := Ideal))) ⟨m', fun _ => 0, g'⟩ (fun r => ∀ c : Dev Cert.SbODxReferenceIdeal.nD,
          r.2.mem ((c.tc : Thread Cert.SbODxReferenceIdeal.nD Cert.SbODxReferenceIdeal.τ).loc Cert.SbODxReferenceIdeal.main_v4) = v0 c
          ∧ r.2.mem ((c.tc : Thread Cert.SbODxReferenceIdeal.nD Cert.SbODxReferenceIdeal.τ).loc Cert.SbODxReferenceIdeal.main_arg0) = m' ((c.tc : Thread Cert.SbODxReferenceIdeal.nD Cert.SbODxReferenceIdeal.τ).loc Cert.SbODxReferenceIdeal.main_arg0)
          ∧ r.2.mem ((c.tc : Thread Cert.SbODxReferenceIdeal.nD Cert.SbODxReferenceIdeal.τ).loc Cert.SbODxReferenceIdeal.main_arg1) = m' ((c.tc : Thread Cert.SbODxReferenceIdeal.nD Cert.SbODxReferenceIdeal.τ).loc Cert.SbODxReferenceIdeal.main_arg1))

def preserves_SbODw_SbODwIdeal : Prop :=
  True

def algebraic_SbODwIdeal_SbODwReferenceIdeal [hSbODwIdeal : Cert.SbODwIdeal.Facts] [hSbODwReferenceIdeal : Cert.SbODwReferenceIdeal.Facts] : Prop :=
  ∀ (m : (ℓ : Loc Cert.SbODwIdeal.nD Cert.SbODwIdeal.τ Cert.SbODwIdeal.sig) → Buf (Elt Ideal) ℓ) (g : Dev Cert.SbODwIdeal.nD → PrngReg)
    (m' : (ℓ : Loc Cert.SbODwReferenceIdeal.nD Cert.SbODwReferenceIdeal.τ Cert.SbODwReferenceIdeal.sig) → Buf (Elt Ideal) ℓ) (g' : Dev Cert.SbODwReferenceIdeal.nD → PrngReg), Pre_SbODwIdeal m →
    (∀ c : Dev Cert.SbODwIdeal.nD,
      m' ((c.tc : Thread Cert.SbODwReferenceIdeal.nD Cert.SbODwReferenceIdeal.τ).loc Cert.SbODwReferenceIdeal.main_arg0) = m ((c.tc : Thread Cert.SbODwIdeal.nD Cert.SbODwIdeal.τ).loc Cert.SbODwIdeal.main_arg0)
      ∧ m' ((c.tc : Thread Cert.SbODwReferenceIdeal.nD Cert.SbODwReferenceIdeal.τ).loc Cert.SbODwReferenceIdeal.main_arg1) = m ((c.tc : Thread Cert.SbODwIdeal.nD Cert.SbODwIdeal.τ).loc Cert.SbODwIdeal.main_arg1)) →
    ∃ (v0 : (c : Dev Cert.SbODwIdeal.nD) → Buf (Elt Ideal) ((c.tc : Thread Cert.SbODwIdeal.nD Cert.SbODwIdeal.τ).loc Cert.SbODwIdeal.main_v0)),
      θ_run (Cert.SbODwIdeal.defs (F := Ideal)) (onTc (τ := Cert.SbODwIdeal.τ) (Cert.SbODwIdeal.main (F := Ideal))) ⟨m, fun _ => 0, g⟩ (fun r => ∀ c : Dev Cert.SbODwIdeal.nD,
          r.2.mem ((c.tc : Thread Cert.SbODwIdeal.nD Cert.SbODwIdeal.τ).loc Cert.SbODwIdeal.main_v0) = v0 c
          ∧ r.2.mem ((c.tc : Thread Cert.SbODwIdeal.nD Cert.SbODwIdeal.τ).loc Cert.SbODwIdeal.main_arg0) = m ((c.tc : Thread Cert.SbODwIdeal.nD Cert.SbODwIdeal.τ).loc Cert.SbODwIdeal.main_arg0)
          ∧ r.2.mem ((c.tc : Thread Cert.SbODwIdeal.nD Cert.SbODwIdeal.τ).loc Cert.SbODwIdeal.main_arg1) = m ((c.tc : Thread Cert.SbODwIdeal.nD Cert.SbODwIdeal.τ).loc Cert.SbODwIdeal.main_arg1))
      ∧ θ_run (Cert.SbODwReferenceIdeal.defs (F := Ideal)) (onTc (τ := Cert.SbODwReferenceIdeal.τ) (Cert.SbODwReferenceIdeal.main (F := Ideal))) ⟨m', fun _ => 0, g'⟩ (fun r => ∀ c : Dev Cert.SbODwReferenceIdeal.nD,
          r.2.mem ((c.tc : Thread Cert.SbODwReferenceIdeal.nD Cert.SbODwReferenceIdeal.τ).loc Cert.SbODwReferenceIdeal.main_v5) = v0 c
          ∧ r.2.mem ((c.tc : Thread Cert.SbODwReferenceIdeal.nD Cert.SbODwReferenceIdeal.τ).loc Cert.SbODwReferenceIdeal.main_arg0) = m' ((c.tc : Thread Cert.SbODwReferenceIdeal.nD Cert.SbODwReferenceIdeal.τ).loc Cert.SbODwReferenceIdeal.main_arg0)
          ∧ r.2.mem ((c.tc : Thread Cert.SbODwReferenceIdeal.nD Cert.SbODwReferenceIdeal.τ).loc Cert.SbODwReferenceIdeal.main_arg1) = m' ((c.tc : Thread Cert.SbODwReferenceIdeal.nD Cert.SbODwReferenceIdeal.τ).loc Cert.SbODwReferenceIdeal.main_arg1))

def preserves_SbFwd_SbFwdIdeal : Prop :=
  IdealRules.named_const.Statement Cert.SbFwdIdeal.κ "log2_e" .f32 0x3FB8AA3B#32 (((Real.log 2)⁻¹ : ℝ) : EReal)

def algebraic_SbFwdIdeal_SbFwdReferenceIdeal_pre_finite_qk [hSbFwdIdeal : Cert.SbFwdIdeal.Facts] [hSbFwdReferenceIdeal : Cert.SbFwdReferenceIdeal.Facts] [hPre_finite_qk : Cert.Pre_finite_qk.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdReferenceIdeal.nD Cert.SbFwdReferenceIdeal.τ Cert.SbFwdReferenceIdeal.sig) → Buf (Elt Ideal) ℓ) (g' : Dev Cert.SbFwdReferenceIdeal.nD → PrngReg), Pre_SbFwdIdeal_finite_qk m →
    (∀ c : Dev Cert.SbFwdIdeal.nD,
      m' ((c.tc : Thread Cert.SbFwdReferenceIdeal.nD Cert.SbFwdReferenceIdeal.τ).loc Cert.SbFwdReferenceIdeal.main_arg0) = m ((c.tc : Thread Cert.SbFwdIdeal.nD Cert.SbFwdIdeal.τ).loc Cert.SbFwdIdeal.main_arg0)
      ∧ m' ((c.tc : Thread Cert.SbFwdReferenceIdeal.nD Cert.SbFwdReferenceIdeal.τ).loc Cert.SbFwdReferenceIdeal.main_arg1) = m ((c.tc : Thread Cert.SbFwdIdeal.nD Cert.SbFwdIdeal.τ).loc Cert.SbFwdIdeal.main_arg1)
      ∧ m' ((c.tc : Thread Cert.SbFwdReferenceIdeal.nD Cert.SbFwdReferenceIdeal.τ).loc Cert.SbFwdReferenceIdeal.main_arg2) = m ((c.tc : Thread Cert.SbFwdIdeal.nD Cert.SbFwdIdeal.τ).loc Cert.SbFwdIdeal.main_arg2)) →
    ∃ (v0 : (c : Dev Cert.SbFwdIdeal.nD) → Buf (Elt Ideal) ((c.tc : Thread Cert.SbFwdIdeal.nD Cert.SbFwdIdeal.τ).loc Cert.SbFwdIdeal.main_v5)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v5) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ θ_run (Cert.SbFwdReferenceIdeal.defs (F := Ideal)) (onTc (τ := Cert.SbFwdReferenceIdeal.τ) (Cert.SbFwdReferenceIdeal.main (F := Ideal))) ⟨m', fun _ => 0, g'⟩ (fun r => ∀ c : Dev Cert.SbFwdReferenceIdeal.nD,
          r.2.mem ((c.tc : Thread Cert.SbFwdReferenceIdeal.nD Cert.SbFwdReferenceIdeal.τ).loc Cert.SbFwdReferenceIdeal.main_v28) = v0 c
          ∧ r.2.mem ((c.tc : Thread Cert.SbFwdReferenceIdeal.nD Cert.SbFwdReferenceIdeal.τ).loc Cert.SbFwdReferenceIdeal.main_arg0) = m' ((c.tc : Thread Cert.SbFwdReferenceIdeal.nD Cert.SbFwdReferenceIdeal.τ).loc Cert.SbFwdReferenceIdeal.main_arg0)
          ∧ r.2.mem ((c.tc : Thread Cert.SbFwdReferenceIdeal.nD Cert.SbFwdReferenceIdeal.τ).loc Cert.SbFwdReferenceIdeal.main_arg1) = m' ((c.tc : Thread Cert.SbFwdReferenceIdeal.nD Cert.SbFwdReferenceIdeal.τ).loc Cert.SbFwdReferenceIdeal.main_arg1)
          ∧ r.2.mem ((c.tc : Thread Cert.SbFwdReferenceIdeal.nD Cert.SbFwdReferenceIdeal.τ).loc Cert.SbFwdReferenceIdeal.main_arg2) = m' ((c.tc : Thread Cert.SbFwdReferenceIdeal.nD Cert.SbFwdReferenceIdeal.τ).loc Cert.SbFwdReferenceIdeal.main_arg2))

def Claim : Prop :=
  ∃ (hKernel : Cert.Kernel.Facts) (hKernelIdeal : Cert.KernelIdeal.Facts) (hReferenceIdeal : Cert.ReferenceIdeal.Facts) (hOutDx : Cert.OutDx.Facts) (hOutDxIdeal : Cert.OutDxIdeal.Facts) (hOutDxReferenceIdeal : Cert.OutDxReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hOutDw : Cert.OutDw.Facts) (hOutDwIdeal : Cert.OutDwIdeal.Facts) (hOutDwReferenceIdeal : Cert.OutDwReferenceIdeal.Facts) (hFfnIn : Cert.FfnIn.Facts) (hFfnInIdeal : Cert.FfnInIdeal.Facts) (hFfnInReferenceIdeal : Cert.FfnInReferenceIdeal.Facts) (hFfnOut : Cert.FfnOut.Facts) (hFfnOutIdeal : Cert.FfnOutIdeal.Facts) (hFfnOutReferenceIdeal : Cert.FfnOutReferenceIdeal.Facts) (hSsmIn : Cert.SsmIn.Facts) (hSsmInIdeal : Cert.SsmInIdeal.Facts) (hSsmInReferenceIdeal : Cert.SsmInReferenceIdeal.Facts) (hSsmInDx : Cert.SsmInDx.Facts) (hSsmInDxIdeal : Cert.SsmInDxIdeal.Facts) (hSsmInDxReferenceIdeal : Cert.SsmInDxReferenceIdeal.Facts) (hSsmInDw : Cert.SsmInDw.Facts) (hSsmInDwIdeal : Cert.SsmInDwIdeal.Facts) (hSsmInDwReferenceIdeal : Cert.SsmInDwReferenceIdeal.Facts) (hSsmOut : Cert.SsmOut.Facts) (hSsmOutIdeal : Cert.SsmOutIdeal.Facts) (hSsmOutReferenceIdeal : Cert.SsmOutReferenceIdeal.Facts) (hSsmOutDx : Cert.SsmOutDx.Facts) (hSsmOutDxIdeal : Cert.SsmOutDxIdeal.Facts) (hSsmOutDxReferenceIdeal : Cert.SsmOutDxReferenceIdeal.Facts) (hSsmOutDw : Cert.SsmOutDw.Facts) (hSsmOutDwIdeal : Cert.SsmOutDwIdeal.Facts) (hSsmOutDwReferenceIdeal : Cert.SsmOutDwReferenceIdeal.Facts) (hQkv : Cert.Qkv.Facts) (hQkvIdeal : Cert.QkvIdeal.Facts) (hQkvReferenceIdeal : Cert.QkvReferenceIdeal.Facts) (hQkvDx : Cert.QkvDx.Facts) (hQkvDxIdeal : Cert.QkvDxIdeal.Facts) (hQkvDxReferenceIdeal : Cert.QkvDxReferenceIdeal.Facts) (hQkvDw : Cert.QkvDw.Facts) (hQkvDwIdeal : Cert.QkvDwIdeal.Facts) (hQkvDwReferenceIdeal : Cert.QkvDwReferenceIdeal.Facts) (hSbO : Cert.SbO.Facts) (hSbOIdeal : Cert.SbOIdeal.Facts) (hSbOReferenceIdeal : Cert.SbOReferenceIdeal.Facts) (hSbODx : Cert.SbODx.Facts) (hSbODxIdeal : Cert.SbODxIdeal.Facts) (hSbODxReferenceIdeal : Cert.SbODxReferenceIdeal.Facts) (hSbODw : Cert.SbODw.Facts) (hSbODwIdeal : Cert.SbODwIdeal.Facts) (hSbODwReferenceIdeal : Cert.SbODwReferenceIdeal.Facts) (hSbFwd : Cert.SbFwd.Facts) (hSbFwdIdeal : Cert.SbFwdIdeal.Facts) (hSbFwdReferenceIdeal : Cert.SbFwdReferenceIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_SsmIn (hSsmIn := hSsmIn)
    ∧ quiescent_SsmInIdeal (hSsmInIdeal := hSsmInIdeal)
    ∧ quiescent_SsmInReferenceIdeal (hSsmInReferenceIdeal := hSsmInReferenceIdeal)
    ∧ quiescent_SsmInDx (hSsmInDx := hSsmInDx)
    ∧ quiescent_SsmInDxIdeal (hSsmInDxIdeal := hSsmInDxIdeal)
    ∧ quiescent_SsmInDxReferenceIdeal (hSsmInDxReferenceIdeal := hSsmInDxReferenceIdeal)
    ∧ quiescent_SsmInDw (hSsmInDw := hSsmInDw)
    ∧ quiescent_SsmInDwIdeal (hSsmInDwIdeal := hSsmInDwIdeal)
    ∧ quiescent_SsmInDwReferenceIdeal (hSsmInDwReferenceIdeal := hSsmInDwReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_SsmOutDx (hSsmOutDx := hSsmOutDx)
    ∧ quiescent_SsmOutDxIdeal (hSsmOutDxIdeal := hSsmOutDxIdeal)
    ∧ quiescent_SsmOutDxReferenceIdeal (hSsmOutDxReferenceIdeal := hSsmOutDxReferenceIdeal)
    ∧ quiescent_SsmOutDw (hSsmOutDw := hSsmOutDw)
    ∧ quiescent_SsmOutDwIdeal (hSsmOutDwIdeal := hSsmOutDwIdeal)
    ∧ quiescent_SsmOutDwReferenceIdeal (hSsmOutDwReferenceIdeal := hSsmOutDwReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_QkvDx (hQkvDx := hQkvDx)
    ∧ quiescent_QkvDxIdeal (hQkvDxIdeal := hQkvDxIdeal)
    ∧ quiescent_QkvDxReferenceIdeal (hQkvDxReferenceIdeal := hQkvDxReferenceIdeal)
    ∧ quiescent_QkvDw (hQkvDw := hQkvDw)
    ∧ quiescent_QkvDwIdeal (hQkvDwIdeal := hQkvDwIdeal)
    ∧ quiescent_QkvDwReferenceIdeal (hQkvDwReferenceIdeal := hQkvDwReferenceIdeal)
    ∧ quiescent_SbO (hSbO := hSbO)
    ∧ quiescent_SbOIdeal (hSbOIdeal := hSbOIdeal)
    ∧ quiescent_SbOReferenceIdeal (hSbOReferenceIdeal := hSbOReferenceIdeal)
    ∧ quiescent_SbODx (hSbODx := hSbODx)
    ∧ quiescent_SbODxIdeal (hSbODxIdeal := hSbODxIdeal)
    ∧ quiescent_SbODxReferenceIdeal (hSbODxReferenceIdeal := hSbODxReferenceIdeal)
    ∧ quiescent_SbODw (hSbODw := hSbODw)
    ∧ quiescent_SbODwIdeal (hSbODwIdeal := hSbODwIdeal)
    ∧ quiescent_SbODwReferenceIdeal (hSbODwReferenceIdeal := hSbODwReferenceIdeal)
    ∧ quiescent_SbFwd (hSbFwd := hSbFwd)
    ∧ quiescent_SbFwdIdeal (hSbFwdIdeal := hSbFwdIdeal)
    ∧ quiescent_SbFwdIdeal_pre_finite_qk (hSbFwdIdeal := hSbFwdIdeal) (hPre_finite_qk := hPre_finite_qk)
    ∧ quiescent_SbFwdReferenceIdeal (hSbFwdReferenceIdeal := hSbFwdReferenceIdeal)
    ∧ quiescent_SbFwdReferenceIdeal_pre_finite_qk (hSbFwdReferenceIdeal := hSbFwdReferenceIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_OutDx_OutDxIdeal
    ∧ algebraic_OutDxIdeal_OutDxReferenceIdeal (hOutDxIdeal := hOutDxIdeal) (hOutDxReferenceIdeal := hOutDxReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_SsmIn_SsmInIdeal
    ∧ algebraic_SsmInIdeal_SsmInReferenceIdeal (hSsmInIdeal := hSsmInIdeal) (hSsmInReferenceIdeal := hSsmInReferenceIdeal)
    ∧ preserves_SsmInDx_SsmInDxIdeal
    ∧ algebraic_SsmInDxIdeal_SsmInDxReferenceIdeal (hSsmInDxIdeal := hSsmInDxIdeal) (hSsmInDxReferenceIdeal := hSsmInDxReferenceIdeal)
    ∧ preserves_SsmInDw_SsmInDwIdeal
    ∧ algebraic_SsmInDwIdeal_SsmInDwReferenceIdeal (hSsmInDwIdeal := hSsmInDwIdeal) (hSsmInDwReferenceIdeal := hSsmInDwReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_SsmOutDx_SsmOutDxIdeal
    ∧ algebraic_SsmOutDxIdeal_SsmOutDxReferenceIdeal (hSsmOutDxIdeal := hSsmOutDxIdeal) (hSsmOutDxReferenceIdeal := hSsmOutDxReferenceIdeal)
    ∧ preserves_SsmOutDw_SsmOutDwIdeal
    ∧ algebraic_SsmOutDwIdeal_SsmOutDwReferenceIdeal (hSsmOutDwIdeal := hSsmOutDwIdeal) (hSsmOutDwReferenceIdeal := hSsmOutDwReferenceIdeal)
    ∧ preserves_Qkv_QkvIdeal
    ∧ algebraic_QkvIdeal_QkvReferenceIdeal (hQkvIdeal := hQkvIdeal) (hQkvReferenceIdeal := hQkvReferenceIdeal)
    ∧ preserves_QkvDx_QkvDxIdeal
    ∧ algebraic_QkvDxIdeal_QkvDxReferenceIdeal (hQkvDxIdeal := hQkvDxIdeal) (hQkvDxReferenceIdeal := hQkvDxReferenceIdeal)
    ∧ preserves_QkvDw_QkvDwIdeal
    ∧ algebraic_QkvDwIdeal_QkvDwReferenceIdeal (hQkvDwIdeal := hQkvDwIdeal) (hQkvDwReferenceIdeal := hQkvDwReferenceIdeal)
    ∧ preserves_SbO_SbOIdeal
    ∧ algebraic_SbOIdeal_SbOReferenceIdeal (hSbOIdeal := hSbOIdeal) (hSbOReferenceIdeal := hSbOReferenceIdeal)
    ∧ preserves_SbODx_SbODxIdeal
    ∧ algebraic_SbODxIdeal_SbODxReferenceIdeal (hSbODxIdeal := hSbODxIdeal) (hSbODxReferenceIdeal := hSbODxReferenceIdeal)
    ∧ preserves_SbODw_SbODwIdeal
    ∧ algebraic_SbODwIdeal_SbODwReferenceIdeal (hSbODwIdeal := hSbODwIdeal) (hSbODwReferenceIdeal := hSbODwReferenceIdeal)
    ∧ preserves_SbFwd_SbFwdIdeal
    ∧ algebraic_SbFwdIdeal_SbFwdReferenceIdeal_pre_finite_qk (hSbFwdIdeal := hSbFwdIdeal) (hSbFwdReferenceIdeal := hSbFwdReferenceIdeal) (hPre_finite_qk := hPre_finite_qk)
-- ==== Pre_finite.lean ====
abbrev S16x8192x64 : Shape := ⟨3, ![16, 8192, 64]⟩
abbrev S_ : Shape := ⟨0, ![]⟩

class Facts : Prop where
  bitsLt_bf16_f32 : FTy.bits .bf16 < FTy.bits .f32
  bcast_S_S16x8192x64 : S_.BroadcastsInDim S16x8192x64 (![] : Fin 0 → Fin S16x8192x64.rank)

variable [Facts]

def fn {F : FTy → Type} [FloatOps F] (main_arg0 : FVec F S16x8192x64 .bf16) (main_arg1 : FVec F S16x8192x64 .bf16) (main_arg2 : FVec F S16x8192x64 .bf16) (main_arg3 : FVec F S16x8192x64 .f32) : IVec S16x8192x64 1 × IVec S16x8192x64 1 × IVec S16x8192x64 1 × IVec S16x8192x64 1 :=
  let main_v0 : FVec F S16x8192x64 .f32 := (extf .f32 · bitsLt_bf16_f32) main_arg0
  let main_v1 : FVec F S16x8192x64 .f32 := Host.absf main_v0
  let main_cst : FVec F S_ .f32 := constant S_ .f32 0x7F800000#32
  let main_v2 : FVec F S16x8192x64 .f32 := broadcastInDim S16x8192x64 ![] bcast_S_S16x8192x64 main_cst
  let main_v3 : IVec S16x8192x64 1 := cmpf .olt main_v1 main_v2
  let main_v4 : FVec F S16x8192x64 .f32 := (extf .f32 · bitsLt_bf16_f32) main_arg1
  let main_v5 : FVec F S16x8192x64 .f32 := Host.absf main_v4
  let main_cst_0 : FVec F S_ .f32 := constant S_ .f32 0x7F800000#32
  let main_v6 : FVec F S16x8192x64 .f32 := broadcastInDim S16x8192x64 ![] bcast_S_S16x8192x64 main_cst_0
  let main_v7 : IVec S16x8192x64 1 := cmpf .olt main_v5 main_v6
  let main_v8 : FVec F S16x8192x64 .f32 := (extf .f32 · bitsLt_bf16_f32) main_arg2
  let main_v9 : FVec F S16x8192x64 .f32 := Host.absf main_v8
  let main_cst_1 : FVec F S_ .f32 := constant S_ .f32 0x7F800000#32
  let main_v10 : FVec F S16x8192x64 .f32 := broadcastInDim S16x8192x64 ![] bcast_S_S16x8192x64 main_cst_1
  let main_v11 : IVec S16x8192x64 1 := cmpf .olt main_v9 main_v10
  let main_v12 : FVec F S16x8192x64 .f32 := Host.absf main_arg3
  let main_cst_2 : FVec F S_ .f32 := constant S_ .f32 0x7F800000#32
  let main_v13 : FVec F S16x8192x64 .f32 := broadcastInDim S16x8192x64 ![] bcast_S_S16x8192x64 main_cst_2
  let main_v14 : IVec S16x8192x64 1 := cmpf .olt main_v12 main_v13
  (main_v3, main_v7, main_v11, main_v14)
-- ==== Pre_finite_qk.lean ====
abbrev S16x8192x64 : Shape := ⟨3, ![16, 8192, 64]⟩
abbrev S_ : Shape := ⟨0, ![]⟩

class Facts : Prop where
  bitsLt_bf16_f32 : FTy.bits .bf16 < FTy.bits .f32
  bcast_S_S16x8192x64 : S_.BroadcastsInDim S16x8192x64 (![] : Fin 0 → Fin S16x8192x64.rank)

variable [Facts]

def fn {F : FTy → Type} [FloatOps F] (main_arg0 : FVec F S16x8192x64 .bf16) (main_arg1 : FVec F S16x8192x64 .bf16) (main_arg2 : FVec F S16x8192x64 .bf16) : IVec S16x8192x64 1 × IVec S16x8192x64 1 :=
  let main_v0 : FVec F S16x8192x64 .f32 := (extf .f32 · bitsLt_bf16_f32) main_arg0
  let main_v1 : FVec F S16x8192x64 .f32 := Host.absf main_v0
  let main_cst : FVec F S_ .f32 := constant S_ .f32 0x7F800000#32
  let main_v2 : FVec F S16x8192x64 .f32 := broadcastInDim S16x8192x64 ![] bcast_S_S16x8192x64 main_cst
  let main_v3 : IVec S16x8192x64 1 := cmpf .olt main_v1 main_v2
  let main_v4 : FVec F S16x8192x64 .f32 := (extf .f32 · bitsLt_bf16_f32) main_arg1
  let main_v5 : FVec F S16x8192x64 .f32 := Host.absf main_v4
  let main_cst_0 : FVec F S_ .f32 := constant S_ .f32 0x7F800000#32
  let main_v6 : FVec F S16x8192x64 .f32 := broadcastInDim S16x8192x64 ![] bcast_S_S16x8192x64 main_cst_0
  let main_v7 : IVec S16x8192x64 1 := cmpf .olt main_v5 main_v6
  (main_v3, main_v7)
-- ==== Kernel.lean ====
abbrev S16x8192x64 : Shape := ⟨3, ![16, 8192, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S512x256 : Shape := ⟨2, ![512, 256]⟩
abbrev S16x64x8192 : Shape := ⟨3, ![16, 64, 8192]⟩
abbrev S1x512x64 : Shape := ⟨3, ![1, 512, 64]⟩
abbrev S1x64x512 : Shape := ⟨3, ![1, 64, 512]⟩
abbrev S1x8192x64 : Shape := ⟨3, ![1, 8192, 64]⟩
abbrev S1x64x8192 : Shape := ⟨3, ![1, 64, 8192]⟩
abbrev S64x8192 : Shape := ⟨2, ![64, 8192]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S128 : Shape := ⟨1, ![128]⟩
abbrev S128x1 : Shape := ⟨2, ![128, 1]⟩
abbrev S512x64 : Shape := ⟨2, ![512, 64]⟩
abbrev S128x512 : Shape := ⟨2, ![128, 512]⟩
abbrev S128x256 : Shape := ⟨2, ![128, 256]⟩
abbrev S256x512 : Shape := ⟨2, ![256, 512]⟩
abbrev S256x256 : Shape := ⟨2, ![256, 256]⟩
abbrev S64x512 : Shape := ⟨2, ![64, 512]⟩

abbrev nBuf : Space → Nat
  | .hbm => 109
  | .vmem => 21
  | .smem => 0
  | _ => 0

abbrev bufTy : (tb : Table) → Fin (tcTables nBuf tb) → BufTy
  | .hbm, ⟨0, _⟩ => ⟨S16x8192x64, .bf16⟩
  | .hbm, ⟨1, _⟩ => ⟨S16x8192x64, .bf16⟩
  | .hbm, ⟨2, _⟩ => ⟨S16x8192x64, .bf16⟩
  | .hbm, ⟨3, _⟩ => ⟨S16x8192x64, .f32⟩
  | .hbm, ⟨4, _⟩ => ⟨S16x8192x64, .f32⟩
  | .hbm, ⟨5, _⟩ => ⟨S16x8192x64, .f32⟩
  | .hbm, ⟨6, _⟩ => ⟨S16x8192x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x8192x64, .f32⟩
  | .hbm, ⟨12, _⟩ => ⟨S16x8192x64, .f32⟩
  | .hbm, ⟨13, _⟩ => ⟨S16x8192x8192, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S16x8192x8192, .f32⟩
  | .hbm, ⟨28, _⟩ => ⟨S_, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .i1⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .i1⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S_, .f32⟩
  | .hbm, ⟨62, _⟩ => ⟨S16x8192x8192, .i1⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S_, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S_, .f32⟩
  | .hbm, ⟨73, _⟩ => ⟨S16x8192x8192, .i1⟩
  | .hbm, ⟨74, _⟩ => ⟨S16x8192x8192, .f32⟩
  | .hbm, ⟨75, _⟩ => ⟨S16x8192x8192, .f32⟩
  | .hbm, ⟨76, _⟩ => ⟨S16x8192x64, .f32⟩
  | .hbm, ⟨77, _⟩ => ⟨S512x256, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S512x256, .i32⟩
  | .hbm, ⟨85, _⟩ => ⟨S512x256, .i32⟩
  | .hbm, ⟨86, _⟩ => ⟨S_, .i32⟩
  | .hbm, ⟨87, _⟩ => ⟨S512x256, .i32⟩
  | .hbm, ⟨88, _⟩ => ⟨S512x256, .i1⟩
  | .hbm, ⟨89, _⟩ => ⟨S_, .i32⟩
  | .hbm, ⟨90, _⟩ => ⟨S512x256, .i32⟩
  | .hbm, ⟨91, _⟩ => ⟨S512x256, .i1⟩
  | .hbm, ⟨92, _⟩ => ⟨S_, .i32⟩
  | .hbm, ⟨93, _⟩ => ⟨S_, .i1⟩
  | .hbm, ⟨94, _⟩ => ⟨S512x256, .i1⟩
  | .hbm, ⟨95, _⟩ => ⟨S512x256, .i1⟩
  | .hbm, ⟨96, _⟩ => ⟨S512x256, .i1⟩
  | .hbm, ⟨97, _⟩ => ⟨S512x256, .i32⟩
  | .hbm, ⟨98, _⟩ => ⟨S512x256, .i32⟩
  | .hbm, ⟨99, _⟩ => ⟨S512x256, .i32⟩
  | .hbm, ⟨100, _⟩ => ⟨S512x256, .i32⟩
  | .hbm, ⟨101, _⟩ => ⟨S512x256, .i1⟩
  | .hbm, ⟨102, _⟩ => ⟨S512x256, .bf16⟩
  | .hbm, ⟨103, _⟩ => ⟨S16x64x8192, .bf16⟩
  | .hbm, ⟨104, _⟩ => ⟨S16x8192x64, .bf16⟩
  | .hbm, ⟨105, _⟩ => ⟨S16x64x8192, .bf16⟩
  | .hbm, ⟨106, _⟩ => ⟨S16x8192x64, .f32⟩
  | .hbm, ⟨107, _⟩ => ⟨S16x64x8192, .f32⟩
  | .hbm, ⟨108, _⟩ => ⟨S16x64x8192, .f32⟩
  | .local _ .vmem, ⟨0, _⟩ => ⟨S1x512x64, .bf16⟩
  | .local _ .vmem, ⟨1, _⟩ => ⟨S1x512x64, .bf16⟩
  | .local _ .vmem, ⟨2, _⟩ => ⟨S1x64x512, .bf16⟩
  | .local _ .vmem, ⟨3, _⟩ => ⟨S1x64x512, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x8192x64, .bf16⟩
  | .local _ .vmem, ⟨7, _⟩ => ⟨S1x8192x64, .bf16⟩
  | .local _ .vmem, ⟨8, _⟩ => ⟨S1x512x64, .f32⟩
  | .local _ .vmem, ⟨9, _⟩ => ⟨S1x512x64, .f32⟩
  | .local _ .vmem, ⟨10, _⟩ => ⟨S1x512x64, .bf16⟩
  | .local _ .vmem, ⟨11, _⟩ => ⟨S1x512x64, .bf16⟩
  | .local _ .vmem, ⟨12, _⟩ => ⟨S1x64x512, .bf16⟩
  | .local _ .vmem, ⟨13, _⟩ => ⟨S1x64x512, .bf16⟩
  | .local _ .vmem, ⟨14, _⟩ => ⟨S512x256, .bf16⟩
  | .local _ .vmem, ⟨15, _⟩ => ⟨S1x512x64, .f32⟩
  | .local _ .vmem, ⟨16, _⟩ => ⟨S1x512x64, .f32⟩
  | .local _ .vmem, ⟨17, _⟩ => ⟨S1x64x8192, .f32⟩
  | .local _ .vmem, ⟨18, _⟩ => ⟨S1x64x8192, .f32⟩
  | .local _ .vmem, ⟨19, _⟩ => ⟨S1x64x8192, .f32⟩
  | .local _ .vmem, ⟨20, _⟩ => ⟨S1x64x8192, .f32⟩
  | _, _ => ⟨S16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v19 : Ref sig .tc := ⟨.hbm, 42, rfl⟩
abbrev main_v20 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v21 : Ref sig .tc := ⟨.hbm, 59, rfl⟩
abbrev main_cst_2 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v22 : Ref sig .tc := ⟨.hbm, 64, rfl⟩
abbrev main_call3_cst : Ref sig .tc := ⟨.hbm, 65, rfl⟩
abbrev main_call3_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_3 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_call5_v0 : Ref sig .tc := ⟨.hbm, 79, rfl⟩
abbrev main_call5_c : Ref sig .tc := ⟨.hbm, 80, rfl⟩
abbrev main_call5_v1 : Ref sig .tc := ⟨.hbm, 81, rfl⟩
abbrev main_call5_c_0 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_c_1 : Ref sig .tc := ⟨.hbm, 86, rfl⟩
abbrev main_call5_v5 : Ref sig .tc := ⟨.hbm, 87, rfl⟩
abbrev main_call5_v6 : Ref sig .tc := ⟨.hbm, 88, rfl⟩
abbrev main_call5_c_2 : Ref sig .tc := ⟨.hbm, 89, rfl⟩
abbrev main_call5_v7 : Ref sig .tc := ⟨.hbm, 90, rfl⟩
abbrev main_call5_v8 : Ref sig .tc := ⟨.hbm, 91, rfl⟩
abbrev main_call5_c_3 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_v12 : Ref sig .tc := ⟨.hbm, 96, rfl⟩
abbrev main_call5_v13 : Ref sig .tc := ⟨.hbm, 97, rfl⟩
abbrev main_call5_v14 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37_0 : Ref sig .tc := ⟨.hbm, 106, rfl⟩
abbrev main_v37_1 : Ref sig .tc := ⟨.hbm, 107, rfl⟩
abbrev main_v37_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c2_i32 : BitVec 32 := 2#32
  let c0_i32_71 : BitVec 32 := 0#32
  let v82 : BitVec 1 := Scalar.cmpi .eq c2_i32 c0_i32_71
  let c1_i32_72 : BitVec 32 := 1#32
  let v83 : BitVec 32 := Scalar.select v82 c1_i32_72 c2_i32
  let v84 : BitVec 32 := Scalar.remsi v20 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c1_i32_76 : BitVec 32 := 1#32
  let v92 : BitVec 1 := Scalar.cmpi .eq v91 c1_i32_76
  let v93 : BitVec 32 := Scalar.extui v92
  let c0_i32_77 : BitVec 32 := 0#32
  let v94 : BitVec 1 := Scalar.cmpi .ne v93 c0_i32_77
  v94

def k0_mult1 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_109 : BitVec 32 := 512#32
  let v145 : BitVec 32 := Scalar.muli v20 c512_i32_109
  v145
def k0_off1 (i : grid0.Coords) : Fin 3 → Nat :=
  let c0_110 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_109 : BitVec 32 := 512#32
  let v145 : BitVec 32 := Scalar.muli v20 c512_i32_109
  let v146 : BitVec 32 := v145
  let v147 : Index := Scalar.indexCast v146
  let c0_111 : Index := 0#32
  ![0, v147.toNat, 0]
def k0_mult2 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_128 : BitVec 32 := 512#32
  let v207 : BitVec 32 := Scalar.muli v144 c512_i32_128
  v207
def k0_off2 (i : grid0.Coords) : Fin 3 → Nat :=
  let c0_129 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_128 : BitVec 32 := 512#32
  let v207 : BitVec 32 := Scalar.muli v144 c512_i32_128
  let v208 : BitVec 32 := v207
  let v209 : Index := Scalar.indexCast v208
  let c0_130 : Index := 0#32
  ![0, v209.toNat, 0]
def k0_mult3 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_144 : BitVec 32 := 512#32
  let v258 : BitVec 32 := Scalar.muli v20 c512_i32_144
  v258
def k0_mult4 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_162 : BitVec 32 := 512#32
  let v320 : BitVec 32 := Scalar.muli v144 c512_i32_162
  v320
def k0_mult5 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_178 : BitVec 32 := 512#32
  let v371 : BitVec 32 := Scalar.muli v20 c512_i32_178
  v371
def k0_mult6 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_196 : BitVec 32 := 512#32
  let v433 : BitVec 32 := Scalar.muli v144 c512_i32_196
  v433
def k0_mult7 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_212 : BitVec 32 := 512#32
  let v484 : BitVec 32 := Scalar.muli v20 c512_i32_212
  v484
def k0_mult8 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_230 : BitVec 32 := 512#32
  let v546 : BitVec 32 := Scalar.muli v144 c512_i32_230
  v546
def k0_off3 (i : grid0.Coords) : Fin 3 → Nat :=
  let c0_290 : Index := 0#32
  let c0_291 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_109 : BitVec 32 := 512#32
  let v145 : BitVec 32 := Scalar.muli v20 c512_i32_109
  let v146 : BitVec 32 := v145
  let v869 : Index := Scalar.indexCast v146
  ![0, 0, v869.toNat]
def k0_off4 (i : grid0.Coords) : Fin 3 → Nat :=
  let c0_302 : Index := 0#32
  let c0_303 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_108 : BitVec 32 := 1#32
  let v144 : BitVec 32 := Scalar.subi v20 c1_i32_108
  let c512_i32_128 : BitVec 32 := 512#32
  let v207 : BitVec 32 := Scalar.muli v144 c512_i32_128
  let v208 : BitVec 32 := v207
  let v898 : Index := Scalar.indexCast v208
  ![0, 0, v898.toNat]
def k0_mult9 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_108 : BitVec 32 := 512#32
  let v144 : BitVec 32 := Scalar.muli v20 c512_i32_108
  v144
def k0_off5 (i : grid0.Coords) : Fin 3 → Nat :=
  let c0_109 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_108 : BitVec 32 := 512#32
  let v144 : BitVec 32 := Scalar.muli v20 c512_i32_108
  let v145 : BitVec 32 := v144
  let v146 : Index := Scalar.indexCast v145
  let c0_110 : Index := 0#32
  ![0, v146.toNat, 0]
def k0_mult10 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_127 : BitVec 32 := 512#32
  let v206 : BitVec 32 := Scalar.muli v20 c512_i32_127
  v206
def k0_mult11 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_145 : BitVec 32 := 512#32
  let v268 : BitVec 32 := Scalar.muli v20 c512_i32_145
  v268
def k0_mult12 (i : grid0.Coords) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_163 : BitVec 32 := 512#32
  let v330 : BitVec 32 := Scalar.muli v20 c512_i32_163
  v330
def k0_off6 (i : grid0.Coords) : Fin 3 → Nat :=
  let c0_205 : Index := 0#32
  let c0_206 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c512_i32_108 : BitVec 32 := 512#32
  let v144 : BitVec 32 := Scalar.muli v20 c512_i32_108
  let v145 : BitVec 32 := v144
  let v532 : Index := Scalar.indexCast v145
  ![0, 0, v532.toNat]
@[reducible] def k0_t1_loop (i : grid0.Coords) : Scf.Loop 32 :=
  let c0_i32_92 : BitVec 32 := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_94 : BitVec 32 := 1#32
  ⟨c0_i32_92, v129, c1_i32_94⟩
def k0_mult13 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_111 : BitVec 32 := 512#32
  let v149 : BitVec 32 := Scalar.muli v145 c512_i32_111
  v149
def k0_off7 (i : grid0.Coords) (k0_t1 : Fin (k0_t1_loop i).trips) : Fin 3 → Nat :=
  let c0_112 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_111 : BitVec 32 := 512#32
  let v149 : BitVec 32 := Scalar.muli v145 c512_i32_111
  let v150 : BitVec 32 := v149
  let v151 : Index := Scalar.indexCast v150
  let c0_113 : Index := 0#32
  ![0, v151.toNat, 0]
def k0_mult14 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  v200
def k0_off8 (i : grid0.Coords) (k0_t1 : Fin (k0_t1_loop i).trips) : Fin 3 → Nat :=
  let c0_128 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  let v201 : BitVec 32 := v200
  let v202 : Index := Scalar.indexCast v201
  let c0_129 : Index := 0#32
  ![0, v202.toNat, 0]
def k0_mult15 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_143 : BitVec 32 := 512#32
  let v251 : BitVec 32 := Scalar.muli v145 c512_i32_143
  v251
def k0_mult16 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_159 : BitVec 32 := 512#32
  let v302 : BitVec 32 := Scalar.muli v148 c512_i32_159
  v302
def k0_mult17 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_175 : BitVec 32 := 512#32
  let v353 : BitVec 32 := Scalar.muli v145 c512_i32_175
  v353
def k0_mult18 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_191 : BitVec 32 := 512#32
  let v404 : BitVec 32 := Scalar.muli v148 c512_i32_191
  v404
def k0_mult19 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_207 : BitVec 32 := 512#32
  let v455 : BitVec 32 := Scalar.muli v145 c512_i32_207
  v455
def k0_mult20 (i : grid0.Coords) (k0_t1 : Fin (k0_t1_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_223 : BitVec 32 := 512#32
  let v506 : BitVec 32 := Scalar.muli v148 c512_i32_223
  v506
def k0_off9 (i : grid0.Coords) (k0_t1 : Fin (k0_t1_loop i).trips) : Fin 3 → Nat :=
  let c0_279 : Index := 0#32
  let c0_280 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c1_i32_94 : BitVec 32 := 1#32
  let arg13 : BitVec 32 := Scf.iv c0_i32_92 c1_i32_94 k0_t1
  let v144 : BitVec 32 := Scalar.muli c2_i32_108 arg13
  let v145 : BitVec 32 := Scalar.subi v107 v144
  let c512_i32_111 : BitVec 32 := 512#32
  let v149 : BitVec 32 := Scalar.muli v145 c512_i32_111
  let v150 : BitVec 32 := v149
  let v821 : Index := Scalar.indexCast v150
  ![0, 0, v821.toNat]
def k0_off10 (i : grid0.Coords) (k0_t1 : Fin (k0_t1_loop i).trips) : Fin 3 → Nat :=
  let c0_290 : Index := 0#32
  let c0_291 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c1_i32_94 : BitVec 32 := 1#32
  let arg13 : BitVec 32 := Scf.iv c0_i32_92 c1_i32_94 k0_t1
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  let v201 : BitVec 32 := v200
  let v848 : Index := Scalar.indexCast v201
  ![0, 0, v848.toNat]
@[reducible] def k0_t2_loop (i : grid0.Coords) : Scf.Loop 32 :=
  let c0_i32_92 : BitVec 32 := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let v126 : BitVec 32 := Scalar.addi c0_i32_92 v125
  let c1_i32_95 : BitVec 32 := 1#32
  ⟨v129, v126, c1_i32_95⟩
def k0_mult21 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_111 : BitVec 32 := 512#32
  let v149 : BitVec 32 := Scalar.muli v145 c512_i32_111
  v149
def k0_off11 (i : grid0.Coords) (k0_t2 : Fin (k0_t2_loop i).trips) : Fin 3 → Nat :=
  let c0_112 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_111 : BitVec 32 := 512#32
  let v149 : BitVec 32 := Scalar.muli v145 c512_i32_111
  let v150 : BitVec 32 := v149
  let v151 : Index := Scalar.indexCast v150
  let c0_113 : Index := 0#32
  ![0, v151.toNat, 0]
def k0_mult22 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  v200
def k0_off12 (i : grid0.Coords) (k0_t2 : Fin (k0_t2_loop i).trips) : Fin 3 → Nat :=
  let c0_128 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  let v201 : BitVec 32 := v200
  let v202 : Index := Scalar.indexCast v201
  let c0_129 : Index := 0#32
  ![0, v202.toNat, 0]
def k0_mult23 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_143 : BitVec 32 := 512#32
  let v251 : BitVec 32 := Scalar.muli v145 c512_i32_143
  v251
def k0_mult24 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_159 : BitVec 32 := 512#32
  let v302 : BitVec 32 := Scalar.muli v148 c512_i32_159
  v302
def k0_mult25 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_175 : BitVec 32 := 512#32
  let v353 : BitVec 32 := Scalar.muli v145 c512_i32_175
  v353
def k0_mult26 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_191 : BitVec 32 := 512#32
  let v404 : BitVec 32 := Scalar.muli v148 c512_i32_191
  v404
def k0_mult27 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_207 : BitVec 32 := 512#32
  let v455 : BitVec 32 := Scalar.muli v145 c512_i32_207
  v455
def k0_mult28 (i : grid0.Coords) (k0_t2 : Fin (k0_t2_loop i).trips) : BitVec 32 :=
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_223 : BitVec 32 := 512#32
  let v506 : BitVec 32 := Scalar.muli v148 c512_i32_223
  v506
def k0_off13 (i : grid0.Coords) (k0_t2 : Fin (k0_t2_loop i).trips) : Fin 3 → Nat :=
  let c0_279 : Index := 0#32
  let c0_280 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_108 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v144 : BitVec 32 := Scalar.muli c2_i32_108 arg13
  let v145 : BitVec 32 := Scalar.subi v107 v144
  let c512_i32_111 : BitVec 32 := 512#32
  let v149 : BitVec 32 := Scalar.muli v145 c512_i32_111
  let v150 : BitVec 32 := v149
  let v821 : Index := Scalar.indexCast v150
  ![0, 0, v821.toNat]
def k0_off14 (i : grid0.Coords) (k0_t2 : Fin (k0_t2_loop i).trips) : Fin 3 → Nat :=
  let c0_290 : Index := 0#32
  let c0_291 : Index := 0#32
  let arg1 : BitVec 32 := BitVec.ofNat 32 (i 1).val
  let c512_i32 : BitVec 32 := 512#32
  let v3 : BitVec 32 := Scalar.muli arg1 c512_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_1 : BitVec 32 := 512#32
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let v4 : BitVec 32 := Scalar.divsi v3 c512_i32_1
  let c1_i32 : BitVec 32 := 1#32
  let v19 : BitVec 32 := Scalar.subi v4 c1_i32
  let v20 : BitVec 32 := Scalar.select v18 v19 v4
  let c1_i32_78 : BitVec 32 := 1#32
  let v96 : BitVec 32 := Scalar.subi v20 c1_i32_78
  let c2_i32_79 : BitVec 32 := 2#32
  let c0_i32_80 : BitVec 32 := 0#32
  let v97 : BitVec 1 := Scalar.cmpi .eq c2_i32_79 c0_i32_80
  let c1_i32_81 : BitVec 32 := 1#32
  let v98 : BitVec 32 := Scalar.select v97 c1_i32_81 c2_i32_79
  let v99 : BitVec 32 := Scalar.remsi v20 v98
  let c0_i32_83 : BitVec 32 := 0#32
  let v101 : BitVec 1 := Scalar.cmpi .slt v99 c0_i32_83
  let c0_i32_84 : BitVec 32 := 0#32
  let v102 : BitVec 1 := Scalar.cmpi .slt v98 c0_i32_84
  let v103 : BitVec 1 := Scalar.xori v101 v102
  let c0_i32_82 : BitVec 32 := 0#32
  let v100 : BitVec 1 := Scalar.cmpi .ne v99 c0_i32_82
  let v104 : BitVec 1 := Scalar.andi v103 v100
  let v105 : BitVec 32 := Scalar.addi v99 v98
  let v106 : BitVec 32 := Scalar.select v104 v105 v99
  let v107 : BitVec 32 := Scalar.subi v96 v106
  let c2_i32_109 : BitVec 32 := 2#32
  let c0_i32_92 : BitVec 32 := 0#32
  let c0_i32_86 : BitVec 32 := 0#32
  let v109 : BitVec 1 := Scalar.cmpi .sgt v20 c0_i32_86
  let v110 : BitVec 32 := Scalar.extui v109
  let c0_i32_87 : BitVec 32 := 0#32
  let v111 : BitVec 1 := Scalar.cmpi .slt v20 c0_i32_87
  let v112 : BitVec 32 := Scalar.extui v111
  let v113 : BitVec 32 := Scalar.subi v110 v112
  let c2_i32_85 : BitVec 32 := 2#32
  let c0_i32_88 : BitVec 32 := 0#32
  let v114 : BitVec 1 := Scalar.cmpi .sgt c2_i32_85 c0_i32_88
  let v115 : BitVec 32 := Scalar.extui v114
  let c0_i32_89 : BitVec 32 := 0#32
  let v116 : BitVec 1 := Scalar.cmpi .slt c2_i32_85 c0_i32_89
  let v117 : BitVec 32 := Scalar.extui v116
  let v118 : BitVec 32 := Scalar.subi v115 v117
  let v119 : BitVec 1 := Scalar.cmpi .ne v113 v118
  let v120 : BitVec 32 := Scalar.remsi v20 c2_i32_85
  let c0_i32_90 : BitVec 32 := 0#32
  let v121 : BitVec 1 := Scalar.cmpi .ne v120 c0_i32_90
  let v122 : BitVec 1 := Scalar.andi v119 v121
  let v108 : BitVec 32 := Scalar.divsi v20 c2_i32_85
  let c1_i32_91 : BitVec 32 := 1#32
  let v123 : BitVec 32 := Scalar.subi v108 c1_i32_91
  let v124 : BitVec 32 := Scalar.select v122 v123 v108
  let v125 : BitVec 32 := Scalar.subi v124 c0_i32_92
  let c1_i32_93 : BitVec 32 := 1#32
  let v127 : BitVec 32 := Scalar.divsi v125 c1_i32_93
  let v128 : BitVec 32 := Scalar.muli v127 c1_i32_93
  let v129 : BitVec 32 := Scalar.addi c0_i32_92 v128
  let c1_i32_95 : BitVec 32 := 1#32
  let arg13 : BitVec 32 := Scf.iv v129 c1_i32_95 k0_t2
  let v146 : BitVec 32 := Scalar.muli c2_i32_109 arg13
  let v147 : BitVec 32 := Scalar.subi v107 v146
  let c1_i32_110 : BitVec 32 := 1#32
  let v148 : BitVec 32 := Scalar.subi v147 c1_i32_110
  let c512_i32_127 : BitVec 32 := 512#32
  let v200 : BitVec 32 := Scalar.muli v148 c512_i32_127
  let v201 : BitVec 32 := v200
  let v848 : Index := Scalar.indexCast v201
  ![0, 0, v848.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S16x8192x64 : Shape := ⟨3, ![16, 8192, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 183
  | .vmem => 0
  | .smem => 0
  | _ => 0

abbrev hbmTy0_0 (i : Nat) : BufTy := match i % 128 with
  | 0 => ⟨S16x8192x64, .bf16⟩
  | 1 => ⟨S16x8192x64, .bf16⟩
  | 2 => ⟨S16x8192x64, .bf16⟩
  | 3 => ⟨S16x8192x64, .f32⟩
  | 4 => ⟨S16x8192x64, .f32⟩
  | 5 => ⟨S16x8192x64, .f32⟩
  | 6 => ⟨S16x8192x64, .f32⟩
  | 7 => ⟨S_, .f32⟩
  | 8 => ⟨S_, .f32⟩
  | 9 => ⟨S_, .f32⟩
  | 10 => ⟨S_, .f32⟩
  | 11 => ⟨S16x8192x64, .f32⟩
  | 12 => ⟨S16x8192x64, .f32⟩
  | 13 => ⟨S16x8192x8192, .f32⟩
  | 14 => ⟨S_, .f32⟩
  | 15 => ⟨S16x8192x8192, .f32⟩
  | 16 => ⟨S16x8192x8192, .f32⟩
  | 17 => ⟨S8192, .i32⟩
  | 18 => ⟨S_, .i32⟩
  | 19 => ⟨S8192, .i32⟩
  | 20 => ⟨S8192, .i32⟩
  | 21 => ⟨S8192, .i32⟩
  | 22 => ⟨S1x8192, .i32⟩
  | 23 => ⟨S8192x1, .i32⟩
  | 24 => ⟨S8192x8192, .i32⟩
  | 25 => ⟨S8192x8192, .i32⟩
  | 26 => ⟨S8192x8192, .i1⟩
  | 27 => ⟨S16x8192x8192, .f32⟩
  | 28 => ⟨S_, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .i1⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S16x8192x8192, .f32⟩
  | 42 => ⟨S_, .f32⟩
  | 43 => ⟨S16x8192x8192, .f32⟩
  | 44 => ⟨S16x8192x8192, .i1⟩
  | 45 => ⟨S_, .f32⟩
  | 46 => ⟨S16x8192x8192, .f32⟩
  | 47 => ⟨S16x8192x8192, .f32⟩
  | 48 => ⟨S_, .f32⟩
  | 49 => ⟨S16x8192x8192, .f32⟩
  | 50 => ⟨S16x8192x8192, .i1⟩
  | 51 => ⟨S_, .f32⟩
  | 52 => ⟨S16x8192x8192, .f32⟩
  | 53 => ⟨S16x8192x8192, .f32⟩
  | 54 => ⟨S16x8192x8192, .f32⟩
  | 55 => ⟨S16x8192x8192, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S16x8192x8192, .f32⟩
  | 64 => ⟨S16x8192x8192, .i1⟩
  | 65 => ⟨S_, .f32⟩
  | 66 => ⟨S16x8192x8192, .f32⟩
  | 67 => ⟨S16x8192x8192, .f32⟩
  | 68 => ⟨S16x8192x8192, .f32⟩
  | 69 => ⟨S16x8192x8192, .f32⟩
  | 70 => ⟨S16x8192x8192, .f32⟩
  | 71 => ⟨S_, .f32⟩
  | 72 => ⟨S16x8192x8192, .f32⟩
  | 73 => ⟨S16x8192x8192, .f32⟩
  | 74 => ⟨S16x8192x8192, .f32⟩
  | 75 => ⟨S16x8192x8192, .f32⟩
  | 76 => ⟨S16x8192x8192, .f32⟩
  | 77 => ⟨S_, .f32⟩
  | 78 => ⟨S16x8192x8192, .f32⟩
  | 79 => ⟨S16x8192x8192, .f32⟩
  | 80 => ⟨S16x8192x8192, .f32⟩
  | 81 => ⟨S16x8192x8192, .f32⟩
  | 82 => ⟨S16x8192x8192, .i1⟩
  | 83 => ⟨S16x8192x8192, .f32⟩
  | 84 => ⟨S16x8192x8192, .f32⟩
  | 85 => ⟨S16x8192x8192, .f32⟩
  | 86 => ⟨S16x8192x8192, .f32⟩
  | 87 => ⟨S16x8192x8192, .f32⟩
  | 88 => ⟨S16x8192x8192, .f32⟩
  | 89 => ⟨S16x8192x8192, .f32⟩
  | 90 => ⟨S16x8192x8192, .f32⟩
  | 91 => ⟨S_, .f32⟩
  | 92 => ⟨S16x8192x8192, .f32⟩
  | 93 => ⟨S16x8192x8192, .i1⟩
  | 94 => ⟨S_, .f32⟩
  | 95 => ⟨S16x8192x8192, .f32⟩
  | 96 => ⟨S16x8192x8192, .f32⟩
  | 97 => ⟨S_, .f32⟩
  | 98 => ⟨S16x8192x8192, .f32⟩
  | 99 => ⟨S16x8192x8192, .i1⟩
  | 100 => ⟨S_, .f32⟩
  | 101 => ⟨S16x8192x8192, .f32⟩
  | 102 => ⟨S16x8192x8192, .f32⟩
  | 103 => ⟨S16x8192x8192, .f32⟩
  | 104 => ⟨S16x8192x8192, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S16x8192x8192, .f32⟩
  | 113 => ⟨S16x8192x8192, .i1⟩
  | 114 => ⟨S_, .f32⟩
  | 115 => ⟨S16x8192x8192, .f32⟩
  | 116 => ⟨S16x8192x8192, .f32⟩
  | 117 => ⟨S16x8192x8192, .f32⟩
  | 118 => ⟨S16x8192x8192, .f32⟩
  | 119 => ⟨S16x8192x8192, .f32⟩
  | 120 => ⟨S_, .f32⟩
  | 121 => ⟨S16x8192x8192, .f32⟩
  | 122 => ⟨S16x8192x8192, .f32⟩
  | 123 => ⟨S16x8192x8192, .f32⟩
  | 124 => ⟨S_, .f32⟩
  | 125 => ⟨S_, .f32⟩
  | 126 => ⟨S16x8192x8192, .i1⟩
  | 127 => ⟨S16x8192x8192, .f32⟩
  | _ => ⟨S16x8192x64, .bf16⟩

abbrev hbmTy0_1 (i : Nat) : BufTy := match i % 128 with
  | 0 => ⟨S16x8192x8192, .f32⟩
  | 1 => ⟨S_, .f32⟩
  | 2 => ⟨S16x8192x8192, .f32⟩
  | 3 => ⟨S_, .f32⟩
  | 4 => ⟨S_, .f32⟩
  | 5 => ⟨S16x8192x8192, .f32⟩
  | 6 => ⟨S16x8192x8192, .f32⟩
  | 7 => ⟨S16x8192x8192, .f32⟩
  | 8 => ⟨S16x8192x8192, .f32⟩
  | 9 => ⟨S_, .f32⟩
  | 10 => ⟨S_, .f32⟩
  | 11 => ⟨S16x8192x8192, .i1⟩
  | 12 => ⟨S16x8192x8192, .f32⟩
  | 13 => ⟨S16x8192x8192, .f32⟩
  | 14 => ⟨S_, .f32⟩
  | 15 => ⟨S16x8192x8192, .f32⟩
  | 16 => ⟨S16x8192x64, .f32⟩
  | 17 => ⟨S16x64x8192, .f32⟩
  | 18 => ⟨S16x8192x64, .f32⟩
  | 19 => ⟨S16x8192x8192, .f32⟩
  | 20 => ⟨S_, .f32⟩
  | 21 => ⟨S16x8192x8192, .f32⟩
  | 22 => ⟨S16x8192x8192, .f32⟩
  | 23 => ⟨S16x8192x8192, .f32⟩
  | 24 => ⟨S16x8192x8192, .f32⟩
  | 25 => ⟨S_, .f32⟩
  | 26 => ⟨S_, .f32⟩
  | 27 => ⟨S16x8192x8192, .f32⟩
  | 28 => ⟨S16x8192x8192, .f32⟩
  | 29 => ⟨S_, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S_, .f32⟩
  | 41 => ⟨S16x8192x8192, .f32⟩
  | 42 => ⟨S16x8192x8192, .f32⟩
  | 43 => ⟨S16x8192x64, .f32⟩
  | 44 => ⟨S16x8192x64, .f32⟩
  | 45 => ⟨S16x8192x64, .f32⟩
  | 46 => ⟨S16x8192x64, .f32⟩
  | 47 => ⟨S_, .f32⟩
  | 48 => ⟨S_, .f32⟩
  | 49 => ⟨S16x8192x64, .f32⟩
  | 50 => ⟨S16x8192x64, .f32⟩
  | 51 => ⟨S16x64x8192, .f32⟩
  | 52 => ⟨S16x64x8192, .f32⟩
  | 53 => ⟨S16x64x8192, .f32⟩
  | 54 => ⟨S16x64x8192, .f32⟩
  | _ => ⟨S16x8192x64, .bf16⟩

abbrev hbmTy (i : Nat) : BufTy := match i / 128 with
  | 0 => hbmTy0_0 i
  | 1 => hbmTy0_1 i
  | _ => ⟨S16x8192x64, .bf16⟩

abbrev bufTy : (tb : Table) → Fin (tcTables nBuf tb) → BufTy
  | .hbm, ⟨i, _⟩ => hbmTy i
  | _, _ => ⟨S16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v19_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v19_2 : Ref sig .tc := ⟨.hbm, 73, rfl⟩
abbrev main_v19_0 : Ref sig .tc := ⟨.hbm, 74, rfl⟩
abbrev main_v20 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1_0 : Ref sig .tc := ⟨.hbm, 90, rfl⟩
abbrev main_call1_call0_cst_0 : Ref sig .tc := ⟨.hbm, 91, rfl⟩
abbrev main_call1_call0_v13 : Ref sig .tc := ⟨.hbm, 92, rfl⟩
abbrev main_call1_call0_v14 : Ref sig .tc := ⟨.hbm, 93, rfl⟩
abbrev main_call1_call0_cst_1 : Ref sig .tc := ⟨.hbm, 94, rfl⟩
abbrev main_call1_call0_v15 : Ref sig .tc := ⟨.hbm, 95, rfl⟩
abbrev main_call1_call0_v16 : Ref sig .tc := ⟨.hbm, 96, rfl⟩
abbrev main_call1_call0_cst_2 : Ref sig .tc := ⟨.hbm, 97, rfl⟩
abbrev main_call1_call0_v17 : Ref sig .tc := ⟨.hbm, 98, rfl⟩
abbrev main_call1_call0_v18 : Ref sig .tc := ⟨.hbm, 99, rfl⟩
abbrev main_call1_call0_cst_3 : Ref sig .tc := ⟨.hbm, 100, rfl⟩
abbrev main_call1_call0_v19 : Ref sig .tc := ⟨.hbm, 101, rfl⟩
abbrev main_call1_call0_v20 : Ref sig .tc := ⟨.hbm, 102, rfl⟩
abbrev main_call1_call0_v21 : Ref sig .tc := ⟨.hbm, 103, rfl⟩
abbrev main_v21_1 : Ref sig .tc := ⟨.hbm, 104, rfl⟩
abbrev main_call1_call0_cst_4 : Ref sig .tc := ⟨.hbm, 105, rfl⟩
abbrev main_call1_call0_cst_5 : Ref sig .tc := ⟨.hbm, 106, rfl⟩
abbrev main_call1_call0_v23 : Ref sig .tc := ⟨.hbm, 107, rfl⟩
abbrev main_call1_call0_cst_6 : Ref sig .tc := ⟨.hbm, 108, rfl⟩
abbrev main_call1_call0_cst_7 : Ref sig .tc := ⟨.hbm, 109, rfl⟩
abbrev main_call1_call0_v24 : Ref sig .tc := ⟨.hbm, 110, rfl⟩
abbrev main_call1_call0_cst_8 : Ref sig .tc := ⟨.hbm, 111, rfl⟩
abbrev main_call1_call0_v25 : Ref sig .tc := ⟨.hbm, 112, rfl⟩
abbrev main_call1_call0_v26 : Ref sig .tc := ⟨.hbm, 113, rfl⟩
abbrev main_call1_call0_cst_9 : Ref sig .tc := ⟨.hbm, 114, rfl⟩
abbrev main_call1_call0_v27 : Ref sig .tc := ⟨.hbm, 115, rfl⟩
abbrev main_call1_call0_v28 : Ref sig .tc := ⟨.hbm, 116, rfl⟩
abbrev main_call1_call0_v29 : Ref sig .tc := ⟨.hbm, 117, rfl⟩
abbrev main_call1_call0_v30 : Ref sig .tc := ⟨.hbm, 118, rfl⟩
abbrev main_call1_call0_v31 : Ref sig .tc := ⟨.hbm, 119, rfl⟩
abbrev main_call1_call0_cst_10 : Ref sig .tc := ⟨.hbm, 120, rfl⟩
abbrev main_call1_call0_v32 : Ref sig .tc := ⟨.hbm, 121, rfl⟩
abbrev main_v21_2 : Ref sig .tc := ⟨.hbm, 122, rfl⟩
abbrev main_v21_0 : Ref sig .tc := ⟨.hbm, 123, rfl⟩
abbrev main_cst_2 : Ref sig .tc := ⟨.hbm, 124, rfl⟩
abbrev main_call2_v0 : Ref sig .tc := ⟨.hbm, 125, rfl⟩
abbrev main_v22_1 : Ref sig .tc := ⟨.hbm, 126, rfl⟩
abbrev main_call2_v2 : Ref sig .tc := ⟨.hbm, 127, rfl⟩
abbrev main_v22_0 : Ref sig .tc := ⟨.hbm, 128, rfl⟩
abbrev main_call2_cst : Ref sig .tc := ⟨.hbm, 129, rfl⟩
abbrev main_v22_2 : Ref sig .tc := ⟨.hbm, 130, rfl⟩
abbrev main_call3_cst : Ref sig .tc := ⟨.hbm, 131, rfl⟩
abbrev main_call3_v0 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_cst_3 : Ref sig .tc := ⟨.hbm, 137, rfl⟩
abbrev main_call4_v0 : Ref sig .tc := ⟨.hbm, 138, rfl⟩
abbrev main_v27_1 : Ref sig .tc := ⟨.hbm, 139, rfl⟩
abbrev main_call4_v2 : Ref sig .tc := ⟨.hbm, 140, rfl⟩
abbrev main_v27_0 : Ref sig .tc := ⟨.hbm, 141, rfl⟩
abbrev main_call4_cst : Ref sig .tc := ⟨.hbm, 142, rfl⟩
abbrev main_v27_2 : Ref sig .tc := ⟨.hbm, 143, rfl⟩
abbrev main_v28 : Ref sig .tc := ⟨.hbm, 144, rfl⟩
abbrev main_v29 : Ref sig .tc := ⟨.hbm, 145, rfl⟩
abbrev main_v30 : Ref sig .tc := ⟨.hbm, 146, rfl⟩
abbrev main_v31 : Ref sig .tc := ⟨.hbm, 147, rfl⟩
abbrev main_call5_cst : Ref sig .tc := ⟨.hbm, 148, rfl⟩
abbrev main_call5_v0 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_call6_cst : Ref sig .tc := ⟨.hbm, 153, rfl⟩
abbrev main_call6_v0 : Ref sig .tc := ⟨.hbm, 154, rfl⟩
abbrev main_v35 : Ref sig .tc := ⟨.hbm, 155, rfl⟩
abbrev main_v36 : Ref sig .tc := ⟨.hbm, 156, rfl⟩
abbrev main_call7_cst : Ref sig .tc := ⟨.hbm, 157, rfl⟩
abbrev main_call7_v0 : Ref sig .tc := ⟨.hbm, 158, rfl⟩
abbrev main_v37 : Ref sig .tc := ⟨.hbm, 159, rfl⟩
abbrev main_call8_v0 : Ref sig .tc := ⟨.hbm, 160, rfl⟩
abbrev main_call8_v1 : Ref sig .tc := ⟨.hbm, 161, rfl⟩
abbrev main_v38 : Ref sig .tc := ⟨.hbm, 162, rfl⟩
abbrev main_v39 : Ref sig .tc := ⟨.hbm, 163, rfl⟩
abbrev main_call9_v0 : Ref sig .tc := ⟨.hbm, 164, rfl⟩
abbrev main_call9_v1 : Ref sig .tc := ⟨.hbm, 165, rfl⟩
abbrev main_v40 : Ref sig .tc := ⟨.hbm, 166, rfl⟩
abbrev main_v41 : Ref sig .tc := ⟨.hbm, 167, rfl⟩
abbrev main_cst_4 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_cst_5 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩

abbrev nD : Nat := 1
abbrev τ : Topo := Topo.v7x

variable {F : FTy → Type} [FloatOps F]
-- ==== OutDx.lean ====
abbrev S8192x1024 : Shape := ⟨2, ![8192, 1024]⟩
abbrev S2816x1024 : Shape := ⟨2, ![2816, 1024]⟩
abbrev S2x8192x2816 : Shape := ⟨3, ![2, 8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .f32⟩
  | .hbm, ⟨3, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .f32⟩
  | .local _ .vmem, ⟨5, _⟩ => ⟨S2x512x1408, .f32⟩
  | .local _ .vmem, ⟨6, _⟩ => ⟨S2x512x1408, .bf16⟩
  | .local _ .vmem, ⟨7, _⟩ => ⟨S2x512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutDxReferenceIdeal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩
abbrev S1024x2816 : Shape := ⟨2, ![1024, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .f32⟩
  | .hbm, ⟨3, _⟩ => ⟨S1x8192x2816, .f32⟩
  | .hbm, ⟨4, _⟩ => ⟨S8192x2816, .f32⟩
  | .hbm, ⟨5, _⟩ => ⟨S1x8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S1024x2816, .f32⟩
  | .hbm, ⟨25, _⟩ => ⟨S2816x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x8192x2816, .f32⟩
  | .hbm, ⟨34, _⟩ => ⟨S1x8192x2816, .f32⟩
  | .hbm, ⟨35, _⟩ => ⟨S2x8192x2816, .f32⟩
  | .hbm, ⟨36, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== InDx.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2x8192x2816 : Shape := ⟨3, ![2, 8192, 2816]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩
abbrev S8192x5632 : Shape := ⟨2, ![8192, 5632]⟩
abbrev S1x8192x2816 : Shape := ⟨3, ![1, 8192, 2816]⟩
abbrev S8192x2816 : Shape := ⟨2, ![8192, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S_, .f32⟩
  | .hbm, ⟨3, _⟩ => ⟨S8192x1024, .f32⟩
  | .hbm, ⟨4, _⟩ => ⟨S5632x1024, .f32⟩
  | .hbm, ⟨5, _⟩ => ⟨S1024x5632, .f32⟩
  | .hbm, ⟨6, _⟩ => ⟨S8192x5632, .f32⟩
  | .hbm, ⟨7, _⟩ => ⟨S1x8192x2816, .bf16⟩
  | .hbm, ⟨8, _⟩ => ⟨S8192x2816, .bf16⟩
  | .hbm, ⟨9, _⟩ => ⟨S1x8192x2816, .bf16⟩
  | .hbm, ⟨10, _⟩ => ⟨S8192x2816, .bf16⟩
  | .hbm, ⟨11, _⟩ => ⟨S8192x5632, .bf16⟩
  | .hbm, ⟨12, _⟩ => ⟨S8192x5632, .f32⟩
  | .hbm, ⟨13, _⟩ => ⟨S5632x1024, .f32⟩
  | .hbm, ⟨14, _⟩ => ⟨S1024x5632, .f32⟩
  | .hbm, ⟨15, _⟩ => ⟨S8192x1024, .f32⟩
  | .hbm, ⟨16, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== InDw.lean ====
abbrev S2x8192x2816 : Shape := ⟨3, ![2, 8192, 2816]⟩
abbrev S8192x1024 : Shape := ⟨2, ![8192, 1024]⟩
abbrev S5632x1024 : Shape := ⟨2, ![5632, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2x8192x2816 : Shape := ⟨3, ![2, 8192, 2816]⟩
abbrev S8192x1024 : Shape := ⟨2, ![8192, 1024]⟩
abbrev S_ : Shape := ⟨0, ![]⟩
abbrev S1024x5632 : Shape := ⟨2, ![1024, 5632]⟩
abbrev S8192x5632 : Shape := ⟨2, ![8192, 5632]⟩
abbrev S1x8192x2816 : Shape := ⟨3, ![1, 8192, 2816]⟩
abbrev S8192x2816 : Shape := ⟨2, ![8192, 2816]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S1x8192x2816, .bf16⟩
  | .hbm, ⟨7, _⟩ => ⟨S8192x2816, .bf16⟩
  | .hbm, ⟨8, _⟩ => ⟨S1x8192x2816, .bf16⟩
  | .hbm, ⟨9, _⟩ => ⟨S8192x2816, .bf16⟩
  | .hbm, ⟨10, _⟩ => ⟨S8192x5632, .bf16⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S8192x1024, .f32⟩
  | .hbm, ⟨15, _⟩ => ⟨S5632x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== OutDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S8192x1024 : Shape := ⟨2, ![8192, 1024]⟩
abbrev S5632x1024 : Shape := ⟨2, ![5632, 1024]⟩
abbrev S2x8192x2816 : Shape := ⟨3, ![2, 8192, 2816]⟩
abbrev S8192x2816 : Shape := ⟨2, ![8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S2x8192x2816, .f32⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInReferenceIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmIn.lean ====
abbrev S8192x1024 : Shape := ⟨2, ![8192, 1024]⟩
abbrev S6272x1024 : Shape := ⟨2, ![6272, 1024]⟩
abbrev S8192x6272 : Shape := ⟨2, ![8192, 6272]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S6272x1024, .bf16⟩
  | .hbm, ⟨2, _⟩ => ⟨S8192x6272, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInReferenceIdeal.lean ====
abbrev S8192x1024 : Shape := ⟨2, ![8192, 1024]⟩
abbrev S6272x1024 : Shape := ⟨2, ![6272, 1024]⟩
abbrev S1024x6272 : Shape := ⟨2, ![1024, 6272]⟩
abbrev S8192x6272 : Shape := ⟨2, ![8192, 6272]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S6272x1024, .bf16⟩
  | .hbm, ⟨2, _⟩ => ⟨S8192x1024, .f32⟩
  | .hbm, ⟨3, _⟩ => ⟨S6272x1024, .f32⟩
  | .hbm, ⟨4, _⟩ => ⟨S1024x6272, .f32⟩
  | .hbm, ⟨5, _⟩ => ⟨S8192x6272, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmInDx.lean ====
abbrev S8192x6272 : Shape := ⟨2, ![8192, 6272]⟩
abbrev S6272x1024 : Shape := ⟨2, ![6272, 1024]⟩
abbrev S8192x1024 : Shape := ⟨2, ![8192, 1024]⟩
abbrev S1024x896 : Shape := ⟨2, ![1024, 896]⟩
abbrev S896x1024 : Shape := ⟨2, ![896, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S6272x1024, .bf16⟩
  | .hbm, ⟨2, _⟩ => ⟨S8192x1024, .bf16⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDxReferenceIdeal.lean ====
abbrev S8192x6272 : Shape := ⟨2, ![8192, 6272]⟩
abbrev S6272x1024 : Shape := ⟨2, ![6272, 1024]⟩
abbrev S1024x6272 : Shape := ⟨2, ![1024, 6272]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S6272x1024, .bf16⟩
  | .hbm, ⟨2, _⟩ => ⟨S8192x6272, .f32⟩
  | .hbm, ⟨3, _⟩ => ⟨S6272x1024, .f32⟩
  | .hbm, ⟨4, _⟩ => ⟨S1024x6272, .f32⟩
  | .hbm, ⟨5, _⟩ => ⟨S_, .f32⟩
  | .hbm, ⟨6, _⟩ => ⟨S8192x1024, .f32⟩
  | .hbm, ⟨7, _⟩ => ⟨S8192x6272, .f32⟩
  | .hbm, ⟨8, _⟩ => ⟨S8192x1024, .f32⟩
  | .hbm, ⟨9, _⟩ => ⟨S8192x1024, .bf16⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDw.lean ====
abbrev S8192x6272 : Shape := ⟨2, ![8192, 6272]⟩
abbrev S8192x1024 : Shape := ⟨2, ![8192, 1024]⟩
abbrev S6272x1024 : Shape := ⟨2, ![6272, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S8192x1024, .bf16⟩
  | .hbm, ⟨2, _⟩ => ⟨S6272x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDwReferenceIdeal.lean ====
abbrev S8192x6272 : Shape := ⟨2, ![8192, 6272]⟩
abbrev S8192x1024 : Shape := ⟨2, ![8192, 1024]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S8192x1024, .bf16⟩
  | .hbm, ⟨2, _⟩ => ⟨S8192x1024, .f32⟩
  | .hbm, ⟨3, _⟩ => ⟨S8192x6272, .f32⟩
  | .hbm, ⟨4, _⟩ => ⟨S_, .f32⟩
  | .hbm, ⟨5, _⟩ => ⟨S1024x6272, .f32⟩
  | .hbm, ⟨6, _⟩ => ⟨S8192x6272, .f32⟩
  | .hbm, ⟨7, _⟩ => ⟨S6272x1024, .f32⟩
  | .hbm, ⟨8, _⟩ => ⟨S1024x6272, .f32⟩
  | .hbm, ⟨9, _⟩ => ⟨S6272x1024, .f32⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmOut.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDxReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvDx.lean ====
abbrev S8192x3072 : Shape := ⟨2, ![8192, 3072]⟩
abbrev S3072x1024 : Shape := ⟨2, ![3072, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxReferenceIdeal.lean ====
abbrev S8192x3072 : Shape := ⟨2, ![8192, 3072]⟩
abbrev S3072x1024 : Shape := ⟨2, ![3072, 1024]⟩
abbrev S1024x3072 : Shape := ⟨2, ![1024, 3072]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x3072, .f32⟩
  | .hbm, ⟨3, _⟩ => ⟨S3072x1024, .f32⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDw.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwReferenceIdeal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SbO.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SbODx.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbODxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SbODw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SbODwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbFwd.lean ====
abbrev S16x8192x64 : Shape := ⟨3, ![16, 8192, 64]⟩
abbrev S512x256 : Shape := ⟨2, ![512, 256]⟩
abbrev S_ : Shape := ⟨0, ![]⟩
abbrev S1x512x64 : Shape := ⟨3, ![1, 512, 64]⟩
abbrev S1x8192x64 : Shape := ⟨3, ![1, 8192, 64]⟩
abbrev S1x256x64 : Shape := ⟨3, ![1, 256, 64]⟩
abbrev S256x64 : Shape := ⟨2, ![256, 64]⟩
abbrev S256x1 : Shape := ⟨2, ![256, 1]⟩
abbrev S512x64 : Shape := ⟨2, ![512, 64]⟩
abbrev S256x512 : Shape := ⟨2, ![256, 512]⟩
abbrev S256x256 : Shape := ⟨2, ![256, 256]⟩
abbrev S512x512 : Shape := ⟨2, ![512, 512]⟩
abbrev S256 : Shape := ⟨1, ![256]⟩

abbrev nBuf : Space → Nat
  | .hbm => 30
  | .vmem => 9
  | .smem => 0
  | _ => 0

abbrev bufTy : (tb : Table) → Fin (tcTables nBuf tb) → BufTy
  | .hbm, ⟨0, _⟩ => ⟨S16x8192x64, .bf16⟩
  | .hbm, ⟨1, _⟩ => ⟨S16x8192x64, .bf16⟩
  | .hbm, ⟨2, _⟩ => ⟨S16x8192x64, .bf16⟩
  | .hbm, ⟨3, _⟩ => ⟨S512x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512x256, .i32⟩
  | .hbm, ⟨11, _⟩ => ⟨S512x256, .i32⟩
  | .hbm, ⟨12, _⟩ => ⟨S_, .i32⟩
  | .hbm, ⟨13, _⟩ => ⟨S512x256, .i32⟩
  | .hbm, ⟨14, _⟩ => ⟨S512x256, .i1⟩
  | .hbm, ⟨15, _⟩ => ⟨S_, .i32⟩
  | .hbm, ⟨16, _⟩ => ⟨S512x256, .i32⟩
  | .hbm, ⟨17, _⟩ => ⟨S512x256, .i1⟩
  | .hbm, ⟨18, _⟩ => ⟨S_, .i32⟩
  | .hbm, ⟨19, _⟩ => ⟨S_, .i1⟩
  | .hbm, ⟨20, _⟩ => ⟨S512x256, .i1⟩
  | .hbm, ⟨21, _⟩ => ⟨S512x256, .i1⟩
  | .hbm, ⟨22, _⟩ => ⟨S512x256, .i1⟩
  | .hbm, ⟨23, _⟩ => ⟨S512x256, .i32⟩
  | .hbm, ⟨24, _⟩ => ⟨S512x256, .i32⟩
  | .hbm, ⟨25, _⟩ => ⟨S512x256, .i32⟩
  | .hbm, ⟨26, _⟩ => ⟨S512x256, .i32⟩
  | .hbm, ⟨27, _⟩ => ⟨S512x256, .i1⟩
  | .hbm, ⟨28, _⟩ => ⟨S512x256, .bf16⟩
  | .hbm, ⟨29, _⟩ => ⟨S16x8192x64, .f32⟩
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S512x256, .bf16⟩
  | .local _ .vmem, ⟨7, _⟩ => ⟨S1x512x64, .f32⟩
  | .local _ .vmem, ⟨8, _⟩ => ⟨S1x512x64, .f32⟩
  | _, _ => ⟨S16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v17 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c1_i32_15 : BitVec 32 := 1#32
  let v34 : BitVec 1 := Scalar.cmpi .eq v33 c1_i32_15
  let v35 : BitVec 32 := Scalar.extui v34
  let c0_i32_16 : BitVec 32 := 0#32
  let v36 : BitVec 1 := Scalar.cmpi .ne v35 c0_i32_16
  v36

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_42 : BitVec 32 := 512#32
  let v81 : BitVec 32 := Scalar.muli v17 c512_i32_42
  v81
def k0_off1 (i : grid0.Coords) : Fin 3 → Nat :=
  let c0_43 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_42 : BitVec 32 := 512#32
  let v81 : BitVec 32 := Scalar.muli v17 c512_i32_42
  let v82 : BitVec 32 := v81
  let v83 : Index := Scalar.indexCast v82
  let c0_44 : Index := 0#32
  ![0, v83.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_41 : BitVec 32 := 1#32
  let v80 : BitVec 32 := Scalar.subi v17 c1_i32_41
  let c512_i32_60 : BitVec 32 := 512#32
  let v141 : BitVec 32 := Scalar.muli v80 c512_i32_60
  v141
def k0_off2 (i : grid0.Coords) : Fin 3 → Nat :=
  let c0_61 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_41 : BitVec 32 := 1#32
  let v80 : BitVec 32 := Scalar.subi v17 c1_i32_41
  let c512_i32_60 : BitVec 32 := 512#32
  let v141 : BitVec 32 := Scalar.muli v80 c512_i32_60
  let v142 : BitVec 32 := v141
  let v143 : Index := Scalar.indexCast v142
  let c0_62 : Index := 0#32
  ![0, v143.toNat, 0]
def k0_mult3 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_75 : BitVec 32 := 512#32
  let v190 : BitVec 32 := Scalar.muli v17 c512_i32_75
  v190
def k0_mult4 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_41 : BitVec 32 := 1#32
  let v80 : BitVec 32 := Scalar.subi v17 c1_i32_41
  let c512_i32_92 : BitVec 32 := 512#32
  let v250 : BitVec 32 := Scalar.muli v80 c512_i32_92
  v250
def k0_mult5 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_41 : BitVec 32 := 512#32
  let v80 : BitVec 32 := Scalar.muli v17 c512_i32_41
  v80
def k0_off3 (i : grid0.Coords) : Fin 3 → Nat :=
  let c0_42 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_41 : BitVec 32 := 512#32
  let v80 : BitVec 32 := Scalar.muli v17 c512_i32_41
  let v81 : BitVec 32 := v80
  let v82 : Index := Scalar.indexCast v81
  let c0_43 : Index := 0#32
  ![0, v82.toNat, 0]
def k0_mult6 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_59 : BitVec 32 := 512#32
  let v140 : BitVec 32 := Scalar.muli v17 c512_i32_59
  v140
@[reducible] def k0_t1_loop (i : grid0.Coords) : Scf.Loop 32 :=
  let c0_i32_31 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_33 : BitVec 32 := 1#32
  ⟨c0_i32_31, v71, c1_i32_33⟩
def k0_mult7 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c1_i32_33 : BitVec 32 := 1#32
  let arg7 : BitVec 32 := Scf.iv c0_i32_31 c1_i32_33 k0_t1
  let v80 : BitVec 32 := Scalar.muli c2_i32_41 arg7
  let v81 : BitVec 32 := Scalar.subi v49 v80
  let c512_i32_44 : BitVec 32 := 512#32
  let v85 : BitVec 32 := Scalar.muli v81 c512_i32_44
  v85
def k0_off4 (i : grid0.Coords) (k0_t1 : Fin (k0_t1_loop i).trips) : Fin 3 → Nat :=
  let c0_45 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c1_i32_33 : BitVec 32 := 1#32
  let arg7 : BitVec 32 := Scf.iv c0_i32_31 c1_i32_33 k0_t1
  let v80 : BitVec 32 := Scalar.muli c2_i32_41 arg7
  let v81 : BitVec 32 := Scalar.subi v49 v80
  let c512_i32_44 : BitVec 32 := 512#32
  let v85 : BitVec 32 := Scalar.muli v81 c512_i32_44
  let v86 : BitVec 32 := v85
  let v87 : Index := Scalar.indexCast v86
  let c0_46 : Index := 0#32
  ![0, v87.toNat, 0]
def k0_mult8 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c1_i32_33 : BitVec 32 := 1#32
  let arg7 : BitVec 32 := Scf.iv c0_i32_31 c1_i32_33 k0_t1
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_59 : BitVec 32 := 512#32
  let v134 : BitVec 32 := Scalar.muli v84 c512_i32_59
  v134
def k0_off5 (i : grid0.Coords) (k0_t1 : Fin (k0_t1_loop i).trips) : Fin 3 → Nat :=
  let c0_60 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c1_i32_33 : BitVec 32 := 1#32
  let arg7 : BitVec 32 := Scf.iv c0_i32_31 c1_i32_33 k0_t1
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_59 : BitVec 32 := 512#32
  let v134 : BitVec 32 := Scalar.muli v84 c512_i32_59
  let v135 : BitVec 32 := v134
  let v136 : Index := Scalar.indexCast v135
  let c0_61 : Index := 0#32
  ![0, v136.toNat, 0]
def k0_mult9 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c1_i32_33 : BitVec 32 := 1#32
  let arg7 : BitVec 32 := Scf.iv c0_i32_31 c1_i32_33 k0_t1
  let v80 : BitVec 32 := Scalar.muli c2_i32_41 arg7
  let v81 : BitVec 32 := Scalar.subi v49 v80
  let c512_i32_74 : BitVec 32 := 512#32
  let v183 : BitVec 32 := Scalar.muli v81 c512_i32_74
  v183
def k0_mult10 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c1_i32_33 : BitVec 32 := 1#32
  let arg7 : BitVec 32 := Scf.iv c0_i32_31 c1_i32_33 k0_t1
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_89 : BitVec 32 := 512#32
  let v232 : BitVec 32 := Scalar.muli v84 c512_i32_89
  v232
@[reducible] def k0_t2_loop (i : grid0.Coords) : Scf.Loop 32 :=
  let c0_i32_31 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let v68 : BitVec 32 := Scalar.addi c0_i32_31 v67
  let c1_i32_34 : BitVec 32 := 1#32
  ⟨v71, v68, c1_i32_34⟩
def k0_mult11 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v80 : BitVec 32 := Scalar.muli c2_i32_41 arg7
  let v81 : BitVec 32 := Scalar.subi v49 v80
  let c512_i32_44 : BitVec 32 := 512#32
  let v85 : BitVec 32 := Scalar.muli v81 c512_i32_44
  v85
def k0_off6 (i : grid0.Coords) (k0_t2 : Fin (k0_t2_loop i).trips) : Fin 3 → Nat :=
  let c0_45 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v80 : BitVec 32 := Scalar.muli c2_i32_41 arg7
  let v81 : BitVec 32 := Scalar.subi v49 v80
  let c512_i32_44 : BitVec 32 := 512#32
  let v85 : BitVec 32 := Scalar.muli v81 c512_i32_44
  let v86 : BitVec 32 := v85
  let v87 : Index := Scalar.indexCast v86
  let c0_46 : Index := 0#32
  ![0, v87.toNat, 0]
def k0_mult12 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_59 : BitVec 32 := 512#32
  let v134 : BitVec 32 := Scalar.muli v84 c512_i32_59
  v134
def k0_off7 (i : grid0.Coords) (k0_t2 : Fin (k0_t2_loop i).trips) : Fin 3 → Nat :=
  let c0_60 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_59 : BitVec 32 := 512#32
  let v134 : BitVec 32 := Scalar.muli v84 c512_i32_59
  let v135 : BitVec 32 := v134
  let v136 : Index := Scalar.indexCast v135
  let c0_61 : Index := 0#32
  ![0, v136.toNat, 0]
def k0_mult13 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_41 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v80 : BitVec 32 := Scalar.muli c2_i32_41 arg7
  let v81 : BitVec 32 := Scalar.subi v49 v80
  let c512_i32_74 : BitVec 32 := 512#32
  let v183 : BitVec 32 := Scalar.muli v81 c512_i32_74
  v183
def k0_mult14 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_17 : BitVec 32 := 1#32
  let v38 : BitVec 32 := Scalar.subi v17 c1_i32_17
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v17 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : BitVec 32 := Scalar.subi v38 v48
  let c2_i32_42 : BitVec 32 := 2#32
  let c0_i32_31 : BitVec 32 := 0#32
  let c0_i32_25 : BitVec 32 := 0#32
  let v51 : BitVec 1 := Scalar.cmpi .sgt v17 c0_i32_25
  let v52 : BitVec 32 := Scalar.extui v51
  let c0_i32_26 : BitVec 32 := 0#32
  let v53 : BitVec 1 := Scalar.cmpi .slt v17 c0_i32_26
  let v54 : BitVec 32 := Scalar.extui v53
  let v55 : BitVec 32 := Scalar.subi v52 v54
  let c2_i32_24 : BitVec 32 := 2#32
  let c0_i32_27 : BitVec 32 := 0#32
  let v56 : BitVec 1 := Scalar.cmpi .sgt c2_i32_24 c0_i32_27
  let v57 : BitVec 32 := Scalar.extui v56
  let c0_i32_28 : BitVec 32 := 0#32
  let v58 : BitVec 1 := Scalar.cmpi .slt c2_i32_24 c0_i32_28
  let v59 : BitVec 32 := Scalar.extui v58
  let v60 : BitVec 32 := Scalar.subi v57 v59
  let v61 : BitVec 1 := Scalar.cmpi .ne v55 v60
  let v62 : BitVec 32 := Scalar.remsi v17 c2_i32_24
  let c0_i32_29 : BitVec 32 := 0#32
  let v63 : BitVec 1 := Scalar.cmpi .ne v62 c0_i32_29
  let v64 : BitVec 1 := Scalar.andi v61 v63
  let v50 : BitVec 32 := Scalar.divsi v17 c2_i32_24
  let c1_i32_30 : BitVec 32 := 1#32
  let v65 : BitVec 32 := Scalar.subi v50 c1_i32_30
  let v66 : BitVec 32 := Scalar.select v64 v65 v50
  let v67 : BitVec 32 := Scalar.subi v66 c0_i32_31
  let c1_i32_32 : BitVec 32 := 1#32
  let v69 : BitVec 32 := Scalar.divsi v67 c1_i32_32
  let v70 : BitVec 32 := Scalar.muli v69 c1_i32_32
  let v71 : BitVec 32 := Scalar.addi c0_i32_31 v70
  let c1_i32_34 : BitVec 32 := 1#32
  let arg7 : BitVec 32 := Scf.iv v71 c1_i32_34 k0_t2
  let v82 : BitVec 32 := Scalar.muli c2_i32_42 arg7
  let v83 : BitVec 32 := Scalar.subi v49 v82
  let c1_i32_43 : BitVec 32 := 1#32
  let v84 : BitVec 32 := Scalar.subi v83 c1_i32_43
  let c512_i32_89 : BitVec 32 := 512#32
  let v232 : BitVec 32 := Scalar.muli v84 c512_i32_89
  v232
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbFwdIdeal.lean ====
variable {F : FTy → Type} [FloatOps F] [Named F]
def κ : String → Option EReal := fun
  | "log2_e" => some (((Real.log 2)⁻¹ : ℝ) : EReal)
  | _ => none
-- ==== SbFwdReferenceIdeal.lean ====
abbrev S16x8192x64 : Shape := ⟨3, ![16, 8192, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 76
  | .vmem => 0
  | .smem => 0
  | _ => 0

abbrev bufTy : (tb : Table) → Fin (tcTables nBuf tb) → BufTy
  | .hbm, ⟨0, _⟩ => ⟨S16x8192x64, .bf16⟩
  | .hbm, ⟨1, _⟩ => ⟨S16x8192x64, .bf16⟩
  | .hbm, ⟨2, _⟩ => ⟨S16x8192x64, .bf16⟩
  | .hbm, ⟨3, _⟩ => ⟨S16x8192x64, .f32⟩
  | .hbm, ⟨4, _⟩ => ⟨S16x8192x64, .f32⟩
  | .hbm, ⟨5, _⟩ => ⟨S16x8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192x64, .f32⟩
  | .hbm, ⟨11, _⟩ => ⟨S16x8192x64, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .f32⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .i1⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S_, .f32⟩
  | .hbm, ⟨61, _⟩ => ⟨S16x8192x8192, .i1⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S_, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S_, .f32⟩
  | .hbm, ⟨71, _⟩ => ⟨S_, .f32⟩
  | .hbm, ⟨72, _⟩ => ⟨S16x8192x8192, .i1⟩
  | .hbm, ⟨73, _⟩ => ⟨S16x8192x8192, .f32⟩
  | .hbm, ⟨74, _⟩ => ⟨S16x8192x8192, .f32⟩
  | .hbm, ⟨75, _⟩ => ⟨S16x8192x64, .f32⟩
  | _, _ => ⟨S16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v21 : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v22 : Ref sig .tc := ⟨.hbm, 63, rfl⟩
abbrev main_call3_cst : Ref sig .tc := ⟨.hbm, 64, rfl⟩
abbrev main_call3_v0 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_3 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v27 : Ref sig .tc := ⟨.hbm, 74, rfl⟩
abbrev main_v28 : Ref sig .tc := ⟨.hbm, 75, rfl⟩

abbrev nD : Nat := 1
abbrev τ : Topo := Topo.v7x

variable {F : FTy → Type} [FloatOps F]
-- ==== Proof.Offsets.lean ====
/- The rectangles of the two accumulators' groups of columns, as closed forms over the grid point and the trip. -/
module

public import proofs.«01_k».proof.Proof.Gen.KernelIdeal.Loops
public import proofs.«01_k».proof.Proof.Gen.KernelIdeal.Frame

@[expose] public section

set_option maxRecDepth 16384

noncomputable section

namespace Cert.SbBwd

open Idealize.ShloMosaic Idealize.ShloMosaic.Tactic
open Cert.KernelIdeal

theorem off1_eq : ∀ i : grid0.Coords, k0_off1 i = ![0, 512 * (i 1).val, 0] := by decide +kernel
theorem off4_eq : ∀ i : grid0.Coords, k0_cond2 i = 1#1 → k0_off4 i = ![0, 0, 512 * ((i 1).val - 1)] := by decide +kernel
theorem off3_eq : ∀ i : grid0.Coords, k0_off3 i = ![0, 0, 512 * (i 1).val] := by decide +kernel
theorem off2_eq : ∀ i : grid0.Coords, k0_cond2 i = 1#1 → k0_off2 i = ![0, 512 * ((i 1).val - 1), 0] := by decide +kernel
theorem off5_eq : ∀ i : grid0.Coords, k0_off5 i = ![0, 512 * (i 1).val, 0] := by decide +kernel
theorem off6_eq : ∀ i : grid0.Coords, k0_off6 i = ![0, 0, 512 * (i 1).val] := by decide +kernel

theorem trips_eq : ∀ i : grid0.Coords, (k0_t1_loop i).trips = (i 1).val / 2 := by decide +kernel

theorem cond2_eq : ∀ i : grid0.Coords, k0_cond2 i = 1#1 ↔ (i 1).val % 2 = 1 := by decide +kernel

/-- The first group of columns of a trip: the groups already walked before the loop, then two per trip, down to the first. -/
theorem off9_eq : ∀ (i : grid0.Coords) (k : Fin (k0_t1_loop i).trips),
    k0_off9 i k = ![0, 0, 512 * (2 * ((i 1).val / 2) - 1 - 2 * k.val)] := by decide +kernel
theorem off10_eq : ∀ (i : grid0.Coords) (k : Fin (k0_t1_loop i).trips),
    k0_off10 i k = ![0, 0, 512 * (2 * ((i 1).val / 2) - 2 - 2 * k.val)] := by decide +kernel
theorem off7_eq : ∀ (i : grid0.Coords) (k : Fin (k0_t1_loop i).trips),
    k0_off7 i k = ![0, 512 * (2 * ((i 1).val / 2) - 1 - 2 * k.val), 0] := by decide +kernel
theorem off8_eq : ∀ (i : grid0.Coords) (k : Fin (k0_t1_loop i).trips),
    k0_off8 i k = ![0, 512 * (2 * ((i 1).val / 2) - 2 - 2 * k.val), 0] := by decide +kernel

end Cert.SbBwd
-- ==== Proof.Trip.lean ====
/- One trip of the loop over the pairs of groups of columns, run once at a symbolic trip. -/
module

public import proofs.«01_k».proof.Proof.Offsets
public import Idealize.ShloMosaic.Lib.LoopRemainder

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩

/-- What the loop carries: per sub-block of 128 rows the sum of the logarithms, the sum of the products and the rows of dq. -/
abbrev Acc (F : FTy → Type) : Type :=
  FVec F S128x1 .f32 × FVec F S128x1 .f32 × FVec F S128x64 .f32 × FVec F S128x1 .f32 × FVec F S128x1 .f32 × FVec F S128x64 .f32
    × FVec F S128x1 .f32 × FVec F S128x1 .f32 × FVec F S128x64 .f32 × FVec F S128x1 .f32 × FVec F S128x1 .f32 × FVec F S128x64 .f32

abbrev Pcs (F : FTy → Type) : Type := List (View.Piece (Elt F) S1x64x8192 .f32)

/-- A trip's resources: the keys, the values and the mask it reads, the two accumulators it adds into. -/
abbrev Held (c : Dev nD) (arg4 : Memref sig .tc .vmem S1x8192x64 .bf16) (harg4 : arg4.IsWhole) (arg5 : Memref sig .tc .vmem S1x8192x64 .bf16) (harg5 : arg5.IsWhole)
    (arg9 : Memref sig .tc .vmem S512x256 .bf16) (harg9 : arg9.IsWhole) (arg11 : Memref sig .tc .vmem S1x64x8192 .f32) (arg12 : Memref sig .tc .vmem S1x64x8192 .f32)
    (x4 x5 : Vec F S1x8192x64 .bf16) (x9 : Vec F S512x256 .bf16)
    (f11 : Buf (Elt F) (arg11.view.loc (c : Thread nD τ))) (f12 : Buf (Elt F) (arg12.view.loc (c : Thread nD τ))) : sProp 𝕄 :=
  iprop((arg4.view.loc (c : Thread nD τ) ↦[arg4.view.set]{fullShare} harg4.unread x4)
    ∗ (arg5.view.loc (c : Thread nD τ) ↦[arg5.view.set]{fullShare} harg5.unread x5)
    ∗ (arg9.view.loc (c : Thread nD τ) ↦[arg9.view.set]{fullShare} harg9.unread x9)
    ∗ (arg11.view.loc (c : Thread nD τ) ↦[arg11.view.set]{fullShare} f11)
    ∗ (arg12.view.loc (c : Thread nD τ) ↦[arg12.view.set]{fullShare} f12))

set_option maxHeartbeats 8000000 in
/-- One trip: the accumulators left with the trip's pieces in front, the carried value returned, both found by the run. -/
@[irreducible] def trip (c : Dev nD) (E : Set ℕ) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x4 x5 : Vec F S1x8192x64 .bf16) (x9 : Vec F S512x256 .bf16) (arg1 : BitVec 32) (v20 : BitVec 32) (v22 : FVec F S128x64 .bf16) (v24 : FVec F S128x64 .bf16) (v26 : FVec F S128x64 .bf16) (v28 : FVec F S128x64 .bf16) (v30 : FVec F S64x128 .bf16) (v32 : FVec F S64x128 .bf16) (v34 : FVec F S64x128 .bf16) (v36 : FVec F S64x128 .bf16) (v38 : FVec F S128x64 .bf16) (v40 : FVec F S128x64 .bf16) (v42 : FVec F S128x64 .bf16) (v44 : FVec F S128x64 .bf16) (v46 : FVec F S64x128 .bf16) (v48 : FVec F S64x128 .bf16) (v50 : FVec F S64x128 .bf16) (v52 : FVec F S64x128 .bf16) (v58 : FVec F S128x1 .f32) (v64 : FVec F S128x1 .f32) (v70 : FVec F S128x1 .f32) (v76 : FVec F S128x1 .f32) (v77 : FVec F S128x1 .f32) (v78 : FVec F S128x64 .f32) (v79 : FVec F S128x64 .f32) (v80 : FVec F S128x64 .f32) (v81 : FVec F S128x64 .f32) (v91 : BitVec 32) (v107 : BitVec 32)
    (k : Fin (k0_t1_loop i).trips)
    (a14 a15 : FVec F S128x1 .f32) (a16 : FVec F S128x64 .f32) (a17 a18 : FVec F S128x1 .f32) (a19 : FVec F S128x64 .f32)
    (a20 a21 : FVec F S128x1 .f32) (a22 : FVec F S128x64 .f32) (a23 a24 : FVec F S128x1 .f32) (a25 : FVec F S128x64 .f32)
    (f11 : Buf (Elt F) (arg11.view.loc (c : Thread nD τ))) (f12 : Buf (Elt F) (arg12.view.loc (c : Thread nD τ))) :
    Σ' (R : Acc F) (L11 : Pcs F), { L12 : Pcs F //
      Held c arg4 harg4 arg5 harg5 arg9 harg9 arg11 arg12 x4 x5 x9 f11 f12
        ⊢ wp frame (wpE (defs₀ (F := F)) Variants.none (c : Thread nD τ) none) E
            (k0_t1_body (F := F) i arg2 harg2 arg3 harg3 arg4 harg4 arg5 harg5 arg6 harg6 arg7 harg7 arg8 harg8 arg9 harg9 arg10 harg10 arg11 harg11 arg12 harg12 arg1 v20 v22 v24 v26 v28 v30 v32 v34 v36 v38 v40 v42 v44 v46 v48 v50 v52 v58 v64 v70 v76 v77 v78 v79 v80 v81 v91 v107 k (a14, a15, a16, a17, a18, a19, a20, a21, a22, a23, a24, a25))
            (fun r => iprop(⌜r = R⌝ ∗ Held c arg4 harg4 arg5 harg5 arg9 harg9 arg11 arg12 x4 x5 x9
              (arg11.view.writes (Elt F) f11 L11) (arg12.view.writes (Elt F) f12 L12))) } := by
  refine ⟨?_, ?_, ?_, ?run⟩
  case run =>
    unfold Held k0_t1_body
    iintro ⟨H4, H5, H9, H11, H12⟩
    sl_exec
    sl_step
    sl_close

end Cert.SbBwd
-- ==== Proof.Loop.lean ====
/- The loop over the pairs of groups of columns: its state before each trip and the invariant the run passes it by. -/
module

public import proofs.«01_k».proof.Proof.Trip

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
  (x4 x5 : Vec F S1x8192x64 .bf16) (x9 : Vec F S512x256 .bf16) (arg1 : BitVec 32) (v20 : BitVec 32) (v22 : FVec F S128x64 .bf16) (v24 : FVec F S128x64 .bf16) (v26 : FVec F S128x64 .bf16) (v28 : FVec F S128x64 .bf16) (v30 : FVec F S64x128 .bf16) (v32 : FVec F S64x128 .bf16) (v34 : FVec F S64x128 .bf16) (v36 : FVec F S64x128 .bf16) (v38 : FVec F S128x64 .bf16) (v40 : FVec F S128x64 .bf16) (v42 : FVec F S128x64 .bf16) (v44 : FVec F S128x64 .bf16) (v46 : FVec F S64x128 .bf16) (v48 : FVec F S64x128 .bf16) (v50 : FVec F S64x128 .bf16) (v52 : FVec F S64x128 .bf16) (v58 : FVec F S128x1 .f32) (v64 : FVec F S128x1 .f32) (v70 : FVec F S128x1 .f32) (v76 : FVec F S128x1 .f32) (v77 : FVec F S128x1 .f32) (v78 : FVec F S128x64 .f32) (v79 : FVec F S128x64 .f32) (v80 : FVec F S128x64 .f32) (v81 : FVec F S128x64 .f32) (v91 : BitVec 32) (v107 : BitVec 32)

/-- The loop's state: the carried value and the two accumulators' contents. -/
abbrev St (F : FTy → Type) (c : Dev nD) (arg11 arg12 : Memref sig .tc .vmem S1x64x8192 .f32) : Type :=
  Acc F × Buf (Elt F) (arg11.view.loc (c : Thread nD τ)) × Buf (Elt F) (arg12.view.loc (c : Thread nD τ))

/-- One trip on the state, as the run finds it. -/
abbrev tripAt (k : Fin (k0_t1_loop i).trips) (s : St F c arg11 arg12) :=
  trip (F := F) c Set.univ i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k
    s.1.1 s.1.2.1 s.1.2.2.1 s.1.2.2.2.1 s.1.2.2.2.2.1 s.1.2.2.2.2.2.1 s.1.2.2.2.2.2.2.1 s.1.2.2.2.2.2.2.2.1 s.1.2.2.2.2.2.2.2.2.1
    s.1.2.2.2.2.2.2.2.2.2.1 s.1.2.2.2.2.2.2.2.2.2.2.1 s.1.2.2.2.2.2.2.2.2.2.2.2 s.2.1 s.2.2

@[irreducible] def stStep (k : ℕ) (s : St F c arg11 arg12) : St F c arg11 arg12 :=
  if h : k < (k0_t1_loop i).trips then
    ((tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 ⟨k, h⟩ s).1,
      arg11.view.writes (Elt F) s.2.1 (tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 ⟨k, h⟩ s).2.1,
      arg12.view.writes (Elt F) s.2.2 (tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 ⟨k, h⟩ s).2.2.1)
  else s

/-- The state before trip `k`. -/
abbrev stAt (s0 : St F c arg11 arg12) (k : ℕ) : St F c arg11 arg12 :=
  Nat.rec (motive := fun _ => St F c arg11 arg12) s0 (fun k s => stStep c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k s) k

theorem stAt_succ (s0 : St F c arg11 arg12) (k : Fin (k0_t1_loop i).trips) :
    stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 (k.val + 1)
      = ((tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val)).1,
        arg11.view.writes (Elt F) (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val).2.1 (tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val)).2.1,
        arg12.view.writes (Elt F) (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val).2.2 (tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val)).2.2.1) := by
  show stStep c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k.val (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 s0 k.val) = _
  unfold stStep; exact dif_pos k.isLt

/-- The first accumulator's contents before trip `k`. -/
abbrev st11 (init : Acc F) (G11 : Buf (Elt F) (arg11.view.loc (c : Thread nD τ))) (G12 : Buf (Elt F) (arg12.view.loc (c : Thread nD τ))) (k : ℕ) :
    Buf (Elt F) (arg11.view.loc (c : Thread nD τ)) :=
  Nat.rec (motive := fun _ => Buf (Elt F) (arg11.view.loc (c : Thread nD τ))) G11
    (fun k _ => (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) (k + 1)).2.1) k

/-- The second accumulator's contents before trip `k`. -/
abbrev st12 (init : Acc F) (G11 : Buf (Elt F) (arg11.view.loc (c : Thread nD τ))) (G12 : Buf (Elt F) (arg12.view.loc (c : Thread nD τ))) (k : ℕ) :
    Buf (Elt F) (arg12.view.loc (c : Thread nD τ)) :=
  Nat.rec (motive := fun _ => Buf (Elt F) (arg12.view.loc (c : Thread nD τ))) G12
    (fun k _ => (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) (k + 1)).2.2) k

theorem st11_eq (init : Acc F) (G11 : Buf (Elt F) (arg11.view.loc (c : Thread nD τ))) (G12 : Buf (Elt F) (arg12.view.loc (c : Thread nD τ))) (k : ℕ) :
    st11 c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 k = (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) k).2.1 := by
  cases k <;> rfl

theorem st12_eq (init : Acc F) (G11 : Buf (Elt F) (arg11.view.loc (c : Thread nD τ))) (G12 : Buf (Elt F) (arg12.view.loc (c : Thread nD τ))) (k : ℕ) :
    st12 c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 k = (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) k).2.2 := by
  cases k <;> rfl

/-- The invariant before trip `k`. -/
abbrev loopHeld (init : Acc F) (G11 : Buf (Elt F) (arg11.view.loc (c : Thread nD τ))) (G12 : Buf (Elt F) (arg12.view.loc (c : Thread nD τ)))
    (k : ℕ) (acc : Acc F) : sProp 𝕄 :=
  iprop(⌜acc = (stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) k).1⌝
    ∗ (arg4.view.loc (c : Thread nD τ) ↦[arg4.view.set]{fullShare} harg4.unread x4)
    ∗ (arg5.view.loc (c : Thread nD τ) ↦[arg5.view.set]{fullShare} harg5.unread x5)
    ∗ (arg9.view.loc (c : Thread nD τ) ↦[arg9.view.set]{fullShare} harg9.unread x9)
    ∗ (∃ f, (arg11.view.loc (c : Thread nD τ) ↦[arg11.view.set]{fullShare} f) ∗ ⌜f = st11 c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 k⌝)
    ∗ (∃ f, (arg12.view.loc (c : Thread nD τ) ↦[arg12.view.set]{fullShare} f) ∗ ⌜f = st12 c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 k⌝))

set_option maxHeartbeats 4000000 in
theorem loop_step (init : Acc F) (G11 : Buf (Elt F) (arg11.view.loc (c : Thread nD τ))) (G12 : Buf (Elt F) (arg12.view.loc (c : Thread nD τ)))
    (k : Fin (k0_t1_loop i).trips) (acc : Acc F) :
    loopHeld c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 k.val acc
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg1 v20 v22 v24 v26 v28 v30 v32 v34 v36 v38 v40 v42 v44 v46 v48 v50 v52 v58 v64 v70 v76 v77 v78 v79 v80 v81 v91 v107 k acc)
          (loopHeld c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12 (k.val + 1)) := by
  unfold loopHeld
  rw [st11_eq, st12_eq, st11_eq, st12_eq, stAt_succ]
  generalize stAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 (init, G11, G12) k.val = s
  iintro ⟨%hacc, H4, H5, H9, ⟨%f11, H11, %h11⟩, ⟨%f12, H12, %h12⟩⟩
  subst hacc h11 h12
  have key := (tripAt c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k s).2.2.2
  iapply wp_wand $$ [H4 H5 H9 H11 H12]
  · iapply key
    unfold Held
    isplitl [H4]; · iexact H4
    isplitl [H5]; · iexact H5
    isplitl [H9]; · iexact H9
    isplitl [H11]; · iexact H11
    iexact H12
  · unfold Held
    iintro %r ⟨%hr, H4, H5, H9, H11, H12⟩
    isplitr; · ipureintro; exact hr
    isplitl [H4]; · iexact H4
    isplitl [H5]; · iexact H5
    isplitl [H9]; · iexact H9
    isplitl [H11]
    · iexists _; isplitl [H11]; · iexact H11
      ipureintro; rfl
    · iexists _; isplitl [H12]; · iexact H12
      ipureintro; rfl

/-- The loop's invariant, for the run to go through the loop by. -/
@[instance_reducible, sl_loop] def loopInv (init : Acc F) (G11 : Buf (Elt F) (arg11.view.loc (c : Thread nD τ))) (G12 : Buf (Elt F) (arg12.view.loc (c : Thread nD τ))) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v20 v22 v24 v26 v28 v30 v32 v34 v36 v38 v40 v42 v44 v46 v48 v50 v52 v58 v64 v70 v76 v77 v78 v79 v80 v81 v91 v107 init :=
  ⟨loopHeld c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12, loop_step c i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 init G11 G12⟩

end

end Cert.SbBwd
-- ==== Proof.Run.lean ====
/- The body at one grid point, run once per case: the first row block (which clears the accumulators), an odd one, an even one. -/
module

public import proofs.«01_k».proof.Proof.Loop

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body holds: its inputs' blocks and the three outputs' buffers. -/
abbrev BodyHeld (c : Dev nD) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x2 : Vec F S1x512x64 .bf16) (x3 : Vec F S1x64x512 .bf16) (x4 : Vec F S1x8192x64 .bf16) (x5 : Vec F S1x8192x64 .bf16) (x6 : Vec F S1x512x64 .f32) (x7 : Vec F S1x512x64 .bf16) (x8 : Vec F S1x64x512 .bf16) (x9 : Vec F S512x256 .bf16) (f10 : Buf (Elt F) (arg10.view.loc (c : Thread nD τ))) (f11 : Buf (Elt F) (arg11.view.loc (c : Thread nD τ))) (f12 : Buf (Elt F) (arg12.view.loc (c : Thread nD τ))) : sProp 𝕄 :=
  iprop((arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5)
    ∗ (arg6.view.loc (c : Thread nD τ) ↦[arg6.view.set]{fullShare} harg6.unread x6)
    ∗ (arg7.view.loc (c : Thread nD τ) ↦[arg7.view.set]{fullShare} harg7.unread x7)
    ∗ (arg8.view.loc (c : Thread nD τ) ↦[arg8.view.set]{fullShare} harg8.unread x8)
    ∗ (arg9.view.loc (c : Thread nD τ) ↦[arg9.view.set]{fullShare} harg9.unread x9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12))

instance (i : grid0.Coords) : ClosedOff (k0_off1 i) := ⟨_, off1_eq i⟩
instance (i : grid0.Coords) : ClosedOff (k0_off3 i) := ⟨_, off3_eq i⟩
instance (i : grid0.Coords) : ClosedOff (k0_off5 i) := ⟨_, off5_eq i⟩
instance (i : grid0.Coords) : ClosedOff (k0_off6 i) := ⟨_, off6_eq i⟩

set_option maxHeartbeats 16000000 in
/-- An odd row block. -/
@[irreducible] def run_odd (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x2 : Vec F S1x512x64 .bf16) (x3 : Vec F S1x64x512 .bf16) (x4 : Vec F S1x8192x64 .bf16) (x5 : Vec F S1x8192x64 .bf16) (x6 : Vec F S1x512x64 .f32) (x7 : Vec F S1x512x64 .bf16) (x8 : Vec F S1x64x512 .bf16) (x9 : Vec F S512x256 .bf16) (h1 : ¬ Scalar.cmpi .ne (Scalar.extui (Scalar.cmpi .eq (BitVec.ofNat 32 (i 1).val) 0#32)) 0#32 = 1#1) (h2 : k0_cond2 i = 1#1) (f10 : Buf (Elt F) (arg10.view.loc (c : Thread nD τ))) (f11 : Buf (Elt F) (arg11.view.loc (c : Thread nD τ))) (f12 : Buf (Elt F) (arg12.view.loc (c : Thread nD τ))) :
    Σ' (F10 : Buf (Elt F) (arg10.view.loc (c : Thread nD τ))) (F11 : Buf (Elt F) (arg11.view.loc (c : Thread nD τ))),
      { F12 : Buf (Elt F) (arg12.view.loc (c : Thread nD τ)) //
        BodyHeld c arg2 harg2 arg3 harg3 arg4 harg4 arg5 harg5 arg6 harg6 arg7 harg7 arg8 harg8 arg9 harg9 arg10 harg10 arg11 harg11 arg12 harg12 x2 x3 x4 x5 x6 x7 x8 x9 f10 f11 f12
          ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12)
              (fun _ => BodyHeld c arg2 harg2 arg3 harg3 arg4 harg4 arg5 harg5 arg6 harg6 arg7 harg7 arg8 harg8 arg9 harg9 arg10 harg10 arg11 harg11 arg12 harg12 x2 x3 x4 x5 x6 x7 x8 x9 F10 F11 F12) } := by
  refine ⟨?_, ?_, ?_, ?run⟩
  case run =>
    letI : ClosedOff (k0_off2 i) := ⟨_, off2_eq i h2⟩
    letI : ClosedOff (k0_off4 i) := ⟨_, off4_eq i h2⟩
    unfold BodyHeld
    iintro ⟨H2, H3, H4, H5, H6, H7, H8, H9, H10, H11, H12⟩
    unfold cc0_sb_bwd
    sl_exec
    sl_step
    sl_close

set_option maxHeartbeats 16000000 in
/-- An even row block but the first. -/
@[irreducible] def run_even (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x2 : Vec F S1x512x64 .bf16) (x3 : Vec F S1x64x512 .bf16) (x4 : Vec F S1x8192x64 .bf16) (x5 : Vec F S1x8192x64 .bf16) (x6 : Vec F S1x512x64 .f32) (x7 : Vec F S1x512x64 .bf16) (x8 : Vec F S1x64x512 .bf16) (x9 : Vec F S512x256 .bf16) (h1 : ¬ Scalar.cmpi .ne (Scalar.extui (Scalar.cmpi .eq (BitVec.ofNat 32 (i 1).val) 0#32)) 0#32 = 1#1) (h2 : ¬ k0_cond2 i = 1#1) (f10 : Buf (Elt F) (arg10.view.loc (c : Thread nD τ))) (f11 : Buf (Elt F) (arg11.view.loc (c : Thread nD τ))) (f12 : Buf (Elt F) (arg12.view.loc (c : Thread nD τ))) :
    Σ' (F10 : Buf (Elt F) (arg10.view.loc (c : Thread nD τ))) (F11 : Buf (Elt F) (arg11.view.loc (c : Thread nD τ))),
      { F12 : Buf (Elt F) (arg12.view.loc (c : Thread nD τ)) //
        BodyHeld c arg2 harg2 arg3 harg3 arg4 harg4 arg5 harg5 arg6 harg6 arg7 harg7 arg8 harg8 arg9 harg9 arg10 harg10 arg11 harg11 arg12 harg12 x2 x3 x4 x5 x6 x7 x8 x9 f10 f11 f12
          ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12)
              (fun _ => BodyHeld c arg2 harg2 arg3 harg3 arg4 harg4 arg5 harg5 arg6 harg6 arg7 harg7 arg8 harg8 arg9 harg9 arg10 harg10 arg11 harg11 arg12 harg12 x2 x3 x4 x5 x6 x7 x8 x9 F10 F11 F12) } := by
  refine ⟨?_, ?_, ?_, ?run⟩
  case run =>
    unfold BodyHeld
    iintro ⟨H2, H3, H4, H5, H6, H7, H8, H9, H10, H11, H12⟩
    unfold cc0_sb_bwd
    sl_exec
    sl_step
    sl_close

set_option maxHeartbeats 16000000 in
/-- The first row block. -/
@[irreducible] def run_first (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x2 : Vec F S1x512x64 .bf16) (x3 : Vec F S1x64x512 .bf16) (x4 : Vec F S1x8192x64 .bf16) (x5 : Vec F S1x8192x64 .bf16) (x6 : Vec F S1x512x64 .f32) (x7 : Vec F S1x512x64 .bf16) (x8 : Vec F S1x64x512 .bf16) (x9 : Vec F S512x256 .bf16) (h1 : Scalar.cmpi .ne (Scalar.extui (Scalar.cmpi .eq (BitVec.ofNat 32 (i 1).val) 0#32)) 0#32 = 1#1) (h2 : ¬ k0_cond2 i = 1#1) (f10 : Buf (Elt F) (arg10.view.loc (c : Thread nD τ))) (f11 : Buf (Elt F) (arg11.view.loc (c : Thread nD τ))) (f12 : Buf (Elt F) (arg12.view.loc (c : Thread nD τ))) :
    Σ' (F10 : Buf (Elt F) (arg10.view.loc (c : Thread nD τ))) (F11 : Buf (Elt F) (arg11.view.loc (c : Thread nD τ))),
      { F12 : Buf (Elt F) (arg12.view.loc (c : Thread nD τ)) //
        BodyHeld c arg2 harg2 arg3 harg3 arg4 harg4 arg5 harg5 arg6 harg6 arg7 harg7 arg8 harg8 arg9 harg9 arg10 harg10 arg11 harg11 arg12 harg12 x2 x3 x4 x5 x6 x7 x8 x9 f10 f11 f12
          ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12)
              (fun _ => BodyHeld c arg2 harg2 arg3 harg3 arg4 harg4 arg5 harg5 arg6 harg6 arg7 harg7 arg8 harg8 arg9 harg9 arg10 harg10 arg11 harg11 arg12 harg12 x2 x3 x4 x5 x6 x7 x8 x9 F10 F11 F12) } := by
  refine ⟨?_, ?_, ?_, ?run⟩
  case run =>
    unfold BodyHeld
    iintro ⟨H2, H3, H4, H5, H6, H7, H8, H9, H10, H11, H12⟩
    unfold cc0_sb_bwd
    sl_exec
    sl_step
    sl_close

end Cert.SbBwd
-- ==== Proof.Tile.lean ====
/- One tile of the backward pass: 128 rows of the queries against one group of 512 keys, as functions of the values loaded. -/
module

public import proofs.«01_k».proof.Proof.Gen.KernelIdeal.Skeleton
public import Idealize.ShloMosaic.Lib.VecWindow

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- The rows of one tile: queries and output gradients, both ways round, and `D`. -/
structure Row (F : FTy → Type) where
  q : FVec F S128x64 .bf16
  qT : FVec F S64x128 .bf16
  d : FVec F S128x64 .bf16
  dT : FVec F S64x128 .bf16
  D : FVec F S128x1 .f32

/-- What one tile hands to the next: the keep sum and the gradient sum right of it, and the query gradient. -/
structure Carry (F : FTy → Type) where
  R : FVec F S128x1 .f32
  G : FVec F S128x1 .f32
  dq : FVec F S128x64 .f32

/-- Zero outside the mask; everything where there is no mask. -/
def keep (o : Option (IVec S128x512 1)) (x : FVec F S128x512 .f32) : FVec F S128x512 .f32 :=
  match o with
  | none => x
  | some m => select m x (broadcast S128x512 (Scalar.ofBits .f32 0x00000000#32 : F .f32))

/-- The scores. -/
def scores (q : FVec F S128x64 .bf16) (kg : Vec F S1x512x64 .bf16) : FVec F S128x512 .f32 :=
  matmul dot_S128x64_S512x64_S128x512_1_1_0_0_n_n none q (shapeCast S512x64 kg shapeCasts_S1x512x64_S512x64 : FVec F S512x64 .bf16) (constant S128x512 .f32 0x00000000#32)

/-- The logarithm of the sigmoid, to base 2. -/
def logBeta (z : FVec F S128x512 .f32) : FVec F S128x512 .f32 :=
  subf (minimumf z (broadcast S128x512 (Scalar.ofBits .f32 0x00000000#32 : F .f32)))
    (mulf (log (addf (broadcast S128x512 (Scalar.ofBits .f32 0x3F800000#32 : F .f32))
      (exp2 (subf (broadcast S128x512 (Scalar.ofBits .f32 0x00000000#32 : F .f32)) (absf z)))))
      (broadcast S128x512 (Named.named κ "log2_e" 0x3FB8AA3B#32 : F .f32)))

/-- The sum of the right half of each row. -/
def sumHi (x : FVec F S128x512 .f32) : FVec F S128x1 .f32 :=
  shapeCast S128x1 (multiReduction .add [1] S128 (extractStridedSlice S128x256 ![0, 256] x slices_S128x512_o0_256_S128x256 : FVec F S128x256 .f32) 0x00000000#32 reduces_S128x256_S128 (.inl rfl) rfl : FVec F S128 .f32) shapeCasts_S128_S128x1

/-- The sum of the left half of each row. -/
def sumLo (x : FVec F S128x512 .f32) : FVec F S128x1 .f32 :=
  shapeCast S128x1 (multiReduction .add [1] S128 (extractStridedSlice S128x256 ![0, 0] x slices_S128x512_o0_0_S128x256 : FVec F S128x256 .f32) 0x00000000#32 reduces_S128x256_S128 (.inl rfl) rfl : FVec F S128 .f32) shapeCasts_S128_S128x1

/-- The row sums. -/
def rowSum (x : FVec F S128x512 .f32) : FVec F S128x1 .f32 := addf (sumHi x) (sumLo x)

/-- The halves of each row, rounded and with the rounding's remainder beside them, one half under the other. -/
def splitRows (x : FVec F S128x512 .f32) : FVec F S256x512 .bf16 :=
  let h : FVec F S128x512 .bf16 := truncf .bf16 x bitsLt_bf16_f32
  let l : FVec F S128x512 .bf16 := truncf .bf16 (subf x (extf .f32 h bitsLt_bf16_f32)) bitsLt_bf16_f32
  concatenate S256x512 0
    [⟨S128x512, (concatenate S128x512 1 [⟨S128x256, (extractStridedSlice S128x256 ![0, 0] h slices_S128x512_o0_0_S128x256 : FVec F S128x256 .bf16)⟩,
        ⟨S128x256, (extractStridedSlice S128x256 ![0, 0] l slices_S128x512_o0_0_S128x256 : FVec F S128x256 .bf16)⟩] concatenates_S128x256_S128x256_S128x512_d1 : FVec F S128x512 .bf16)⟩,
     ⟨S128x512, (concatenate S128x512 1 [⟨S128x256, (extractStridedSlice S128x256 ![0, 256] h slices_S128x512_o0_256_S128x256 : FVec F S128x256 .bf16)⟩,
        ⟨S128x256, (extractStridedSlice S128x256 ![0, 256] l slices_S128x512_o0_256_S128x256 : FVec F S128x256 .bf16)⟩] concatenates_S128x256_S128x256_S128x512_d1 : FVec F S128x512 .bf16)⟩]
    concatenates_S128x512_S128x512_S256x512_d0

/-- The product that sums each half row right of every place in it. -/
def halfSums (x : FVec F S128x512 .f32) (a : Vec F S512x256 .bf16) : FVec F S256x256 .f32 :=
  matmul dot_S256x512_S512x256_S256x256_1_0_0_1_n_n none (splitRows x) (shapeCast S512x256 a shapeCasts_S512x256_S512x256 : FVec F S512x256 .bf16) (constant S256x256 .f32 0x00000000#32)

/-- The sums of each row right of every place in it. -/
def suffix (x : FVec F S128x512 .f32) (a : Vec F S512x256 .bf16) : FVec F S128x512 .f32 :=
  concatenate S128x512 1
    [⟨S128x256, (addf (extractStridedSlice S128x256 ![0, 0] (halfSums x a) slices_S256x256_o0_0_S128x256 : FVec F S128x256 .f32)
        (broadcastTo S128x256 (sumHi x) broadcasts_S128x1_S128x256 : FVec F S128x256 .f32) : FVec F S128x256 .f32)⟩,
     ⟨S128x256, (extractStridedSlice S128x256 ![128, 0] (halfSums x a) slices_S256x256_o128_0_S128x256 : FVec F S128x256 .f32)⟩]
    concatenates_S128x256_S128x256_S128x512_d1

/-- The logarithm of the probability to pass a key by, to base 2. -/
def logKeep (o : Option (IVec S128x512 1)) (z : FVec F S128x512 .f32) : FVec F S128x512 .f32 := keep o (subf (logBeta z) z)

/-- The weights. -/
def weights (o : Option (IVec S128x512 1)) (z : FVec F S128x512 .f32) (a : Vec F S512x256 .bf16) (R : FVec F S128x1 .f32) : FVec F S128x512 .bf16 :=
  truncf .bf16 (keep o (exp2 (addf (addf (logBeta z) (suffix (logKeep o z) a)) (broadcastTo S128x512 R broadcasts_S128x1_S128x512 : FVec F S128x512 .f32)))) bitsLt_bf16_f32

/-- The weights times their gradients. -/
def wGrad (w : FVec F S128x512 .bf16) (d : FVec F S128x64 .bf16) (vg : Vec F S1x512x64 .bf16) : FVec F S128x512 .f32 :=
  mulf (extf .f32 w bitsLt_bf16_f32) (scores d vg)

/-- The gradient of the scores. -/
def zGrad (o : Option (IVec S128x512 1)) (z g : FVec F S128x512 .f32) (a : Vec F S512x256 .bf16) (D G : FVec F S128x1 .f32) : FVec F S128x512 .bf16 :=
  truncf .bf16 (keep o (subf g (mulf (exp2 (logBeta z))
    (subf (broadcastTo S128x512 (subf D G) broadcasts_S128x1_S128x512 : FVec F S128x512 .f32) (suffix g a))))) bitsLt_bf16_f32

section
variable (o : Option (IVec S128x512 1)) (r : Row F) (kg vg : Vec F S1x512x64 .bf16) (a : Vec F S512x256 .bf16) (s : Carry F)

/-- The tile's weights. -/
def tileW : FVec F S128x512 .bf16 := weights o (scores r.q kg) a s.R

/-- The tile's weights times their gradients. -/
def tileG : FVec F S128x512 .f32 := wGrad (tileW o r kg a s) r.d vg

/-- The tile's gradient of the scores. -/
def tileZ : FVec F S128x512 .bf16 := zGrad o (scores r.q kg) (tileG o r kg vg a s) a r.D s.G

/-- What the tile hands on. -/
def tileNext : Carry F where
  R := addf s.R (rowSum (logKeep o (scores r.q kg)))
  G := addf s.G (rowSum (tileG o r kg vg a s))
  dq := addf s.dq (matmul dot_S128x512_S512x64_S128x64_1_0_0_1_n_n none (tileZ o r kg vg a s) (shapeCast S512x64 kg shapeCasts_S1x512x64_S512x64 : FVec F S512x64 .bf16) (constant S128x64 .f32 0x00000000#32))

/-- The tile's part of the value gradient. -/
def tileV : FVec F S64x512 .f32 :=
  matmul dot_S64x128_S128x512_S64x512_1_0_0_1_n_n none r.dT (tileW o r kg a s) (constant S64x512 .f32 0x00000000#32)

/-- The tile's part of the key gradient. -/
def tileK : FVec F S64x512 .f32 :=
  matmul dot_S64x128_S128x512_S64x512_1_0_0_1_n_n none r.qT (tileZ o r kg vg a s) (constant S64x512 .f32 0x00000000#32)

end

/-- A block of an accumulator with a part added. -/
def accum (w : Vec F S1x64x512 .f32) (p : FVec F S64x512 .f32) : Vec F S1x64x512 .f32 :=
  shapeCast S1x64x512 (addf (shapeCast S64x512 w shapeCasts_S1x64x512_S64x512 : FVec F S64x512 .f32) p) shapeCasts_S64x512_S1x64x512

end Cert.SbBwd
-- ==== Proof.Pieces.lean ====
/- The stores of one trip into an accumulator: eight, at two blocks of columns in turn; what they leave. -/
module

public import proofs.«01_k».proof.Proof.Tile

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- A block of columns of an accumulator. -/
abbrev colRect (o : Fin 3 → ℕ) (h : ∀ a, o a + S1x64x512.size a ≤ S1x64x8192.size a) : Rect S1x64x8192 :=
  Rect.unit (s := S1x64x8192) o S1x64x512.size h

/-- The block's values. -/
abbrev colGet (X : Vec F S1x64x8192 .f32) (o : Fin 3 → ℕ) (h : ∀ a, o a + S1x64x512.size a ≤ S1x64x8192.size a) : Vec F S1x64x512 .f32 :=
  VecWindow.window (s := S1x64x8192) X o S1x64x512.size h

/-- The accumulator with the block replaced. -/
abbrev colPut (X : Vec F S1x64x8192 .f32) (o : Fin 3 → ℕ) (w : Vec F S1x64x512 .f32) : Vec F S1x64x8192 .f32 :=
  VecWindow.put (s := S1x64x8192) X o S1x64x512.size w

/-- Four parts added to a block. -/
def accum4 (w : Vec F S1x64x512 .f32) (p : Fin 4 → FVec F S64x512 .f32) : Vec F S1x64x512 .f32 :=
  accum (accum (accum (accum w (p 0)) (p 1)) (p 2)) (p 3)

theorem put_swap {s : Shape} {α : Type} (x : s.Idx → α) (o o' size size' : Fin s.rank → ℕ) (w : ((a : Fin s.rank) → Fin (size a)) → α)
    (w' : ((a : Fin s.rank) → Fin (size' a)) → α) (a : Fin s.rank) (h : o a + size a ≤ o' a ∨ o' a + size' a ≤ o a) :
    VecWindow.put (VecWindow.put x o size w) o' size' w' = VecWindow.put (VecWindow.put x o' size' w') o size w := by
  funext y
  unfold VecWindow.put
  by_cases h1 : ∀ a, o a ≤ (y a).val ∧ (y a).val < o a + size a
  · by_cases h2 : ∀ a, o' a ≤ (y a).val ∧ (y a).val < o' a + size' a
    · exact absurd (h1 a) (by have := h2 a; omega)
    · rw [dif_neg h2, dif_pos h1, dif_pos h1]
  · rw [dif_neg h1, dif_neg h1]

/-- What may be said of a view's covered load at a block of columns. -/
theorem readCov_col {κ : Kind} {sp : Space} (v : View sig κ sp S1x64x8192 .f32) (L : List (View.Piece (Elt F) S1x64x8192 .f32)) (o : Fin 3 → ℕ)
    (h : ∀ a, o a + S1x64x512.size a ≤ S1x64x8192.size a) :
    v.readCov L (colRect o h).toLoadRect = colGet (v.read (Elt F) (v.writes (Elt F) v.junk L)) o h :=
  View.readAt_unit v _ h rfl h

section
variable {κ : Kind} {sp : Space} (v : View sig κ sp S1x64x8192 .f32) (f : v.ty.Contents (Elt F))
  (oA oB : Fin 3 → ℕ) (hA : ∀ a, oA a + S1x64x512.size a ≤ S1x64x8192.size a) (hB : ∀ a, oB a + S1x64x512.size a ≤ S1x64x8192.size a)
  (a0 b0 a1 b1 a2 b2 a3 b3 : FVec F S64x512 .f32)

/-- The eight stores, the last first. -/
def pieces : List (View.Piece (Elt F) S1x64x8192 .f32) :=
  let L1 : List (View.Piece (Elt F) S1x64x8192 .f32) := [⟨colRect oA hA, accum (v.readAt (Elt F) (colRect oA hA).toLoadRect f) a0⟩]
  let L2 : List (View.Piece (Elt F) S1x64x8192 .f32) := ⟨colRect oB hB, accum (v.readAt (Elt F) (colRect oB hB).toLoadRect (v.writes (Elt F) f L1)) b0⟩ :: L1
  let L3 : List (View.Piece (Elt F) S1x64x8192 .f32) := ⟨colRect oA hA, accum (v.readCov L2 (colRect oA hA).toLoadRect) a1⟩ :: L2
  let L4 : List (View.Piece (Elt F) S1x64x8192 .f32) := ⟨colRect oB hB, accum (v.readCov L3 (colRect oB hB).toLoadRect) b1⟩ :: L3
  let L5 : List (View.Piece (Elt F) S1x64x8192 .f32) := ⟨colRect oA hA, accum (v.readCov L4 (colRect oA hA).toLoadRect) a2⟩ :: L4
  let L6 : List (View.Piece (Elt F) S1x64x8192 .f32) := ⟨colRect oB hB, accum (v.readCov L5 (colRect oB hB).toLoadRect) b2⟩ :: L5
  let L7 : List (View.Piece (Elt F) S1x64x8192 .f32) := ⟨colRect oA hA, accum (v.readCov L6 (colRect oA hA).toLoadRect) a3⟩ :: L6
  ⟨colRect oB hB, accum (v.readCov L7 (colRect oB hB).toLoadRect) b3⟩ :: L7

/-- They leave the four parts of each block added to it. -/
theorem read_pieces (hd : oA 2 + 512 ≤ oB 2 ∨ oB 2 + 512 ≤ oA 2) :
    v.read (Elt F) (v.writes (Elt F) f (pieces v f oA oB hA hB a0 b0 a1 b1 a2 b2 a3 b3))
      = colPut (colPut (v.read (Elt F) f) oA (accum4 (colGet (v.read (Elt F) f) oA hA) ![a0, a1, a2, a3])) oB
          (accum4 (colGet (v.read (Elt F) f) oB hB) ![b0, b1, b2, b3]) := by
  have step : ∀ (g : v.ty.Contents (Elt F)) (o : Fin 3 → ℕ) (h) (w : Vec F S1x64x512 .f32) (L : List (View.Piece (Elt F) S1x64x8192 .f32)),
      v.read (Elt F) (v.writes (Elt F) g (⟨colRect o h, w⟩ :: L)) = colPut (v.read (Elt F) (v.writes (Elt F) g L)) o w :=
    fun g o h w L => View.read_writes_cons_put v g h w L rfl
  have gAB : ∀ (X : Vec F S1x64x8192 .f32) (w : Vec F S1x64x512 .f32), colGet (colPut X oB w) oA hA = colGet X oA hA :=
    fun X w => VecWindow.window_put_of_disjoint X oB _ oA _ hA w 2 (by have : S1x64x512.size 2 = 512 := rfl; omega)
  have gBA : ∀ (X : Vec F S1x64x8192 .f32) (w : Vec F S1x64x512 .f32), colGet (colPut X oA w) oB hB = colGet X oB hB :=
    fun X w => VecWindow.window_put_of_disjoint X oA _ oB _ hB w 2 (by have : S1x64x512.size 2 = 512 := rfl; omega)
  have gAA : ∀ (X : Vec F S1x64x8192 .f32) (w : Vec F S1x64x512 .f32), colGet (colPut X oA w) oA hA = w :=
    fun X w => VecWindow.window_put_same X oA _ hA w
  have gBB : ∀ (X : Vec F S1x64x8192 .f32) (w : Vec F S1x64x512 .f32), colGet (colPut X oB w) oB hB = w :=
    fun X w => VecWindow.window_put_same X oB _ hB w
  have pAA : ∀ (X : Vec F S1x64x8192 .f32) (w w' : Vec F S1x64x512 .f32), colPut (colPut X oA w) oA w' = colPut X oA w' :=
    fun X w w' => VecWindow.put_put_same X oA _ w w'
  have pBB : ∀ (X : Vec F S1x64x8192 .f32) (w w' : Vec F S1x64x512 .f32), colPut (colPut X oB w) oB w' = colPut X oB w' :=
    fun X w w' => VecWindow.put_put_same X oB _ w w'
  have pBA : ∀ (X : Vec F S1x64x8192 .f32) (w w' : Vec F S1x64x512 .f32), colPut (colPut X oB w) oA w' = colPut (colPut X oA w') oB w :=
    fun X w w' => put_swap X oB oA _ _ w w' 2 (by have : S1x64x512.size 2 = 512 := rfl; omega)
  have e0 : ∀ (g : v.ty.Contents (Elt F)) (o : Fin 3 → ℕ) (h), v.readAt (Elt F) (colRect o h).toLoadRect g = colGet (v.read (Elt F) g) o h :=
    fun g o h => View.readAt_unit v g h rfl h
  simp only [pieces, accum4, readCov_col, step, e0, View.writes_nil, gAB, gBA, gAA, gBB, pAA, pBB, pBA]
  rfl

end

end Cert.SbBwd
-- ==== Proof.TripValue.lean ====
/- What one trip finds, in terms of the tiles. -/
module

public import proofs.«01_k».proof.Proof.Trip
public import proofs.«01_k».proof.Proof.Pieces

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- The block of keys or values a trip loads first. -/
abbrev ldA (i : grid0.Coords) (arg4 : Memref sig .tc .vmem S1x8192x64 .bf16) (harg4 : arg4.IsWhole) (x4 : Vec F S1x8192x64 .bf16) (k : Fin (k0_t1_loop i).trips) : Vec F S1x512x64 .bf16 :=
  View.readAt (Elt F) arg4.view (Rect.unit (s := S1x8192x64) (k0_off7 i k) S1x512x64.size (k0_off7_inb i k)).toLoadRect (harg4.unread x4)

/-- The block it loads second. -/
abbrev ldB (i : grid0.Coords) (arg4 : Memref sig .tc .vmem S1x8192x64 .bf16) (harg4 : arg4.IsWhole) (x4 : Vec F S1x8192x64 .bf16) (k : Fin (k0_t1_loop i).trips) : Vec F S1x512x64 .bf16 :=
  View.readAt (Elt F) arg4.view (Rect.unit (s := S1x8192x64) (k0_off8 i k) S1x512x64.size (k0_off8_inb i k)).toLoadRect (harg4.unread x4)

/-- The matrix of the half sums as loaded. -/
abbrev ldW (arg9 : Memref sig .tc .vmem S512x256 .bf16) (harg9 : arg9.IsWhole) (x9 : Vec F S512x256 .bf16) : Vec F S512x256 .bf16 :=
  View.readAt (Elt F) arg9.view (Rect.unit (s := S512x256) ![0, 0] S512x256.size inb_S512x256_S512x256_0_0).toLoadRect (harg9.unread x9)

section
variable  (c : Dev nD) (E : Set ℕ) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
    (x4 x5 : Vec F S1x8192x64 .bf16) (x9 : Vec F S512x256 .bf16) (arg1 : BitVec 32) (v20 : BitVec 32) (v22 : FVec F S128x64 .bf16) (v24 : FVec F S128x64 .bf16) (v26 : FVec F S128x64 .bf16) (v28 : FVec F S128x64 .bf16) (v30 : FVec F S64x128 .bf16) (v32 : FVec F S64x128 .bf16) (v34 : FVec F S64x128 .bf16) (v36 : FVec F S64x128 .bf16) (v38 : FVec F S128x64 .bf16) (v40 : FVec F S128x64 .bf16) (v42 : FVec F S128x64 .bf16) (v44 : FVec F S128x64 .bf16) (v46 : FVec F S64x128 .bf16) (v48 : FVec F S64x128 .bf16) (v50 : FVec F S64x128 .bf16) (v52 : FVec F S64x128 .bf16) (v58 : FVec F S128x1 .f32) (v64 : FVec F S128x1 .f32) (v70 : FVec F S128x1 .f32) (v76 : FVec F S128x1 .f32) (v77 : FVec F S128x1 .f32) (v78 : FVec F S128x64 .f32) (v79 : FVec F S128x64 .f32) (v80 : FVec F S128x64 .f32) (v81 : FVec F S128x64 .f32) (v91 : BitVec 32) (v107 : BitVec 32)
    (k : Fin (k0_t1_loop i).trips)
    (a14 a15 : FVec F S128x1 .f32) (a16 : FVec F S128x64 .f32) (a17 a18 : FVec F S128x1 .f32) (a19 : FVec F S128x64 .f32)
    (a20 a21 : FVec F S128x1 .f32) (a22 : FVec F S128x64 .f32) (a23 a24 : FVec F S128x1 .f32) (a25 : FVec F S128x64 .f32)
    (f11 : Buf (Elt F) (arg11.view.loc (c : Thread nD τ))) (f12 : Buf (Elt F) (arg12.view.loc (c : Thread nD τ)))

/-- The values a trip carries on. -/
theorem trip_acc : (trip c E i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k a14 a15 a16 a17 a18 a19 a20 a21 a22 a23 a24 a25 f11 f12).1 = ((tileNext none ⟨v22, v30, v38, v46, v58⟩ (ldB (F := F) i arg4 harg4 x4 k) (ldB (F := F) i arg5 harg5 x5 k) (ldW (F := F) arg9 harg9 x9) (tileNext none ⟨v22, v30, v38, v46, v58⟩ (ldA (F := F) i arg4 harg4 x4 k) (ldA (F := F) i arg5 harg5 x5 k) (ldW (F := F) arg9 harg9 x9) ⟨a14, a15, a16⟩)).R, (tileNext none ⟨v22, v30, v38, v46, v58⟩ (ldB (F := F) i arg4 harg4 x4 k) (ldB (F := F) i arg5 harg5 x5 k) (ldW (F := F) arg9 harg9 x9) (tileNext none ⟨v22, v30, v38, v46, v58⟩ (ldA (F := F) i arg4 harg4 x4 k) (ldA (F := F) i arg5 harg5 x5 k) (ldW (F := F) arg9 harg9 x9) ⟨a14, a15, a16⟩)).G, (tileNext none ⟨v22, v30, v38, v46, v58⟩ (ldB (F := F) i arg4 harg4 x4 k) (ldB (F := F) i arg5 harg5 x5 k) (ldW (F := F) arg9 harg9 x9) (tileNext none ⟨v22, v30, v38, v46, v58⟩ (ldA (F := F) i arg4 harg4 x4 k) (ldA (F := F) i arg5 harg5 x5 k) (ldW (F := F) arg9 harg9 x9) ⟨a14, a15, a16⟩)).dq, (tileNext none ⟨v24, v32, v40, v48, v64⟩ (ldB (F := F) i arg4 harg4 x4 k) (ldB (F := F) i arg5 harg5 x5 k) (ldW (F := F) arg9 harg9 x9) (tileNext none ⟨v24, v32, v40, v48, v64⟩ (ldA (F := F) i arg4 harg4 x4 k) (ldA (F := F) i arg5 harg5 x5 k) (ldW (F := F) arg9 harg9 x9) ⟨a17, a18, a19⟩)).R, (tileNext none ⟨v24, v32, v40, v48, v64⟩ (ldB (F := F) i arg4 harg4 x4 k) (ldB (F := F) i arg5 harg5 x5 k) (ldW (F := F) arg9 harg9 x9) (tileNext none ⟨v24, v32, v40, v48, v64⟩ (ldA (F := F) i arg4 harg4 x4 k) (ldA (F := F) i arg5 harg5 x5 k) (ldW (F := F) arg9 harg9 x9) ⟨a17, a18, a19⟩)).G, (tileNext none ⟨v24, v32, v40, v48, v64⟩ (ldB (F := F) i arg4 harg4 x4 k) (ldB (F := F) i arg5 harg5 x5 k) (ldW (F := F) arg9 harg9 x9) (tileNext none ⟨v24, v32, v40, v48, v64⟩ (ldA (F := F) i arg4 harg4 x4 k) (ldA (F := F) i arg5 harg5 x5 k) (ldW (F := F) arg9 harg9 x9) ⟨a17, a18, a19⟩)).dq, (tileNext none ⟨v26, v34, v42, v50, v70⟩ (ldB (F := F) i arg4 harg4 x4 k) (ldB (F := F) i arg5 harg5 x5 k) (ldW (F := F) arg9 harg9 x9) (tileNext none ⟨v26, v34, v42, v50, v70⟩ (ldA (F := F) i arg4 harg4 x4 k) (ldA (F := F) i arg5 harg5 x5 k) (ldW (F := F) arg9 harg9 x9) ⟨a20, a21, a22⟩)).R, (tileNext none ⟨v26, v34, v42, v50, v70⟩ (ldB (F := F) i arg4 harg4 x4 k) (ldB (F := F) i arg5 harg5 x5 k) (ldW (F := F) arg9 harg9 x9) (tileNext none ⟨v26, v34, v42, v50, v70⟩ (ldA (F := F) i arg4 harg4 x4 k) (ldA (F := F) i arg5 harg5 x5 k) (ldW (F := F) arg9 harg9 x9) ⟨a20, a21, a22⟩)).G, (tileNext none ⟨v26, v34, v42, v50, v70⟩ (ldB (F := F) i arg4 harg4 x4 k) (ldB (F := F) i arg5 harg5 x5 k) (ldW (F := F) arg9 harg9 x9) (tileNext none ⟨v26, v34, v42, v50, v70⟩ (ldA (F := F) i arg4 harg4 x4 k) (ldA (F := F) i arg5 harg5 x5 k) (ldW (F := F) arg9 harg9 x9) ⟨a20, a21, a22⟩)).dq, (tileNext none ⟨v28, v36, v44, v52, v76⟩ (ldB (F := F) i arg4 harg4 x4 k) (ldB (F := F) i arg5 harg5 x5 k) (ldW (F := F) arg9 harg9 x9) (tileNext none ⟨v28, v36, v44, v52, v76⟩ (ldA (F := F) i arg4 harg4 x4 k) (ldA (F := F) i arg5 harg5 x5 k) (ldW (F := F) arg9 harg9 x9) ⟨a23, a24, a25⟩)).R, (tileNext none ⟨v28, v36, v44, v52, v76⟩ (ldB (F := F) i arg4 harg4 x4 k) (ldB (F := F) i arg5 harg5 x5 k) (ldW (F := F) arg9 harg9 x9) (tileNext none ⟨v28, v36, v44, v52, v76⟩ (ldA (F := F) i arg4 harg4 x4 k) (ldA (F := F) i arg5 harg5 x5 k) (ldW (F := F) arg9 harg9 x9) ⟨a23, a24, a25⟩)).G, (tileNext none ⟨v28, v36, v44, v52, v76⟩ (ldB (F := F) i arg4 harg4 x4 k) (ldB (F := F) i arg5 harg5 x5 k) (ldW (F := F) arg9 harg9 x9) (tileNext none ⟨v28, v36, v44, v52, v76⟩ (ldA (F := F) i arg4 harg4 x4 k) (ldA (F := F) i arg5 harg5 x5 k) (ldW (F := F) arg9 harg9 x9) ⟨a23, a24, a25⟩)).dq) := by
  unfold trip
  rfl

/-- The pieces a trip stores into the value gradient. -/
theorem trip_L12 : (trip c E i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k a14 a15 a16 a17 a18 a19 a20 a21 a22 a23 a24 a25 f11 f12).2.2.1 = pieces arg12.view f12 (k0_off9 i k) (k0_off10 i k) (k0_off9_inb i k) (k0_off10_inb i k)
          (tileV none ⟨v22, v30, v38, v46, v58⟩ (ldA (F := F) i arg4 harg4 x4 k) (ldW (F := F) arg9 harg9 x9) ⟨a14, a15, a16⟩)
      (tileV none ⟨v22, v30, v38, v46, v58⟩ (ldB (F := F) i arg4 harg4 x4 k) (ldW (F := F) arg9 harg9 x9) (tileNext none ⟨v22, v30, v38, v46, v58⟩ (ldA (F := F) i arg4 harg4 x4 k) (ldA (F := F) i arg5 harg5 x5 k) (ldW (F := F) arg9 harg9 x9) ⟨a14, a15, a16⟩))
      (tileV none ⟨v24, v32, v40, v48, v64⟩ (ldA (F := F) i arg4 harg4 x4 k) (ldW (F := F) arg9 harg9 x9) ⟨a17, a18, a19⟩)
      (tileV none ⟨v24, v32, v40, v48, v64⟩ (ldB (F := F) i arg4 harg4 x4 k) (ldW (F := F) arg9 harg9 x9) (tileNext none ⟨v24, v32, v40, v48, v64⟩ (ldA (F := F) i arg4 harg4 x4 k) (ldA (F := F) i arg5 harg5 x5 k) (ldW (F := F) arg9 harg9 x9) ⟨a17, a18, a19⟩))
      (tileV none ⟨v26, v34, v42, v50, v70⟩ (ldA (F := F) i arg4 harg4 x4 k) (ldW (F := F) arg9 harg9 x9) ⟨a20, a21, a22⟩)
      (tileV none ⟨v26, v34, v42, v50, v70⟩ (ldB (F := F) i arg4 harg4 x4 k) (ldW (F := F) arg9 harg9 x9) (tileNext none ⟨v26, v34, v42, v50, v70⟩ (ldA (F := F) i arg4 harg4 x4 k) (ldA (F := F) i arg5 harg5 x5 k) (ldW (F := F) arg9 harg9 x9) ⟨a20, a21, a22⟩))
      (tileV none ⟨v28, v36, v44, v52, v76⟩ (ldA (F := F) i arg4 harg4 x4 k) (ldW (F := F) arg9 harg9 x9) ⟨a23, a24, a25⟩)
      (tileV none ⟨v28, v36, v44, v52, v76⟩ (ldB (F := F) i arg4 harg4 x4 k) (ldW (F := F) arg9 harg9 x9) (tileNext none ⟨v28, v36, v44, v52, v76⟩ (ldA (F := F) i arg4 harg4 x4 k) (ldA (F := F) i arg5 harg5 x5 k) (ldW (F := F) arg9 harg9 x9) ⟨a23, a24, a25⟩)) := by
  unfold trip
  rfl

/-- The pieces a trip stores into the key gradient. -/
theorem trip_L11 : (trip c E i arg2 harg2 arg3 harg3 arg4 harg4 arg5 harg5 arg6 harg6 arg7 harg7 arg8 harg8 arg9 harg9 arg10 harg10 arg11 harg11 arg12 harg12 x4 x5 x9 arg1 v20 v22 v24 v26 v28 v30 v32 v34 v36 v38 v40 v42 v44 v46 v48 v50 v52 v58 v64 v70 v76 v77 v78 v79 v80 v81 v91 v107 k a14 a15 a16 a17 a18 a19 a20 a21 a22 a23 a24 a25 f11 f12).2.1 = pieces arg11.view f11 (k0_off9 i k) (k0_off10 i k) (k0_off9_inb i k) (k0_off10_inb i k)
          (tileK none ⟨v22, v30, v38, v46, v58⟩ (ldA (F := F) i arg4 harg4 x4 k) (ldA (F := F) i arg5 harg5 x5 k) (ldW (F := F) arg9 harg9 x9) ⟨a14, a15, a16⟩)
      (tileK none ⟨v22, v30, v38, v46, v58⟩ (ldB (F := F) i arg4 harg4 x4 k) (ldB (F := F) i arg5 harg5 x5 k) (ldW (F := F) arg9 harg9 x9) (tileNext none ⟨v22, v30, v38, v46, v58⟩ (ldA (F := F) i arg4 harg4 x4 k) (ldA (F := F) i arg5 harg5 x5 k) (ldW (F := F) arg9 harg9 x9) ⟨a14, a15, a16⟩))
      (tileK none ⟨v24, v32, v40, v48, v64⟩ (ldA (F := F) i arg4 harg4 x4 k) (ldA (F := F) i arg5 harg5 x5 k) (ldW (F := F) arg9 harg9 x9) ⟨a17, a18, a19⟩)
      (tileK none ⟨v24, v32, v40, v48, v64⟩ (ldB (F := F) i arg4 harg4 x4 k) (ldB (F := F) i arg5 harg5 x5 k) (ldW (F := F) arg9 harg9 x9) (tileNext none ⟨v24, v32, v40, v48, v64⟩ (ldA (F := F) i arg4 harg4 x4 k) (ldA (F := F) i arg5 harg5 x5 k) (ldW (F := F) arg9 harg9 x9) ⟨a17, a18, a19⟩))
      (tileK none ⟨v26, v34, v42, v50, v70⟩ (ldA (F := F) i arg4 harg4 x4 k) (ldA (F := F) i arg5 harg5 x5 k) (ldW (F := F) arg9 harg9 x9) ⟨a20, a21, a22⟩)
      (tileK none ⟨v26, v34, v42, v50, v70⟩ (ldB (F := F) i arg4 harg4 x4 k) (ldB (F := F) i arg5 harg5 x5 k) (ldW (F := F) arg9 harg9 x9) (tileNext none ⟨v26, v34, v42, v50, v70⟩ (ldA (F := F) i arg4 harg4 x4 k) (ldA (F := F) i arg5 harg5 x5 k) (ldW (F := F) arg9 harg9 x9) ⟨a20, a21, a22⟩))
      (tileK none ⟨v28, v36, v44, v52, v76⟩ (ldA (F := F) i arg4 harg4 x4 k) (ldA (F := F) i arg5 harg5 x5 k) (ldW (F := F) arg9 harg9 x9) ⟨a23, a24, a25⟩)
      (tileK none ⟨v28, v36, v44, v52, v76⟩ (ldB (F := F) i arg4 harg4 x4 k) (ldB (F := F) i arg5 harg5 x5 k) (ldW (F := F) arg9 harg9 x9) (tileNext none ⟨v28, v36, v44, v52, v76⟩ (ldA (F := F) i arg4 harg4 x4 k) (ldA (F := F) i arg5 harg5 x5 k) (ldW (F := F) arg9 harg9 x9) ⟨a23, a24, a25⟩)) := by
  unfold trip
  rfl

end

end Cert.SbBwd
-- ==== Proof.Block.lean ====
/- One block of 512 rows of the backward pass: its tiles, group after group of keys from the diagonal one down. -/
module

public import proofs.«01_k».proof.Proof.Pieces

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- What one row block reads. -/
structure Blocks (F : FTy → Type) where
  q : Vec F S1x512x64 .bf16
  qT : Vec F S1x64x512 .bf16
  k : Vec F S1x8192x64 .bf16
  v : Vec F S1x8192x64 .bf16
  o : Vec F S1x512x64 .f32
  d : Vec F S1x512x64 .bf16
  dT : Vec F S1x64x512 .bf16
  a : Vec F S512x256 .bf16

theorem inb_rows (r : Fin 4) : ∀ a, (![0, 128 * r.val, 0] : Fin 3 → ℕ) a + S1x128x64.size a ≤ S1x512x64.size a := by
  revert r; decide
theorem inb_cols (r : Fin 4) : ∀ a, (![0, 0, 128 * r.val] : Fin 3 → ℕ) a + S1x64x128.size a ≤ S1x64x512.size a := by
  revert r; decide
theorem inb_keys (j : Fin 16) : ∀ a, (![0, 512 * j.val, 0] : Fin 3 → ℕ) a + S1x512x64.size a ≤ S1x8192x64.size a := by
  revert j; decide
theorem inb_acc (j : Fin 16) : ∀ a, (![0, 0, 512 * j.val] : Fin 3 → ℕ) a + S1x64x512.size a ≤ S1x64x8192.size a := by
  revert j; decide

/-- 128 rows of a block. -/
def rows {e : EltTy} (x : Vec F S1x512x64 e) (r : Fin 4) : Vec F S128x64 e :=
  shapeCast S128x64 (VecWindow.window (s := S1x512x64) x ![0, 128 * r.val, 0] S1x128x64.size (inb_rows r) : Vec F S1x128x64 e) shapeCasts_S1x128x64_S128x64

/-- 128 columns of a block turned round. -/
def cols (x : Vec F S1x64x512 .bf16) (r : Fin 4) : FVec F S64x128 .bf16 :=
  shapeCast S64x128 (VecWindow.window (s := S1x64x512) x ![0, 0, 128 * r.val] S1x64x128.size (inb_cols r) : Vec F S1x64x128 .bf16) shapeCasts_S1x64x128_S64x128

/-- The row sums of the outputs times their gradients. -/
def dSum (o : FVec F S128x64 .f32) (d : FVec F S128x64 .bf16) : FVec F S128x1 .f32 :=
  shapeCast S128x1 (multiReduction .add [1] S128 (mulf o (extf .f32 d bitsLt_bf16_f32)) 0x00000000#32 reduces_S128x64_S128 (.inl rfl) rfl : FVec F S128 .f32) shapeCasts_S128_S128x1

/-- The rows of the block's tile `r`. -/
def rowOf (x : Blocks F) (r : Fin 4) : Row F where
  q := rows x.q r
  qT := cols x.qT r
  d := rows x.d r
  dT := cols x.dT r
  D := dSum (rows x.o r) (rows x.d r)

/-- Group `j` of the keys or values. -/
def keys (x : Vec F S1x8192x64 .bf16) (j : Fin 16) : Vec F S1x512x64 .bf16 :=
  VecWindow.window (s := S1x8192x64) x ![0, 512 * j.val, 0] S1x512x64.size (inb_keys j)

/-- The mask of a diagonal tile: the keys before the row. -/
def mask (a b : BitVec 32) (r : Fin 4) : IVec S128x512 1 :=
  cmpi .slt (addi (iota .tc S128x512 32 [1] iota_S128x512_d1_w32) (broadcast S128x512 (Scalar.muli b 512#32)))
    (addi (iota .tc S128x512 32 [0] iota_S128x512_d0_w32) (broadcast S128x512 (Scalar.addi (Scalar.muli a 512#32) (BitVec.ofNat 32 (128 * r.val)))))

/-- The four tiles' carried values and the two accumulators. -/
structure State (F : FTy → Type) where
  c : Fin 4 → Carry F
  K : Vec F S1x64x8192 .f32
  V : Vec F S1x64x8192 .f32

/-- The four tiles at group `j`. -/
def groupStep (x : Blocks F) (o : Fin 4 → Option (IVec S128x512 1)) (j : Fin 16) (s : State F) : State F where
  c r := tileNext (o r) (rowOf x r) (keys x.k j) (keys x.v j) x.a (s.c r)
  K := colPut s.K ![0, 0, 512 * j.val] (accum4 (colGet s.K ![0, 0, 512 * j.val] (inb_acc j))
    fun r => tileK (o r) (rowOf x r) (keys x.k j) (keys x.v j) x.a (s.c r))
  V := colPut s.V ![0, 0, 512 * j.val] (accum4 (colGet s.V ![0, 0, 512 * j.val] (inb_acc j))
    fun r => tileV (o r) (rowOf x r) (keys x.k j) x.a (s.c r))

/-- Nothing carried yet. -/
def carry0 : Carry F where
  R := broadcast S128x1 (Scalar.ofBits .f32 0x00000000#32 : F .f32)
  G := broadcast S128x1 (Scalar.ofBits .f32 0x00000000#32 : F .f32)
  dq := broadcast S128x64 (Scalar.ofBits .f32 0x00000000#32 : F .f32)

/-- The masks at the `n`-th group: on the diagonal only. -/
def maskAt (i : Fin 16) (n : ℕ) (r : Fin 4) : Option (IVec S128x512 1) :=
  if n = 0 then some (mask (BitVec.ofNat 32 i.val) (BitVec.ofNat 32 i.val) r) else none

/-- The `n`-th group from the diagonal one down. -/
def groupAt (i : Fin 16) (n : ℕ) : Fin 16 := ⟨i.val - n, by omega⟩

/-- The state after `n` groups, from accumulators `K` and `V`. -/
def stateAt (x : Blocks F) (i : Fin 16) (K V : Vec F S1x64x8192 .f32) : ℕ → State F
  | 0 => ⟨fun _ => carry0, K, V⟩
  | n + 1 => groupStep x (maskAt i n) (groupAt i n) (stateAt x i K V n)

/-- The state after all of them. -/
def blockOut (x : Blocks F) (i : Fin 16) (K V : Vec F S1x64x8192 .f32) : State F := stateAt x i K V (i.val + 1)

/-- Four tiles' rows one under another. -/
def rowsOut (w : Fin 4 → FVec F S128x64 .f32) : Vec F S1x512x64 .f32 :=
  VecWindow.put (s := S1x512x64) (VecWindow.put (s := S1x512x64) (VecWindow.put (s := S1x512x64) (VecWindow.put (s := S1x512x64)
    (fun _ => (Scalar.ofBits .f32 0x00000000#32 : F .f32))
    ![0, 0, 0] S1x128x64.size (shapeCast S1x128x64 (w 0) shapeCasts_S128x64_S1x128x64))
    ![0, 128, 0] S1x128x64.size (shapeCast S1x128x64 (w 1) shapeCasts_S128x64_S1x128x64))
    ![0, 256, 0] S1x128x64.size (shapeCast S1x128x64 (w 2) shapeCasts_S128x64_S1x128x64))
    ![0, 384, 0] S1x128x64.size (shapeCast S1x128x64 (w 3) shapeCasts_S128x64_S1x128x64)

end Cert.SbBwd
-- ==== Proof.LoopValue.lean ====
/- The loop over pairs of groups, in terms of the row block's states. -/
module

public import proofs.«01_k».proof.Proof.Loop
public import proofs.«01_k».proof.Proof.TripValue
public import proofs.«01_k».proof.Proof.Block

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- The loop's carried value, of the four tiles'. -/
abbrev packAcc (s : Fin 4 → Carry F) : Acc F :=
  ((s 0).R, (s 0).G, (s 0).dq, (s 1).R, (s 1).G, (s 1).dq, (s 2).R, (s 2).G, (s 2).dq, (s 3).R, (s 3).G, (s 3).dq)

theorem get_off (X : Vec F S1x64x8192 .f32) {o o' : Fin 3 → ℕ} (e : o = o') (h : ∀ a, o a + S1x64x512.size a ≤ S1x64x8192.size a)
    (h' : ∀ a, o' a + S1x64x512.size a ≤ S1x64x8192.size a) : colGet X o h = colGet X o' h' := by subst e; rfl

theorem accum4_vec (w : Vec F S1x64x512 .f32) (p : Fin 4 → FVec F S64x512 .f32) : accum4 w p = accum4 w ![p 0, p 1, p 2, p 3] := rfl

section
variable (x : Blocks F) (o : Fin 4 → Option (IVec S128x512 1)) (j j' : Fin 16) (A : State F)

theorem get_put (h : 512 * j'.val + 512 ≤ 512 * j.val) (X : Vec F S1x64x8192 .f32) (w : Vec F S1x64x512 .f32) :
    colGet (colPut X ![0, 0, 512 * j.val] w) ![0, 0, 512 * j'.val] (inb_acc j') = colGet X ![0, 0, 512 * j'.val] (inb_acc j') :=
  VecWindow.window_put_of_disjoint X _ _ _ _ (inb_acc j') w 2 (by
    have : S1x64x512.size 2 = 512 := rfl
    simp only [Matrix.cons_val]
    omega)

/-- The key gradient after two groups, the second off the diagonal. -/
theorem two_K (h : 512 * j'.val + 512 ≤ 512 * j.val) :
    (groupStep x (fun _ => none) j' (groupStep x o j A)).K
      = colPut (colPut A.K ![0, 0, 512 * j.val] (accum4 (colGet A.K ![0, 0, 512 * j.val] (inb_acc j))
          ![tileK (o 0) (rowOf x 0) (keys x.k j) (keys x.v j) x.a (A.c 0), tileK (o 1) (rowOf x 1) (keys x.k j) (keys x.v j) x.a (A.c 1), tileK (o 2) (rowOf x 2) (keys x.k j) (keys x.v j) x.a (A.c 2), tileK (o 3) (rowOf x 3) (keys x.k j) (keys x.v j) x.a (A.c 3)]))
        ![0, 0, 512 * j'.val] (accum4 (colGet A.K ![0, 0, 512 * j'.val] (inb_acc j'))
          ![tileK none (rowOf x 0) (keys x.k j') (keys x.v j') x.a (tileNext (o 0) (rowOf x 0) (keys x.k j) (keys x.v j) x.a (A.c 0)), tileK none (rowOf x 1) (keys x.k j') (keys x.v j') x.a (tileNext (o 1) (rowOf x 1) (keys x.k j) (keys x.v j) x.a (A.c 1)), tileK none (rowOf x 2) (keys x.k j') (keys x.v j') x.a (tileNext (o 2) (rowOf x 2) (keys x.k j) (keys x.v j) x.a (A.c 2)), tileK none (rowOf x 3) (keys x.k j') (keys x.v j') x.a (tileNext (o 3) (rowOf x 3) (keys x.k j) (keys x.v j) x.a (A.c 3))]) := by
  show colPut (colPut A.K _ (accum4 _ (fun r => tileK (o r) (rowOf x r) (keys x.k j) (keys x.v j) x.a (A.c r)))) _
      (accum4 (colGet (colPut A.K _ (accum4 _ (fun r => tileK (o r) (rowOf x r) (keys x.k j) (keys x.v j) x.a (A.c r)))) _ _)
        (fun r => tileK none (rowOf x r) (keys x.k j') (keys x.v j') x.a (tileNext (o r) (rowOf x r) (keys x.k j) (keys x.v j) x.a (A.c r)))) = _
  rw [get_put j j' h, accum4_vec _ (fun r => tileK (o r) (rowOf x r) (keys x.k j) (keys x.v j) x.a (A.c r)),
    accum4_vec _ (fun r => tileK none (rowOf x r) (keys x.k j') (keys x.v j') x.a (tileNext (o r) (rowOf x r) (keys x.k j) (keys x.v j) x.a (A.c r)))]

/-- The value gradient after two groups, the second off the diagonal. -/
theorem two_V (h : 512 * j'.val + 512 ≤ 512 * j.val) :
    (groupStep x (fun _ => none) j' (groupStep x o j A)).V
      = colPut (colPut A.V ![0, 0, 512 * j.val] (accum4 (colGet A.V ![0, 0, 512 * j.val] (inb_acc j))
          ![tileV (o 0) (rowOf x 0) (keys x.k j) x.a (A.c 0), tileV (o 1) (rowOf x 1) (keys x.k j) x.a (A.c 1), tileV (o 2) (rowOf x 2) (keys x.k j) x.a (A.c 2), tileV (o 3) (rowOf x 3) (keys x.k j) x.a (A.c 3)]))
        ![0, 0, 512 * j'.val] (accum4 (colGet A.V ![0, 0, 512 * j'.val] (inb_acc j'))
          ![tileV none (rowOf x 0) (keys x.k j') x.a (tileNext (o 0) (rowOf x 0) (keys x.k j) (keys x.v j) x.a (A.c 0)), tileV none (rowOf x 1) (keys x.k j') x.a (tileNext (o 1) (rowOf x 1) (keys x.k j) (keys x.v j) x.a (A.c 1)), tileV none (rowOf x 2) (keys x.k j') x.a (tileNext (o 2) (rowOf x 2) (keys x.k j) (keys x.v j) x.a (A.c 2)), tileV none (rowOf x 3) (keys x.k j') x.a (tileNext (o 3) (rowOf x 3) (keys x.k j) (keys x.v j) x.a (A.c 3))]) := by
  show colPut (colPut A.V _ (accum4 _ (fun r => tileV (o r) (rowOf x r) (keys x.k j) x.a (A.c r)))) _
      (accum4 (colGet (colPut A.V _ (accum4 _ (fun r => tileV (o r) (rowOf x r) (keys x.k j) x.a (A.c r)))) _ _)
        (fun r => tileV none (rowOf x r) (keys x.k j') x.a (tileNext (o r) (rowOf x r) (keys x.k j) (keys x.v j) x.a (A.c r)))) = _
  rw [get_put j j' h, accum4_vec _ (fun r => tileV (o r) (rowOf x r) (keys x.k j) x.a (A.c r)),
    accum4_vec _ (fun r => tileV none (rowOf x r) (keys x.k j') x.a (tileNext (o r) (rowOf x r) (keys x.k j) (keys x.v j) x.a (A.c r)))]

end

theorem ldA_eq (i : grid0.Coords) (arg4 : Memref sig .tc .vmem S1x8192x64 .bf16) (harg4 : arg4.IsWhole) (x : Vec F S1x8192x64 .bf16) (k : Fin (k0_t1_loop i).trips)
    (j : Fin 16) (hj : j.val = 2 * ((i 1).val / 2) - 1 - 2 * k.val) : ldA i arg4 harg4 x k = keys x j := by
  unfold ldA
  rw [View.readAt_unit (off' := ![0, 512 * j.val, 0]) arg4.view _ (k0_off7_inb i k) (by rw [off7_eq, hj]) (inb_keys j), harg4.read_unread]
  rfl

theorem ldB_eq (i : grid0.Coords) (arg4 : Memref sig .tc .vmem S1x8192x64 .bf16) (harg4 : arg4.IsWhole) (x : Vec F S1x8192x64 .bf16) (k : Fin (k0_t1_loop i).trips)
    (j : Fin 16) (hj : j.val = 2 * ((i 1).val / 2) - 2 - 2 * k.val) : ldB i arg4 harg4 x k = keys x j := by
  unfold ldB
  rw [View.readAt_unit (off' := ![0, 512 * j.val, 0]) arg4.view _ (k0_off8_inb i k) (by rw [off8_eq, hj]) (inb_keys j), harg4.read_unread]
  rfl

theorem ldW_eq (arg9 : Memref sig .tc .vmem S512x256 .bf16) (harg9 : arg9.IsWhole) (x : Vec F S512x256 .bf16) : ldW arg9 harg9 x = x := by
  unfold ldW
  exact (View.readAt_full arg9.view _ _).trans (harg9.read_unread _)

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
  (x : Blocks F) (arg1 : BitVec 32) (v20 : BitVec 32) (v22 : FVec F S128x64 .bf16) (v24 : FVec F S128x64 .bf16) (v26 : FVec F S128x64 .bf16) (v28 : FVec F S128x64 .bf16) (v30 : FVec F S64x128 .bf16) (v32 : FVec F S64x128 .bf16) (v34 : FVec F S64x128 .bf16) (v36 : FVec F S64x128 .bf16) (v38 : FVec F S128x64 .bf16) (v40 : FVec F S128x64 .bf16) (v42 : FVec F S128x64 .bf16) (v44 : FVec F S128x64 .bf16) (v46 : FVec F S64x128 .bf16) (v48 : FVec F S64x128 .bf16) (v50 : FVec F S64x128 .bf16) (v52 : FVec F S64x128 .bf16) (v58 : FVec F S128x1 .f32) (v64 : FVec F S128x1 .f32) (v70 : FVec F S128x1 .f32) (v76 : FVec F S128x1 .f32) (v77 : FVec F S128x1 .f32) (v78 : FVec F S128x64 .f32) (v79 : FVec F S128x64 .f32) (v80 : FVec F S128x64 .f32) (v81 : FVec F S128x64 .f32) (v91 : BitVec 32) (v107 : BitVec 32)

/-- The loop's state is the row block's after `n` groups. -/
def Rel (I : Fin 16) (K V : Vec F S1x64x8192 .f32) (n : ℕ) (s : St F c arg11 arg12) : Prop :=
  s.1 = packAcc (stateAt x I K V n).c ∧ arg11.view.read (Elt F) s.2.1 = (stateAt x I K V n).K ∧ arg12.view.read (Elt F) s.2.2 = (stateAt x I K V n).V

set_option maxHeartbeats 2000000 in
theorem rel_step (I : Fin 16) (K V : Vec F S1x64x8192 .f32) (h0 : (⟨v22, v30, v38, v46, v58⟩ : Row F) = rowOf x 0) (h1 : (⟨v24, v32, v40, v48, v64⟩ : Row F) = rowOf x 1) (h2 : (⟨v26, v34, v42, v50, v70⟩ : Row F) = rowOf x 2) (h3 : (⟨v28, v36, v44, v52, v76⟩ : Row F) = rowOf x 3)
    (n : ℕ) (hn : n ≠ 0) (k : Fin (k0_t1_loop i).trips) (hk : I.val - n = 2 * ((i 1).val / 2) - 1 - 2 * k.val) (hk' : n + 1 ≤ I.val)
    (s : St F c arg11 arg12) (hs : Rel c arg11 arg12 x I K V n s) :
    Rel c arg11 arg12 x I K V (n + 2) (stStep c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 k.val s) := by
  obtain ⟨acc, g11, g12⟩ := s
  obtain ⟨e1, e2, e3⟩ := hs
  dsimp only at e1 e2 e3
  subst e1
  unfold stStep
  rw [dif_pos k.isLt]
  have hA : (groupAt I n).val = 2 * ((i 1).val / 2) - 1 - 2 * k.val := hk
  have hB : (groupAt I (n + 1)).val = 2 * ((i 1).val / 2) - 2 - 2 * k.val := by
    show I.val - (n + 1) = _; omega
  have hAB : 512 * (groupAt I (n + 1)).val + 512 ≤ 512 * (groupAt I n).val := by
    show 512 * (I.val - (n + 1)) + 512 ≤ 512 * (I.val - n); omega
  have m0 : ∀ r, maskAt I n r = none := fun r => if_neg hn
  have m1 : ∀ r, maskAt I (n + 1) r = none := fun r => if_neg (Nat.succ_ne_zero n)
  have o9 : k0_off9 i k = ![0, 0, 512 * (groupAt I n).val] := by rw [off9_eq, hA]
  have o10 : k0_off10 i k = ![0, 0, 512 * (groupAt I (n + 1)).val] := by rw [off10_eq, hB]
  have hd : k0_off9 i k 2 + 512 ≤ k0_off10 i k 2 ∨ k0_off10 i k 2 + 512 ≤ k0_off9 i k 2 := by
    rw [o9, o10]; exact .inr hAB
  have hS : stateAt x I K V (n + 2) = groupStep x (fun _ => none) (groupAt I (n + 1)) (groupStep x (fun _ => none) (groupAt I n) (stateAt x I K V n)) := by
    show groupStep x (maskAt I (n + 1)) (groupAt I (n + 1)) (groupStep x (maskAt I n) (groupAt I n) (stateAt x I K V n)) = _
    rw [show maskAt I n = fun _ => none from funext m0, show maskAt I (n + 1) = fun _ => none from funext m1]
  unfold Rel
  rw [hS]
  generalize stateAt x I K V n = A at e2 e3 ⊢
  refine ⟨?_, ?_, ?_⟩
  · dsimp only [tripAt]
    rw [trip_acc, h0, h1, h2, h3, ldA_eq i arg4 harg4 x.k k _ hA, ldB_eq i arg4 harg4 x.k k _ hB, ldA_eq i arg5 harg5 x.v k _ hA, ldB_eq i arg5 harg5 x.v k _ hB, ldW_eq]
    rfl
  · dsimp only [tripAt]
    rw [trip_L11, h0, h1, h2, h3, ldA_eq i arg4 harg4 x.k k _ hA, ldB_eq i arg4 harg4 x.k k _ hB, ldA_eq i arg5 harg5 x.v k _ hA, ldB_eq i arg5 harg5 x.v k _ hB, ldW_eq,
      read_pieces _ _ _ _ _ _ _ _ _ _ _ _ _ _ hd, e2]
    rw [two_K x _ _ _ A hAB, get_off A.K o9 (k0_off9_inb i k) (inb_acc (groupAt I n)),
      get_off A.K o10 (k0_off10_inb i k) (inb_acc (groupAt I (n + 1))), o9, o10]
  · dsimp only [tripAt]
    rw [trip_L12, h0, h1, h2, h3, ldA_eq i arg4 harg4 x.k k _ hA, ldB_eq i arg4 harg4 x.k k _ hB, ldA_eq i arg5 harg5 x.v k _ hA, ldW_eq,
      read_pieces _ _ _ _ _ _ _ _ _ _ _ _ _ _ hd, e3]
    rw [two_V x _ _ _ A hAB, get_off A.V o9 (k0_off9_inb i k) (inb_acc (groupAt I n)),
      get_off A.V o10 (k0_off10_inb i k) (inb_acc (groupAt I (n + 1))), o9, o10]

/-- After the loop every group is done. -/
theorem rel_loop (I : Fin 16) (hI : I.val = (i 1).val) (K V : Vec F S1x64x8192 .f32) (h0 : (⟨v22, v30, v38, v46, v58⟩ : Row F) = rowOf x 0) (h1 : (⟨v24, v32, v40, v48, v64⟩ : Row F) = rowOf x 1) (h2 : (⟨v26, v34, v42, v50, v70⟩ : Row F) = rowOf x 2) (h3 : (⟨v28, v36, v44, v52, v76⟩ : Row F) = rowOf x 3)
    (n : ℕ) (hn : n = 1 + I.val % 2) (s0 : St F c arg11 arg12) (hs : Rel c arg11 arg12 x I K V n s0) :
    Rel c arg11 arg12 x I K V (I.val + 1) (stAt c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 s0 (k0_t1_loop i).trips) := by
  have h : ∀ k, k ≤ (k0_t1_loop i).trips → Rel c arg11 arg12 x I K V (n + 2 * k) (stAt c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 s0 k) := by
    intro k
    induction k with
    | zero => intro _; exact hs
    | succ k ih =>
      intro hk
      have ht := trips_eq i
      exact rel_step c i arg2 harg2 arg3 harg3 arg4 harg4 arg5 harg5 arg6 harg6 arg7 harg7 arg8 harg8 arg9 harg9 arg10 harg10 arg11 harg11 arg12 harg12 x arg1 v20 v22 v24 v26 v28 v30 v32 v34 v36 v38 v40 v42 v44 v46 v48 v50 v52 v58 v64 v70 v76 v77 v78 v79 v80 v81 v91 v107 I K V h0 h1 h2 h3 (n + 2 * k) (by omega) ⟨k, by omega⟩ (by dsimp only; omega) (by omega) _ (ih (by omega))
  have ht := trips_eq i
  have := h _ le_rfl
  rwa [show n + 2 * (k0_t1_loop i).trips = I.val + 1 by omega] at this

end

end Cert.SbBwd
-- ==== Proof.RunValue.lean ====
/- What the body leaves, of any whole references, in terms of the row block's states. -/
module

public import proofs.«01_k».proof.Proof.Run
public import proofs.«01_k».proof.Proof.LoopValue

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

/-- Rows as loaded. -/
abbrev ldRows {e : EltTy} (arg : Memref sig .tc .vmem S1x512x64 e) (harg : arg.IsWhole) (x : Vec F S1x512x64 e) (r : Fin 4) : Vec F S128x64 e :=
  shapeCast S128x64 (arg.view.readAt (Elt F) (Rect.unit (s := S1x512x64) ![0, 128 * r.val, 0] S1x128x64.size (inb_rows r)).toLoadRect (harg.unread x) : Vec F S1x128x64 e) shapeCasts_S1x128x64_S128x64

/-- Columns as loaded. -/
abbrev ldCols (arg : Memref sig .tc .vmem S1x64x512 .bf16) (harg : arg.IsWhole) (x : Vec F S1x64x512 .bf16) (r : Fin 4) : Vec F S64x128 .bf16 :=
  shapeCast S64x128 (arg.view.readAt (Elt F) (Rect.unit (s := S1x64x512) ![0, 0, 128 * r.val] S1x64x128.size (inb_cols r)).toLoadRect (harg.unread x) : Vec F S1x64x128 .bf16) shapeCasts_S1x64x128_S64x128

/-- A group as loaded. -/
abbrev ldKeys (arg : Memref sig .tc .vmem S1x8192x64 .bf16) (harg : arg.IsWhole) (x : Vec F S1x8192x64 .bf16) (o : Fin 3 → ℕ) (h : ∀ a, o a + S1x512x64.size a ≤ S1x8192x64.size a) :
    Vec F S1x512x64 .bf16 :=
  arg.view.readAt (Elt F) (Rect.unit (s := S1x8192x64) o S1x512x64.size h).toLoadRect (harg.unread x)

theorem ldRows_eq {e : EltTy} (arg : Memref sig .tc .vmem S1x512x64 e) (harg : arg.IsWhole) (x : Vec F S1x512x64 e) (r : Fin 4) : ldRows arg harg x r = rows x r := by
  unfold ldRows
  rw [View.readAt_unit arg.view _ (inb_rows r) rfl (inb_rows r), harg.read_unread]
  rfl

theorem ldCols_eq (arg : Memref sig .tc .vmem S1x64x512 .bf16) (harg : arg.IsWhole) (x : Vec F S1x64x512 .bf16) (r : Fin 4) : ldCols arg harg x r = cols x r := by
  unfold ldCols
  rw [View.readAt_unit arg.view _ (inb_cols r) rfl (inb_cols r), harg.read_unread]
  rfl

theorem ldKeys_eq (arg : Memref sig .tc .vmem S1x8192x64 .bf16) (harg : arg.IsWhole) (x : Vec F S1x8192x64 .bf16) (o : Fin 3 → ℕ) (h) (j : Fin 16)
    (e : o = ![0, 512 * j.val, 0]) : ldKeys arg harg x o h = keys x j := by
  unfold ldKeys
  rw [View.readAt_unit arg.view _ h e (inb_keys j), harg.read_unread]
  rfl

/-- Four stores of one block of columns over `L0`, the last first, the first from a load of `g`. -/
def pieces4 {κ : Kind} {sp : Space} (v : View sig κ sp S1x64x8192 .f32) (g : v.ty.Contents (Elt F)) (L0 : List (View.Piece (Elt F) S1x64x8192 .f32))
    (o : Fin 3 → ℕ) (h : ∀ a, o a + S1x64x512.size a ≤ S1x64x8192.size a) (a0 a1 a2 a3 : FVec F S64x512 .f32) : List (View.Piece (Elt F) S1x64x8192 .f32) :=
  let L1 : List (View.Piece (Elt F) S1x64x8192 .f32) := ⟨colRect o h, accum (v.readAt (Elt F) (colRect o h).toLoadRect g) a0⟩ :: L0
  let L2 : List (View.Piece (Elt F) S1x64x8192 .f32) := ⟨colRect o h, accum (v.readCov L1 (colRect o h).toLoadRect) a1⟩ :: L1
  let L3 : List (View.Piece (Elt F) S1x64x8192 .f32) := ⟨colRect o h, accum (v.readCov L2 (colRect o h).toLoadRect) a2⟩ :: L2
  ⟨colRect o h, accum (v.readCov L3 (colRect o h).toLoadRect) a3⟩ :: L3

theorem read_pieces4 {κ : Kind} {sp : Space} (v : View sig κ sp S1x64x8192 .f32) (f g : v.ty.Contents (Elt F)) (L0 : List (View.Piece (Elt F) S1x64x8192 .f32))
    (o : Fin 3 → ℕ) (h : ∀ a, o a + S1x64x512.size a ≤ S1x64x8192.size a) (a0 a1 a2 a3 : FVec F S64x512 .f32) (X : Vec F S1x64x8192 .f32)
    (hf : v.read (Elt F) (v.writes (Elt F) f L0) = X) (hg : v.read (Elt F) g = X) :
    v.read (Elt F) (v.writes (Elt F) f (pieces4 v g L0 o h a0 a1 a2 a3)) = colPut X o (accum4 (colGet X o h) ![a0, a1, a2, a3]) := by
  have step : ∀ (g : v.ty.Contents (Elt F)) (o : Fin 3 → ℕ) (h) (w : Vec F S1x64x512 .f32) (L : List (View.Piece (Elt F) S1x64x8192 .f32)),
      v.read (Elt F) (v.writes (Elt F) g (⟨colRect o h, w⟩ :: L)) = colPut (v.read (Elt F) (v.writes (Elt F) g L)) o w :=
    fun g o h w L => View.read_writes_cons_put v g h w L rfl
  have gAA : ∀ (X : Vec F S1x64x8192 .f32) (w : Vec F S1x64x512 .f32), colGet (colPut X o w) o h = w :=
    fun X w => VecWindow.window_put_same X o _ h w
  have pAA : ∀ (X : Vec F S1x64x8192 .f32) (w w' : Vec F S1x64x512 .f32), colPut (colPut X o w) o w' = colPut X o w' :=
    fun X w w' => VecWindow.put_put_same X o _ w w'
  have e0 : ∀ (g : v.ty.Contents (Elt F)) (o : Fin 3 → ℕ) (h), v.readAt (Elt F) (colRect o h).toLoadRect g = colGet (v.read (Elt F) g) o h :=
    fun g o h => View.readAt_unit v g h rfl h
  simp only [pieces4, accum4, readCov_col, step, e0, gAA, pAA, hf, hg]
  rfl

/-- A window of rows put over another's values. -/
theorem rows_cover (X : Vec F S1x512x64 .f32) (w : Fin 4 → FVec F S128x64 .f32) :
    VecWindow.put (s := S1x512x64) (VecWindow.put (s := S1x512x64) (VecWindow.put (s := S1x512x64) (VecWindow.put (s := S1x512x64) X
    ![0, 0, 0] S1x128x64.size (shapeCast S1x128x64 (w 0) shapeCasts_S128x64_S1x128x64))
    ![0, 128, 0] S1x128x64.size (shapeCast S1x128x64 (w 1) shapeCasts_S128x64_S1x128x64))
    ![0, 256, 0] S1x128x64.size (shapeCast S1x128x64 (w 2) shapeCasts_S128x64_S1x128x64))
    ![0, 384, 0] S1x128x64.size (shapeCast S1x128x64 (w 3) shapeCasts_S128x64_S1x128x64) = rowsOut w := by
  funext y
  unfold rowsOut VecWindow.put
  have h1 : (y 1).val < 512 := (y 1).isLt
  have hs : S1x128x64.size 1 = 128 := rfl
  have key : ∀ o : ℕ, o ≤ (y 1).val → (y 1).val < o + 128 → ∀ a, (![0, o, 0] : Fin 3 → ℕ) a ≤ (y a).val ∧ (y a).val < (![0, o, 0] : Fin 3 → ℕ) a + S1x128x64.size a := by
    intro o h2 h3 a
    have h4 := (y a).isLt
    fin_cases a
    · exact ⟨Nat.zero_le _, by simpa using h4⟩
    · exact ⟨h2, h3⟩
    · exact ⟨Nat.zero_le _, by simpa using h4⟩
  split_ifs with c3 c2 c1 c0
  · rfl
  · rfl
  · rfl
  · rfl
  · exfalso
    by_cases q3 : 384 ≤ (y 1).val
    · exact c3 (key 384 q3 (by omega))
    · by_cases q2 : 256 ≤ (y 1).val
      · exact c2 (key 256 q2 (by omega))
      · by_cases q1 : 128 ≤ (y 1).val
        · exact c1 (key 128 q1 (by omega))
        · exact c0 (key 0 (Nat.zero_le _) (by omega))

section
variable (x : Blocks F) (o : Fin 4 → Option (IVec S128x512 1)) (j : Fin 16) (A : State F)

theorem one_K : (groupStep x o j A).K = colPut A.K ![0, 0, 512 * j.val] (accum4 (colGet A.K ![0, 0, 512 * j.val] (inb_acc j))
    ![tileK (o 0) (rowOf x 0) (keys x.k j) (keys x.v j) x.a (A.c 0), tileK (o 1) (rowOf x 1) (keys x.k j) (keys x.v j) x.a (A.c 1), tileK (o 2) (rowOf x 2) (keys x.k j) (keys x.v j) x.a (A.c 2), tileK (o 3) (rowOf x 3) (keys x.k j) (keys x.v j) x.a (A.c 3)]) :=
  congrArg (colPut A.K ![0, 0, 512 * j.val]) (accum4_vec _ _)

theorem one_V : (groupStep x o j A).V = colPut A.V ![0, 0, 512 * j.val] (accum4 (colGet A.V ![0, 0, 512 * j.val] (inb_acc j))
    ![tileV (o 0) (rowOf x 0) (keys x.k j) x.a (A.c 0), tileV (o 1) (rowOf x 1) (keys x.k j) x.a (A.c 1), tileV (o 2) (rowOf x 2) (keys x.k j) x.a (A.c 2), tileV (o 3) (rowOf x 3) (keys x.k j) x.a (A.c 3)]) :=
  congrArg (colPut A.V ![0, 0, 512 * j.val]) (accum4_vec _ _)

end

section
variable (arg2 : Memref sig .tc .vmem S1x512x64 .bf16) (harg2 : arg2.IsWhole) (arg3 : Memref sig .tc .vmem S1x64x512 .bf16) (harg3 : arg3.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (x : Blocks F)

/-- A tile's rows as loaded. -/
def ldRow (r : Fin 4) : Row F where
  q := ldRows arg2 harg2 x.q r
  qT := ldCols arg3 harg3 x.qT r
  d := ldRows arg7 harg7 x.d r
  dT := ldCols arg8 harg8 x.dT r
  D := dSum (ldRows arg6 harg6 x.o r) (ldRows arg7 harg7 x.d r)

theorem ldRow_eq (r : Fin 4) : ldRow arg2 harg2 arg3 harg3 arg6 harg6 arg7 harg7 arg8 harg8 x r = rowOf x r := by
  unfold ldRow rowOf
  rw [ldRows_eq, ldRows_eq, ldRows_eq, ldCols_eq, ldCols_eq]

end

section
variable (c : Dev nD) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole) (x : Blocks F) (I : Fin 16) (a b : BitVec 32) (ea : a = BitVec.ofNat 32 I.val) (eb : b = BitVec.ofNat 32 I.val)
  (p : Fin 3 → ℕ) (hp : ∀ a, p a + S1x512x64.size a ≤ S1x8192x64.size a) (ep : p = ![0, 512 * I.val, 0])
  (oA : Fin 3 → ℕ) (hA : ∀ a, oA a + S1x64x512.size a ≤ S1x64x8192.size a) (eA : oA = ![0, 0, 512 * I.val])
  (r0 r1 r2 r3 : Row F) (d0 : r0 = rowOf x 0) (d1 : r1 = rowOf x 1) (d2 : r2 = rowOf x 2) (d3 : r3 = rowOf x 3)

include ea eb ep eA d0 d1 d2 d3 in
/-- After the diagonal group alone. -/
theorem rel_one (f11 g11 : Buf (Elt F) (arg11.view.loc (c : Thread nD τ))) (f12 g12 : Buf (Elt F) (arg12.view.loc (c : Thread nD τ)))
    (L11 L12 : List (View.Piece (Elt F) S1x64x8192 .f32)) (K V : Vec F S1x64x8192 .f32)
    (e11 : arg11.view.read (Elt F) (arg11.view.writes (Elt F) f11 L11) = K) (d11 : arg11.view.read (Elt F) g11 = K)
    (e12 : arg12.view.read (Elt F) (arg12.view.writes (Elt F) f12 L12) = V) (d12 : arg12.view.read (Elt F) g12 = V) :
    Rel c arg11 arg12 x I K V 1
      (packAcc (F := F) ![(tileNext (some (mask a b 0)) r0 (ldKeys arg4 harg4 x.k p hp) (ldKeys arg5 harg5 x.v p hp) (ldW arg9 harg9 x.a) carry0), (tileNext (some (mask a b 1)) r1 (ldKeys arg4 harg4 x.k p hp) (ldKeys arg5 harg5 x.v p hp) (ldW arg9 harg9 x.a) carry0), (tileNext (some (mask a b 2)) r2 (ldKeys arg4 harg4 x.k p hp) (ldKeys arg5 harg5 x.v p hp) (ldW arg9 harg9 x.a) carry0), (tileNext (some (mask a b 3)) r3 (ldKeys arg4 harg4 x.k p hp) (ldKeys arg5 harg5 x.v p hp) (ldW arg9 harg9 x.a) carry0)],
       arg11.view.writes (Elt F) f11 (pieces4 arg11.view g11 L11 oA hA
        (tileK (some (mask a b 0)) r0 (ldKeys arg4 harg4 x.k p hp) (ldKeys arg5 harg5 x.v p hp) (ldW arg9 harg9 x.a) carry0)
        (tileK (some (mask a b 1)) r1 (ldKeys arg4 harg4 x.k p hp) (ldKeys arg5 harg5 x.v p hp) (ldW arg9 harg9 x.a) carry0)
        (tileK (some (mask a b 2)) r2 (ldKeys arg4 harg4 x.k p hp) (ldKeys arg5 harg5 x.v p hp) (ldW arg9 harg9 x.a) carry0)
        (tileK (some (mask a b 3)) r3 (ldKeys arg4 harg4 x.k p hp) (ldKeys arg5 harg5 x.v p hp) (ldW arg9 harg9 x.a) carry0)),
       arg12.view.writes (Elt F) f12 (pieces4 arg12.view g12 L12 oA hA
        (tileV (some (mask a b 0)) r0 (ldKeys arg4 harg4 x.k p hp) (ldW arg9 harg9 x.a) carry0)
        (tileV (some (mask a b 1)) r1 (ldKeys arg4 harg4 x.k p hp) (ldW arg9 harg9 x.a) carry0)
        (tileV (some (mask a b 2)) r2 (ldKeys arg4 harg4 x.k p hp) (ldW arg9 harg9 x.a) carry0)
        (tileV (some (mask a b 3)) r3 (ldKeys arg4 harg4 x.k p hp) (ldW arg9 harg9 x.a) carry0))) := by
  subst ea eb ep eA d0 d1 d2 d3
  have gI : groupAt I 0 = I := rfl
  have hS : stateAt x I K V 1 = groupStep x (fun r => some (mask (BitVec.ofNat 32 I.val) (BitVec.ofNat 32 I.val) r)) I ⟨fun _ => carry0, K, V⟩ := rfl
  have k4 := ldKeys_eq arg4 harg4 x.k ![0, 512 * I.val, 0] hp I rfl
  have k5 := ldKeys_eq arg5 harg5 x.v ![0, 512 * I.val, 0] hp I rfl
  unfold Rel
  rw [hS]
  refine ⟨?_, ?_, ?_⟩
  · dsimp only
    rw [k4, k5, ldW_eq]
    rfl
  · dsimp only
    rw [one_K, read_pieces4 _ _ _ _ _ _ _ _ _ _ K e11 d11, k4, k5, ldW_eq]
  · dsimp only
    rw [one_V, read_pieces4 _ _ _ _ _ _ _ _ _ _ V e12 d12, k4, ldW_eq]

variable (q : Fin 3 → ℕ) (hq : ∀ a, q a + S1x512x64.size a ≤ S1x8192x64.size a) (eq : q = ![0, 512 * (I.val - 1), 0])
  (oB : Fin 3 → ℕ) (hB : ∀ a, oB a + S1x64x512.size a ≤ S1x64x8192.size a) (eB : oB = ![0, 0, 512 * (I.val - 1)]) (hI : 1 ≤ I.val)

include ea eb ep eA d0 d1 d2 d3 eq eB hI in
/-- After the diagonal group and the next. -/
theorem rel_two (f11 : Buf (Elt F) (arg11.view.loc (c : Thread nD τ))) (f12 : Buf (Elt F) (arg12.view.loc (c : Thread nD τ))) :
    Rel c arg11 arg12 x I (arg11.view.read (Elt F) f11) (arg12.view.read (Elt F) f12) 2
      (packAcc (F := F) ![(tileNext none r0 (ldKeys arg4 harg4 x.k q hq) (ldKeys arg5 harg5 x.v q hq) (ldW arg9 harg9 x.a) (tileNext (some (mask a b 0)) r0 (ldKeys arg4 harg4 x.k p hp) (ldKeys arg5 harg5 x.v p hp) (ldW arg9 harg9 x.a) carry0)), (tileNext none r1 (ldKeys arg4 harg4 x.k q hq) (ldKeys arg5 harg5 x.v q hq) (ldW arg9 harg9 x.a) (tileNext (some (mask a b 1)) r1 (ldKeys arg4 harg4 x.k p hp) (ldKeys arg5 harg5 x.v p hp) (ldW arg9 harg9 x.a) carry0)), (tileNext none r2 (ldKeys arg4 harg4 x.k q hq) (ldKeys arg5 harg5 x.v q hq) (ldW arg9 harg9 x.a) (tileNext (some (mask a b 2)) r2 (ldKeys arg4 harg4 x.k p hp) (ldKeys arg5 harg5 x.v p hp) (ldW arg9 harg9 x.a) carry0)), (tileNext none r3 (ldKeys arg4 harg4 x.k q hq) (ldKeys arg5 harg5 x.v q hq) (ldW arg9 harg9 x.a) (tileNext (some (mask a b 3)) r3 (ldKeys arg4 harg4 x.k p hp) (ldKeys arg5 harg5 x.v p hp) (ldW arg9 harg9 x.a) carry0))],
       arg11.view.writes (Elt F) f11 (pieces arg11.view f11 oA oB hA hB
        (tileK (some (mask a b 0)) r0 (ldKeys arg4 harg4 x.k p hp) (ldKeys arg5 harg5 x.v p hp) (ldW arg9 harg9 x.a) carry0) (tileK none r0 (ldKeys arg4 harg4 x.k q hq) (ldKeys arg5 harg5 x.v q hq) (ldW arg9 harg9 x.a) (tileNext (some (mask a b 0)) r0 (ldKeys arg4 harg4 x.k p hp) (ldKeys arg5 harg5 x.v p hp) (ldW arg9 harg9 x.a) carry0))
        (tileK (some (mask a b 1)) r1 (ldKeys arg4 harg4 x.k p hp) (ldKeys arg5 harg5 x.v p hp) (ldW arg9 harg9 x.a) carry0) (tileK none r1 (ldKeys arg4 harg4 x.k q hq) (ldKeys arg5 harg5 x.v q hq) (ldW arg9 harg9 x.a) (tileNext (some (mask a b 1)) r1 (ldKeys arg4 harg4 x.k p hp) (ldKeys arg5 harg5 x.v p hp) (ldW arg9 harg9 x.a) carry0))
        (tileK (some (mask a b 2)) r2 (ldKeys arg4 harg4 x.k p hp) (ldKeys arg5 harg5 x.v p hp) (ldW arg9 harg9 x.a) carry0) (tileK none r2 (ldKeys arg4 harg4 x.k q hq) (ldKeys arg5 harg5 x.v q hq) (ldW arg9 harg9 x.a) (tileNext (some (mask a b 2)) r2 (ldKeys arg4 harg4 x.k p hp) (ldKeys arg5 harg5 x.v p hp) (ldW arg9 harg9 x.a) carry0))
        (tileK (some (mask a b 3)) r3 (ldKeys arg4 harg4 x.k p hp) (ldKeys arg5 harg5 x.v p hp) (ldW arg9 harg9 x.a) carry0) (tileK none r3 (ldKeys arg4 harg4 x.k q hq) (ldKeys arg5 harg5 x.v q hq) (ldW arg9 harg9 x.a) (tileNext (some (mask a b 3)) r3 (ldKeys arg4 harg4 x.k p hp) (ldKeys arg5 harg5 x.v p hp) (ldW arg9 harg9 x.a) carry0))),
       arg12.view.writes (Elt F) f12 (pieces arg12.view f12 oA oB hA hB
        (tileV (some (mask a b 0)) r0 (ldKeys arg4 harg4 x.k p hp) (ldW arg9 harg9 x.a) carry0) (tileV none r0 (ldKeys arg4 harg4 x.k q hq) (ldW arg9 harg9 x.a) (tileNext (some (mask a b 0)) r0 (ldKeys arg4 harg4 x.k p hp) (ldKeys arg5 harg5 x.v p hp) (ldW arg9 harg9 x.a) carry0))
        (tileV (some (mask a b 1)) r1 (ldKeys arg4 harg4 x.k p hp) (ldW arg9 harg9 x.a) carry0) (tileV none r1 (ldKeys arg4 harg4 x.k q hq) (ldW arg9 harg9 x.a) (tileNext (some (mask a b 1)) r1 (ldKeys arg4 harg4 x.k p hp) (ldKeys arg5 harg5 x.v p hp) (ldW arg9 harg9 x.a) carry0))
        (tileV (some (mask a b 2)) r2 (ldKeys arg4 harg4 x.k p hp) (ldW arg9 harg9 x.a) carry0) (tileV none r2 (ldKeys arg4 harg4 x.k q hq) (ldW arg9 harg9 x.a) (tileNext (some (mask a b 2)) r2 (ldKeys arg4 harg4 x.k p hp) (ldKeys arg5 harg5 x.v p hp) (ldW arg9 harg9 x.a) carry0))
        (tileV (some (mask a b 3)) r3 (ldKeys arg4 harg4 x.k p hp) (ldW arg9 harg9 x.a) carry0) (tileV none r3 (ldKeys arg4 harg4 x.k q hq) (ldW arg9 harg9 x.a) (tileNext (some (mask a b 3)) r3 (ldKeys arg4 harg4 x.k p hp) (ldKeys arg5 harg5 x.v p hp) (ldW arg9 harg9 x.a) carry0)))) := by
  subst ea eb ep eA d0 d1 d2 d3 eq eB
  have hJ : (groupAt I 1).val = I.val - 1 := rfl
  have hd : (![0, 0, 512 * I.val] : Fin 3 → ℕ) 2 + 512 ≤ (![0, 0, 512 * (I.val - 1)] : Fin 3 → ℕ) 2 ∨ (![0, 0, 512 * (I.val - 1)] : Fin 3 → ℕ) 2 + 512 ≤ (![0, 0, 512 * I.val] : Fin 3 → ℕ) 2 :=
    .inr (show 512 * (I.val - 1) + 512 ≤ 512 * I.val by omega)
  have hAB : 512 * (groupAt I 1).val + 512 ≤ 512 * I.val := by omega
  have k4 := ldKeys_eq arg4 harg4 x.k ![0, 512 * I.val, 0] hp I rfl
  have k5 := ldKeys_eq arg5 harg5 x.v ![0, 512 * I.val, 0] hp I rfl
  have l4 := ldKeys_eq arg4 harg4 x.k ![0, 512 * (I.val - 1), 0] hq (groupAt I 1) rfl
  have l5 := ldKeys_eq arg5 harg5 x.v ![0, 512 * (I.val - 1), 0] hq (groupAt I 1) rfl
  have m1 : maskAt I 1 = fun _ => none := funext fun r => if_neg one_ne_zero
  have hS : ∀ K V, stateAt x I K V 2 = groupStep x (fun _ => none) (groupAt I 1)
      (groupStep x (fun r => some (mask (BitVec.ofNat 32 I.val) (BitVec.ofNat 32 I.val) r)) I ⟨fun _ => carry0, K, V⟩) := fun K V => by
    rw [← m1]; rfl
  unfold Rel
  rw [hS]
  refine ⟨?_, ?_, ?_⟩
  · dsimp only
    rw [k4, k5, l4, l5, ldW_eq]
    rfl
  · dsimp only
    rw [two_K x _ I _ _ hAB, read_pieces _ _ _ _ _ _ _ _ _ _ _ _ _ _ hd, k4, k5, l4, l5, ldW_eq]
    rfl
  · dsimp only
    rw [two_V x _ I _ _ hAB, read_pieces _ _ _ _ _ _ _ _ _ _ _ _ _ _ hd, k4, k5, l4, ldW_eq]
    rfl

end

/-- The four stores of the query gradient, the last first. -/
def dqPieces (a : Acc F) : List (View.Piece (Elt F) S1x512x64 .f32) :=
  [⟨Rect.unit (s := S1x512x64) ![0, 384, 0] S1x128x64.size (inb_rows 3), shapeCast S1x128x64 a.2.2.2.2.2.2.2.2.2.2.2 shapeCasts_S128x64_S1x128x64⟩,
   ⟨Rect.unit (s := S1x512x64) ![0, 256, 0] S1x128x64.size (inb_rows 2), shapeCast S1x128x64 a.2.2.2.2.2.2.2.2.1 shapeCasts_S128x64_S1x128x64⟩,
   ⟨Rect.unit (s := S1x512x64) ![0, 128, 0] S1x128x64.size (inb_rows 1), shapeCast S1x128x64 a.2.2.2.2.2.1 shapeCasts_S128x64_S1x128x64⟩,
   ⟨Rect.unit (s := S1x512x64) ![0, 0, 0] S1x128x64.size (inb_rows 0), shapeCast S1x128x64 a.2.2.1 shapeCasts_S128x64_S1x128x64⟩]

theorem read_dqPieces {κ : Kind} {sp : Space} (v : View sig κ sp S1x512x64 .f32) (f : v.ty.Contents (Elt F)) (s : Fin 4 → Carry F) :
    v.read (Elt F) (v.writes (Elt F) f (dqPieces (packAcc s))) = rowsOut fun r => (s r).dq := by
  have step : ∀ (g : v.ty.Contents (Elt F)) (o : Fin 3 → ℕ) (h : ∀ a, o a + S1x128x64.size a ≤ S1x512x64.size a) (w : Vec F S1x128x64 .f32) (L : List (View.Piece (Elt F) S1x512x64 .f32)),
      v.read (Elt F) (v.writes (Elt F) g (⟨Rect.unit (s := S1x512x64) o S1x128x64.size h, w⟩ :: L)) = VecWindow.put (s := S1x512x64) (v.read (Elt F) (v.writes (Elt F) g L)) o S1x128x64.size w :=
    fun g o h w L => View.read_writes_cons_put v g h w L rfl
  rw [← rows_cover (v.read (Elt F) f)]
  simp only [dqPieces, step, View.writes_nil]

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
  (x : Blocks F) (arg1 : BitVec 32) (v20 : BitVec 32) (v22 : FVec F S128x64 .bf16) (v24 : FVec F S128x64 .bf16) (v26 : FVec F S128x64 .bf16) (v28 : FVec F S128x64 .bf16) (v30 : FVec F S64x128 .bf16) (v32 : FVec F S64x128 .bf16) (v34 : FVec F S64x128 .bf16) (v36 : FVec F S64x128 .bf16) (v38 : FVec F S128x64 .bf16) (v40 : FVec F S128x64 .bf16) (v42 : FVec F S128x64 .bf16) (v44 : FVec F S128x64 .bf16) (v46 : FVec F S64x128 .bf16) (v48 : FVec F S64x128 .bf16) (v50 : FVec F S64x128 .bf16) (v52 : FVec F S64x128 .bf16) (v58 : FVec F S128x1 .f32) (v64 : FVec F S128x1 .f32) (v70 : FVec F S128x1 .f32) (v76 : FVec F S128x1 .f32) (v77 : FVec F S128x1 .f32) (v78 : FVec F S128x64 .f32) (v79 : FVec F S128x64 .f32) (v80 : FVec F S128x64 .f32) (v81 : FVec F S128x64 .f32) (v91 : BitVec 32) (v107 : BitVec 32)

/-- What the loop leaves, from the state before it. -/
theorem tail_value (I : Fin 16) (hI : I.val = (i 1).val) (K V : Vec F S1x64x8192 .f32) (n : ℕ) (hn : n = 1 + I.val % 2)
    (init : Acc F) (G11 : Buf (Elt F) (arg11.view.loc (c : Thread nD τ))) (G12 : Buf (Elt F) (arg12.view.loc (c : Thread nD τ))) (f10 : Buf (Elt F) (arg10.view.loc (c : Thread nD τ)))
    (h0 : (⟨v22, v30, v38, v46, v58⟩ : Row F) = rowOf x 0) (h1 : (⟨v24, v32, v40, v48, v64⟩ : Row F) = rowOf x 1) (h2 : (⟨v26, v34, v42, v50, v70⟩ : Row F) = rowOf x 2) (h3 : (⟨v28, v36, v44, v52, v76⟩ : Row F) = rowOf x 3) (hs : Rel c arg11 arg12 x I K V n (init, G11, G12)) :
    arg10.view.read (Elt F) (arg10.view.writes (Elt F) f10 (dqPieces (stAt c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 (init, G11, G12) (k0_t1_loop i).trips).1)) = rowsOut (fun r => ((blockOut x I K V).c r).dq)
      ∧ arg11.view.read (Elt F) (st11 c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 init G11 G12 (k0_t1_loop i).trips) = (blockOut x I K V).K
      ∧ arg12.view.read (Elt F) (st12 c i arg2 harg2 arg3 harg3 arg4 harg4 arg5 harg5 arg6 harg6 arg7 harg7 arg8 harg8 arg9 harg9 arg10 harg10 arg11 harg11 arg12 harg12 x.k x.v x.a arg1 v20 v22 v24 v26 v28 v30 v32 v34 v36 v38 v40 v42 v44 v46 v48 v50 v52 v58 v64 v70 v76 v77 v78 v79 v80 v81 v91 v107 init G11 G12 (k0_t1_loop i).trips) = (blockOut x I K V).V := by
  obtain ⟨e1, e2, e3⟩ := rel_loop c i arg2 harg2 arg3 harg3 arg4 harg4 arg5 harg5 arg6 harg6 arg7 harg7 arg8 harg8 arg9 harg9 arg10 harg10 arg11 harg11 arg12 harg12 x arg1 v20 v22 v24 v26 v28 v30 v32 v34 v36 v38 v40 v42 v44 v46 v48 v50 v52 v58 v64 v70 v76 v77 v78 v79 v80 v81 v91 v107 I hI K V h0 h1 h2 h3 n hn (init, G11, G12) hs
  refine ⟨?_, ?_, ?_⟩
  · rw [e1, read_dqPieces]
    rfl
  · rw [st11_eq]; exact e2
  · rw [st12_eq]; exact e3

end

theorem v20_even : ∀ i : grid0.Coords, run_even.sl.v20 i = BitVec.ofNat 32 (i 1).val := by decide +kernel
theorem v20_odd : ∀ i : grid0.Coords, run_odd.sl.v20 i = BitVec.ofNat 32 (i 1).val := by decide +kernel
theorem v20_first : ∀ i : grid0.Coords, run_first.sl.v20 i = BitVec.ofNat 32 (i 1).val := by decide +kernel
theorem first_zero : ∀ i : grid0.Coords, Scalar.cmpi .ne (Scalar.extui (Scalar.cmpi .eq (BitVec.ofNat 32 (i 1).val) 0#32)) 0#32 = 1#1 → (i 1).val = 0 := by decide +kernel

/-- The accumulators at a head's start. -/
def acc0 : Vec F S1x64x8192 .f32 := shapeCast S1x64x8192 (broadcast S64x8192 (Scalar.ofBits .f32 0x00000000#32 : F .f32) : FVec F S64x8192 .f32) shapeCasts_S64x8192_S1x64x8192

section
variable {κ : Kind} {sp : Space} (v : View sig κ sp S1x64x8192 .f32) (f : v.ty.Contents (Elt F))
  (oA oB : Fin 3 → ℕ) (hA : ∀ a, oA a + S1x64x512.size a ≤ S1x64x8192.size a) (hB : ∀ a, oB a + S1x64x512.size a ≤ S1x64x8192.size a)
  (a0 b0 a1 b1 a2 b2 a3 b3 : FVec F S64x512 .f32)

/-- The eight stores, told by each one's value. -/
theorem pieces_of (w0 w1 w2 w3 w4 w5 w6 w7 : Vec F S1x64x512 .f32)
    (e0 : w0 = accum (v.readAt (Elt F) (colRect oA hA).toLoadRect f) a0)
    (e1 : w1 = accum (v.readAt (Elt F) (colRect oB hB).toLoadRect (v.writes (Elt F) f [⟨colRect oA hA, w0⟩])) b0)
    (e2 : w2 = accum (v.readCov [⟨colRect oB hB, w1⟩, ⟨colRect oA hA, w0⟩] (colRect oA hA).toLoadRect) a1)
    (e3 : w3 = accum (v.readCov [⟨colRect oA hA, w2⟩, ⟨colRect oB hB, w1⟩, ⟨colRect oA hA, w0⟩] (colRect oB hB).toLoadRect) b1)
    (e4 : w4 = accum (v.readCov [⟨colRect oB hB, w3⟩, ⟨colRect oA hA, w2⟩, ⟨colRect oB hB, w1⟩, ⟨colRect oA hA, w0⟩] (colRect oA hA).toLoadRect) a2)
    (e5 : w5 = accum (v.readCov [⟨colRect oA hA, w4⟩, ⟨colRect oB hB, w3⟩, ⟨colRect oA hA, w2⟩, ⟨colRect oB hB, w1⟩, ⟨colRect oA hA, w0⟩] (colRect oB hB).toLoadRect) b2)
    (e6 : w6 = accum (v.readCov [⟨colRect oB hB, w5⟩, ⟨colRect oA hA, w4⟩, ⟨colRect oB hB, w3⟩, ⟨colRect oA hA, w2⟩, ⟨colRect oB hB, w1⟩, ⟨colRect oA hA, w0⟩] (colRect oA hA).toLoadRect) a3)
    (e7 : w7 = accum (v.readCov [⟨colRect oA hA, w6⟩, ⟨colRect oB hB, w5⟩, ⟨colRect oA hA, w4⟩, ⟨colRect oB hB, w3⟩, ⟨colRect oA hA, w2⟩, ⟨colRect oB hB, w1⟩, ⟨colRect oA hA, w0⟩] (colRect oB hB).toLoadRect) b3) :
    ([⟨colRect oB hB, w7⟩, ⟨colRect oA hA, w6⟩, ⟨colRect oB hB, w5⟩, ⟨colRect oA hA, w4⟩, ⟨colRect oB hB, w3⟩, ⟨colRect oA hA, w2⟩, ⟨colRect oB hB, w1⟩, ⟨colRect oA hA, w0⟩] : List (View.Piece (Elt F) S1x64x8192 .f32))
      = pieces v f oA oB hA hB a0 b0 a1 b1 a2 b2 a3 b3 := by
  subst e7 e6 e5 e4 e3 e2 e1 e0
  rfl

/-- The four stores, told by each one's value. -/
theorem pieces4_of (g : v.ty.Contents (Elt F)) (L0 : List (View.Piece (Elt F) S1x64x8192 .f32)) (w0 w1 w2 w3 : Vec F S1x64x512 .f32)
    (e0 : w0 = accum (v.readAt (Elt F) (colRect oA hA).toLoadRect g) a0)
    (e1 : w1 = accum (v.readCov (⟨colRect oA hA, w0⟩ :: L0) (colRect oA hA).toLoadRect) a1)
    (e2 : w2 = accum (v.readCov (⟨colRect oA hA, w1⟩ :: ⟨colRect oA hA, w0⟩ :: L0) (colRect oA hA).toLoadRect) a2)
    (e3 : w3 = accum (v.readCov (⟨colRect oA hA, w2⟩ :: ⟨colRect oA hA, w1⟩ :: ⟨colRect oA hA, w0⟩ :: L0) (colRect oA hA).toLoadRect) a3) :
    (⟨colRect oA hA, w3⟩ :: ⟨colRect oA hA, w2⟩ :: ⟨colRect oA hA, w1⟩ :: ⟨colRect oA hA, w0⟩ :: L0 : List (View.Piece (Elt F) S1x64x8192 .f32))
      = pieces4 v g L0 oA hA a0 a1 a2 a3 := by
  subst e3 e2 e1 e0
  rfl

end

theorem Rel.of_eq {c : Dev nD} {arg11 arg12 : Memref sig .tc .vmem S1x64x8192 .f32} {x : Blocks F} {I : Fin 16} {K V : Vec F S1x64x8192 .f32} {n : ℕ} {a a' : Acc F}
    {f f' : Buf (Elt F) (arg11.view.loc (c : Thread nD τ))} {g g' : Buf (Elt F) (arg12.view.loc (c : Thread nD τ))} (h : Rel c arg11 arg12 x I K V n (a, f, g))
    (ea : a' = a) (ef : f' = f) (eg : g' = g) : Rel c arg11 arg12 x I K V n (a', f', g') := by
  subst ea ef eg; exact h

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole) (x : Blocks F) (I : Fin 16) (hI : I.val = (i 1).val)

set_option maxHeartbeats 4000000 in
include hI in
theorem even_value (h1 : ¬ Scalar.cmpi .ne (Scalar.extui (Scalar.cmpi .eq (BitVec.ofNat 32 (i 1).val) 0#32)) 0#32 = 1#1) (h2 : ¬ k0_cond2 i = 1#1) (f10 : Buf (Elt F) (arg10.view.loc (c : Thread nD τ))) (f11 : Buf (Elt F) (arg11.view.loc (c : Thread nD τ))) (f12 : Buf (Elt F) (arg12.view.loc (c : Thread nD τ))) :
    arg10.view.read (Elt F) (run_even c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).1 = rowsOut (fun r => ((blockOut x I (arg11.view.read (Elt F) f11) (arg12.view.read (Elt F) f12)).c r).dq)
      ∧ arg11.view.read (Elt F) (run_even c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.1 = (blockOut x I (arg11.view.read (Elt F) f11) (arg12.view.read (Elt F) f12)).K
      ∧ arg12.view.read (Elt F) (run_even c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.2.1 = (blockOut x I (arg11.view.read (Elt F) f11) (arg12.view.read (Elt F) f12)).V := by
  have hev : I.val % 2 = 0 := by have := (cond2_eq i).not.mp h2; omega
  unfold run_even
  refine tail_value c i arg2 harg2 arg3 harg3 arg4 harg4 arg5 harg5 arg6 harg6 arg7 harg7 arg8 harg8 arg9 harg9 arg10 harg10 arg11 harg11 arg12 harg12 x _ _ _ _ _ _ _ _ _ _ _ _ _ _ _ _ _ _ _ _ _ _ _ _ _ _ _ _ _ I hI _ _ 1 (by omega) _ _ _ f10
    (ldRow_eq arg2 harg2 arg3 harg3 arg6 harg6 arg7 harg7 arg8 harg8 x 0)
    (ldRow_eq arg2 harg2 arg3 harg3 arg6 harg6 arg7 harg7 arg8 harg8 x 1)
    (ldRow_eq arg2 harg2 arg3 harg3 arg6 harg6 arg7 harg7 arg8 harg8 x 2)
    (ldRow_eq arg2 harg2 arg3 harg3 arg6 harg6 arg7 harg7 arg8 harg8 x 3)     ?_
  refine (Rel.of_eq (rel_one c arg4 harg4 arg5 harg5 arg9 harg9 arg11 arg12 x I (BitVec.ofNat 32 (i 1).val) (run_even.sl.v20 i) (by rw [hI]) (by rw [v20_even, hI])
      (k0_off5 i) (k0_off5_inb i h2) (by rw [off5_eq, hI]) (k0_off6 i) (k0_off6_inb i h2) (by rw [off6_eq, hI])
      ⟨run_even.sl.v22 arg2 harg2 x.q, run_even.sl.v30 arg3 harg3 x.qT, run_even.sl.v38 arg7 harg7 x.d, run_even.sl.v46 arg8 harg8 x.dT, run_even.sl.v58 arg6 harg6 arg7 harg7 x.o x.d⟩
      ⟨run_even.sl.v24 arg2 harg2 x.q, run_even.sl.v32 arg3 harg3 x.qT, run_even.sl.v40 arg7 harg7 x.d, run_even.sl.v48 arg8 harg8 x.dT, run_even.sl.v64 arg6 harg6 arg7 harg7 x.o x.d⟩
      ⟨run_even.sl.v26 arg2 harg2 x.q, run_even.sl.v34 arg3 harg3 x.qT, run_even.sl.v42 arg7 harg7 x.d, run_even.sl.v50 arg8 harg8 x.dT, run_even.sl.v70 arg6 harg6 arg7 harg7 x.o x.d⟩
      ⟨run_even.sl.v28 arg2 harg2 x.q, run_even.sl.v36 arg3 harg3 x.qT, run_even.sl.v44 arg7 harg7 x.d, run_even.sl.v52 arg8 harg8 x.dT, run_even.sl.v76 arg6 harg6 arg7 harg7 x.o x.d⟩
      (ldRow_eq arg2 harg2 arg3 harg3 arg6 harg6 arg7 harg7 arg8 harg8 x 0)
      (ldRow_eq arg2 harg2 arg3 harg3 arg6 harg6 arg7 harg7 arg8 harg8 x 1)
      (ldRow_eq arg2 harg2 arg3 harg3 arg6 harg6 arg7 harg7 arg8 harg8 x 2)
      (ldRow_eq arg2 harg2 arg3 harg3 arg6 harg6 arg7 harg7 arg8 harg8 x 3)
      f11 f11 f12 f12 [] [] _ _ rfl rfl rfl rfl) ?_ ?_ ?_)
  · rfl
  · exact congrArg (arg11.view.writes (Elt F) _) (pieces4_of _ _ _ _ _ _ _ _ _ _ _ _ _ rfl rfl rfl rfl)
  · exact congrArg (arg12.view.writes (Elt F) _) (pieces4_of _ _ _ _ _ _ _ _ _ _ _ _ _ rfl rfl rfl rfl)

set_option maxHeartbeats 4000000 in
include hI in
theorem first_value (h1 : Scalar.cmpi .ne (Scalar.extui (Scalar.cmpi .eq (BitVec.ofNat 32 (i 1).val) 0#32)) 0#32 = 1#1) (h2 : ¬ k0_cond2 i = 1#1) (f10 : Buf (Elt F) (arg10.view.loc (c : Thread nD τ))) (f11 : Buf (Elt F) (arg11.view.loc (c : Thread nD τ))) (f12 : Buf (Elt F) (arg12.view.loc (c : Thread nD τ))) :
    arg10.view.read (Elt F) (run_first c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).1 = rowsOut (fun r => ((blockOut x I acc0 acc0).c r).dq)
      ∧ arg11.view.read (Elt F) (run_first c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.1 = (blockOut x I acc0 acc0).K
      ∧ arg12.view.read (Elt F) (run_first c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.2.1 = (blockOut x I acc0 acc0).V := by
  have hz : I.val = 0 := by have := first_zero i h1; omega
  unfold run_first
  refine tail_value c i arg2 harg2 arg3 harg3 arg4 harg4 arg5 harg5 arg6 harg6 arg7 harg7 arg8 harg8 arg9 harg9 arg10 harg10 arg11 harg11 arg12 harg12 x _ _ _ _ _ _ _ _ _ _ _ _ _ _ _ _ _ _ _ _ _ _ _ _ _ _ _ _ _ I hI _ _ 1 (by omega) _ _ _ f10
    (ldRow_eq arg2 harg2 arg3 harg3 arg6 harg6 arg7 harg7 arg8 harg8 x 0)
    (ldRow_eq arg2 harg2 arg3 harg3 arg6 harg6 arg7 harg7 arg8 harg8 x 1)
    (ldRow_eq arg2 harg2 arg3 harg3 arg6 harg6 arg7 harg7 arg8 harg8 x 2)
    (ldRow_eq arg2 harg2 arg3 harg3 arg6 harg6 arg7 harg7 arg8 harg8 x 3)     ?_
  refine (Rel.of_eq (rel_one c arg4 harg4 arg5 harg5 arg9 harg9 arg11 arg12 x I (BitVec.ofNat 32 (i 1).val) (run_first.sl.v20 i) (by rw [hI]) (by rw [v20_first, hI])
      (k0_off5 i) (k0_off5_inb i h2) (by rw [off5_eq, hI]) (k0_off6 i) (k0_off6_inb i h2) (by rw [off6_eq, hI])
      ⟨run_first.sl.v22 arg2 harg2 x.q, run_first.sl.v30 arg3 harg3 x.qT, run_first.sl.v38 arg7 harg7 x.d, run_first.sl.v46 arg8 harg8 x.dT, run_first.sl.v58 arg6 harg6 arg7 harg7 x.o x.d⟩
      ⟨run_first.sl.v24 arg2 harg2 x.q, run_first.sl.v32 arg3 harg3 x.qT, run_first.sl.v40 arg7 harg7 x.d, run_first.sl.v48 arg8 harg8 x.dT, run_first.sl.v64 arg6 harg6 arg7 harg7 x.o x.d⟩
      ⟨run_first.sl.v26 arg2 harg2 x.q, run_first.sl.v34 arg3 harg3 x.qT, run_first.sl.v42 arg7 harg7 x.d, run_first.sl.v50 arg8 harg8 x.dT, run_first.sl.v70 arg6 harg6 arg7 harg7 x.o x.d⟩
      ⟨run_first.sl.v28 arg2 harg2 x.q, run_first.sl.v36 arg3 harg3 x.qT, run_first.sl.v44 arg7 harg7 x.d, run_first.sl.v52 arg8 harg8 x.dT, run_first.sl.v76 arg6 harg6 arg7 harg7 x.o x.d⟩
      (ldRow_eq arg2 harg2 arg3 harg3 arg6 harg6 arg7 harg7 arg8 harg8 x 0)
      (ldRow_eq arg2 harg2 arg3 harg3 arg6 harg6 arg7 harg7 arg8 harg8 x 1)
      (ldRow_eq arg2 harg2 arg3 harg3 arg6 harg6 arg7 harg7 arg8 harg8 x 2)
      (ldRow_eq arg2 harg2 arg3 harg3 arg6 harg6 arg7 harg7 arg8 harg8 x 3)

      arg11.view.junk (arg11.view.writes (Elt F) arg11.view.junk [⟨Rect.unit (s := S1x64x8192) ![0, 0, 0] S1x64x8192.size inb_S1x64x8192_S1x64x8192_0_0_0, acc0⟩])
      arg12.view.junk (arg12.view.writes (Elt F) arg12.view.junk [⟨Rect.unit (s := S1x64x8192) ![0, 0, 0] S1x64x8192.size inb_S1x64x8192_S1x64x8192_0_0_0, acc0⟩])
      [⟨Rect.unit (s := S1x64x8192) ![0, 0, 0] S1x64x8192.size inb_S1x64x8192_S1x64x8192_0_0_0, acc0⟩]
      [⟨Rect.unit (s := S1x64x8192) ![0, 0, 0] S1x64x8192.size inb_S1x64x8192_S1x64x8192_0_0_0, acc0⟩] acc0 acc0
      (View.read_writes_full _ _ _ _ _) (View.read_writes_full _ _ _ _ _) (View.read_writes_full _ _ _ _ _) (View.read_writes_full _ _ _ _ _)) ?_ ?_ ?_)
  · rfl
  · exact congrArg (arg11.view.writes (Elt F) _) (pieces4_of _ _ _ _ _ _ _ _ _ _ _ _ _ rfl rfl rfl rfl)
  · exact congrArg (arg12.view.writes (Elt F) _) (pieces4_of _ _ _ _ _ _ _ _ _ _ _ _ _ rfl rfl rfl rfl)

end

end Cert.SbBwd
-- ==== Proof.OddValue.lean ====
/- What the body leaves at an odd row block, in terms of the row block's states. -/
module

public import proofs.«01_k».proof.Proof.RunValue

@[expose] public section

set_option maxRecDepth 16384

noncomputable section

namespace Cert.SbBwd

open Cert.KernelIdeal Cert.KernelIdeal.Gen
open Idealize.ShloMosaic Idealize.ShloMosaic.TcCoe

variable {F : FTy → Type} [FloatOps F] [Named F]

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole) (x : Blocks F) (I : Fin 16) (hI : I.val = (i 1).val)

set_option maxHeartbeats 4000000 in
include hI in
theorem odd_value (h1 : ¬ Scalar.cmpi .ne (Scalar.extui (Scalar.cmpi .eq (BitVec.ofNat 32 (i 1).val) 0#32)) 0#32 = 1#1) (h2 : k0_cond2 i = 1#1) (f10 : Buf (Elt F) (arg10.view.loc (c : Thread nD τ))) (f11 : Buf (Elt F) (arg11.view.loc (c : Thread nD τ))) (f12 : Buf (Elt F) (arg12.view.loc (c : Thread nD τ))) :
    arg10.view.read (Elt F) (run_odd c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).1 = rowsOut (fun r => ((blockOut x I (arg11.view.read (Elt F) f11) (arg12.view.read (Elt F) f12)).c r).dq)
      ∧ arg11.view.read (Elt F) (run_odd c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.1 = (blockOut x I (arg11.view.read (Elt F) f11) (arg12.view.read (Elt F) f12)).K
      ∧ arg12.view.read (Elt F) (run_odd c i arg2 harg2 arg3 harg3 arg4 harg4 arg5 harg5 arg6 harg6 arg7 harg7 arg8 harg8 arg9 harg9 arg10 harg10 arg11 harg11 arg12 harg12 x.q x.qT x.k x.v x.o x.d x.dT x.a h1 h2 f10 f11 f12).2.2.1 = (blockOut x I (arg11.view.read (Elt F) f11) (arg12.view.read (Elt F) f12)).V := by
  have hod : I.val % 2 = 1 := by have := (cond2_eq i).mp h2; omega
  unfold run_odd
  refine tail_value c i arg2 harg2 arg3 harg3 arg4 harg4 arg5 harg5 arg6 harg6 arg7 harg7 arg8 harg8 arg9 harg9 arg10 harg10 arg11 harg11 arg12 harg12 x _ _ _ _ _ _ _ _ _ _ _ _ _ _ _ _ _ _ _ _ _ _ _ _ _ _ _ _ _ I hI _ _ 2 (by omega) _ _ _ f10
    (ldRow_eq arg2 harg2 arg3 harg3 arg6 harg6 arg7 harg7 arg8 harg8 x 0)
    (ldRow_eq arg2 harg2 arg3 harg3 arg6 harg6 arg7 harg7 arg8 harg8 x 1)
    (ldRow_eq arg2 harg2 arg3 harg3 arg6 harg6 arg7 harg7 arg8 harg8 x 2)
    (ldRow_eq arg2 harg2 arg3 harg3 arg6 harg6 arg7 harg7 arg8 harg8 x 3)     ?_
  refine (Rel.of_eq (rel_two c arg4 harg4 arg5 harg5 arg9 harg9 arg11 arg12 x I (BitVec.ofNat 32 (i 1).val) (run_odd.sl.v20 i) (by rw [hI]) (by rw [v20_odd, hI])
      (k0_off1 i) (k0_off1_inb i h2) (by rw [off1_eq, hI]) (k0_off3 i) (k0_off3_inb i h2) (by rw [off3_eq, hI])
      ⟨run_odd.sl.v22 arg2 harg2 x.q, run_odd.sl.v30 arg3 harg3 x.qT, run_odd.sl.v38 arg7 harg7 x.d, run_odd.sl.v46 arg8 harg8 x.dT, run_odd.sl.v58 arg6 harg6 arg7 harg7 x.o x.d⟩
      ⟨run_odd.sl.v24 arg2 harg2 x.q, run_odd.sl.v32 arg3 harg3 x.qT, run_odd.sl.v40 arg7 harg7 x.d, run_odd.sl.v48 arg8 harg8 x.dT, run_odd.sl.v64 arg6 harg6 arg7 harg7 x.o x.d⟩
      ⟨run_odd.sl.v26 arg2 harg2 x.q, run_odd.sl.v34 arg3 harg3 x.qT, run_odd.sl.v42 arg7 harg7 x.d, run_odd.sl.v50 arg8 harg8 x.dT, run_odd.sl.v70 arg6 harg6 arg7 harg7 x.o x.d⟩
      ⟨run_odd.sl.v28 arg2 harg2 x.q, run_odd.sl.v36 arg3 harg3 x.qT, run_odd.sl.v44 arg7 harg7 x.d, run_odd.sl.v52 arg8 harg8 x.dT, run_odd.sl.v76 arg6 harg6 arg7 harg7 x.o x.d⟩
      (ldRow_eq arg2 harg2 arg3 harg3 arg6 harg6 arg7 harg7 arg8 harg8 x 0)
      (ldRow_eq arg2 harg2 arg3 harg3 arg6 harg6 arg7 harg7 arg8 harg8 x 1)
      (ldRow_eq arg2 harg2 arg3 harg3 arg6 harg6 arg7 harg7 arg8 harg8 x 2)
      (ldRow_eq arg2 harg2 arg3 harg3 arg6 harg6 arg7 harg7 arg8 harg8 x 3)

      (k0_off2 i) (k0_off2_inb i h2) (by rw [off2_eq i h2, hI]) (k0_off4 i) (k0_off4_inb i h2) (by rw [off4_eq i h2, hI]) (by omega) f11 f12) ?_ ?_ ?_)

  · rfl
  · exact congrArg (arg11.view.writes (Elt F) _) (pieces_of _ _ _ _ _ _ _ _ _ _ _ _ _ _ _ _ _ _ _ _ _ _  rfl rfl rfl rfl rfl rfl rfl rfl)
  · exact congrArg (arg12.view.writes (Elt F) _) (pieces_of _ _ _ _ _ _ _ _ _ _ _ _ _ _ _ _ _ _ _ _ _ _  rfl rfl rfl rfl rfl rfl rfl rfl)

end

end Cert.SbBwd
-- ==== Proof.Body.lean ====
/- One grid point from the blocks the pipeline hands it, the proof data of the pipeline, and the run of the whole program. -/
module

public import proofs.«01_k».proof.Proof.RunValue
public import proofs.«01_k».proof.Proof.OddValue
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem zero_first : ∀ i : grid0.Coords, (i 1).val = 0 → Scalar.cmpi .ne (Scalar.extui (Scalar.cmpi .eq (BitVec.ofNat 32 (i 1).val) 0#32)) 0#32 = 1#1 := by decide +kernel

section
variable (c : Dev nD) (i : grid0.Coords) (arg2 : Memref sig .tc .vmem S1x512x64 .bf16) (harg2 : arg2.IsWhole) (arg3 : Memref sig .tc .vmem S1x64x512 .bf16) (harg3 : arg3.IsWhole) (arg4 : Memref sig .tc .vmem S1x8192x64 .bf16) (harg4 : arg4.IsWhole) (arg5 : Memref sig .tc .vmem S1x8192x64 .bf16) (harg5 : arg5.IsWhole) (arg6 : Memref sig .tc .vmem S1x512x64 .f32) (harg6 : arg6.IsWhole) (arg7 : Memref sig .tc .vmem S1x512x64 .bf16) (harg7 : arg7.IsWhole) (arg8 : Memref sig .tc .vmem S1x64x512 .bf16) (harg8 : arg8.IsWhole) (arg9 : Memref sig .tc .vmem S512x256 .bf16) (harg9 : arg9.IsWhole) (arg10 : Memref sig .tc .vmem S1x512x64 .f32) (harg10 : arg10.IsWhole) (arg11 : Memref sig .tc .vmem S1x64x8192 .f32) (harg11 : arg11.IsWhole) (arg12 : Memref sig .tc .vmem S1x64x8192 .f32) (harg12 : arg12.IsWhole)
  (x : Blocks F)

set_option maxHeartbeats 4000000 in
/-- A run of the body between buffers is one between what the buffers hold. -/
theorem sound_of_run (I : Fin 16) (K V : Vec F S1x64x8192 .f32) (f10 : Buf (Elt F) (arg10.view.loc (c : Thread nD τ))) (f11 : Buf (Elt F) (arg11.view.loc (c : Thread nD τ))) (f12 : Buf (Elt F) (arg12.view.loc (c : Thread nD τ))) (F10 : Buf (Elt F) (arg10.view.loc (c : Thread nD τ))) (F11 : Buf (Elt F) (arg11.view.loc (c : Thread nD τ))) (F12 : Buf (Elt F) (arg12.view.loc (c : Thread nD τ)))
    (hrun : BodyHeld c arg2 harg2 arg3 harg3 arg4 harg4 arg5 harg5 arg6 harg6 arg7 harg7 arg8 harg8 arg9 harg9 arg10 harg10 arg11 harg11 arg12 harg12 x.q x.qT x.k x.v x.o x.d x.dT x.a f10 f11 f12 ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12) fun _ => BodyHeld c arg2 harg2 arg3 harg3 arg4 harg4 arg5 harg5 arg6 harg6 arg7 harg7 arg8 harg8 arg9 harg9 arg10 harg10 arg11 harg11 arg12 harg12 x.q x.qT x.k x.v x.o x.d x.dT x.a F10 F11 F12)
    (hv : arg10.view.read (Elt F) F10 = rowsOut (fun r => ((blockOut x I K V).c r).dq)
      ∧ arg11.view.read (Elt F) F11 = (blockOut x I K V).K ∧ arg12.view.read (Elt F) F12 = (blockOut x I K V).V)
    (Q : PUnit → sProp 𝕄) :
    iprop(BodyHeld c arg2 harg2 arg3 harg3 arg4 harg4 arg5 harg5 arg6 harg6 arg7 harg7 arg8 harg8 arg9 harg9 arg10 harg10 arg11 harg11 arg12 harg12 x.q x.qT x.k x.v x.o x.d x.dT x.a f10 f11 f12
        ∗ (iprop(owns (c : Thread nD τ) arg2 fullShare x.q ∗ owns (c : Thread nD τ) arg3 fullShare x.qT ∗ owns (c : Thread nD τ) arg4 fullShare x.k ∗ owns (c : Thread nD τ) arg5 fullShare x.v ∗ owns (c : Thread nD τ) arg6 fullShare x.o ∗ owns (c : Thread nD τ) arg7 fullShare x.d ∗ owns (c : Thread nD τ) arg8 fullShare x.dT ∗ owns (c : Thread nD τ) arg9 fullShare x.a ∗ owns (c : Thread nD τ) arg10 fullShare (rowsOut (fun r => ((blockOut x I K V).c r).dq)) ∗ owns (c : Thread nD τ) arg11 fullShare (blockOut x I K V).K ∗ owns (c : Thread nD τ) arg12 fullShare (blockOut x I K V).V) -∗ Q ⟨⟩))
      ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12) Q := by
  iintro ⟨HB, Hk⟩
  iapply (wp_wand_r frame _ Set.univ)
  isplitl [HB]
  · iapply hrun; iexact HB
  unfold BodyHeld owns
  iintro %a ⟨H2, H3, H4, H5, H6, H7, H8, H9, H10, H11, H12⟩
  iapply Hk
  isplitl [H2]; · iexists _; isplitr; swap; (· iexact H2); ipureintro; exact harg2.read_unread _
  isplitl [H3]; · iexists _; isplitr; swap; (· iexact H3); ipureintro; exact harg3.read_unread _
  isplitl [H4]; · iexists _; isplitr; swap; (· iexact H4); ipureintro; exact harg4.read_unread _
  isplitl [H5]; · iexists _; isplitr; swap; (· iexact H5); ipureintro; exact harg5.read_unread _
  isplitl [H6]; · iexists _; isplitr; swap; (· iexact H6); ipureintro; exact harg6.read_unread _
  isplitl [H7]; · iexists _; isplitr; swap; (· iexact H7); ipureintro; exact harg7.read_unread _
  isplitl [H8]; · iexists _; isplitr; swap; (· iexact H8); ipureintro; exact harg8.read_unread _
  isplitl [H9]; · iexists _; isplitr; swap; (· iexact H9); ipureintro; exact harg9.read_unread _
  isplitl [H10]; · iexists F10; isplitr; swap; (· iexact H10); ipureintro; exact hv.1
  isplitl [H11]; · iexists F11; isplitr; swap; (· iexact H11); ipureintro; exact hv.2.1
  iexists F12; isplitr; swap; (· iexact H12); ipureintro; exact hv.2.2

set_option maxHeartbeats 4000000 in
/-- THE BODY: from its inputs' blocks and accumulators at `y11`, `y12`, the outputs of the row block `I`, the accumulators
    cleared first when it is the head's first. -/
theorem sound_kernel (I : Fin 16) (hI : I.val = (i 1).val) (K V : Vec F S1x64x8192 .f32) (y10 : Vec F S1x512x64 .f32) (y11 y12 : Vec F S1x64x8192 .f32)
    (h0 : I.val = 0 → K = acc0 ∧ V = acc0) (h1 : I.val ≠ 0 → K = y11 ∧ V = y12) (Q : PUnit → sProp 𝕄) :
    iprop((owns (c : Thread nD τ) arg2 fullShare x.q ∗ owns (c : Thread nD τ) arg3 fullShare x.qT ∗ owns (c : Thread nD τ) arg4 fullShare x.k ∗ owns (c : Thread nD τ) arg5 fullShare x.v ∗ owns (c : Thread nD τ) arg6 fullShare x.o ∗ owns (c : Thread nD τ) arg7 fullShare x.d ∗ owns (c : Thread nD τ) arg8 fullShare x.dT ∗ owns (c : Thread nD τ) arg9 fullShare x.a ∗ owns (c : Thread nD τ) arg10 fullShare y10 ∗ owns (c : Thread nD τ) arg11 fullShare y11 ∗ owns (c : Thread nD τ) arg12 fullShare y12)
        ∗ (iprop(owns (c : Thread nD τ) arg2 fullShare x.q ∗ owns (c : Thread nD τ) arg3 fullShare x.qT ∗ owns (c : Thread nD τ) arg4 fullShare x.k ∗ owns (c : Thread nD τ) arg5 fullShare x.v ∗ owns (c : Thread nD τ) arg6 fullShare x.o ∗ owns (c : Thread nD τ) arg7 fullShare x.d ∗ owns (c : Thread nD τ) arg8 fullShare x.dT ∗ owns (c : Thread nD τ) arg9 fullShare x.a ∗ owns (c : Thread nD τ) arg10 fullShare (rowsOut (fun r => ((blockOut x I K V).c r).dq)) ∗ owns (c : Thread nD τ) arg11 fullShare (blockOut x I K V).K ∗ owns (c : Thread nD τ) arg12 fullShare (blockOut x I K V).V) -∗ Q ⟨⟩))
      ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12) Q := by
  have key : ∀ (f10 : Buf (Elt F) (arg10.view.loc (c : Thread nD τ))) (f11 : Buf (Elt F) (arg11.view.loc (c : Thread nD τ))) (f12 : Buf (Elt F) (arg12.view.loc (c : Thread nD τ))), arg11.view.read (Elt F) f11 = y11 → arg12.view.read (Elt F) f12 = y12 →
      iprop(BodyHeld c arg2 harg2 arg3 harg3 arg4 harg4 arg5 harg5 arg6 harg6 arg7 harg7 arg8 harg8 arg9 harg9 arg10 harg10 arg11 harg11 arg12 harg12 x.q x.qT x.k x.v x.o x.d x.dT x.a f10 f11 f12
        ∗ (iprop(owns (c : Thread nD τ) arg2 fullShare x.q ∗ owns (c : Thread nD τ) arg3 fullShare x.qT ∗ owns (c : Thread nD τ) arg4 fullShare x.k ∗ owns (c : Thread nD τ) arg5 fullShare x.v ∗ owns (c : Thread nD τ) arg6 fullShare x.o ∗ owns (c : Thread nD τ) arg7 fullShare x.d ∗ owns (c : Thread nD τ) arg8 fullShare x.dT ∗ owns (c : Thread nD τ) arg9 fullShare x.a ∗ owns (c : Thread nD τ) arg10 fullShare (rowsOut (fun r => ((blockOut x I K V).c r).dq)) ∗ owns (c : Thread nD τ) arg11 fullShare (blockOut x I K V).K ∗ owns (c : Thread nD τ) arg12 fullShare (blockOut x I K V).V) -∗ Q ⟨⟩))
      ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12) Q := by
    intro f10 f11 f12 e11 e12
    by_cases H2 : k0_cond2 i = 1#1
    · have hod := (cond2_eq i).mp H2
      have H1 : ¬ Scalar.cmpi .ne (Scalar.extui (Scalar.cmpi .eq (BitVec.ofNat 32 (i 1).val) 0#32)) 0#32 = 1#1 := fun h => by have := first_zero i h; omega
      obtain ⟨rfl, rfl⟩ := h1 (by omega)
      refine sound_of_run c i arg2 harg2 arg3 harg3 arg4 harg4 arg5 harg5 arg6 harg6 arg7 harg7 arg8 harg8 arg9 harg9 arg10 harg10 arg11 harg11 arg12 harg12 x I _ _ f10 f11 f12 _ _ _
        (run_odd c i arg2 harg2 arg3 harg3 arg4 harg4 arg5 harg5 arg6 harg6 arg7 harg7 arg8 harg8 arg9 harg9 arg10 harg10 arg11 harg11 arg12 harg12 x.q x.qT x.k x.v x.o x.d x.dT x.a H1 H2 f10 f11 f12).2.2.2 ?_ Q
      have hv := odd_value c i arg2 harg2 arg3 harg3 arg4 harg4 arg5 harg5 arg6 harg6 arg7 harg7 arg8 harg8 arg9 harg9 arg10 harg10 arg11 harg11 arg12 harg12 x I hI H1 H2 f10 f11 f12
      rw [e11, e12] at hv; exact hv
    · by_cases H1 : Scalar.cmpi .ne (Scalar.extui (Scalar.cmpi .eq (BitVec.ofNat 32 (i 1).val) 0#32)) 0#32 = 1#1
      · obtain ⟨rfl, rfl⟩ := h0 (by have := first_zero i H1; omega)
        exact sound_of_run c i arg2 harg2 arg3 harg3 arg4 harg4 arg5 harg5 arg6 harg6 arg7 harg7 arg8 harg8 arg9 harg9 arg10 harg10 arg11 harg11 arg12 harg12 x I _ _ f10 f11 f12 _ _ _
          (run_first c i arg2 harg2 arg3 harg3 arg4 harg4 arg5 harg5 arg6 harg6 arg7 harg7 arg8 harg8 arg9 harg9 arg10 harg10 arg11 harg11 arg12 harg12 x.q x.qT x.k x.v x.o x.d x.dT x.a H1 H2 f10 f11 f12).2.2.2
          (first_value c i arg2 harg2 arg3 harg3 arg4 harg4 arg5 harg5 arg6 harg6 arg7 harg7 arg8 harg8 arg9 harg9 arg10 harg10 arg11 harg11 arg12 harg12 x I hI H1 H2 f10 f11 f12) Q
      · obtain ⟨rfl, rfl⟩ := h1 (by have := mt (zero_first i) H1; omega)
        refine sound_of_run c i arg2 harg2 arg3 harg3 arg4 harg4 arg5 harg5 arg6 harg6 arg7 harg7 arg8 harg8 arg9 harg9 arg10 harg10 arg11 harg11 arg12 harg12 x I _ _ f10 f11 f12 _ _ _
          (run_even c i arg2 harg2 arg3 harg3 arg4 harg4 arg5 harg5 arg6 harg6 arg7 harg7 arg8 harg8 arg9 harg9 arg10 harg10 arg11 harg11 arg12 harg12 x.q x.qT x.k x.v x.o x.d x.dT x.a H1 H2 f10 f11 f12).2.2.2 ?_ Q
        have hv := even_value c i arg2 harg2 arg3 harg3 arg4 harg4 arg5 harg5 arg6 harg6 arg7 harg7 arg8 harg8 arg9 harg9 arg10 harg10 arg11 harg11 arg12 harg12 x I hI H1 H2 f10 f11 f12
        rw [e11, e12] at hv; exact hv
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  iapply (key f10 f11 f12 hf11 hf12)
  unfold BodyHeld owns
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hk

end

end Cert.SbBwd
-- ==== Proof.Data.lean ====
/- The pipeline's proof data, the body at a generic point, and the run of the whole program. -/
module

public import proofs.«01_k».proof.Proof.Body
public import Idealize.ShloMosaic.Lib.Claim

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The row block of a point. -/
def rowAt (t : Fin cfg0.N) : Fin 16 := ⟨t.val % 16, Nat.mod_lt _ (by decide)⟩

theorem rowAt_eq : ∀ t : Fin grid0.N, t.val % 16 = (grid0.coords t 1).val := by decide +kernel
theorem headAt_eq : ∀ t : Fin grid0.N, t.val / 16 = (grid0.coords t 0).val := by decide +kernel

/-- The blocks a point reads. -/
def blocksAt (c : Dev nD) (t : Fin cfg0.N) : Blocks F where
  q := iblk m c 0 t
  qT := iblk m c 1 t
  k := iblk m c 2 t
  v := iblk m c 3 t
  o := iblk m c 4 t
  d := iblk m c 5 t
  dT := iblk m c 6 t
  a := iblk m c 7 t

/-- The accumulators before the `n`-th point: cleared at a head's start. -/
def accs (c : Dev nD) : ℕ → Vec F S1x64x8192 .f32 × Vec F S1x64x8192 .f32
  | 0 => (acc0, acc0)
  | n + 1 => if (n + 1) % 16 = 0 then (acc0, acc0) else if h : n < cfg0.N then
      ((blockOut (blocksAt m c ⟨n, h⟩) (rowAt ⟨n, h⟩) (accs c n).1 (accs c n).2).K, (blockOut (blocksAt m c ⟨n, h⟩) (rowAt ⟨n, h⟩) (accs c n).1 (accs c n).2).V)
    else (acc0, acc0)

/-- The state a point ends with. -/
def outAt (c : Dev nD) (t : Fin cfg0.N) : State F := blockOut (blocksAt m c t) (rowAt t) (accs m c t.val).1 (accs m c t.val).2

theorem accs_reset (c : Dev nD) (n : ℕ) (h : n % 16 = 0) : accs m c n = (acc0, acc0) := by
  cases n with
  | zero => rfl
  | succ n => rw [accs, if_pos h]

theorem accs_next (c : Dev nD) (t : Fin cfg0.N) (ht : t.val % 16 ≠ 0) :
    accs m c t.val = ((outAt m c ⟨t.val - 1, Nat.lt_of_le_of_lt (Nat.sub_le _ _) t.isLt⟩).K, (outAt m c ⟨t.val - 1, Nat.lt_of_le_of_lt (Nat.sub_le _ _) t.isLt⟩).V) := by
  obtain ⟨n, hn⟩ := t
  cases n with
  | zero => exact absurd rfl ht
  | succ n =>
    have h : n < cfg0.N := Nat.lt_of_succ_lt hn
    show accs m c (n + 1) = _
    rw [accs, if_neg ht, dif_pos h]; rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowsOut (fun r => ((outAt m c t).c r).dq)
    | ⟨9, _⟩ => (outAt m c t).K
    | ⟨10, _⟩ => (outAt m c t).V
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = rowsOut (fun r => ((outAt m c t).c r).dq) := by dsimp only [dats]
theorem after_9 (c : Dev nD) (t : Fin cfg0.N) : (dats m 0 c).after 9 t = (outAt m c t).K := by dsimp only [dats]
theorem after_10 (c : Dev nD) (t : Fin cfg0.N) : (dats m 0 c).after 10 t = (outAt m c t).V := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Within a head the accumulator holds what the point before left. -/
theorem before_9 (c : Dev nD) (t : Fin cfg0.N) (ht : t.val % 16 ≠ 0) (d) : (dats m 0 c).before 9 t d = (accs m c t.val).1 := by
  have hfl : (cfg0.win 9).flush ⟨t.val - 1, Nat.lt_of_le_of_lt (Nat.sub_le _ _) t.isLt⟩ = false := by
    rw [Bool.eq_false_iff]; intro h
    have := (flush0_9 _).mp h
    dsimp only at this; omega
  rw [(dats m 0 c).before_out_kept 9 rfl t (by omega) hfl (fun _ => rfl) (fun _ _ => rfl) d, after_9, accs_next m c t ht]

/-- Within a head the accumulator holds what the point before left. -/
theorem before_10 (c : Dev nD) (t : Fin cfg0.N) (ht : t.val % 16 ≠ 0) (d) : (dats m 0 c).before 10 t d = (accs m c t.val).2 := by
  have hfl : (cfg0.win 10).flush ⟨t.val - 1, Nat.lt_of_le_of_lt (Nat.sub_le _ _) t.isLt⟩ = false := by
    rw [Bool.eq_false_iff]; intro h
    have := (flush0_10 _).mp h
    dsimp only at this; omega
  rw [(dats m 0 c).before_out_kept 10 rfl t (by omega) hfl (fun _ => rfl) (fun _ _ => rfl) d, after_10, accs_next m c t ht]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _  (blocksAt m c t) (rowAt t) (rowAt_eq t) (accs m c t.val).1 (accs m c t.val).2
    ((dats m 0 c).before 8 t d8) ((dats m 0 c).before 9 t d9) ((dats m 0 c).before 10 t d10)
    (fun h => by rw [accs_reset m c t.val h]; exact ⟨rfl, rfl⟩)
    (fun h => ⟨(before_9 m c t h d9).symm, (before_10 m c t h d10).symm⟩) _)
  isplitr [HΦ Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN of the program, every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (frame_of m ρ (dats m) (A_eq m) (run_main m ρ)) ((θ_run defs _ _).mono (fun _ h => h.2) (run_main_quiescent m ρ))

end Cert.SbBwd
-- ==== Proof.Frames.lean ====
/- The frames of the kernel, its idealization and the reference, and what the named constant is. -/
module

public import proofs.«01_k».proof.Defs
public import proofs.«01_k».proof.Proof.Data
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.SbBwd

open Idealize.ShloMosaic Idealize.ShloMosaic.TcCoe Idealize.SL.Sem

/-- A named constant as the bits it is printed with. -/
abbrev namedBits : Named Bits := ⟨fun _ _ _ bits => Scalar.ofBits _ bits⟩

set_option maxHeartbeats 4000000 in
/-- The two bodies are one text where the named constant is read as its bits. -/
theorem body_eq : letI := namedBits
    Cert.Kernel.cc0_sb_bwd (F := Bits) = Cert.KernelIdeal.cc0_sb_bwd (F := Bits) := rfl

set_option maxHeartbeats 8000000 in
theorem defs₀_eq : letI := namedBits
    Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

set_option maxHeartbeats 8000000 in
theorem defs_eq : letI := namedBits
    Cert.Kernel.defs (F := Bits) = Cert.KernelIdeal.defs (F := Bits) := by
  unfold Cert.Kernel.defs Cert.KernelIdeal.defs
  exact congrArg (fun d => Pipeline.defs (Cert.Kernel.pcfgs (F := Bits)) d) defs₀_eq

set_option maxHeartbeats 4000000 in
theorem main_eq : letI := namedBits
    Cert.Kernel.main (F := Bits) = Cert.KernelIdeal.main (F := Bits) := rfl

set_option maxHeartbeats 8000000 in
theorem frame_kernel : Cert.quiescent_Kernel := fun m ρ _ => by
  letI := namedBits
  rw [defs_eq, main_eq]
  exact frame_all (F := Bits) m ρ

theorem frame_kernelIdeal : Cert.quiescent_KernelIdeal := fun m ρ _ => frame_all (F := Ideal) m ρ

theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩) (Cert.ReferenceIdeal.Value.run m ρ)

theorem preserves : Cert.preserves_Kernel_KernelIdeal :=
  IdealRules.named_const.statement Cert.KernelIdeal.κ "log2_e" .f32 0x3FB8AA3B#32 (((Real.log 2)⁻¹ : ℝ) : EReal) rfl

end Cert.SbBwd
-- ==== Proof.Reals.lean ====
/- The gradient of the stick-breaking attention of one head, over the reals. -/
module

public import Idealize.ShloMosaic.Lib.Pointwise
public import Mathlib.Analysis.SpecialFunctions.Pow.Real

@[expose] public section

noncomputable section

namespace Cert.SbBwd

open Finset

/-- The logarithm of the sigmoid to base 2, of a score to base 2. -/
def sp (z : ℝ) : ℝ := min z 0 - Real.log (1 + (2 : ℝ) ^ (-|z|)) * (Real.log 2)⁻¹

theorem log_two_pos : 0 < Real.log 2 := Real.log_pos (by norm_num)

theorem two_pow_eq (x : ℝ) : (2 : ℝ) ^ x = Real.exp (Real.log 2 * x) := Real.rpow_def_of_pos (by norm_num) x

theorem one_add_pow_pos (z : ℝ) : 0 < 1 + (2 : ℝ) ^ z := by positivity

/-- The two probabilities of a score add up to one. -/
theorem sp_sum (z : ℝ) : (2 : ℝ) ^ sp z + (2 : ℝ) ^ (sp z - z) = 1 := by
  have h2 : (0 : ℝ) < 2 := by norm_num
  have hl : (2 : ℝ) ^ (Real.log (1 + (2 : ℝ) ^ (-|z|)) * (Real.log 2)⁻¹) = 1 + (2 : ℝ) ^ (-|z|) := by
    rw [two_pow_eq, show Real.log 2 * (Real.log (1 + (2 : ℝ) ^ (-|z|)) * (Real.log 2)⁻¹) = Real.log (1 + (2 : ℝ) ^ (-|z|)) from by
      field_simp [log_two_pos.ne'], Real.exp_log (one_add_pow_pos _)]
  have hne := (one_add_pow_pos (-|z|)).ne'
  unfold sp
  rcases le_total 0 z with h | h
  · rw [min_eq_right h, Real.rpow_sub h2, Real.rpow_sub h2, Real.rpow_sub h2, hl, Real.rpow_zero]
    rw [abs_of_nonneg h] at hne ⊢
    rw [Real.rpow_neg h2.le] at hne ⊢
    have := (Real.rpow_pos_of_pos h2 z).ne'
    field_simp
  · rw [min_eq_left h, show z - Real.log (1 + (2 : ℝ) ^ (-|z|)) * (Real.log 2)⁻¹ - z = 0 - Real.log (1 + (2 : ℝ) ^ (-|z|)) * (Real.log 2)⁻¹ from by ring,
      Real.rpow_sub h2, Real.rpow_sub h2, hl, Real.rpow_zero]
    rw [abs_of_nonpos h, neg_neg] at hne ⊢
    field_simp
    ring

/-- One head: queries, keys, values and the gradient of the outputs. -/
structure Head where
  q : ℕ → Fin 64 → ℝ
  k : ℕ → Fin 64 → ℝ
  v : ℕ → Fin 64 → ℝ
  d : ℕ → Fin 64 → ℝ

namespace Head
variable (H : Head)

/-- The score of key `s` for query `t`, to base 2. -/
def z (t s : ℕ) : ℝ := ∑ e, H.q t e * H.k s e

/-- The gradient of the weight. -/
def dw (t s : ℕ) : ℝ := ∑ e, H.d t e * H.v s e

/-- The logarithm of the probability to pass key `s` by. -/
def lk (t s : ℕ) : ℝ := if s < t then sp (H.z t s) - H.z t s else 0

/-- The weight. -/
def wt (t s : ℕ) : ℝ := if s < t then (2 : ℝ) ^ (sp (H.z t s) + ∑ s' ∈ Ico (s + 1) 8192, H.lk t s') else 0

/-- The weight times its gradient. -/
def gr (t s : ℕ) : ℝ := H.wt t s * H.dw t s

/-- The gradient of the score, to base 2 and divided by ln 2. -/
def dz (t s : ℕ) : ℝ := if s < t then H.gr t s - (2 : ℝ) ^ sp (H.z t s) * ∑ s' ∈ Ico 0 (s + 1), H.gr t s' else 0

/-- The output. -/
def o (t : ℕ) (e : Fin 64) : ℝ := ∑ s ∈ Ico 0 8192, H.wt t s * H.v s e

theorem lk_zero {t s : ℕ} (h : t ≤ s) : H.lk t s = 0 := if_neg (by omega)
theorem wt_zero {t s : ℕ} (h : t ≤ s) : H.wt t s = 0 := if_neg (by omega)
theorem gr_zero {t s : ℕ} (h : t ≤ s) : H.gr t s = 0 := by rw [gr, wt_zero H h, zero_mul]
theorem dz_zero {t s : ℕ} (h : t ≤ s) : H.dz t s = 0 := if_neg (by omega)

/-- The output times its gradient is the sum of the weights times theirs. -/
theorem sum_gr (t : ℕ) : ∑ e, H.o t e * H.d t e = ∑ s ∈ Ico 0 8192, H.gr t s := by
  simp only [o, gr, dw, Finset.sum_mul, Finset.mul_sum]
  rw [Finset.sum_comm]
  exact Finset.sum_congr rfl fun s _ => Finset.sum_congr rfl fun e _ => by ring

/-- The score's gradient with the key's own term taken apart. -/
theorem dz_eq (t s : ℕ) (h : s < t) :
    H.dz t s = H.gr t s * (2 : ℝ) ^ (sp (H.z t s) - H.z t s) - (2 : ℝ) ^ sp (H.z t s) * ∑ s' ∈ Ico 0 s, H.gr t s' := by
  rw [dz, if_pos h, Finset.sum_Ico_succ_top (Nat.zero_le s)]
  have := sp_sum (H.z t s)
  rw [show (2 : ℝ) ^ (sp (H.z t s) - H.z t s) = 1 - (2 : ℝ) ^ sp (H.z t s) from by linarith]
  ring

end Head

/-- A sum over a row's places, as a sum over an interval. -/
theorem sum_fin (n c : ℕ) (F : ℕ → ℝ) : ∑ j : Fin n, F (c + j.val) = ∑ s ∈ Ico c (c + n), F s := by
  rw [Finset.sum_Ico_eq_sum_range, Nat.add_sub_cancel_left, ← Fin.sum_univ_eq_sum_range (fun j => F (c + j)) n]

/-- A sum over the places right of one, as a sum over an interval. -/
theorem sum_right (n c : ℕ) (F : ℕ → ℝ) (i : Fin n) :
    ∑ j : Fin n, (if i.val < j.val then F (c + j.val) else 0) = ∑ s ∈ Ico (c + i.val + 1) (c + n), F s := by
  have h := sum_fin n c (fun s => if c + i.val < s then F s else 0)
  simp only [Nat.add_lt_add_iff_left] at h
  rw [h, ← Finset.sum_filter]
  refine Finset.sum_congr ?_ fun _ _ => rfl
  ext s
  simp only [Finset.mem_filter, Finset.mem_Ico]
  omega

end Cert.SbBwd
-- ==== Proof.TileReal.lean ====
/- One tile at real inputs, over the extended reals: every operation of it on arrays of reals. -/
module

public import proofs.«01_k».proof.Proof.Block
public import proofs.«01_k».proof.Proof.Reals

@[expose] public section

set_option maxRecDepth 16384

noncomputable section

namespace Cert.SbBwd

open Cert.KernelIdeal Cert.KernelIdeal.Gen
open Idealize.ShloMosaic Idealize.ShloMosaic.TcCoe

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem named_log2_e : (Named.named (F := Ideal) κ "log2_e" (φ := .f32) 0x3FB8AA3B#32 : EReal) = (((Real.log 2)⁻¹ : ℝ) : EReal) :=
  IdealRules.named_const.ideal_named_scalar _ _ _ _ rfl

/-- A two-axis array of reals. -/
def up {m n : ℕ} {φ : FTy} (f : Fin m → Fin n → ℝ) : FVec Ideal ⟨2, ![m, n]⟩ φ := fun i => ((f (i 0) (i 1) : ℝ) : EReal)

theorem up_at {m n : ℕ} {φ : FTy} (f : Fin m → Fin n → ℝ) (a : Fin m) (b : Fin n) : up (φ := φ) f (ix2 a b) = ((f a b : ℝ) : EReal) := rfl

theorem eq_up {m n : ℕ} {φ : FTy} (x : FVec Ideal ⟨2, ![m, n]⟩ φ) (f : Fin m → Fin n → ℝ) (h : ∀ a b, x (ix2 a b) = ((f a b : ℝ) : EReal)) : x = up f := by
  funext i
  rw [eq_ix2 i]
  exact h _ _

/-- The masked places of a tile at rows from `t0` and keys from `c0`: a key counts before its row. -/
def Seen (o : Option (IVec S128x512 1)) (t0 c0 : ℕ) : Prop :=
  match o with
  | none => c0 + 512 ≤ t0
  | some m => ∀ (r : Fin 128) (j : Fin 512), m (ix2 r j) = if c0 + j.val < t0 + r.val then 1#1 else 0#1

theorem keep_up (o : Option (IVec S128x512 1)) (t0 c0 : ℕ) (h : Seen o t0 c0) (x : Fin 128 → Fin 512 → ℝ) :
    keep (F := Ideal) o (up x) = up fun r j => if c0 + j.val < t0 + r.val then x r j else 0 := by
  refine eq_up _ _ fun r j => ?_
  cases o with
  | none =>
    have h' : c0 + 512 ≤ t0 := h
    rw [if_pos (by omega)]; rfl
  | some m =>
    pointwise [keep, up_at]
    rw [h r j]
    by_cases hc : c0 + j.val < t0 + r.val
    · rw [if_pos hc, if_pos hc]; rfl
    · rw [if_neg hc, if_neg hc]; exact EReal.coe_zero.symm

/-- The product of rows with the rows of a group. -/
theorem scores_up (q : Fin 128 → Fin 64 → ℝ) (kg : Vec Ideal S1x512x64 .bf16) (k : Fin 512 → Fin 64 → ℝ) (hk : ∀ j e, kg (ix3 0 j e) = ((k j e : ℝ) : EReal)) :
    scores (F := Ideal) (up q) kg = up fun r j => ∑ e, q r e * k j e := by
  refine eq_up _ _ fun r j => ?_
  pointwise [scores, hk, up_at]
  simp only [← EReal.coe_mul, coe_sum]

theorem logBeta_scalar (z : ℝ) :
    min ((z : ℝ) : EReal) 0 - Ideal.log (1 + Ideal.exp2 (0 - max ((z : ℝ) : EReal) (-((z : ℝ) : EReal)))) * (((Real.log 2)⁻¹ : ℝ) : EReal) = ((sp z : ℝ) : EReal) := by
  have e : max ((z : ℝ) : EReal) (-((z : ℝ) : EReal)) = ((|z| : ℝ) : EReal) := by
    rw [← EReal.coe_neg]; exact (EReal.coe_strictMono.monotone.map_max).symm
  rw [e, ← EReal.coe_zero, ← EReal.coe_sub, zero_sub, Ideal.exp2_coe, ← EReal.coe_one, ← EReal.coe_add, Ideal.log_coe,
    if_neg (show ¬ (1 + Real.rpow 2 (-|z|) ≤ 0) from not_le.mpr (one_add_pow_pos _)), ← EReal.coe_mul,
    ← EReal.coe_strictMono.monotone.map_min, ← EReal.coe_sub]
  rfl

theorem logBeta_up (z : Fin 128 → Fin 512 → ℝ) : logBeta (F := Ideal) (up z) = up fun r j => sp (z r j) := by
  refine eq_up _ _ fun r j => ?_
  pointwise [logBeta, up_at, named_log2_e]
  exact logBeta_scalar (z r j)

theorem halves (f : Fin 512 → ℝ) : ∑ j, f j = (∑ j : Fin 256, f ⟨j.val, by omega⟩) + ∑ j : Fin 256, f ⟨256 + j.val, by omega⟩ := by
  exact Fin.sum_univ_add (a := 256) (b := 256) f

theorem sumHi_up (x : Fin 128 → Fin 512 → ℝ) : sumHi (F := Ideal) (up x) = up fun r (_ : Fin 1) => ∑ j : Fin 256, x r ⟨256 + j.val, by omega⟩ := by
  refine eq_up _ _ fun r j => ?_
  pointwise [sumHi, up_at]
  exact coe_sum _ _

theorem rowSum_up (x : Fin 128 → Fin 512 → ℝ) : rowSum (F := Ideal) (up x) = up fun r (_ : Fin 1) => ∑ j, x r j := by
  refine eq_up _ _ fun r j => ?_
  pointwise [rowSum, sumHi, sumLo, up_at]
  rw [coe_sum, coe_sum, ← EReal.coe_add, halves, add_comm]

theorem suffix_up (x : Fin 128 → Fin 512 → ℝ) (a : Vec Ideal S512x256 .bf16)
    (ha : ∀ i j, a (ix2 i j) = (((if j.val < i.val % 256 then 1 else 0 : ℝ)) : EReal)) :
    suffix (F := Ideal) (up x) a = up fun r j => ∑ j', if j.val < j'.val then x r j' else 0 := by
  refine eq_up _ _ fun r j => ?_
  have hm : ∀ i : Fin 256, (i.val % 256) = i.val := fun i => Nat.mod_eq_of_lt i.isLt
  pointwise [suffix, halfSums, splitRows, sumHi, up_at, ha]
  simp only [← EReal.coe_mul, ← EReal.coe_sub, sub_self, zero_mul, coe_sum, Finset.sum_const_zero, ← EReal.coe_add, add_zero, hm]
  by_cases h : j.val < 256
  · rw [dif_pos h]
    refine congrArg _ ?_
    rw [halves]
    refine congrArg₂ (· + ·) (Finset.sum_congr rfl fun i _ => ?_) (Finset.sum_congr rfl fun i _ => ?_)
    · rw [mul_ite, mul_one, mul_zero]
    · rw [if_pos (by show j.val < 256 + i.val; omega)]
  · rw [dif_neg h]
    refine congrArg _ ?_
    rw [halves, Finset.sum_eq_zero (fun i _ => if_neg (by show ¬ j.val < i.val; omega)), zero_add]
    refine Finset.sum_congr rfl fun i _ => ?_
    rw [mul_ite, mul_one, mul_zero]
    have := i.isLt
    by_cases hc : j.val - 256 < i.val
    · rw [if_pos hc, if_pos (by show j.val < 256 + i.val; omega)]
    · rw [if_neg hc, if_neg (by show ¬ j.val < 256 + i.val; omega)]

section
variable (H : Head) (t0 c0 : ℕ)

/-- The rows of one tile are a head's rows from `t0`. -/
structure RowIs (r : Row Ideal) : Prop where
  q : r.q = up fun ρ e => H.q (t0 + ρ.val) e
  qT : r.qT = up fun e ρ => H.q (t0 + ρ.val) e
  d : r.d = up fun ρ e => H.d (t0 + ρ.val) e
  dT : r.dT = up fun e ρ => H.d (t0 + ρ.val) e
  D : r.D = up fun ρ (_ : Fin 1) => ∑ s ∈ Finset.Ico 0 8192, H.gr (t0 + ρ.val) s

/-- What is carried when the keys from `b` on are done. -/
structure CarryIs (b : ℕ) (s : Carry Ideal) : Prop where
  R : s.R = up fun ρ (_ : Fin 1) => ∑ j ∈ Finset.Ico b 8192, H.lk (t0 + ρ.val) j
  G : s.G = up fun ρ (_ : Fin 1) => ∑ j ∈ Finset.Ico b 8192, H.gr (t0 + ρ.val) j
  dq : s.dq = up fun ρ e => ∑ j ∈ Finset.Ico b 8192, H.dz (t0 + ρ.val) j * H.k j e

variable (o : Option (IVec S128x512 1)) (r : Row Ideal) (kg vg : Vec Ideal S1x512x64 .bf16) (a : Vec Ideal S512x256 .bf16) (s : Carry Ideal)
  (ho : Seen o t0 c0) (hr : RowIs H t0 r) (hk : ∀ j e, kg (ix3 0 j e) = ((H.k (c0 + j.val) e : ℝ) : EReal))
  (hv : ∀ j e, vg (ix3 0 j e) = ((H.v (c0 + j.val) e : ℝ) : EReal))
  (ha : ∀ i j, a (ix2 i j) = (((if j.val < i.val % 256 then 1 else 0 : ℝ)) : EReal))
  (hc : c0 + 512 ≤ 8192) (hs : CarryIs H t0 (c0 + 512) s)

theorem split_right (F : ℕ → ℝ) (j : Fin 512) (hc : c0 + 512 ≤ 8192) :
    (∑ j' : Fin 512, if j.val < j'.val then F (c0 + j'.val) else 0) + ∑ s ∈ Finset.Ico (c0 + 512) 8192, F s
      = ∑ s ∈ Finset.Ico (c0 + j.val + 1) 8192, F s := by
  rw [sum_right]
  exact Finset.sum_Ico_consecutive F (by have := j.isLt; omega) hc

include hr hk in
theorem scores_tile : scores (F := Ideal) r.q kg = up fun ρ j => H.z (t0 + ρ.val) (c0 + j.val) := by
  rw [hr.q, scores_up _ _ (fun j e => H.k (c0 + j.val) e) hk]; rfl

include ho hr hk in
theorem logKeep_tile : logKeep (F := Ideal) o (scores r.q kg) = up fun ρ j => H.lk (t0 + ρ.val) (c0 + j.val) := by
  rw [scores_tile H t0 c0 r kg hr hk, logKeep, logBeta_up]
  rw [show subf (F := Ideal) (up (φ := .f32) fun (ρ : Fin 128) (j : Fin 512) => sp (H.z (t0 + ρ.val) (c0 + j.val))) (up fun ρ j => H.z (t0 + ρ.val) (c0 + j.val))
    = up fun ρ j => sp (H.z (t0 + ρ.val) (c0 + j.val)) - H.z (t0 + ρ.val) (c0 + j.val) from rfl, keep_up o t0 c0 ho]
  rfl

include ho hr hk ha hc hs in
theorem tileW_eq : tileW o r kg a s = up fun ρ j => H.wt (t0 + ρ.val) (c0 + j.val) := by
  rw [tileW, weights, logKeep_tile H t0 c0 o r kg ho hr hk, suffix_up _ a ha, scores_tile H t0 c0 r kg hr hk, logBeta_up, hs.R]
  rw [show exp2 (F := Ideal) (addf (addf (up (φ := .f32) fun (ρ : Fin 128) (j : Fin 512) => sp (H.z (t0 + ρ.val) (c0 + j.val)))
      (up fun ρ j => ∑ j' : Fin 512, if j.val < j'.val then H.lk (t0 + ρ.val) (c0 + j'.val) else 0))
      (broadcastTo S128x512 (up (φ := .f32) fun ρ (_ : Fin 1) => ∑ j ∈ Finset.Ico (c0 + 512) 8192, H.lk (t0 + ρ.val) j) broadcasts_S128x1_S128x512 : FVec Ideal S128x512 .f32))
    = up fun ρ j => (2 : ℝ) ^ (sp (H.z (t0 + ρ.val) (c0 + j.val)) + ∑ s' ∈ Finset.Ico (c0 + j.val + 1) 8192, H.lk (t0 + ρ.val) s') from by
      refine eq_up _ _ fun ρ j => ?_
      pointwise [up_at]
      rw [← EReal.coe_add, ← EReal.coe_add, add_assoc, split_right c0 _ j hc]
      rfl, keep_up o t0 c0 ho]
  rfl

include ho hr hk hv ha hc hs in
theorem tileG_eq : tileG o r kg vg a s = up fun ρ j => H.gr (t0 + ρ.val) (c0 + j.val) := by
  rw [tileG, tileW_eq H t0 c0 o r kg a s ho hr hk ha hc hs, wGrad, hr.d, scores_up _ _ (fun j e => H.v (c0 + j.val) e) hv]
  rfl

include ho hr hk hv ha hc hs in
theorem tileZ_eq : tileZ o r kg vg a s = up fun ρ j => H.dz (t0 + ρ.val) (c0 + j.val) := by
  rw [tileZ, tileG_eq H t0 c0 o r kg vg a s ho hr hk hv ha hc hs, zGrad, suffix_up _ a ha, scores_tile H t0 c0 r kg hr hk, logBeta_up, hs.G, hr.D]
  rw [show subf (F := Ideal) (up (φ := .f32) fun (ρ : Fin 128) (j : Fin 512) => H.gr (t0 + ρ.val) (c0 + j.val))
      (mulf (exp2 (up (φ := .f32) fun ρ j => sp (H.z (t0 + ρ.val) (c0 + j.val))))
        (subf (broadcastTo S128x512 (subf (up (φ := .f32) fun ρ (_ : Fin 1) => ∑ s ∈ Finset.Ico 0 8192, H.gr (t0 + ρ.val) s)
            (up fun ρ (_ : Fin 1) => ∑ j ∈ Finset.Ico (c0 + 512) 8192, H.gr (t0 + ρ.val) j)) broadcasts_S128x1_S128x512 : FVec Ideal S128x512 .f32)
          (up fun ρ j => ∑ j' : Fin 512, if j.val < j'.val then H.gr (t0 + ρ.val) (c0 + j'.val) else 0)))
    = up fun ρ j => H.gr (t0 + ρ.val) (c0 + j.val) - (2 : ℝ) ^ sp (H.z (t0 + ρ.val) (c0 + j.val)) * ∑ s' ∈ Finset.Ico 0 (c0 + j.val + 1), H.gr (t0 + ρ.val) s' from by
      refine eq_up _ _ fun ρ j => ?_
      pointwise [up_at]
      have e := split_right c0 (H.gr (t0 + ρ.val)) j hc
      have e' := Finset.sum_Ico_consecutive (H.gr (t0 + ρ.val)) (Nat.zero_le (c0 + j.val + 1)) (by have := j.isLt; omega : c0 + j.val + 1 ≤ 8192)
      rw [show (∑ s ∈ Finset.Ico 0 (c0 + j.val + 1), H.gr (t0 + ρ.val) s)
        = (∑ s ∈ Finset.Ico 0 8192, H.gr (t0 + ρ.val) s) - (∑ j ∈ Finset.Ico (c0 + 512) 8192, H.gr (t0 + ρ.val) j)
          - ∑ j' : Fin 512, if j.val < j'.val then H.gr (t0 + ρ.val) (c0 + j'.val) else 0 from by linarith]
      rw [EReal.coe_sub, EReal.coe_mul, EReal.coe_sub, EReal.coe_sub]
      rfl, keep_up o t0 c0 ho]
  rfl

include ho hr hk hv ha hc hs in
/-- What a tile hands on, with its group's keys done. -/
theorem tileNext_is : CarryIs H t0 c0 (tileNext o r kg vg a s) where
  R := by
    show addf s.R (rowSum (logKeep o (scores r.q kg))) = _
    rw [logKeep_tile H t0 c0 o r kg ho hr hk, rowSum_up, hs.R]
    refine eq_up _ _ fun ρ j => ?_
    pointwise [up_at]
    rw [← EReal.coe_add, add_comm, sum_fin, Finset.sum_Ico_consecutive _ (by omega) hc]
  G := by
    show addf s.G (rowSum (tileG o r kg vg a s)) = _
    rw [tileG_eq H t0 c0 o r kg vg a s ho hr hk hv ha hc hs, rowSum_up, hs.G]
    refine eq_up _ _ fun ρ j => ?_
    pointwise [up_at]
    rw [← EReal.coe_add, add_comm, sum_fin, Finset.sum_Ico_consecutive _ (by omega) hc]
  dq := by
    show addf s.dq _ = _
    rw [tileZ_eq H t0 c0 o r kg vg a s ho hr hk hv ha hc hs, hs.dq]
    refine eq_up _ _ fun ρ e => ?_
    pointwise [up_at, hk]
    simp only [← EReal.coe_mul, coe_sum]
    rw [← EReal.coe_add, add_comm, sum_fin 512 c0 (fun j => H.dz (t0 + ρ.val) j * H.k j e), Finset.sum_Ico_consecutive _ (by omega) hc]

include ho hr hk ha hc hs in
theorem tileV_eq (e : Fin 64) (j : Fin 512) :
    tileV o r kg a s (ix2 e j) = ((∑ t ∈ Finset.Ico t0 (t0 + 128), H.d t e * H.wt t (c0 + j.val) : ℝ) : EReal) := by
  rw [tileV, tileW_eq H t0 c0 o r kg a s ho hr hk ha hc hs, hr.dT]
  pointwise [up_at]
  simp only [← EReal.coe_mul, coe_sum]
  rw [sum_fin 128 t0 (fun t => H.d t e * H.wt t (c0 + j.val))]

include ho hr hk hv ha hc hs in
theorem tileK_eq (e : Fin 64) (j : Fin 512) :
    tileK o r kg vg a s (ix2 e j) = ((∑ t ∈ Finset.Ico t0 (t0 + 128), H.q t e * H.dz t (c0 + j.val) : ℝ) : EReal) := by
  rw [tileK, tileZ_eq H t0 c0 o r kg vg a s ho hr hk hv ha hc hs, hr.qT]
  pointwise [up_at]
  simp only [← EReal.coe_mul, coe_sum]
  rw [sum_fin 128 t0 (fun t => H.q t e * H.dz t (c0 + j.val))]

end

end Cert.SbBwd
-- ==== Proof.RefTerm.lean ====
/- The reference's results, and the kernel's saved output, in named stages. -/
module

public import proofs.«01_k».proof.Proof.Gen.ReferenceIdeal.Run
public import proofs.«01_k».proof.Proof.TileReal

@[expose] public section

set_option maxRecDepth 16384

noncomputable section

namespace Cert.SbBwd

open Cert.ReferenceIdeal Cert.ReferenceIdeal.Gen
open Idealize.ShloMosaic Idealize.ShloMosaic.TcCoe

namespace Ref

/-- An array of scores. -/
abbrev Sq := FVec Ideal S16x8192x8192 .f32
/-- An array of rows of 64. -/
abbrev Rows := FVec Ideal S16x8192x64 .f32

/-- The key comes before the query. -/
def before : IVec S16x8192x8192 1 :=
  broadcastInDim S16x8192x8192 ![1, 2] bcast_S8192x8192_S16x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0
        (addi (broadcastInDim S8192 ![] bcast_S_S8192 (constantI S_ 32 0#32)) (iotaInDim S8192 32 0)))))

def zero : Sq := broadcastInDim S16x8192x8192 ![] bcast_S_S16x8192x8192 (constant S_ .f32 0x00000000#32)
def inf : Sq := broadcastInDim S16x8192x8192 ![] bcast_S_S16x8192x8192 (constant S_ .f32 0x7F800000#32)
def eighth : Sq := broadcastInDim S16x8192x8192 ![] bcast_S_S16x8192x8192 (constant S_ .f32 0x3E000000#32)
def ln2 : FVec Ideal S_ .f32 := Host.log (constant S_ .f32 0x40000000#32)
/-- Eight times the logarithm of two. -/
def eightLn2 : Rows := broadcastInDim S16x8192x64 ![] bcast_S_S16x8192x64 (mulf (constant S_ .f32 0x41000000#32) ln2)

/-- The products of every row of `x` with every row of `y`. -/
def pairs (x y : Rows) : Sq := Host.dotGeneral dot_S16x8192x64_S16x8192x64_S16x8192x8192_2_2_1_1_0_0 none x y

def logits (q k : Rows) : Sq := mulf (pairs (mulf q eightLn2) k) eighth

def softplus (y : Sq) : Sq :=
  select (cmpf .une (subf y zero) (subf y zero)) (addf y zero) (addf (maximumf y zero) (Host.log1p (Host.exp (Host.negf (Host.absf (subf y zero))))))

def finiteOr (y : Sq) : Sq := select (cmpf .oeq y inf) zero y

/-- The derivative of `softplus`. -/
def gate (y : Sq) : Sq := Host.exp (subf (finiteOr y) (finiteOr (softplus y)))

/-- The logarithm of the sigmoid of `x`. -/
def logSigmoid (x : Sq) : Sq := Host.negf (softplus (Host.negf x))

def keep (x : Sq) : Sq := select before x zero

/-- The logarithm of the probability to pass a key by. -/
def logKeep (x : Sq) : Sq := keep (logSigmoid (Host.negf x))

def toRight (x : Sq) : Sq :=
  Host.reduceWindowAdd ![1, 1, 8192] ![1, 1, 1] ![0, 0, 0] ![0, 0, 8191] x (broadcastInDim S_ ![] bcast_S_S_ (constant S_ .f32 0x00000000#32))
    reduceWindows_S16x8192x8192_S16x8192x8192_w1s1p0_0_w1s1p0_0_w8192s1p0_8191 h_S_

def toLeft (x : Sq) : Sq :=
  Host.reduceWindowAdd ![1, 1, 8192] ![1, 1, 1] ![0, 0, 8191] ![0, 0, 0] x (broadcastInDim S_ ![] bcast_S_S_ (constant S_ .f32 0x00000000#32))
    reduceWindows_S16x8192x8192_S16x8192x8192_w1s1p0_0_w1s1p0_0_w8192s1p8191_0 h_S_

/-- The weight, of the logits. -/
def weight (x : Sq) : Sq := Host.exp (addf (logSigmoid x) (subf (toRight (logKeep x)) (logKeep x)))

/-- The gradient of the weight's logarithm. -/
def gradLog (v d : Rows) (x : Sq) : Sq := mulf (keep (pairs d v)) (weight x)

/-- The gradient of the scores. -/
def gradScore (x g : Sq) : Sq :=
  mulf (addf (Host.negf (Host.negf (mulf (Host.negf (keep (addf (Host.negf g) (toLeft g)))) (gate (Host.negf (Host.negf x))))))
    (Host.negf (mulf (Host.negf g) (gate (Host.negf x))))) eighth

def dq (k : Rows) (s : Sq) : Rows :=
  Host.divf (mulf (Host.dotGeneral dot_S16x8192x8192_S16x8192x64_S16x8192x64_2_1_1_2_0_0 none s k) eightLn2)
    (broadcastInDim S16x8192x64 ![] bcast_S_S16x8192x64 ln2)

def dkT (q : Rows) (s : Sq) : FVec Ideal S16x64x8192 .f32 :=
  Host.divf (transpose S16x64x8192 [0, 2, 1] (Host.dotGeneral dot_S16x8192x8192_S16x8192x64_S16x8192x64_1_1_2_2_0_0 none s (mulf q eightLn2)) transposes_S16x8192x64_S16x64x8192_0_2_1)
    (broadcastInDim S16x64x8192 ![] bcast_S_S16x64x8192 ln2)

def dvT (d : Rows) (w : Sq) : FVec Ideal S16x64x8192 .f32 :=
  transpose S16x64x8192 [0, 2, 1] (transpose S16x8192x64 [0, 2, 1]
    (Host.dotGeneral dot_S16x8192x64_S16x8192x8192_S16x64x8192_1_1_2_2_0_0 none d (keep w)) transposes_S16x64x8192_S16x8192x64_0_2_1) transposes_S16x8192x64_S16x64x8192_0_2_1

/-- The forward's output. -/
def out (v : Rows) (w : Sq) : Rows := Host.dotGeneral dot_S16x8192x8192_S16x8192x64_S16x8192x64_2_1_1_2_0_0 none (keep w) v

def wide (x : FVec Ideal S16x8192x64 .bf16) : Rows := extf .f32 x bitsLt_bf16_f32

end Ref

open Ref

set_option maxHeartbeats 4000000 in
theorem res_dq (m : (ℓ : Loc nD τ sig) → Buf (Elt Ideal) ℓ) (c : Dev nD) :
    Value.res_main_v50 m c = dq (wide (m ((c.tc : Thread nD τ).loc main_arg1)))
      (gradScore (logits (wide (m ((c.tc : Thread nD τ).loc main_arg0))) (wide (m ((c.tc : Thread nD τ).loc main_arg1))))
        (gradLog (wide (m ((c.tc : Thread nD τ).loc main_arg2))) (m ((c.tc : Thread nD τ).loc main_arg3))
          (logits (wide (m ((c.tc : Thread nD τ).loc main_arg0))) (wide (m ((c.tc : Thread nD τ).loc main_arg1)))))) := by
  unfold Value.res_main_v50 dq gradScore gradLog Ref.gate finiteOr weight Ref.logKeep logSigmoid Ref.keep softplus toRight toLeft logits pairs eightLn2 ln2 wide zero inf eighth before
  rfl

set_option maxHeartbeats 4000000 in
theorem res_dkT (m : (ℓ : Loc nD τ sig) → Buf (Elt Ideal) ℓ) (c : Dev nD) :
    Value.res_main_v53 m c = dkT (wide (m ((c.tc : Thread nD τ).loc main_arg0)))
      (gradScore (logits (wide (m ((c.tc : Thread nD τ).loc main_arg0))) (wide (m ((c.tc : Thread nD τ).loc main_arg1))))
        (gradLog (wide (m ((c.tc : Thread nD τ).loc main_arg2))) (m ((c.tc : Thread nD τ).loc main_arg3))
          (logits (wide (m ((c.tc : Thread nD τ).loc main_arg0))) (wide (m ((c.tc : Thread nD τ).loc main_arg1)))))) := by
  unfold Value.res_main_v53 dkT gradScore gradLog Ref.gate finiteOr weight Ref.logKeep logSigmoid Ref.keep softplus toRight toLeft logits pairs eightLn2 ln2 wide zero inf eighth before
  rfl

set_option maxHeartbeats 4000000 in
theorem res_dvT (m : (ℓ : Loc nD τ sig) → Buf (Elt Ideal) ℓ) (c : Dev nD) :
    Value.res_main_v54 m c = dvT (m ((c.tc : Thread nD τ).loc main_arg3))
      (weight (logits (wide (m ((c.tc : Thread nD τ).loc main_arg0))) (wide (m ((c.tc : Thread nD τ).loc main_arg1))))) := by
  unfold Value.res_main_v54 dvT weight Ref.logKeep logSigmoid Ref.keep softplus toRight logits pairs eightLn2 ln2 wide zero eighth before
  rfl

end Cert.SbBwd
-- ==== Proof.Cumsum.lean ====
/- Sums over a sliding window as long as the array, at real values: the sums to the right and to the left of a place. -/
module

public import proofs.«01_k».proof.Proof.RefTerm

@[expose] public section

set_option maxRecDepth 16384

noncomputable section

namespace Cert.SbBwd

open Cert.ReferenceIdeal Cert.ReferenceIdeal.Gen
open Idealize.ShloMosaic Idealize.ShloMosaic.TcCoe

theorem foldl_add_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window sum as a sum over the window's places. -/
theorem window_sum {s t u : Shape} (window strides lo hi : Fin s.rank → ℕ) (h : s.ReduceWindows window strides lo hi t) (hu : 0 < u.numel)
    (x : FVec Ideal s .f32) (init : FVec Ideal u .f32) (v : EReal) (hv : ∀ i, init i = v) (j : t.Idx) :
    (Host.reduceWindowAdd window strides lo hi x init h hu : FVec Ideal t .f32) j
      = v + ∑ i : (⟨s.rank, window⟩ : Shape).Idx,
          if hin : ∀ a, lo a ≤ (j (a.cast h.1.symm)).val * strides a + (i a).val ∧ (j (a.cast h.1.symm)).val * strides a + (i a).val - lo a < s.size a
            then x fun a => ⟨(j (a.cast h.1.symm)).val * strides a + (i a).val - lo a, (hin a).2⟩ else v := by
  refine (foldl_add_sum _ _ _).trans ?_
  rw [← Fin.sum_univ_def, hv]
  refine congrArg (v + ·) ?_
  exact Fintype.sum_equiv (⟨s.rank, window⟩ : Shape).rowMajor.symm _ _ fun n => by beta_reduce; congr

/-- The places of a window along the last axis. -/
theorem sum_places (g : (⟨3, ![1, 1, 8192]⟩ : Shape).Idx → EReal) : ∑ i, g i = ∑ k : Fin 8192, g (ix3 0 0 k) := by
  refine Finset.sum_nbij' (fun i => i 2) (fun k => ix3 0 0 k) (fun _ _ => Finset.mem_univ _) (fun _ _ => Finset.mem_univ _) ?_ (fun _ _ => rfl) ?_
  · intro i _
    exact (eq_ix3 i).symm ▸ by congr 1 <;> exact Subsingleton.elim _ _
  · intro i _
    exact congrArg g ((eq_ix3 i).symm ▸ by congr 1 <;> exact Subsingleton.elim _ _)

theorem zero_word : (Ideal.ofBits .f32 0x00000000#32 : EReal) = ((0 : ℝ) : EReal) := by simp

/-- A window sum along the last axis, `l` places of padding before the row. -/
theorem window_at (x : Ref.Sq) (l : ℕ) (hi : Fin S16x8192x8192.rank → ℕ) (hw) (h : Fin 16) (t s : Fin 8192) (f : ℕ → ℝ)
    (hx : ∀ j : Fin 8192, x (ix3 h t j) = ((f j.val : ℝ) : EReal)) :
    (Host.reduceWindowAdd ![1, 1, 8192] ![1, 1, 1] ![0, 0, l] hi x (broadcastInDim S_ ![] bcast_S_S_ (constant S_ .f32 0x00000000#32)) hw h_S_ : Ref.Sq) (ix3 h t s)
      = ((∑ k : Fin 8192, (if l ≤ s.val + k.val ∧ s.val + k.val - l < 8192 then f (s.val + k.val - l) else 0) : ℝ) : EReal) := by
  rw [window_sum ![1, 1, 8192] ![1, 1, 1] ![0, 0, l] hi hw h_S_ x (broadcastInDim S_ ![] bcast_S_S_ (constant S_ .f32 0x00000000#32)) 0 (fun _ => zero_word) (ix3 h t s), zero_add, ← coe_sum]
  refine (sum_places _).trans ?_
  refine Finset.sum_congr rfl fun k _ => ?_
  by_cases hc : l ≤ s.val + k.val ∧ s.val + k.val - l < 8192
  · rw [if_pos hc, ← hx ⟨s.val + k.val - l, hc.2⟩]
    refine (dif_pos fun a => ?_).trans (congrArg x ?_)
    · match a with
      | 0 => exact ⟨Nat.zero_le _, by show h.val * 1 + 0 - 0 < 16; omega⟩
      | 1 => exact ⟨Nat.zero_le _, by show t.val * 1 + 0 - 0 < 8192; omega⟩
      | 2 => exact ⟨by show l ≤ s.val * 1 + k.val; omega, by show s.val * 1 + k.val - l < 8192; omega⟩
    · funext a
      match a with
      | 0 => exact Fin.ext (by show h.val * 1 + 0 - 0 = h.val; omega)
      | 1 => exact Fin.ext (by show t.val * 1 + 0 - 0 = t.val; omega)
      | 2 => exact Fin.ext (by show s.val * 1 + k.val - l = s.val + k.val - l; omega)
  · rw [if_neg hc]
    refine (dif_neg fun hin => hc ?_).trans EReal.coe_zero.symm
    have h2 := hin 2
    have a1 : l ≤ s.val * 1 + k.val := h2.1
    have a2 : s.val * 1 + k.val - l < 8192 := h2.2
    omega

theorem toRight_at (x : Ref.Sq) (h : Fin 16) (t s : Fin 8192) (f : ℕ → ℝ) (hx : ∀ j : Fin 8192, x (ix3 h t j) = ((f j.val : ℝ) : EReal)) :
    Ref.toRight x (ix3 h t s) = ((∑ j ∈ Finset.Ico s.val 8192, f j : ℝ) : EReal) := by
  refine (window_at x 0 _ _ h t s f hx).trans (congrArg _ ?_)
  rw [sum_fin 8192 s.val fun n => if 0 ≤ n ∧ n - 0 < 8192 then f (n - 0) else 0, ← Finset.sum_filter]
  refine Finset.sum_congr ?_ fun _ _ => rfl
  ext n
  simp only [Finset.mem_filter, Finset.mem_Ico]
  omega

theorem toLeft_at (x : Ref.Sq) (h : Fin 16) (t s : Fin 8192) (f : ℕ → ℝ) (hx : ∀ j : Fin 8192, x (ix3 h t j) = ((f j.val : ℝ) : EReal)) :
    Ref.toLeft x (ix3 h t s) = ((∑ j ∈ Finset.Ico 0 (s.val + 1), f j : ℝ) : EReal) := by
  refine (window_at x 8191 _ _ h t s f hx).trans (congrArg _ ?_)
  rw [sum_fin 8192 s.val fun n => if 8191 ≤ n ∧ n - 8191 < 8192 then f (n - 8191) else 0, ← Finset.sum_filter]
  refine Finset.sum_nbij' (fun n => n - 8191) (fun n => n + 8191) ?_ ?_ ?_ ?_ ?_
  all_goals intro n hn
  all_goals simp only [Finset.mem_filter, Finset.mem_Ico] at hn ⊢
  all_goals omega

end Cert.SbBwd
-- ==== Proof.RefReal.lean ====
/- The reference's stages at real inputs. -/
module

public import proofs.«01_k».proof.Proof.Cumsum
public import Idealize.ShloMosaic.Lib.WordCmp

@[expose] public section

set_option maxRecDepth 16384

noncomputable section

namespace Cert.SbBwd

open Cert.ReferenceIdeal Cert.ReferenceIdeal.Gen
open Idealize.ShloMosaic Idealize.ShloMosaic.TcCoe

theorem eight_word : (Ideal.ofBits .f32 0x41000000#32 : EReal) = ((8 : ℝ) : EReal) := by
  simp [Ideal.ofBits, Ideal.ieee, -EReal.coe_mul]; norm_num
theorem two_word : (Ideal.ofBits .f32 0x40000000#32 : EReal) = ((2 : ℝ) : EReal) := by
  simp [Ideal.ofBits, Ideal.ieee, -EReal.coe_mul]; norm_num
theorem eighth_word : (Ideal.ofBits .f32 0x3E000000#32 : EReal) = (((1 / 8 : ℝ)) : EReal) := by
  simp [Ideal.ofBits, Ideal.ieee, -EReal.coe_mul]; norm_num
theorem inf_word : (Ideal.ofBits .f32 0x7F800000#32 : EReal) = ⊤ := by
  simp [Ideal.ofBits, Ideal.ieee]

theorem log_two_coe : Ideal.log ((2 : ℝ) : EReal) = ((Real.log 2 : ℝ) : EReal) := by
  rw [Ideal.log_coe, if_neg (by norm_num)]

theorem abs_coe (y : ℝ) : max ((y : ℝ) : EReal) (-((y : ℝ) : EReal)) = ((|y| : ℝ) : EReal) := by
  rw [← EReal.coe_neg]
  exact (EReal.coe_strictMono.monotone.map_max).symm

theorem mul_max_zero (c z : ℝ) (hc : 0 < c) : max (c * z) 0 = c * max z 0 := by
  have h := mul_max_of_nonneg z 0 hc.le
  rw [mul_zero] at h
  exact h.symm

/-- The logarithm of the sigmoid to base 2 and to base e. -/
theorem neg_softplus (z : ℝ) : -(max (-(Real.log 2 * z)) 0 + Real.log (1 + Real.exp (-|-(Real.log 2 * z)|))) = Real.log 2 * sp z := by
  have hp := log_two_pos
  have e1 : Real.exp (-|-(Real.log 2 * z)|) = (2 : ℝ) ^ (-|z|) := by
    rw [two_pow_eq, abs_neg, abs_mul, abs_of_pos hp, mul_neg]
  have e2 : max (-(Real.log 2 * z)) 0 = -(Real.log 2 * min z 0) := by
    rw [← mul_neg, mul_max_zero _ _ hp]
    rcases le_total 0 z with h | h
    · rw [min_eq_right h, max_eq_right (by linarith)]; ring
    · rw [min_eq_left h, max_eq_left (by linarith)]; ring
  rw [e1, e2, sp]
  field_simp
  ring

theorem sp_neg (z : ℝ) : sp (-z) = sp z - z := by
  unfold sp
  rw [abs_neg]
  rcases le_total 0 z with h | h
  · rw [min_eq_right h, min_eq_left (by linarith)]; ring
  · rw [min_eq_left h, min_eq_right (by linarith)]; ring

namespace Ref

theorem before_at (h : Fin 16) (t s : Fin 8192) : before (ix3 h t s) = if s.val < t.val then 1#1 else 0#1 := by
  pointwise [before]
  have e : IntOp.addi (0#32) (BitVec.ofNat 32 t.val) = BitVec.ofNat 32 t.val := BitVec.zero_add _
  rw [e, WordCmp.cmpi_slt_ofNat (w := 32) (by omega) (by omega)]
  by_cases h : s.val < t.val
  · rw [if_pos h, decide_eq_true h]; rfl
  · rw [if_neg h, decide_eq_false h]; rfl

theorem keep_at (x : Sq) (f : ℝ) (h : Fin 16) (t s : Fin 8192) (hx : x (ix3 h t s) = ((f : ℝ) : EReal)) :
    keep x (ix3 h t s) = (((if s.val < t.val then f else 0 : ℝ)) : EReal) := by
  pointwise [keep, zero, before_at, hx]
  by_cases h : s.val < t.val
  · rw [if_pos h, if_pos h]; rfl
  · rw [if_neg h, if_neg h]; rfl

theorem eightLn2_at (h : Fin 16) (t : Fin 8192) (e : Fin 64) : eightLn2 (ix3 h t e) = ((8 * Real.log 2 : ℝ) : EReal) := by
  pointwise [eightLn2, ln2]
  rw [eight_word, two_word, log_two_coe, ← EReal.coe_mul]

theorem softplus_at (x : Sq) (y : ℝ) (h : Fin 16) (t s : Fin 8192) (hx : x (ix3 h t s) = ((y : ℝ) : EReal)) :
    softplus x (ix3 h t s) = ((max y 0 + Real.log (1 + Real.exp (-|y|)) : ℝ) : EReal) := by
  pointwise [softplus, zero, hx]
  have e : (FloatOps.absf (F := Ideal) (φ := .f32) ((y : ℝ) : EReal) : EReal) = ((|y| : ℝ) : EReal) := abs_coe y
  rw [if_neg (not_not.mpr rfl), e, ← EReal.coe_neg, Ideal.exp_coe, Ideal.log1p, ← EReal.coe_one, ← EReal.coe_add, Ideal.log_coe,
    if_neg (show ¬ (1 + Real.exp (-|y|) ≤ 0) from not_le.mpr (by positivity)), ← EReal.coe_zero, ← EReal.coe_strictMono.monotone.map_max, ← EReal.coe_add]

theorem finiteOr_at (x : Sq) (y : ℝ) (h : Fin 16) (t s : Fin 8192) (hx : x (ix3 h t s) = ((y : ℝ) : EReal)) :
    finiteOr x (ix3 h t s) = ((y : ℝ) : EReal) := by
  pointwise [finiteOr, zero, inf, hx]
  rw [inf_word, if_neg (EReal.coe_ne_top y)]

theorem pairs_at (x y : Rows) (f g : Fin 64 → ℝ) (h : Fin 16) (t s : Fin 8192) (hx : ∀ e, x (ix3 h t e) = ((f e : ℝ) : EReal))
    (hy : ∀ e, y (ix3 h s e) = ((g e : ℝ) : EReal)) :
    pairs x y (ix3 h t s) = ((∑ e, f e * g e : ℝ) : EReal) := by
  pointwise [pairs, hx, hy]
  simp only [← EReal.coe_mul, coe_sum]

theorem logSigmoid_at (x : Sq) (z : ℝ) (h : Fin 16) (t s : Fin 8192) (hx : x (ix3 h t s) = ((Real.log 2 * z : ℝ) : EReal)) :
    logSigmoid x (ix3 h t s) = ((Real.log 2 * sp z : ℝ) : EReal) := by
  have hn : (Host.negf x : Sq) (ix3 h t s) = ((-(Real.log 2 * z) : ℝ) : EReal) := by
    pointwise [hx]
    exact (EReal.coe_neg _).symm
  have hs := softplus_at _ _ h t s hn
  pointwise [logSigmoid, hs]
  rw [← EReal.coe_neg, neg_softplus]

theorem gate_at (x : Sq) (z : ℝ) (h : Fin 16) (t s : Fin 8192) (hx : x (ix3 h t s) = ((-(Real.log 2 * z) : ℝ) : EReal)) :
    gate x (ix3 h t s) = (((2 : ℝ) ^ (sp z - z) : ℝ) : EReal) := by
  have hs := finiteOr_at _ _ h t s (softplus_at x _ h t s hx)
  have hf := finiteOr_at x _ h t s hx
  pointwise [gate, hs, hf]
  rw [← EReal.coe_sub, Ideal.exp_coe, sub_eq_add_neg, neg_softplus, two_pow_eq]
  congr 2
  ring

section
variable (H : Head) (h : Fin 16) (q k v d : Rows)
  (hq : ∀ (t : Fin 8192) (e : Fin 64), q (ix3 h t e) = ((H.q t.val e : ℝ) : EReal))
  (hk : ∀ (t : Fin 8192) (e : Fin 64), k (ix3 h t e) = ((H.k t.val e : ℝ) : EReal))
  (hv : ∀ (t : Fin 8192) (e : Fin 64), v (ix3 h t e) = ((H.v t.val e : ℝ) : EReal))
  (hd : ∀ (t : Fin 8192) (e : Fin 64), d (ix3 h t e) = ((H.d t.val e : ℝ) : EReal))

include hq in
theorem scaled_at (t : Fin 8192) (e : Fin 64) : (mulf q eightLn2 : Rows) (ix3 h t e) = ((H.q t.val e * (8 * Real.log 2) : ℝ) : EReal) := by
  pointwise [hq, eightLn2_at]
  rw [← EReal.coe_mul]

include hq hk in
theorem logits_at (t s : Fin 8192) : logits q k (ix3 h t s) = ((Real.log 2 * H.z t.val s.val : ℝ) : EReal) := by
  have hp := pairs_at (mulf q eightLn2) k _ _ h t s (scaled_at H h q hq t) (hk s)
  pointwise [logits, eighth, hp]
  rw [eighth_word, ← EReal.coe_mul, Head.z]
  refine congrArg _ ?_
  rw [Finset.sum_mul, Finset.mul_sum]
  exact Finset.sum_congr rfl fun e _ => by ring

include hq hk in
theorem negLogits_at (t s : Fin 8192) : (Host.negf (logits q k) : Sq) (ix3 h t s) = ((-(Real.log 2 * H.z t.val s.val) : ℝ) : EReal) := by
  pointwise [logits_at H h q k hq hk]
  exact (EReal.coe_neg _).symm

include hq hk in
theorem logKeep_at (t s : Fin 8192) : logKeep (logits q k) (ix3 h t s) = ((Real.log 2 * H.lk t.val s.val : ℝ) : EReal) := by
  refine (keep_at _ _ h t s (logSigmoid_at _ (-H.z t.val s.val) h t s ?_)).trans (congrArg _ ?_)
  · exact (negLogits_at H h q k hq hk t s).trans (congrArg _ (by ring))
  · rw [sp_neg, Head.lk]
    split_ifs <;> ring

/-- The weight of a key, of the future as well. -/
def wAll (t s : ℕ) : ℝ := (2 : ℝ) ^ (sp (H.z t s) + ∑ s' ∈ Finset.Ico (s + 1) 8192, H.lk t s')

theorem wAll_eq (t s : ℕ) : (if s < t then wAll H t s else 0) = H.wt t s := rfl

include hq hk in
theorem weight_at (t s : Fin 8192) : weight (logits q k) (ix3 h t s) = ((wAll H t.val s.val : ℝ) : EReal) := by
  have h1 := logSigmoid_at _ _ h t s (logits_at H h q k hq hk t s)
  have h2 := logKeep_at H h q k hq hk t s
  have h3 := toRight_at (logKeep (logits q k)) h t s (fun s => Real.log 2 * H.lk t.val s) fun j => logKeep_at H h q k hq hk t j
  pointwise [weight, h1, h2, h3]
  rw [← EReal.coe_sub, ← EReal.coe_add, Ideal.exp_coe, wAll, two_pow_eq, Finset.sum_eq_sum_Ico_succ_bot s.isLt, ← Finset.mul_sum]
  exact congrArg _ (congrArg Real.exp (by ring))

include hq hk in
theorem keptWeight_at (t s : Fin 8192) : keep (weight (logits q k)) (ix3 h t s) = ((H.wt t.val s.val : ℝ) : EReal) :=
  keep_at _ _ h t s (weight_at H h q k hq hk t s)

include hq hk hv hd in
theorem gradLog_at (t s : Fin 8192) : gradLog v d (logits q k) (ix3 h t s) = ((H.gr t.val s.val : ℝ) : EReal) := by
  have h1 := keep_at _ _ h t s (pairs_at d v _ _ h t s (hd t) (hv s))
  have h2 := weight_at H h q k hq hk t s
  pointwise [gradLog, h1, h2]
  rw [← EReal.coe_mul, Head.gr, ← wAll_eq, Head.dw]
  refine congrArg _ ?_
  split_ifs <;> ring

include hq hk hv hd in
theorem gradScore_at (t s : Fin 8192) :
    gradScore (logits q k) (gradLog v d (logits q k)) (ix3 h t s) = ((H.dz t.val s.val * (1 / 8) : ℝ) : EReal) := by
  have hz := logits_at H h q k hq hk t s
  have hn := negLogits_at H h q k hq hk t s
  have hg := gradLog_at H h q k v d hq hk hv hd t s
  have h1 := gate_at _ _ h t s hn
  have hnn : (Host.negf (Host.negf (logits q k)) : Sq) (ix3 h t s) = ((-(Real.log 2 * -H.z t.val s.val) : ℝ) : EReal) := by
    pointwise [hn]
    exact (EReal.coe_neg _).symm.trans (congrArg _ (by ring))
  have h2 := gate_at _ _ h t s hnn
  have h3 := toLeft_at (gradLog v d (logits q k)) h t s (fun s => H.gr t.val s) fun j => gradLog_at H h q k v d hq hk hv hd t j
  have h4 : (addf (Host.negf (gradLog v d (logits q k))) (toLeft (gradLog v d (logits q k))) : Sq) (ix3 h t s)
      = ((∑ j ∈ Finset.Ico 0 s.val, H.gr t.val j : ℝ) : EReal) := by
    pointwise [hg, h3]
    rw [← EReal.coe_neg, ← EReal.coe_add, Finset.sum_Ico_succ_top (Nat.zero_le _)]
    exact congrArg _ (by ring)
  have h5 := keep_at _ _ h t s h4
  pointwise [gradScore, eighth, h1, h2, h5, hg]
  rw [eighth_word]
  simp only [← EReal.coe_neg, ← EReal.coe_mul, ← EReal.coe_add]
  refine congrArg _ ?_
  rw [sp_neg, show sp (H.z t.val s.val) - H.z t.val s.val - -H.z t.val s.val = sp (H.z t.val s.val) from by ring]
  by_cases hc : s.val < t.val
  · rw [if_pos hc, H.dz_eq _ _ hc]; ring
  · rw [if_neg hc, H.dz_zero (by omega), H.gr_zero (by omega)]; ring

theorem div_coe (x y : ℝ) (hy : y ≠ 0) : Ideal.div ((x : ℝ) : EReal) ((y : ℝ) : EReal) = ((x / y : ℝ) : EReal) := by
  rw [Ideal.div_coe hy, ← EReal.coe_mul, mul_one_div]

include hq hk hv hd in
theorem dq_at (t : Fin 8192) (e : Fin 64) :
    dq k (gradScore (logits q k) (gradLog v d (logits q k))) (ix3 h t e) = ((∑ s ∈ Finset.Ico 0 8192, H.dz t.val s * H.k s e : ℝ) : EReal) := by
  have hs := gradScore_at H h q k v d hq hk hv hd
  pointwise [dq, ln2, eightLn2_at, hs, hk]
  rw [two_word, log_two_coe]
  simp only [← EReal.coe_mul, coe_sum]
  rw [div_coe _ _ log_two_pos.ne', ← sum_fin 8192 0 fun s => H.dz t.val s * H.k s e]
  simp only [Nat.zero_add]
  refine congrArg _ ?_
  rw [div_eq_iff log_two_pos.ne', Finset.sum_mul, Finset.sum_mul]
  exact Finset.sum_congr rfl fun s _ => by ring

include hq hk hv hd in
theorem dkT_at (e : Fin 64) (s : Fin 8192) :
    dkT q (gradScore (logits q k) (gradLog v d (logits q k))) (ix3 h e s) = ((∑ t ∈ Finset.Ico 0 8192, H.q t e * H.dz t s.val : ℝ) : EReal) := by
  have hs := gradScore_at H h q k v d hq hk hv hd
  have hq8 := scaled_at H h q hq
  pointwise [dkT, ln2, hs, hq8]
  rw [two_word, log_two_coe]
  simp only [← EReal.coe_mul, coe_sum]
  rw [div_coe _ _ log_two_pos.ne', ← sum_fin 8192 0 fun t => H.q t e * H.dz t s.val]
  simp only [Nat.zero_add]
  refine congrArg _ ?_
  rw [div_eq_iff log_two_pos.ne', Finset.sum_mul]
  exact Finset.sum_congr rfl fun s _ => by ring

include hq hk hd in
theorem dvT_at (e : Fin 64) (s : Fin 8192) :
    dvT d (weight (logits q k)) (ix3 h e s) = ((∑ t ∈ Finset.Ico 0 8192, H.d t e * H.wt t s.val : ℝ) : EReal) := by
  have hs := keptWeight_at H h q k hq hk
  pointwise [dvT, hs, hd]
  simp only [← EReal.coe_mul, coe_sum]
  rw [← sum_fin 8192 0 fun t => H.d t e * H.wt t s.val]
  simp only [Nat.zero_add]

include hq hk hv in
theorem out_at (t : Fin 8192) (e : Fin 64) :
    out v (weight (logits q k)) (ix3 h t e) = ((H.o t.val e : ℝ) : EReal) := by
  have hs := keptWeight_at H h q k hq hk
  pointwise [out, hs, hv]
  simp only [← EReal.coe_mul, coe_sum]
  rw [Head.o, ← sum_fin 8192 0 fun s => H.wt t.val s * H.v s e]
  simp only [Nat.zero_add]

end

theorem wide_at (x : FVec Ideal S16x8192x64 .bf16) (i : S16x8192x64.Idx) : wide x i = x i := rfl

end Ref

end Cert.SbBwd
-- ==== Proof.HostValue.lean ====
/- What the host hands the kernel, at real inputs. -/
module

public import proofs.«01_k».proof.Proof.RefReal
public import proofs.«01_k».proof.Proof.Data

@[expose] public section

set_option maxRecDepth 16384

noncomputable section

namespace Cert.SbBwd

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The remainder by 256, as the host computes it. -/
def remWord (x : BitVec 32) : BitVec 32 :=
  let n := Scalar.select (IntOp.cmpi .eq 256#32 0#32) 1#32 256#32
  Scalar.select (IntOp.andi (IntOp.cmpi .ne (IntOp.cmpi .slt (IntOp.remsi ArithUnit.host x n) 0#32) (IntOp.cmpi .slt n 0#32))
    (IntOp.cmpi .ne (IntOp.remsi ArithUnit.host x n) 0#32)) (IntOp.addi (IntOp.remsi ArithUnit.host x n) n) (IntOp.remsi ArithUnit.host x n)

theorem remWord_eq : ∀ i : Fin 512, remWord (BitVec.ofNat 32 i.val) = BitVec.ofNat 32 (i.val % 256) := by decide +kernel

theorem bit_one : (FloatOps.uitofp (F := Ideal) .bf16 (BitVec.ofBool true) : EReal) = ((1 : ℝ) : EReal) := by
  show (((1 : ℕ) : ℝ) : EReal) = _
  rw [Nat.cast_one]

theorem bit_zero : (FloatOps.uitofp (F := Ideal) .bf16 (BitVec.ofBool false) : EReal) = ((0 : ℝ) : EReal) := by
  show (((0 : ℕ) : ℝ) : EReal) = _
  rw [Nat.cast_zero]

set_option maxHeartbeats 4000000 in
theorem V_out : V m c main_v28 = Ref.out (Ref.wide (m ((c.tc : Thread nD τ).loc main_arg2)))
    (Ref.weight (Ref.logits (Ref.wide (m ((c.tc : Thread nD τ).loc main_arg0))) (Ref.wide (m ((c.tc : Thread nD τ).loc main_arg1))))) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append, TRef.binary, TRef.nullary, TRef.ternary, TRef.unary, TRef.toBuf, TRef.ofBuf, cast_eq]
  after_results_simp
  unfold Ref.out Ref.weight Ref.logKeep Ref.logSigmoid Ref.keep Ref.softplus Ref.toRight Ref.logits Ref.pairs Ref.eightLn2 Ref.ln2 Ref.wide Ref.zero Ref.eighth Ref.before
  rfl

set_option maxHeartbeats 4000000 in
theorem V_qT : V m c main_v34 = transpose S16x64x8192 [0, 2, 1] (m ((c.tc : Thread nD τ).loc main_arg0)) transposes_S16x8192x64_S16x64x8192_0_2_1 := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append, TRef.binary, TRef.nullary, TRef.ternary, TRef.unary, TRef.toBuf, TRef.ofBuf, cast_eq]
  after_results_simp

set_option maxHeartbeats 4000000 in
theorem V_d : V m c main_v35 = (truncf .bf16 (m ((c.tc : Thread nD τ).loc main_arg3) : FVec Ideal S16x8192x64 .f32) bitsLt_bf16_f32 : FVec Ideal S16x8192x64 .bf16) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append, TRef.binary, TRef.nullary, TRef.ternary, TRef.unary, TRef.toBuf, TRef.ofBuf, cast_eq]
  after_results_simp

set_option maxHeartbeats 4000000 in
theorem V_dT : V m c main_v36 = transpose S16x64x8192 [0, 2, 1] (truncf .bf16 (m ((c.tc : Thread nD τ).loc main_arg3) : FVec Ideal S16x8192x64 .f32) bitsLt_bf16_f32 : FVec Ideal S16x8192x64 .bf16) transposes_S16x8192x64_S16x64x8192_0_2_1 := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append, TRef.binary, TRef.nullary, TRef.ternary, TRef.unary, TRef.toBuf, TRef.ofBuf, cast_eq]
  after_results_simp

set_option maxHeartbeats 4000000 in
theorem V_after (i : Fin 512) (j : Fin 256) : V m c main_v33 (ix2 i j) = (((if j.val < i.val % 256 then 1 else 0 : ℝ)) : EReal) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append, TRef.binary, TRef.nullary, TRef.ternary, TRef.unary, TRef.toBuf, TRef.ofBuf, cast_eq]
  after_results_simp
  pointwise []
  show FloatOps.uitofp (F := Ideal) .bf16 (IntOp.cmpi .sgt (remWord (BitVec.ofNat 32 i.val)) (BitVec.ofNat 32 j.val)) = _
  rw [remWord_eq, WordCmp.cmpi_sgt_ofNat (w := 32) (by omega) (by omega)]
  by_cases h : j.val < i.val % 256
  · rw [if_pos h, decide_eq_true h]; exact bit_one
  · rw [if_neg h, decide_eq_false h]; exact bit_zero

end Cert.SbBwd
-- ==== Proof.BlockReal.lean ====
/- One block of 512 rows at real inputs: what it carries from group to group, what it adds to the two accumulators, and its query gradients. -/
module

public import proofs.«01_k».proof.Proof.TileReal
public import Idealize.ShloMosaic.Lib.WordCmp

@[expose] public section

set_option maxRecDepth 16384

noncomputable section

namespace Cert.SbBwd

open Cert.KernelIdeal Cert.KernelIdeal.Gen
open Idealize.ShloMosaic Idealize.ShloMosaic.TcCoe

theorem cast_rows {e : EltTy} (Y : Vec Ideal S1x128x64 e) (ρ : Fin 128) (i : Fin 64) :
    (shapeCast S128x64 Y shapeCasts_S1x128x64_S128x64 : Vec Ideal S128x64 e) (ix2 ρ i) = Y (ix3 0 ρ i) := by
  pointwise []

theorem cast_cols (Y : Vec Ideal S1x64x128 .bf16) (i : Fin 64) (ρ : Fin 128) :
    (shapeCast S64x128 Y shapeCasts_S1x64x128_S64x128 : FVec Ideal S64x128 .bf16) (ix2 i ρ) = Y (ix3 0 i ρ) := by
  pointwise []

/-! Windows read and written at an index. -/

theorem rows_at {e : EltTy} (x : Vec Ideal S1x512x64 e) (r : Fin 4) (ρ : Fin 128) (i : Fin 64) :
    rows x r (ix2 ρ i) = x (ix3 0 ⟨128 * r.val + ρ.val, by omega⟩ i) := by
  refine (cast_rows _ ρ i).trans ?_
  refine congrArg x (funext fun a => Fin.ext ?_)
  match a with
  | ⟨0, _⟩ => rfl
  | ⟨1, _⟩ => show 128 * r.val + 1 * ρ.val = 128 * r.val + ρ.val; omega
  | ⟨2, _⟩ => show 0 + 1 * i.val = i.val; omega

theorem cols_at (x : Vec Ideal S1x64x512 .bf16) (r : Fin 4) (i : Fin 64) (ρ : Fin 128) :
    cols x r (ix2 i ρ) = x (ix3 0 i ⟨128 * r.val + ρ.val, by omega⟩) := by
  refine (cast_cols _ i ρ).trans ?_
  refine congrArg x (funext fun a => Fin.ext ?_)
  match a with
  | ⟨0, _⟩ => rfl
  | ⟨1, _⟩ => show 0 + 1 * i.val = i.val; omega
  | ⟨2, _⟩ => show 128 * r.val + 1 * ρ.val = 128 * r.val + ρ.val; omega

theorem keys_at (x : Vec Ideal S1x8192x64 .bf16) (g : Fin 16) (j : Fin 512) (i : Fin 64) :
    keys x g (ix3 0 j i) = x (ix3 0 ⟨512 * g.val + j.val, by omega⟩ i) := by
  refine congrArg x (funext fun a => Fin.ext ?_)
  match a with
  | ⟨0, _⟩ => rfl
  | ⟨1, _⟩ => show 512 * g.val + 1 * j.val = 512 * g.val + j.val; omega
  | ⟨2, _⟩ => show 0 + 1 * i.val = i.val; omega

theorem colGet_at (X : Vec Ideal S1x64x8192 .f32) (g : Fin 16) (i : Fin 64) (j : Fin 512) :
    colGet X ![0, 0, 512 * g.val] (inb_acc g) (ix3 0 i j) = X (ix3 0 i ⟨512 * g.val + j.val, by omega⟩) := by
  refine congrArg X (funext fun a => Fin.ext ?_)
  match a with
  | ⟨0, _⟩ => rfl
  | ⟨1, _⟩ => show 0 + 1 * i.val = i.val; omega
  | ⟨2, _⟩ => show 512 * g.val + 1 * j.val = 512 * g.val + j.val; omega

theorem colPut_in (X : Vec Ideal S1x64x8192 .f32) (c : ℕ) (w : Vec Ideal S1x64x512 .f32) (i : Fin 64) (s : Fin 8192) (h : c ≤ s.val ∧ s.val < c + 512) :
    colPut X ![0, 0, c] w (ix3 0 i s) = w (ix3 0 i ⟨s.val - c, by omega⟩) := by
  have hin : ∀ a : Fin 3, (![0, 0, c] : Fin 3 → ℕ) a ≤ ((ix3 (0 : Fin 1) i s : S1x64x8192.Idx) a).val
      ∧ ((ix3 (0 : Fin 1) i s : S1x64x8192.Idx) a).val < (![0, 0, c] : Fin 3 → ℕ) a + S1x64x512.size a := fun a =>
    match a with
    | ⟨0, _⟩ => ⟨Nat.le_refl _, Nat.zero_lt_one⟩
    | ⟨1, _⟩ => ⟨Nat.zero_le _, by show i.val < 0 + 64; omega⟩
    | ⟨2, _⟩ => h
  show VecWindow.put (s := S1x64x8192) X ![0, 0, c] S1x64x512.size w _ = _
  unfold VecWindow.put
  rw [dif_pos hin]
  refine congrArg w (funext fun a => Fin.ext ?_)
  match a with
  | ⟨0, _⟩ => rfl
  | ⟨1, _⟩ => rfl
  | ⟨2, _⟩ => rfl

theorem colPut_out (X : Vec Ideal S1x64x8192 .f32) (c : ℕ) (w : Vec Ideal S1x64x512 .f32) (i : Fin 64) (s : Fin 8192) (h : ¬ (c ≤ s.val ∧ s.val < c + 512)) :
    colPut X ![0, 0, c] w (ix3 0 i s) = X (ix3 0 i s) := by
  show VecWindow.put (s := S1x64x8192) X ![0, 0, c] S1x64x512.size w _ = _
  unfold VecWindow.put
  rw [dif_neg fun hin => h (hin 2)]

theorem rowPut_in (X : Vec Ideal S1x512x64 .f32) (c : ℕ) (w : Vec Ideal S1x128x64 .f32) (s : Fin 512) (i : Fin 64) (h : c ≤ s.val ∧ s.val < c + 128) :
    VecWindow.put (s := S1x512x64) X ![0, c, 0] S1x128x64.size w (ix3 0 s i) = w (ix3 0 ⟨s.val - c, by omega⟩ i) := by
  have hin : ∀ a : Fin 3, (![0, c, 0] : Fin 3 → ℕ) a ≤ ((ix3 (0 : Fin 1) s i : S1x512x64.Idx) a).val
      ∧ ((ix3 (0 : Fin 1) s i : S1x512x64.Idx) a).val < (![0, c, 0] : Fin 3 → ℕ) a + S1x128x64.size a := fun a =>
    match a with
    | ⟨0, _⟩ => ⟨Nat.le_refl _, Nat.zero_lt_one⟩
    | ⟨1, _⟩ => h
    | ⟨2, _⟩ => ⟨Nat.zero_le _, by show i.val < 0 + 64; omega⟩
  unfold VecWindow.put
  rw [dif_pos hin]
  refine congrArg w (funext fun a => Fin.ext ?_)
  match a with
  | ⟨0, _⟩ => rfl
  | ⟨1, _⟩ => rfl
  | ⟨2, _⟩ => rfl

theorem rowPut_out (X : Vec Ideal S1x512x64 .f32) (c : ℕ) (w : Vec Ideal S1x128x64 .f32) (s : Fin 512) (i : Fin 64) (h : ¬ (c ≤ s.val ∧ s.val < c + 128)) :
    VecWindow.put (s := S1x512x64) X ![0, c, 0] S1x128x64.size w (ix3 0 s i) = X (ix3 0 s i) := by
  unfold VecWindow.put
  rw [dif_neg fun hin => h (hin 1)]

theorem cast_rows_at (w : FVec Ideal S128x64 .f32) (ρ : Fin 128) (i : Fin 64) :
    (shapeCast S1x128x64 w shapeCasts_S128x64_S1x128x64 : Vec Ideal S1x128x64 .f32) (ix3 0 ρ i) = w (ix2 ρ i) := by
  pointwise []

/-- Four tiles' rows one under another. -/
theorem rowsOut_at (w : Fin 4 → FVec Ideal S128x64 .f32) (f : ℕ → Fin 64 → ℝ) (hw : ∀ r : Fin 4, w r = up fun ρ e => f (128 * r.val + ρ.val) e)
    (s : Fin 512) (i : Fin 64) : rowsOut w (ix3 0 s i) = ((f s.val i : ℝ) : EReal) := by
  have hs := s.isLt
  unfold rowsOut
  have key : ∀ (r : Fin 4) (h : 128 * r.val ≤ s.val ∧ s.val < 128 * r.val + 128),
      (shapeCast S1x128x64 (w r) shapeCasts_S128x64_S1x128x64 : Vec Ideal S1x128x64 .f32) (ix3 0 ⟨s.val - 128 * r.val, by omega⟩ i) = ((f s.val i : ℝ) : EReal) := by
    intro r h
    rw [cast_rows_at, hw r, up_at, Nat.add_sub_cancel' h.1]
  by_cases h3 : 384 ≤ s.val ∧ s.val < 384 + 128
  · rw [rowPut_in _ _ _ _ _ h3]; exact key 3 h3
  rw [rowPut_out _ _ _ _ _ h3]
  by_cases h2 : 256 ≤ s.val ∧ s.val < 256 + 128
  · rw [rowPut_in _ _ _ _ _ h2]; exact key 2 h2
  rw [rowPut_out _ _ _ _ _ h2]
  by_cases h1 : 128 ≤ s.val ∧ s.val < 128 + 128
  · rw [rowPut_in _ _ _ _ _ h1]; exact key 1 h1
  rw [rowPut_out _ _ _ _ _ h1]
  have h0 : 0 ≤ s.val ∧ s.val < 0 + 128 := by omega
  rw [rowPut_in _ _ _ _ _ h0]; exact key 0 h0

theorem accum4_at (w : Vec Ideal S1x64x512 .f32) (p : Fin 4 → FVec Ideal S64x512 .f32) (i : Fin 64) (j : Fin 512) :
    (accum4 w p (ix3 0 i j) : EReal) = w (ix3 0 i j) + p 0 (ix2 i j) + p 1 (ix2 i j) + p 2 (ix2 i j) + p 3 (ix2 i j) := by
  pointwise [accum4, accum]

/-- The mask of a diagonal tile: the keys before the row. -/
theorem mask_seen (I : Fin 16) (r : Fin 4) : Seen (some (mask (BitVec.ofNat 32 I.val) (BitVec.ofNat 32 I.val) r)) (512 * I.val + 128 * r.val) (512 * I.val) := by
  intro ρ j
  pointwise [mask]
  have e1 : IntOp.addi (BitVec.ofNat 32 j.val) (Scalar.muli (BitVec.ofNat 32 I.val) 512#32) = BitVec.ofNat 32 (j.val + I.val * 512) := by
    show BitVec.ofNat 32 j.val + BitVec.ofNat 32 I.val * BitVec.ofNat 32 512 = _
    rw [← BitVec.ofNat_mul, ← BitVec.ofNat_add]
  have e2 : IntOp.addi (BitVec.ofNat 32 ρ.val) (Scalar.addi (Scalar.muli (BitVec.ofNat 32 I.val) 512#32) (BitVec.ofNat 32 (128 * r.val)))
      = BitVec.ofNat 32 (ρ.val + (I.val * 512 + 128 * r.val)) := by
    show BitVec.ofNat 32 ρ.val + (BitVec.ofNat 32 I.val * BitVec.ofNat 32 512 + BitVec.ofNat 32 (128 * r.val)) = _
    rw [← BitVec.ofNat_mul, ← BitVec.ofNat_add, ← BitVec.ofNat_add]
  rw [e1, e2, WordCmp.cmpi_slt_ofNat (w := 32) (by omega) (by omega)]
  by_cases h : 512 * I.val + j.val < 512 * I.val + 128 * r.val + ρ.val
  · rw [if_pos h, decide_eq_true (by omega)]; rfl
  · rw [if_neg h, decide_eq_false (by omega)]; rfl

/-- What one row block reads, at a head's real values. -/
structure BlocksAre (H : Head) (I : ℕ) (x : Blocks Ideal) : Prop where
  q : ∀ (ρ : Fin 512) (e : Fin 64), x.q (ix3 0 ρ e) = ((H.q (512 * I + ρ.val) e : ℝ) : EReal)
  qT : ∀ (e : Fin 64) (ρ : Fin 512), x.qT (ix3 0 e ρ) = ((H.q (512 * I + ρ.val) e : ℝ) : EReal)
  k : ∀ (s : Fin 8192) (e : Fin 64), x.k (ix3 0 s e) = ((H.k s.val e : ℝ) : EReal)
  v : ∀ (s : Fin 8192) (e : Fin 64), x.v (ix3 0 s e) = ((H.v s.val e : ℝ) : EReal)
  o : ∀ (ρ : Fin 512) (e : Fin 64), x.o (ix3 0 ρ e) = ((H.o (512 * I + ρ.val) e : ℝ) : EReal)
  d : ∀ (ρ : Fin 512) (e : Fin 64), x.d (ix3 0 ρ e) = ((H.d (512 * I + ρ.val) e : ℝ) : EReal)
  dT : ∀ (e : Fin 64) (ρ : Fin 512), x.dT (ix3 0 e ρ) = ((H.d (512 * I + ρ.val) e : ℝ) : EReal)
  a : ∀ (i : Fin 512) (j : Fin 256), x.a (ix2 i j) = (((if j.val < i.val % 256 then 1 else 0 : ℝ)) : EReal)

section
variable (H : Head) (I : Fin 16) (x : Blocks Ideal) (hx : BlocksAre H I.val x)

theorem dSum_up (o d : Fin 128 → Fin 64 → ℝ) : dSum (F := Ideal) (up o) (up d) = up fun ρ (_ : Fin 1) => ∑ e, o ρ e * d ρ e := by
  refine eq_up _ _ fun ρ j => ?_
  pointwise [dSum, up_at]
  simp only [← EReal.coe_mul, coe_sum]

include hx in
theorem rowOf_is (r : Fin 4) : RowIs H (512 * I.val + 128 * r.val) (rowOf x r) where
  q := eq_up _ _ fun ρ e => (rows_at x.q r ρ e).trans ((hx.q _ e).trans (by rw [← Nat.add_assoc]))
  qT := eq_up _ _ fun e ρ => (cols_at x.qT r e ρ).trans ((hx.qT e _).trans (by rw [← Nat.add_assoc]))
  d := eq_up _ _ fun ρ e => (rows_at x.d r ρ e).trans ((hx.d _ e).trans (by rw [← Nat.add_assoc]))
  dT := eq_up _ _ fun e ρ => (cols_at x.dT r e ρ).trans ((hx.dT e _).trans (by rw [← Nat.add_assoc]))
  D := by
    have ho : (rows x.o r : FVec Ideal S128x64 .f32) = up (φ := .f32) fun ρ e => H.o (512 * I.val + 128 * r.val + ρ.val) e :=
      eq_up (φ := .f32) _ _ fun ρ e => (rows_at x.o r ρ e).trans ((hx.o _ e).trans (by rw [← Nat.add_assoc]))
    have hd : (rows x.d r : FVec Ideal S128x64 .bf16) = up (φ := .bf16) fun ρ e => H.d (512 * I.val + 128 * r.val + ρ.val) e :=
      eq_up (φ := .bf16) _ _ fun ρ e => (rows_at x.d r ρ e).trans ((hx.d _ e).trans (by rw [← Nat.add_assoc]))
    show dSum (F := Ideal) (rows x.o r : FVec Ideal S128x64 .f32) (rows x.d r : FVec Ideal S128x64 .bf16) = _
    rw [ho, hd, dSum_up]
    exact congrArg up (funext fun ρ => funext fun _ => H.sum_gr _)

/-- The first key done after `n` groups. -/
def edge (n : ℕ) : ℕ := 512 * (I.val + 1 - n)

/-- The rows whose part an accumulator's place has. -/
def done (n s : ℕ) : ℕ := if edge I n ≤ s then 512 * (I.val + 1) else 512 * I.val

/-- The state after `n` groups. -/
structure StateIs (n : ℕ) (s : State Ideal) : Prop where
  c : ∀ r : Fin 4, CarryIs H (512 * I.val + 128 * r.val) (edge I n) (s.c r)
  K : ∀ (e : Fin 64) (j : Fin 8192), s.K (ix3 0 e j) = ((∑ t ∈ Finset.Ico 0 (done I n j.val), H.q t e * H.dz t j.val : ℝ) : EReal)
  V : ∀ (e : Fin 64) (j : Fin 8192), s.V (ix3 0 e j) = ((∑ t ∈ Finset.Ico 0 (done I n j.val), H.d t e * H.wt t j.val : ℝ) : EReal)

/-- Four parts of 128 rows added. -/
theorem four_parts (f : ℕ → ℝ) (b : ℕ) :
    ((∑ t ∈ Finset.Ico 0 b, f t : ℝ) : EReal) + ((∑ t ∈ Finset.Ico (b + 128 * 0) (b + 128 * 0 + 128), f t : ℝ) : EReal)
      + ((∑ t ∈ Finset.Ico (b + 128 * 1) (b + 128 * 1 + 128), f t : ℝ) : EReal) + ((∑ t ∈ Finset.Ico (b + 128 * 2) (b + 128 * 2 + 128), f t : ℝ) : EReal)
      + ((∑ t ∈ Finset.Ico (b + 128 * 3) (b + 128 * 3 + 128), f t : ℝ) : EReal) = ((∑ t ∈ Finset.Ico 0 (b + 512), f t : ℝ) : EReal) := by
  rw [← EReal.coe_add, ← EReal.coe_add, ← EReal.coe_add, ← EReal.coe_add]
  refine congrArg _ ?_
  have h1 := Finset.sum_Ico_consecutive f (Nat.zero_le b) (show b ≤ b + 128 by omega)
  have h2 := Finset.sum_Ico_consecutive f (Nat.zero_le (b + 128)) (show b + 128 ≤ b + 256 by omega)
  have h3 := Finset.sum_Ico_consecutive f (Nat.zero_le (b + 256)) (show b + 256 ≤ b + 384 by omega)
  have h4 := Finset.sum_Ico_consecutive f (Nat.zero_le (b + 384)) (show b + 384 ≤ b + 512 by omega)
  rw [← h4, ← h3, ← h2, ← h1]
  norm_num [Nat.add_assoc]

theorem seen_at (n : ℕ) (hn : n ≤ I.val) (r : Fin 4) : Seen (maskAt I n r) (512 * I.val + 128 * r.val) (512 * (groupAt I n).val) := by
  unfold maskAt
  by_cases h : n = 0
  · subst h
    rw [if_pos rfl]
    exact mask_seen I r
  · rw [if_neg h]
    show 512 * (I.val - n) + 512 ≤ 512 * I.val + 128 * r.val
    omega

/-- A place in an accumulator after one more group: in the group's columns the block's four parts have come to it. -/
theorem acc_step (f : ℕ → ℕ → ℝ) (n : ℕ) (hn : n ≤ I.val) (X : Vec Ideal S1x64x8192 .f32) (p : Fin 4 → FVec Ideal S64x512 .f32) (e : Fin 64)
    (hX : ∀ j : Fin 8192, X (ix3 0 e j) = ((∑ t ∈ Finset.Ico 0 (done I n j.val), f t j.val : ℝ) : EReal))
    (hp : ∀ (r : Fin 4) (j : Fin 512), p r (ix2 e j)
      = ((∑ t ∈ Finset.Ico (512 * I.val + 128 * r.val) (512 * I.val + 128 * r.val + 128), f t (512 * (groupAt I n).val + j.val) : ℝ) : EReal)) (j : Fin 8192) :
    colPut X ![0, 0, 512 * (groupAt I n).val] (accum4 (colGet X ![0, 0, 512 * (groupAt I n).val] (inb_acc (groupAt I n))) p) (ix3 0 e j)
      = ((∑ t ∈ Finset.Ico 0 (done I (n + 1) j.val), f t j.val : ℝ) : EReal) := by
  have hg : (groupAt I n).val = I.val - n := rfl
  by_cases h : 512 * (groupAt I n).val ≤ j.val ∧ j.val < 512 * (groupAt I n).val + 512
  · rw [colPut_in X _ _ e j h]
    have ej : 512 * (groupAt I n).val + (j.val - 512 * (groupAt I n).val) = j.val := by omega
    have d0 : done I n j.val = 512 * I.val := if_neg (by rw [edge]; omega)
    have d1 : done I (n + 1) j.val = 512 * I.val + 512 := (if_pos (by rw [edge]; omega)).trans (by omega)
    refine (accum4_at _ p e _).trans ?_
    rw [hp 0, hp 1, hp 2, hp 3, colGet_at X (groupAt I n) e]
    have hX' := hX j
    rw [d0] at hX'
    simp only [ej, d1]
    show X (ix3 0 e j) + _ + _ + _ + _ = _
    rw [hX']
    exact four_parts (fun t => f t j.val) (512 * I.val)
  · rw [colPut_out X _ _ e j h, hX j]
    have : done I (n + 1) j.val = done I n j.val := by
      unfold done edge
      by_cases hc : 512 * (I.val + 1 - n) ≤ j.val
      · rw [if_pos hc, if_pos (by omega)]
      · rw [if_neg hc, if_neg (by omega)]
    rw [this]

include hx in
theorem step_is (n : ℕ) (hn : n ≤ I.val) (s : State Ideal) (hs : StateIs H I n s) :
    StateIs H I (n + 1) (groupStep x (maskAt I n) (groupAt I n) s) := by
  have hI := I.isLt
  have hg : (groupAt I n).val = I.val - n := rfl
  have e0 : edge I n = 512 * (groupAt I n).val + 512 := by rw [edge]; omega
  have e1 : edge I (n + 1) = 512 * (groupAt I n).val := by rw [edge]; omega
  have hk : ∀ (j : Fin 512) (e : Fin 64), keys x.k (groupAt I n) (ix3 0 j e) = ((H.k (512 * (groupAt I n).val + j.val) e : ℝ) : EReal) :=
    fun j e => (keys_at x.k _ j e).trans (hx.k _ e)
  have hv : ∀ (j : Fin 512) (e : Fin 64), keys x.v (groupAt I n) (ix3 0 j e) = ((H.v (512 * (groupAt I n).val + j.val) e : ℝ) : EReal) :=
    fun j e => (keys_at x.v _ j e).trans (hx.v _ e)
  have hc : 512 * (groupAt I n).val + 512 ≤ 8192 := by omega
  have hcs : ∀ r : Fin 4, CarryIs H (512 * I.val + 128 * r.val) (512 * (groupAt I n).val + 512) (s.c r) := fun r => e0 ▸ hs.c r
  refine ⟨fun r => ?_, fun e j => ?_, fun e j => ?_⟩
  · rw [e1]
    exact tileNext_is H _ _ _ _ _ _ _ _ (seen_at I n hn r) (rowOf_is H I x hx r) hk hv hx.a hc (hcs r)
  · exact acc_step I (fun t s => H.q t e * H.dz t s) n hn s.K _ e (fun j => hs.K e j)
      (fun r j => tileK_eq H _ _ _ _ _ _ _ _ (seen_at I n hn r) (rowOf_is H I x hx r) hk hv hx.a hc (hcs r) e j) j
  · exact acc_step I (fun t s => H.d t e * H.wt t s) n hn s.V _ e (fun j => hs.V e j)
      (fun r j => tileV_eq H _ _ _ _ _ _ _ (seen_at I n hn r) (rowOf_is H I x hx r) hk hx.a hc (hcs r) e j) j

include hx in
/-- The state after `n` groups, from accumulators that hold the rows before the block. -/
theorem stateAt_is (K V : Vec Ideal S1x64x8192 .f32)
    (hK : ∀ (e : Fin 64) (j : Fin 8192), K (ix3 0 e j) = ((∑ t ∈ Finset.Ico 0 (512 * I.val), H.q t e * H.dz t j.val : ℝ) : EReal))
    (hV : ∀ (e : Fin 64) (j : Fin 8192), V (ix3 0 e j) = ((∑ t ∈ Finset.Ico 0 (512 * I.val), H.d t e * H.wt t j.val : ℝ) : EReal)) :
    ∀ n ≤ I.val + 1, StateIs H I n (stateAt x I K V n) := by
  intro n
  induction n with
  | zero =>
    intro _
    have hz : ∀ (f : ℕ → ℕ → ℝ) (r : Fin 4) (ρ : Fin 128), (∀ t s, t ≤ s → f t s = 0) →
        ∑ j ∈ Finset.Ico (edge I 0) 8192, f (512 * I.val + 128 * r.val + ρ.val) j = 0 := by
      intro f r ρ h
      refine Finset.sum_eq_zero fun j hj => h _ _ ?_
      have := (Finset.mem_Ico.mp hj).1
      rw [edge] at this
      omega
    have hd : ∀ (f : ℕ → ℕ → ℝ) (j : Fin 8192), (∀ t s, t ≤ s → f t s = 0) →
        ∑ t ∈ Finset.Ico 0 (done I 0 j.val), f t j.val = ∑ t ∈ Finset.Ico 0 (512 * I.val), f t j.val := by
      intro f j h
      unfold done
      by_cases hc : edge I 0 ≤ j.val
      · rw [if_pos hc, ← Finset.sum_Ico_consecutive (fun t => f t j.val) (Nat.zero_le (512 * I.val)) (by omega : 512 * I.val ≤ 512 * (I.val + 1)),
          Finset.sum_eq_zero (s := Finset.Ico (512 * I.val) (512 * (I.val + 1))) (fun t ht => h _ _ (by
            have := (Finset.mem_Ico.mp ht).2
            rw [edge] at hc
            omega)), add_zero]
      · rw [if_neg hc]
    refine ⟨fun r => ⟨?_, ?_, ?_⟩, fun e j => ?_, fun e j => ?_⟩
    · refine eq_up _ _ fun ρ _ => ?_
      rw [hz H.lk r ρ fun t s h => H.lk_zero h]
      show Ideal.ofBits .f32 0x00000000#32 = _
      simp
    · refine eq_up _ _ fun ρ _ => ?_
      rw [hz H.gr r ρ fun t s h => H.gr_zero h]
      show Ideal.ofBits .f32 0x00000000#32 = _
      simp
    · refine eq_up _ _ fun ρ e => ?_
      rw [hz (fun t s => H.dz t s * H.k s e) r ρ fun t s h => by rw [H.dz_zero h, zero_mul]]
      show Ideal.ofBits .f32 0x00000000#32 = _
      simp
    · exact (hK e j).trans (congrArg _ (hd (fun t s => H.q t e * H.dz t s) j fun t s h => by rw [H.dz_zero h, mul_zero]).symm)
    · exact (hV e j).trans (congrArg _ (hd (fun t s => H.d t e * H.wt t s) j fun t s h => by rw [H.wt_zero h, mul_zero]).symm)
  | succ n ih => exact fun h => step_is H I x hx n (by omega) _ (ih (by omega))

include hx in
/-- What a row block ends with. -/
theorem blockOut_is (K V : Vec Ideal S1x64x8192 .f32)
    (hK : ∀ (e : Fin 64) (j : Fin 8192), K (ix3 0 e j) = ((∑ t ∈ Finset.Ico 0 (512 * I.val), H.q t e * H.dz t j.val : ℝ) : EReal))
    (hV : ∀ (e : Fin 64) (j : Fin 8192), V (ix3 0 e j) = ((∑ t ∈ Finset.Ico 0 (512 * I.val), H.d t e * H.wt t j.val : ℝ) : EReal)) :
    (∀ (e : Fin 64) (j : Fin 8192), (blockOut x I K V).K (ix3 0 e j) = ((∑ t ∈ Finset.Ico 0 (512 * (I.val + 1)), H.q t e * H.dz t j.val : ℝ) : EReal))
    ∧ (∀ (e : Fin 64) (j : Fin 8192), (blockOut x I K V).V (ix3 0 e j) = ((∑ t ∈ Finset.Ico 0 (512 * (I.val + 1)), H.d t e * H.wt t j.val : ℝ) : EReal))
    ∧ ∀ (ρ : Fin 512) (e : Fin 64), rowsOut (fun r => ((blockOut x I K V).c r).dq) (ix3 0 ρ e)
      = ((∑ j ∈ Finset.Ico 0 8192, H.dz (512 * I.val + ρ.val) j * H.k j e : ℝ) : EReal) := by
  have h := stateAt_is H I x hx K V hK hV (I.val + 1) le_rfl
  have e0 : edge I (I.val + 1) = 0 := by rw [edge]; omega
  have d0 : ∀ j, done I (I.val + 1) j = 512 * (I.val + 1) := fun j => if_pos (by omega)
  refine ⟨fun e j => (h.K e j).trans (by rw [d0]), fun e j => (h.V e j).trans (by rw [d0]), fun ρ e => ?_⟩
  refine rowsOut_at _ (fun ρ e => ∑ j ∈ Finset.Ico 0 8192, H.dz (512 * I.val + ρ) j * H.k j e) (fun r => ?_) ρ e
  refine (h.c r).dq.trans (congrArg up (funext fun ρ => funext fun e => ?_))
  rw [e0, ← Nat.add_assoc]

end

end Cert.SbBwd
-- ==== Proof.BlockRead.lean ====
/- The blocks of a point, in the arrays. -/
module

public import proofs.«01_k».proof.Proof.HostValue
public import proofs.«01_k».proof.Proof.BlockReal
public import Idealize.ShloMosaic.Lib.Pipeline.ValueKit

@[expose] public section

set_option maxRecDepth 16384

noncomputable section

namespace Cert.SbBwd

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (c : Dev nD)

/-- The arguments are real numbers: those of the heads. -/
structure ArgsAre (H : Fin 16 → Head) : Prop where
  q : ∀ (h : Fin 16) (t : Fin 8192) (e : Fin 64), m ((c.tc : Thread nD τ).loc main_arg0) (ix3 h t e) = (((H h).q t.val e : ℝ) : EReal)
  k : ∀ (h : Fin 16) (t : Fin 8192) (e : Fin 64), m ((c.tc : Thread nD τ).loc main_arg1) (ix3 h t e) = (((H h).k t.val e : ℝ) : EReal)
  v : ∀ (h : Fin 16) (t : Fin 8192) (e : Fin 64), m ((c.tc : Thread nD τ).loc main_arg2) (ix3 h t e) = (((H h).v t.val e : ℝ) : EReal)
  d : ∀ (h : Fin 16) (t : Fin 8192) (e : Fin 64), m ((c.tc : Thread nD τ).loc main_arg3) (ix3 h t e) = (((H h).d t.val e : ℝ) : EReal)

theorem idx : ∀ t : Fin cfg0.N, win0_0.index t = ![t.val / 16, t.val % 16, 0] ∧ win0_1.index t = ![t.val / 16, 0, t.val % 16]
    ∧ win0_2.index t = ![t.val / 16, 0, 0] ∧ win0_3.index t = ![t.val / 16, 0, 0] ∧ win0_4.index t = ![t.val / 16, t.val % 16, 0]
    ∧ win0_5.index t = ![t.val / 16, t.val % 16, 0] ∧ win0_6.index t = ![t.val / 16, 0, t.val % 16] ∧ win0_7.index t = ![0, 0]
    ∧ win0_8.index t = ![t.val / 16, t.val % 16, 0] ∧ win0_9.index t = ![t.val / 16, 0, 0] ∧ win0_10.index t = ![t.val / 16, 0, 0] :=
  (by decide +kernel : ∀ t : Fin grid0.N, _)

/-- The head of a point. -/
def headAt (t : Fin cfg0.N) : Fin 16 := ⟨t.val / 16, by have h : t.val < 256 := t.isLt; omega⟩

theorem blk_q (t : Fin cfg0.N) (ρ : Fin 512) (e : Fin 64) :
    iblk m c 0 t (ix3 0 ρ e) = V m c main_arg0 (ix3 (headAt t) ⟨512 * (rowAt t).val + ρ.val, by have := (rowAt t).isLt; omega⟩ e) := by
  have h : t.val < 256 := t.isLt
  blk_ext [iblk, idx t]
  all_goals simp only [headAt, rowAt]; omega

theorem blk_qT (t : Fin cfg0.N) (e : Fin 64) (ρ : Fin 512) :
    iblk m c 1 t (ix3 0 e ρ) = V m c main_v34 (ix3 (headAt t) e ⟨512 * (rowAt t).val + ρ.val, by have := (rowAt t).isLt; omega⟩) := by
  have h : t.val < 256 := t.isLt
  blk_ext [iblk, idx t]
  all_goals simp only [headAt, rowAt]; omega

theorem blk_k (t : Fin cfg0.N) (s : Fin 8192) (e : Fin 64) : iblk m c 2 t (ix3 0 s e) = V m c main_arg1 (ix3 (headAt t) s e) := by
  have h : t.val < 256 := t.isLt
  blk_ext [iblk, idx t]
  all_goals simp only [headAt, rowAt]; omega

theorem blk_v (t : Fin cfg0.N) (s : Fin 8192) (e : Fin 64) : iblk m c 3 t (ix3 0 s e) = V m c main_arg2 (ix3 (headAt t) s e) := by
  have h : t.val < 256 := t.isLt
  blk_ext [iblk, idx t]
  all_goals simp only [headAt, rowAt]; omega

theorem blk_o (t : Fin cfg0.N) (ρ : Fin 512) (e : Fin 64) :
    iblk m c 4 t (ix3 0 ρ e) = V m c main_v28 (ix3 (headAt t) ⟨512 * (rowAt t).val + ρ.val, by have := (rowAt t).isLt; omega⟩ e) := by
  have h : t.val < 256 := t.isLt
  blk_ext [iblk, idx t]
  all_goals simp only [headAt, rowAt]; omega

theorem blk_d (t : Fin cfg0.N) (ρ : Fin 512) (e : Fin 64) :
    iblk m c 5 t (ix3 0 ρ e) = V m c main_v35 (ix3 (headAt t) ⟨512 * (rowAt t).val + ρ.val, by have := (rowAt t).isLt; omega⟩ e) := by
  have h : t.val < 256 := t.isLt
  blk_ext [iblk, idx t]
  all_goals simp only [headAt, rowAt]; omega

theorem blk_dT (t : Fin cfg0.N) (e : Fin 64) (ρ : Fin 512) :
    iblk m c 6 t (ix3 0 e ρ) = V m c main_v36 (ix3 (headAt t) e ⟨512 * (rowAt t).val + ρ.val, by have := (rowAt t).isLt; omega⟩) := by
  have h : t.val < 256 := t.isLt
  blk_ext [iblk, idx t]
  all_goals simp only [headAt, rowAt]; omega

theorem blk_a (t : Fin cfg0.N) (i : Fin 512) (j : Fin 256) : iblk m c 7 t (ix2 i j) = V m c main_v33 (ix2 i j) := by
  blk_ext [iblk, idx t]

end Cert.SbBwd
-- ==== Proof.Finite.lean ====
/- Finite arguments are real numbers. -/
module

public import proofs.«01_k».proof.Defs
public import proofs.«01_k».proof.Proof.BlockRead
public import proofs.«01_k».proof.Proof.RefReal

@[expose] public section

set_option maxRecDepth 16384

noncomputable section

namespace Cert.SbBwd

open Cert.KernelIdeal Cert.KernelIdeal.Gen
open Idealize.ShloMosaic Idealize.ShloMosaic.TcCoe

/-- The shape facts the precondition's text takes. -/
instance finiteFacts : Cert.Pre_finite.Facts where
  bitsLt_bf16_f32 := by decide
  bcast_S_S16x8192x64 := by decide

/-- An array whose absolute values compare below infinity is nowhere infinite. -/
theorem ne_of_finite (hb : (⟨0, ![]⟩ : Shape).BroadcastsInDim S16x8192x64 (![] : Fin 0 → Fin S16x8192x64.rank)) (x : FVec Ideal S16x8192x64 .f32)
    (hx : cmpf .olt (Host.absf x) (broadcastInDim S16x8192x64 ![] hb (constant ⟨0, ![]⟩ .f32 0x7F800000#32)) = fun _ => 1#1)
    (h : Fin 16) (t : Fin 8192) (e : Fin 64) : (((x (ix3 h t e) : EReal).toReal : ℝ) : EReal) = x (ix3 h t e) := by
  have hi := congrFun hx (ix3 h t e)
  revert hi
  pointwise []
  intro hi
  rw [inf_word] at hi
  have hlt : max (x (ix3 h t e) : EReal) (-(x (ix3 h t e) : EReal)) < ⊤ := by
    by_contra hn
    exact absurd (hi.symm.trans (congrArg BitVec.ofBool (decide_eq_false hn))) (by decide)
  have h1 := (le_max_left _ _).trans_lt hlt
  have h2 := (le_max_right _ _).trans_lt hlt
  refine EReal.coe_toReal h1.ne fun hb => ?_
  rw [hb, EReal.neg_bot] at h2
  exact absurd h2 (lt_irrefl _)

/-- The rows of one head of an array. -/
def rowsOf (x : FVec Ideal S16x8192x64 .f32) (h : Fin 16) (t : ℕ) (e : Fin 64) : ℝ :=
  if ht : t < 8192 then (x (ix3 h ⟨t, ht⟩ e) : EReal).toReal else 0

variable (m : (ℓ : Loc nD τ sig) → Buf (Elt Ideal) ℓ) (c : Dev nD)

/-- The head `h` of the arguments. -/
def headOf (h : Fin 16) : Head :=
  ⟨rowsOf (m ((c.tc : Thread nD τ).loc main_arg0)) h, rowsOf (m ((c.tc : Thread nD τ).loc main_arg1)) h,
    rowsOf (m ((c.tc : Thread nD τ).loc main_arg2)) h, rowsOf (m ((c.tc : Thread nD τ).loc main_arg3)) h⟩

theorem rowsOf_at (hb : (⟨0, ![]⟩ : Shape).BroadcastsInDim S16x8192x64 (![] : Fin 0 → Fin S16x8192x64.rank)) (x : FVec Ideal S16x8192x64 .f32)
    (hx : cmpf .olt (Host.absf x) (broadcastInDim S16x8192x64 ![] hb (constant ⟨0, ![]⟩ .f32 0x7F800000#32)) = fun _ => 1#1)
    (h : Fin 16) (t : Fin 8192) (e : Fin 64) : x (ix3 h t e) = ((rowsOf x h t.val e : ℝ) : EReal) := by
  rw [rowsOf, dif_pos t.isLt]
  exact (ne_of_finite hb x hx h t e).symm

theorem argsAre (hpre : Cert.Pre_KernelIdeal_finite m) : ArgsAre m c (headOf m c) := by
  obtain ⟨h0, h1, h2, h3⟩ := hpre c
  exact ⟨rowsOf_at finiteFacts.bcast_S_S16x8192x64 _ h0, rowsOf_at finiteFacts.bcast_S_S16x8192x64 _ h1,
    rowsOf_at finiteFacts.bcast_S_S16x8192x64 _ h2, rowsOf_at finiteFacts.bcast_S_S16x8192x64 _ h3⟩

end Cert.SbBwd
-- ==== Proof.Value.lean ====
/- What the kernel returns, at real inputs. -/
module

public import proofs.«01_k».proof.Proof.BlockRead

@[expose] public section

set_option maxRecDepth 16384

noncomputable section

namespace Cert.SbBwd

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (c : Dev nD) (H : Fin 16 → Head) (hA : ArgsAre m c H)

include hA in
theorem V_out_at (h : Fin 16) (t : Fin 8192) (e : Fin 64) : V m c main_v28 (ix3 h t e) = (((H h).o t.val e : ℝ) : EReal) := by
  rw [V_out]
  exact Ref.out_at (H h) h _ _ _ (hA.q h) (hA.k h) (hA.v h) t e

theorem V_qT_at (h : Fin 16) (e : Fin 64) (t : Fin 8192) : V m c main_v34 (ix3 h e t) = m ((c.tc : Thread nD τ).loc main_arg0) (ix3 h t e) := by
  rw [V_qT]
  pointwise []

theorem V_d_at (h : Fin 16) (t : Fin 8192) (e : Fin 64) : V m c main_v35 (ix3 h t e) = m ((c.tc : Thread nD τ).loc main_arg3) (ix3 h t e) := by
  rw [V_d]
  rfl

theorem V_dT_at (h : Fin 16) (e : Fin 64) (t : Fin 8192) : V m c main_v36 (ix3 h e t) = m ((c.tc : Thread nD τ).loc main_arg3) (ix3 h t e) := by
  rw [V_dT]
  pointwise []

set_option maxHeartbeats 4000000 in
include hA in
theorem blocksAt_are (t : Fin cfg0.N) : BlocksAre (H (headAt t)) (rowAt t).val (blocksAt m c t) := by
  refine ⟨fun ρ e => ?_, fun e ρ => ?_, fun s e => ?_, fun s e => ?_, fun ρ e => ?_, fun ρ e => ?_, fun e ρ => ?_, fun i j => ?_⟩
  · exact (blk_q m c t ρ e).trans ((congrFun (V_main_arg0 m c) _).trans (hA.q _ _ e))
  · exact (blk_qT m c t e ρ).trans ((V_qT_at m c _ e _).trans (hA.q _ _ e))
  · exact (blk_k m c t s e).trans ((congrFun (V_main_arg1 m c) _).trans (hA.k _ _ e))
  · exact (blk_v m c t s e).trans ((congrFun (V_main_arg2 m c) _).trans (hA.v _ _ e))
  · exact (blk_o m c t ρ e).trans (V_out_at m c H hA _ _ e)
  · exact (blk_d m c t ρ e).trans ((V_d_at m c _ _ e).trans (hA.d _ _ e))
  · exact (blk_dT m c t e ρ).trans ((V_dT_at m c _ e _).trans (hA.d _ _ e))
  · exact (blk_a m c t i j).trans (V_after m c i j)

theorem one_ix3 {n1 n2 : Nat} (y : (⟨3, ![1, n1, n2]⟩ : Shape).Idx) : y = ix3 0 (y 1) (y 2) :=
  (eq_ix3 y).trans (congrArg (ix3 · (y 1) (y 2)) (Subsingleton.elim (α := Fin 1) (y 0) 0))

theorem acc0_at (e : Fin 64) (j : Fin 8192) : (acc0 : Vec Ideal S1x64x8192 .f32) (ix3 0 e j) = ((0 : ℝ) : EReal) := by
  pointwise [acc0]
  exact EReal.coe_zero.symm

include hA in
/-- Before a point the accumulators hold the sums over the rows before its block. -/
theorem accs_are (n : ℕ) : ∀ t : Fin cfg0.N, t.val = n →
    (∀ (e : Fin 64) (j : Fin 8192), (accs m c t.val).1 (ix3 0 e j)
      = ((∑ i ∈ Finset.Ico 0 (512 * (rowAt t).val), (H (headAt t)).q i e * (H (headAt t)).dz i j.val : ℝ) : EReal))
    ∧ ∀ (e : Fin 64) (j : Fin 8192), (accs m c t.val).2 (ix3 0 e j)
      = ((∑ i ∈ Finset.Ico 0 (512 * (rowAt t).val), (H (headAt t)).d i e * (H (headAt t)).wt i j.val : ℝ) : EReal) := by
  induction n with
  | zero =>
    intro t ht
    have hr : (rowAt t).val = 0 := by simp only [rowAt, ht]
    rw [hr, accs_reset m c t.val (by omega)]
    exact ⟨fun e j => (acc0_at e j).trans (by simp), fun e j => (acc0_at e j).trans (by simp)⟩
  | succ n ih =>
    intro t ht
    by_cases h16 : t.val % 16 = 0
    · have hr : (rowAt t).val = 0 := h16
      rw [hr, accs_reset m c t.val h16]
      exact ⟨fun e j => (acc0_at e j).trans (by simp), fun e j => (acc0_at e j).trans (by simp)⟩
    · rw [accs_next m c t h16]
      let u : Fin cfg0.N := ⟨t.val - 1, Nat.lt_of_le_of_lt (Nat.sub_le _ _) t.isLt⟩
      have hu := ih u (by show t.val - 1 = n; omega)
      have hb := blockOut_is (H (headAt u)) (rowAt u) (blocksAt m c u) (blocksAt_are m c H hA u) _ _ hu.1 hu.2
      have e1 : headAt t = headAt u := Fin.ext (by show t.val / 16 = (t.val - 1) / 16; omega)
      have e2 : (rowAt t).val = (rowAt u).val + 1 := by show t.val % 16 = (t.val - 1) % 16 + 1; omega
      rw [e1, e2]
      exact ⟨hb.1, hb.2.1⟩

include hA in
/-- What a point leaves. -/
theorem outAt_is (t : Fin cfg0.N) :
    (∀ (e : Fin 64) (j : Fin 8192), (outAt m c t).K (ix3 0 e j)
      = ((∑ i ∈ Finset.Ico 0 (512 * ((rowAt t).val + 1)), (H (headAt t)).q i e * (H (headAt t)).dz i j.val : ℝ) : EReal))
    ∧ (∀ (e : Fin 64) (j : Fin 8192), (outAt m c t).V (ix3 0 e j)
      = ((∑ i ∈ Finset.Ico 0 (512 * ((rowAt t).val + 1)), (H (headAt t)).d i e * (H (headAt t)).wt i j.val : ℝ) : EReal))
    ∧ ∀ (ρ : Fin 512) (e : Fin 64), rowsOut (fun r => ((outAt m c t).c r).dq) (ix3 0 ρ e)
      = ((∑ j ∈ Finset.Ico 0 8192, (H (headAt t)).dz (512 * (rowAt t).val + ρ.val) j * (H (headAt t)).k j e : ℝ) : EReal) :=
  blockOut_is (H (headAt t)) (rowAt t) (blocksAt m c t) (blocksAt_are m c H hA t) _ _ (accs_are m c H hA t.val t rfl).1 (accs_are m c H hA t.val t rfl).2

/-- The gradient of the queries, -/
def dqOf : FVec Ideal S16x8192x64 .f32 := fun i => ((∑ j ∈ Finset.Ico 0 8192, (H (i 0)).dz (i 1).val j * (H (i 0)).k j (i 2) : ℝ) : EReal)
/-- of the keys, -/
def dkTOf : FVec Ideal S16x64x8192 .f32 := fun i => ((∑ t ∈ Finset.Ico 0 8192, (H (i 0)).q t (i 1) * (H (i 0)).dz t (i 2).val : ℝ) : EReal)
/-- and of the values. -/
def dvTOf : FVec Ideal S16x64x8192 .f32 := fun i => ((∑ t ∈ Finset.Ico 0 8192, (H (i 0)).d t (i 1) * (H (i 0)).wt t (i 2).val : ℝ) : EReal)

include hA in
theorem final_8 : (dats m 0 c).arrAt 8 (cfgs 0).N = dqOf H := by
  refine (dats m 0 c).arrAt_eq_of_covers 8 _ (by decide +kernel) fun t hf y => ?_
  have h : t.val < 256 := t.isLt
  blk_simp
  rw [after_8]
  have he : (win0_8.blk t).view.emb y = ix3 (headAt t) ⟨512 * (rowAt t).val + (y 1).val, by have := (rowAt t).isLt; have : (y 1).val < 512 := (y 1).isLt; omega⟩ (y 2) := by
    blk_ext [idx t]
    all_goals simp only [headAt, rowAt] <;> omega
  rw [he]
  refine (congrArg (rowsOut fun r => ((outAt m c t).c r).dq) (one_ix3 (n1 := 512) (n2 := 64) y)).trans ?_
  exact (outAt_is m c H hA t).2.2 (y 1) (y 2)

include hA in
theorem final_9 : (dats m 0 c).arrAt 9 (cfgs 0).N = dkTOf H := by
  refine (dats m 0 c).arrAt_eq_of_covers 9 _ (by decide +kernel) fun t hf y => ?_
  have h : t.val < 256 := t.isLt
  have h15 := (flush0_9 t).mp hf
  blk_simp
  rw [after_9]
  have he : (win0_9.blk t).view.emb y = ix3 (headAt t) (y 1) (y 2) := by
    blk_ext [idx t]
    all_goals simp only [headAt, rowAt]
  rw [he]
  refine (congrArg (outAt m c t).K (one_ix3 (n1 := 64) (n2 := 8192) y)).trans ?_
  refine ((outAt_is m c H hA t).1 (y 1) (y 2)).trans ?_
  rw [show 512 * ((rowAt t).val + 1) = 8192 by show 512 * (t.val % 16 + 1) = 8192; omega]
  rfl

include hA in
theorem final_10 : (dats m 0 c).arrAt 10 (cfgs 0).N = dvTOf H := by
  refine (dats m 0 c).arrAt_eq_of_covers 10 _ (by decide +kernel) fun t hf y => ?_
  have h : t.val < 256 := t.isLt
  have h15 := (flush0_10 t).mp hf
  blk_simp
  rw [after_10]
  have he : (win0_10.blk t).view.emb y = ix3 (headAt t) (y 1) (y 2) := by
    blk_ext [idx t]
    all_goals simp only [headAt, rowAt]
  rw [he]
  refine (congrArg (outAt m c t).V (one_ix3 (n1 := 64) (n2 := 8192) y)).trans ?_
  refine ((outAt_is m c H hA t).2.1 (y 1) (y 2)).trans ?_
  rw [show 512 * ((rowAt t).val + 1) = 8192 by show 512 * (t.val % 16 + 1) = 8192; omega]
  rfl

end Cert.SbBwd
-- ==== Proof.RefValue.lean ====
/- The reference's results at the heads of its arguments. -/
module

public import proofs.«01_k».proof.Proof.Value
public import proofs.«01_k».proof.Proof.RefReal

@[expose] public section

set_option maxRecDepth 16384

noncomputable section

namespace Cert.SbBwd

open Cert.ReferenceIdeal Cert.ReferenceIdeal.Gen
open Idealize.ShloMosaic Idealize.ShloMosaic.TcCoe

section
variable (H : Fin 16 → Head) (q k v : FVec Ideal S16x8192x64 .bf16) (d : FVec Ideal S16x8192x64 .f32)
  (hq : ∀ (h : Fin 16) (t : Fin 8192) (e : Fin 64), q (ix3 h t e) = (((H h).q t.val e : ℝ) : EReal))
  (hk : ∀ (h : Fin 16) (t : Fin 8192) (e : Fin 64), k (ix3 h t e) = (((H h).k t.val e : ℝ) : EReal))
  (hv : ∀ (h : Fin 16) (t : Fin 8192) (e : Fin 64), v (ix3 h t e) = (((H h).v t.val e : ℝ) : EReal))
  (hd : ∀ (h : Fin 16) (t : Fin 8192) (e : Fin 64), d (ix3 h t e) = (((H h).d t.val e : ℝ) : EReal))

include hq hk hv hd in
theorem dq_all : Ref.dq (Ref.wide k) (Ref.gradScore (Ref.logits (Ref.wide q) (Ref.wide k)) (Ref.gradLog (Ref.wide v) d (Ref.logits (Ref.wide q) (Ref.wide k)))) = dqOf H := by
  funext i
  rw [eq_ix3 (n0 := 16) (n1 := 8192) (n2 := 64) i]
  exact Ref.dq_at (H (i 0)) (i 0) (Ref.wide q) (Ref.wide k) (Ref.wide v) d (hq (i 0)) (hk (i 0)) (hv (i 0)) (hd (i 0)) (i 1) (i 2)

include hq hk hv hd in
theorem dkT_all : Ref.dkT (Ref.wide q) (Ref.gradScore (Ref.logits (Ref.wide q) (Ref.wide k)) (Ref.gradLog (Ref.wide v) d (Ref.logits (Ref.wide q) (Ref.wide k)))) = dkTOf H := by
  funext i
  rw [eq_ix3 (n0 := 16) (n1 := 64) (n2 := 8192) i]
  exact Ref.dkT_at (H (i 0)) (i 0) (Ref.wide q) (Ref.wide k) (Ref.wide v) d (hq (i 0)) (hk (i 0)) (hv (i 0)) (hd (i 0)) (i 1) (i 2)

include hq hk hd in
theorem dvT_all : Ref.dvT d (Ref.weight (Ref.logits (Ref.wide q) (Ref.wide k))) = dvTOf H := by
  funext i
  rw [eq_ix3 (n0 := 16) (n1 := 64) (n2 := 8192) i]
  exact Ref.dvT_at (H (i 0)) (i 0) (Ref.wide q) (Ref.wide k) d (hq (i 0)) (hk (i 0)) (hd (i 0)) (i 1) (i 2)
end

end Cert.SbBwd
-- ==== Proof.Algebraic.lean ====
/- The kernel and the reference leave the same gradients. -/
module

public import proofs.«01_k».proof.Proof.Finite
public import proofs.«01_k».proof.Proof.RefValue
public import proofs.«01_k».proof.Proof.RefTerm
public import Idealize.ShloMosaic.Lib.Claim

@[expose] public section

set_option maxRecDepth 16384

noncomputable section

namespace Cert.SbBwd

open Idealize.ShloMosaic Idealize.ShloMosaic.TcCoe Idealize.SL.Sem

section
open Cert.KernelIdeal Cert.KernelIdeal.Gen

variable (m : (ℓ : Loc nD τ sig) → Buf (Elt Ideal) ℓ) (ρ : Dev nD → PrngReg)

/-- The kernel run: its results are the gradients of the heads. -/
theorem run_grads (H : Dev nD → Fin 16 → Head) (hA : ∀ c, ArgsAre m c (H c)) :
    θ_run (defs (F := Ideal)) (onTc (τ := τ) (main (F := Ideal))) ⟨m, fun _ => 0, ρ⟩ (fun r => ∀ c : Dev nD,
      r.2.mem ((c.tc : Thread nD τ).loc main_v37_0) = dqOf (H c)
      ∧ r.2.mem ((c.tc : Thread nD τ).loc main_v37_1) = dkTOf (H c)
      ∧ r.2.mem ((c.tc : Thread nD τ).loc main_v37_2) = dvTOf (H c)) :=
  (θ_run defs _ _).mono (fun _ h c => ⟨((h c).1 8).trans (final_8 m c (H c) (hA c)), ((h c).1 9).trans (final_9 m c (H c) (hA c)),
    ((h c).1 10).trans (final_10 m c (H c) (hA c))⟩) (run_main m ρ)
end

theorem algebraic : Cert.algebraic_KernelIdeal_ReferenceIdeal_pre_finite := fun m g m' g' hpre hagree => by
  have hA := fun c => argsAre m c hpre
  refine ⟨fun c => dqOf (headOf m c), fun c => dkTOf (headOf m c), fun c => dvTOf (headOf m c),
    (θ_run Cert.KernelIdeal.defs _ _).mono (fun r h c => ?_) (θ_run_and (run_grads m g (headOf m) hA) (frame_all m g)),
    (θ_run Cert.ReferenceIdeal.defs _ _).mono (fun r h c => ?_) (Cert.ReferenceIdeal.Value.run m' g')⟩
  · exact ⟨(h.1 c).1, (h.1 c).2.1, (h.1 c).2.2, h.2.1 c⟩
  · obtain ⟨h0, h1, h2, hr⟩ := h c
    obtain ⟨a0, a1, a2, a3⟩ := hagree c
    refine ⟨h0.trans ?_, h1.trans ?_, h2.trans ?_, hr⟩
    · rw [res_dq, a0, a1, a2, a3]
      exact dq_all (headOf m c) _ _ _ _ (hA c).q (hA c).k (hA c).v (hA c).d
    · rw [res_dkT, a0, a1, a2, a3]
      exact dkT_all (headOf m c) _ _ _ _ (hA c).q (hA c).k (hA c).v (hA c).d
    · rw [res_dvT, a0, a1, a3]
      exact dvT_all (headOf m c) _ _ _ (hA c).q (hA c).k (hA c).d

end Cert.SbBwd
-- ==== Proof.OutDx.lean ====
/- The gradient of the FFN's two halves, from that of its output. -/
module

public import proofs.«01_k».proof.Defs
public import proofs.«01_k».proof.Proof.Gen.OutDx.Frame
public import proofs.«01_k».proof.Proof.Gen.OutDxIdeal.Frame
public import proofs.«01_k».proof.Proof.Gen.OutDxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDxProof

open Cert.OutDxIdeal Cert.OutDxIdeal.Gen
open Idealize.ShloMosaic Idealize.ShloMosaic.TcCoe

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![0, t.val / 2, t.val % 2] ∧ win0_3.index t = ![0, t.val / 2, t.val % 2] :=
  (by decide +kernel : ∀ t : Fin grid0.N, _)

/-- The gradient of the product `silu gate * up`, at a row and a column. -/
def dAct (D : FVec Ideal S8192x1024 .bf16) (W : FVec Ideal S2816x1024 .bf16) (r : Fin 8192) (i : Fin 2816) : EReal :=
  ∑ k : Fin 1024, D (ix2 r k) * W (ix2 i k)

/-- `σ(gate)` at a row and a column. -/
def gateσ (U : FVec Ideal S2x8192x2816 .f32) (r : Fin 8192) (i : Fin 2816) : EReal :=
  Ideal.logistic (U (ix3 0 r i))

/-- The gradients of the gate (half 0) and of the up projection (half 1). -/
def grads (D : FVec Ideal S8192x1024 .bf16) (W : FVec Ideal S2816x1024 .bf16) (U : FVec Ideal S2x8192x2816 .f32) :
    FVec Ideal S2x8192x2816 .bf16 := fun j =>
  if (j 0).val < 1 then
    dAct D W (j 1) (j 2) * U (ix3 1 (j 1) (j 2)) * gateσ U (j 1) (j 2)
      + U (ix3 0 (j 1) (j 2)) * (dAct D W (j 1) (j 2) * U (ix3 1 (j 1) (j 2))) * (gateσ U (j 1) (j 2) * (1 - gateσ U (j 1) (j 2)))
  else U (ix3 0 (j 1) (j 2)) * gateσ U (j 1) (j 2) * dAct D W (j 1) (j 2)

theorem final :
    (dats m 0 c).arrAt 3 (cfgs 0).N = grads (m ((c.tc : Thread nD τ).loc main_arg0)) (m ((c.tc : Thread nD τ).loc main_arg1))
      (m ((c.tc : Thread nD τ).loc main_arg2)) := by
  refine (dats m 0 c).arrAt_eq_of_covers 3 _ (by decide +kernel) fun t _ y => ?_
  blk_simp
  rw [after0_3]
  frame_out
  canon_tiles x h
  all_goals blk_simp [idx t]
  all_goals pointwise [k0_pay1, k0_pay2, k0_pay3, k0_pay4, k0_pay5, grads, gateσ, dAct, h0, h1, h2]
  all_goals split_ifs with hc <;> blk_simp [idx t] at hc
  all_goals first | (exfalso; omega) | blk_point [iblk, V, idx t]

theorem algebraic : Cert.algebraic_OutDxIdeal_OutDxReferenceIdeal := by
  pair_intro
  · run_from run_main m g
  · run_from Cert.OutDxReferenceIdeal.Value.run m' g'
    rw [final m c]
    funext j
    pointwise [grads, gateσ, Ideal.logistic, dAct]
    rw [(hagree c).2.2]
    exact dite_eq_ite

theorem frame_kernel : Cert.quiescent_OutDx := fun m ρ _ => Cert.OutDx.Gen.frame m ρ

theorem frame_ideal : Cert.quiescent_OutDxIdeal := fun m ρ _ => frame m ρ

theorem frame_reference : Cert.quiescent_OutDxReferenceIdeal := fun m ρ _ =>
  (θ_run Cert.OutDxReferenceIdeal.defs _ _).mono (fun r h => ⟨fun c => (h c).2, sem_eq_zero_of_no_sems (by decide) r.2⟩)
    (Cert.OutDxReferenceIdeal.Value.run m ρ)

end Cert.OutDxProof
-- ==== Proof.InDx.lean ====
/- The gradient of the FFN's input: the blocked product is the whole one. -/
module

public import proofs.«01_k».proof.Defs
public import proofs.«01_k».proof.Proof.Gen.InDx.Frame
public import proofs.«01_k».proof.Proof.Gen.InDxIdeal.Frame
public import proofs.«01_k».proof.Proof.Gen.InDxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.InDxProof

open Cert.InDxIdeal Cert.InDxIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1x1024x1408 .bf16) (y : FVec Ideal S1408x1024 .bf16) (j : S1024x1024.Idx) :
    k0_pay2 acc x y j = acc j + ∑ k : Fin 1408, x (ix3 0 (j 0) k) * y (ix2 k (j 1)) := by
  pointwise [k0_pay2]

theorem cast_at (acc : FVec Ideal S1024x1024 .f32) (j : S1024x1024.Idx) : k0_pay3 (F := Ideal) acc j = (acc j : EReal) := by
  pointwise [k0_pay3]

theorem idx : ∀ t : Fin cfg0.N, win0_0.index t = ![t.val % 4 / 2, t.val / 4, t.val % 4 % 2] ∧ win0_1.index t = ![t.val % 4, 0] ∧ win0_2.index t = ![t.val / 4, 0] :=
  (by decide +kernel : ∀ t : Fin grid0.N, _)

/-- The product of a point's blocks, at an index. -/
def part (x : FVec Ideal S1x1024x1408 .bf16) (y : FVec Ideal S1408x1024 .bf16) (j : S1024x1024.Idx) : EReal :=
  ∑ k : Fin 1408, x (ix3 0 (j 0) k) * y (ix2 k (j 1))

abbrev term (t : Fin cfg0.N) (j : S1024x1024.Idx) : EReal := part (iblk m c 0 t) (iblk m c 1 t) j

theorem scratch_first (t : Fin cfg0.N) (h : t.val % 4 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h h3]
    frame_out
    rw [read_unread_whole]
    exact part_at _ _ _ j
  · rw [outsAt0_B m c t h h3]
    frame_out
    rw [read_unread_whole]
    exact part_at _ _ _ j

theorem out_last (t : Fin cfg0.N) (h : t.val % 4 = 3) (j : S1024x1024.Idx) :
    (outsAt0 m c t.val t.isLt).1 j = (outsAt0 m c t.val t.isLt).2 j := by
  rw [outsAt0_C m c t (by omega) h]
  frame_out
  exact cast_at _ j

/-- Column `i` of the two halves side by side, `[gate, up]`. -/
def half (X : FVec Ideal S2x8192x2816 .bf16) (k : Fin 8192) (i : Fin 5632) : EReal :=
  X (ix3 ⟨i.val / 2816, by omega⟩ k ⟨i.val % 2816, by omega⟩)

theorem sum_halves (X : FVec Ideal S2x8192x2816 .bf16) (Y : FVec Ideal S5632x1024 .bf16) (r : Fin 8192) (j : Fin 1024) :
    ∑ k : Fin 2816, X (ix3 0 r k) * Y (ix2 ⟨k.val, by omega⟩ j) + ∑ k : Fin 2816, X (ix3 1 r k) * Y (ix2 ⟨2816 + k.val, by omega⟩ j)
      = ∑ k : Fin 5632, half X r k * Y (ix2 k j) := by
  refine Eq.trans ?_ (Fin.sum_univ_add (a := 2816) (b := 2816) fun k : Fin 5632 => half X r k * Y (ix2 k j)).symm
  refine congrArg₂ (· + ·) (Finset.sum_congr rfl fun k _ => congrArg₂ (· * ·) ?_ rfl) (Finset.sum_congr rfl fun k _ => congrArg₂ (· * ·) ?_ rfl)
  · unfold half
    congr 2 <;> apply Fin.ext
    · show 0 = k.val / 2816; omega
    · show k.val = k.val % 2816; omega
  · unfold half
    congr 2 <;> apply Fin.ext
    · show 1 = (2816 + k.val) / 2816; omega
    · show k.val = (2816 + k.val) % 2816; omega

theorem final (G : FVec Ideal S8192x1024 .bf16) (X : FVec Ideal S2x8192x2816 .bf16) (Y : FVec Ideal S5632x1024 .bf16)
    (hX : m ((c.tc : Thread nD τ).loc main_arg0) = X) (hY : m ((c.tc : Thread nD τ).loc main_arg1) = Y)
    (hG : ∀ j, G j = ∑ k : Fin 5632, half X (j 0) k * Y (ix2 k (j 1))) :
    (dats m 0 c).arrAt 2 (cfgs 0).N = G := by
  subst hX hY
  refine (dats m 0 c).arrAt_eq_of_covers 2 _ (by decide +kernel) fun t hf y => ?_
  have h3 := (flush0_2 t).mp hf
  blk_simp
  rw [after0_2, out_last m c t h3,
    Pipeline.eq_sum_fin_of_reset_step_apply_of_flush (fun n h => (outsAt0 m c n h).2) 4 (fun _ => 0) (term m c)
      (scratch_first m c) (scratch_next m c) t h3 y, hG, zero_add]
  refine Fin.sum_mul_add_congr fun s k hl => ?_
  obtain ⟨s, hs⟩ := s
  obtain ⟨t, ht⟩ := t
  congr 1
  · blk_ext [iblk, V, idx ⟨t, ht⟩, idx ⟨4 * (t / 4) + s, _⟩]
  · blk_ext [iblk, V, idx ⟨t, ht⟩, idx ⟨4 * (t / 4) + s, _⟩]

theorem algebraic : Cert.algebraic_InDxIdeal_InDxReferenceIdeal := by
  pair_intro
  · run_from run_main m g
  · run_from Cert.InDxReferenceIdeal.Value.run m' g'
    refine (final m c _ _ _ rfl rfl fun j => ?_).symm
    pointwise
    exact sum_halves _ _ (j 0) (j 1)

theorem frame_kernel : Cert.quiescent_InDx := fun m ρ _ => Cert.InDx.Gen.frame m ρ

theorem frame_ideal : Cert.quiescent_InDxIdeal := fun m ρ _ => frame m ρ

theorem frame_reference : Cert.quiescent_InDxReferenceIdeal := fun m ρ _ =>
  (θ_run Cert.InDxReferenceIdeal.defs _ _).mono (fun r h => ⟨fun c => (h c).2, sem_eq_zero_of_no_sems (by decide) r.2⟩)
    (Cert.InDxReferenceIdeal.Value.run m ρ)

end Cert.InDxProof
-- ==== Proof.InDw.lean ====
/- The gradient of the FFN's input weights: the blocked product is the whole one. -/
module

public import proofs.«01_k».proof.Defs
public import proofs.«01_k».proof.Proof.Gen.InDw.Frame
public import proofs.«01_k».proof.Proof.Gen.InDwIdeal.Frame
public import proofs.«01_k».proof.Proof.Gen.InDwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.InDwProof

open Cert.InDwIdeal Cert.InDwIdeal.Gen
open Idealize.ShloMosaic Idealize.ShloMosaic.TcCoe

variable (m : (ℓ : Loc nD τ sig) → Buf (Elt Ideal) ℓ) (c : Dev nD)

theorem zero_at (j : S1408x1024.Idx) : k0_pay1 (F := Ideal) j = 0 := by pointwise [k0_pay1]

theorem part_at (acc : FVec Ideal S1408x1024 .f32) (x : FVec Ideal S1x1024x1408 .bf16) (y : FVec Ideal S1024x1024 .bf16) (j : S1408x1024.Idx) :
    k0_pay2 acc x y j = acc j + ∑ k : Fin 1024, x (ix3 0 k (j 0)) * y (ix2 k (j 1)) := by
  pointwise [k0_pay2]

theorem idx : ∀ t : Fin cfg0.N, win0_0.index t = ![t.val / 8 / 2, t.val % 8, t.val / 8 % 2] ∧ win0_1.index t = ![t.val % 8, 0] ∧ win0_2.index t = ![t.val / 8, 0] :=
  (by decide +kernel : ∀ t : Fin grid0.N, _)

/-- The product of a point's blocks, at an index. -/
def part (x : FVec Ideal S1x1024x1408 .bf16) (y : FVec Ideal S1024x1024 .bf16) (j : S1408x1024.Idx) : EReal :=
  ∑ k : Fin 1024, x (ix3 0 k (j 0)) * y (ix2 k (j 1))

abbrev term (t : Fin cfg0.N) (j : S1408x1024.Idx) : EReal := part (iblk m c 0 t) (iblk m c 1 t) j

theorem scratch_first (t : Fin cfg0.N) (h : t.val % 8 = 0) (j : S1408x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

/-- Column `i` of the two halves side by side, `[gate, up]`. -/
def half (X : FVec Ideal S2x8192x2816 .bf16) (k : Fin 8192) (i : Fin 5632) : EReal :=
  X (ix3 ⟨i.val / 2816, by omega⟩ k ⟨i.val % 2816, by omega⟩)

theorem half_eq (X : FVec Ideal S2x8192x2816 .bf16) (k : Fin 8192) (i : Fin 5632) :
    (if h : i.val < 2816 then X (ix3 0 k ⟨i.val, h⟩) else X (ix3 1 k ⟨i.val - 2816, by omega⟩)) = half X k i := by
  unfold half
  split
  · congr 2 <;> apply Fin.ext
    · show 0 = i.val / 2816; omega
    · show i.val = i.val % 2816; omega
  · congr 2 <;> apply Fin.ext
    · show 1 = i.val / 2816; omega
    · show i.val - 2816 = i.val % 2816; omega

theorem final (G : FVec Ideal S5632x1024 .f32) (X : FVec Ideal S2x8192x2816 .bf16) (Y : FVec Ideal S8192x1024 .bf16)
    (hX : m ((c.tc : Thread nD τ).loc main_arg0) = X) (hY : m ((c.tc : Thread nD τ).loc main_arg1) = Y)
    (hG : ∀ j, G j = ∑ k : Fin 8192, half X k (j 0) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_InDwIdeal_InDwReferenceIdeal := by
  pair_intro
  · run_from run_main m g
  · run_from Cert.InDwReferenceIdeal.Value.run m' g'
    refine (final m c _ _ _ rfl rfl fun j => ?_).symm
    pointwise
    exact Finset.sum_congr rfl fun k _ => congrArg (· * _) (half_eq _ k (j 0))

theorem frame_kernel : Cert.quiescent_InDw := fun m ρ _ => Cert.InDw.Gen.frame m ρ

theorem frame_ideal : Cert.quiescent_InDwIdeal := fun m ρ _ => frame m ρ

theorem frame_reference : Cert.quiescent_InDwReferenceIdeal := fun m ρ _ =>
  (θ_run Cert.InDwReferenceIdeal.defs _ _).mono (fun r h => ⟨fun c => (h c).2, sem_eq_zero_of_no_sems (by decide) r.2⟩)
    (Cert.InDwReferenceIdeal.Value.run m ρ)

end Cert.InDwProof
-- ==== Proof.OutDw.lean ====
/- The gradient of the FFN's output weights: the blocked product is the whole one. -/
module

public import proofs.«01_k».proof.Defs
public import proofs.«01_k».proof.Proof.Gen.OutDw.Frame
public import proofs.«01_k».proof.Proof.Gen.OutDwIdeal.Frame
public import proofs.«01_k».proof.Proof.Gen.OutDwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDwProof

open Cert.OutDwIdeal Cert.OutDwIdeal.Gen
open Idealize.ShloMosaic Idealize.ShloMosaic.TcCoe

variable (m : (ℓ : Loc nD τ sig) → Buf (Elt Ideal) ℓ) (c : Dev nD)

theorem zero_at (j : S1408x1024.Idx) : k0_pay1 (F := Ideal) j = 0 := by pointwise [k0_pay1]

theorem part_at (acc : FVec Ideal S1408x1024 .f32) (x : FVec Ideal S1024x1408 .bf16) (y : FVec Ideal S1024x1024 .bf16) (j : S1408x1024.Idx) :
    k0_pay2 acc x y j = acc j + ∑ k : Fin 1024, x (ix2 k (j 0)) * y (ix2 k (j 1)) := by
  pointwise [k0_pay2]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's blocks, at an index. -/
def part (x : FVec Ideal S1024x1408 .bf16) (y : FVec Ideal S1024x1024 .bf16) (j : S1408x1024.Idx) : EReal :=
  ∑ k : Fin 1024, x (ix2 k (j 0)) * y (ix2 k (j 1))

abbrev term (t : Fin cfg0.N) (j : S1408x1024.Idx) : EReal := part (iblk m c 0 t) (iblk m c 1 t) j

theorem scratch_first (t : Fin cfg0.N) (h : t.val % 8 = 0) (j : S1408x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

theorem final (G : FVec Ideal S2816x1024 .f32) (X : FVec Ideal S8192x2816 .bf16) (Y : FVec Ideal S8192x1024 .bf16)
    (hX : m ((c.tc : Thread nD τ).loc main_arg0) = X) (hY : m ((c.tc : Thread nD τ).loc main_arg1) = Y)
    (hG : ∀ j, G j = ∑ k : Fin 8192, X (ix2 k (j 0)) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_OutDwIdeal_OutDwReferenceIdeal := by
  pair_intro
  · run_from run_main m g
  · run_from Cert.OutDwReferenceIdeal.Value.run m' g'
    refine (final m c _ _ _ rfl rfl fun j => ?_).symm
    pointwise
    exact Finset.sum_congr rfl fun k _ => mul_comm _ _

theorem frame_kernel : Cert.quiescent_OutDw := fun m ρ _ => Cert.OutDw.Gen.frame m ρ

theorem frame_ideal : Cert.quiescent_OutDwIdeal := fun m ρ _ => frame m ρ

theorem frame_reference : Cert.quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run m ρ)

end Cert.OutDwProof
-- ==== Proof.FfnIn.lean ====
/- The FFN's gate and up projections and the product `silu gate * up`. -/
module

public import proofs.«01_k».proof.Defs
public import proofs.«01_k».proof.Proof.Gen.FfnIn.Frame
public import proofs.«01_k».proof.Proof.Gen.FfnInIdeal.Frame
public import proofs.«01_k».proof.Proof.Gen.FfnInReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnInProof

open Cert.FfnInIdeal Cert.FfnInIdeal.Gen
open Idealize.ShloMosaic Idealize.ShloMosaic.TcCoe

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val % 2 + 2, 0] ∧ win0_3.index t = ![0, t.val / 2, t.val % 2] ∧ win0_4.index t = ![t.val / 2, t.val % 2] :=
  (by decide +kernel : ∀ t : Fin grid0.N, _)

/-- The product `h w`, at a row and a column; the first 2816 columns are the gate, the others the up projection. -/
def prod (H : FVec Ideal S8192x1024 .bf16) (W : FVec Ideal S5632x1024 .bf16) (r : Fin 8192) (i : Fin 5632) : EReal :=
  ∑ k : Fin 1024, H (ix2 r k) * W (ix2 i k)

/-- The column of the gate's or of the up projection's column `i`. -/
def colG (i : Fin 2816) : Fin 5632 := ⟨i.val, by omega⟩

def colU (i : Fin 2816) : Fin 5632 := ⟨2816 + i.val, by omega⟩

/-- The gate (half 0) and the up projection (half 1). -/
def halves (H : FVec Ideal S8192x1024 .bf16) (W : FVec Ideal S5632x1024 .bf16) : FVec Ideal S2x8192x2816 .f32 := fun j =>
  if (j 0).val < 1 then prod H W (j 1) (colG (j 2)) else prod H W (j 1) (colU (j 2))

/-- `silu gate * up`. -/
def act (H : FVec Ideal S8192x1024 .bf16) (W : FVec Ideal S5632x1024 .bf16) : FVec Ideal S8192x2816 .bf16 := fun j =>
  prod H W (j 0) (colG (j 1)) * Ideal.logistic (prod H W (j 0) (colG (j 1))) * prod H W (j 0) (colU (j 1))

theorem final_halves :
    (dats m 0 c).arrAt 3 (cfgs 0).N = halves (m ((c.tc : Thread nD τ).loc main_arg0)) (m ((c.tc : Thread nD τ).loc main_arg1)) := by
  refine (dats m 0 c).arrAt_eq_of_covers 3 _ (by decide +kernel) fun t _ y => ?_
  blk_simp
  rw [after0_3]
  frame_out
  canon_tiles x h
  all_goals blk_simp [idx t]
  all_goals pointwise [k0_pay1, k0_pay2, k0_pay3, k0_pay4, halves, prod, colG, colU, h0, h1, h2]
  all_goals split_ifs with hc <;> blk_simp [idx t] at hc
  all_goals first | (exfalso; omega) | blk_point [iblk, V, idx t]

theorem final_act :
    (dats m 0 c).arrAt 4 (cfgs 0).N = act (m ((c.tc : Thread nD τ).loc main_arg0)) (m ((c.tc : Thread nD τ).loc main_arg1)) := by
  refine (dats m 0 c).arrAt_eq_of_covers 4 _ (by decide +kernel) fun t _ y => ?_
  blk_simp
  rw [after0_4]
  frame_out
  pointwise [k0_pay1, k0_pay2, k0_pay5, act, prod, colG, colU]
  blk_point [iblk, V, idx t]

theorem algebraic : Cert.algebraic_FfnInIdeal_FfnInReferenceIdeal := by
  pair_intro
  · run_from run_main m g
  · run_from Cert.FfnInReferenceIdeal.Value.run m' g'
    · rw [final_halves m c]
      funext j
      pointwise [halves, prod, colG, colU]
      exact dite_eq_ite
    · rw [final_act m c]
      funext j
      pointwise [act, prod, colG, colU, Ideal.logistic]

theorem frame_kernel : Cert.quiescent_FfnIn := fun m ρ _ => Cert.FfnIn.Gen.frame m ρ

theorem frame_ideal : Cert.quiescent_FfnInIdeal := fun m ρ _ => frame m ρ

theorem frame_reference : Cert.quiescent_FfnInReferenceIdeal := fun m ρ _ =>
  (θ_run Cert.FfnInReferenceIdeal.defs _ _).mono (fun r h => ⟨fun c => (h c).2.2, sem_eq_zero_of_no_sems (by decide) r.2⟩)
    (Cert.FfnInReferenceIdeal.Value.run m ρ)

end Cert.FfnInProof
-- ==== Proof.FfnOut.lean ====
/- The FFN's output: the blocked product is the whole one. -/
module

public import proofs.«01_k».proof.Defs
public import proofs.«01_k».proof.Proof.Gen.FfnOut.Frame
public import proofs.«01_k».proof.Proof.Gen.FfnOutIdeal.Frame
public import proofs.«01_k».proof.Proof.Gen.FfnOutReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnOutProof

open Cert.FfnOutIdeal Cert.FfnOutIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1408 .bf16) (y : FVec Ideal S1408x1024 .bf16) (j : S1024x1024.Idx) :
    k0_pay2 acc x y j = acc j + ∑ k : Fin 1408, x (ix2 (j 0) k) * y (ix2 k (j 1)) := by
  pointwise [k0_pay2]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The product of a point's blocks, at an index. -/
def part (x : FVec Ideal S1024x1408 .bf16) (y : FVec Ideal S1408x1024 .bf16) (j : S1024x1024.Idx) : EReal :=
  ∑ k : Fin 1408, x (ix2 (j 0) k) * y (ix2 k (j 1))

abbrev term (t : Fin cfg0.N) (j : S1024x1024.Idx) : EReal := part (iblk m c 0 t) (iblk m c 1 t) j

theorem scratch_first (t : Fin cfg0.N) (h : t.val % 2 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega)]
  frame_out
  rw [read_unread_whole]
  exact part_at _ _ _ j

theorem out_last (t : Fin cfg0.N) (h : t.val % 2 = 1) (j : S1024x1024.Idx) :
    (outsAt0 m c t.val t.isLt).1 j = (outsAt0 m c t.val t.isLt).2 j := by
  rw [outsAt0_B m c t (by omega) h]
  frame_out

theorem final (G : FVec Ideal S8192x1024 .f32) (X : FVec Ideal S8192x2816 .bf16) (Y : FVec Ideal S2816x1024 .bf16)
    (hX : m ((c.tc : Thread nD τ).loc main_arg0) = X) (hY : m ((c.tc : Thread nD τ).loc main_arg1) = Y)
    (hG : ∀ j, G j = ∑ k : Fin 2816, X (ix2 (j 0) k) * Y (ix2 k (j 1))) :
    (dats m 0 c).arrAt 2 (cfgs 0).N = G := by
  subst hX hY
  refine (dats m 0 c).arrAt_eq_of_covers 2 _ (by decide +kernel) fun t hf y => ?_
  have h1 := (flush0_2 t).mp hf
  blk_simp
  rw [after0_2, out_last m c t h1,
    Pipeline.eq_sum_fin_of_reset_step_apply_of_flush (fun n h => (outsAt0 m c n h).2) 2 (fun _ => 0) (term m c)
      (scratch_first m c) (scratch_next m c) t h1 y, hG, zero_add]
  refine Fin.sum_mul_add_congr fun s k hl => ?_
  obtain ⟨s, hs⟩ := s
  obtain ⟨t, ht⟩ := t
  congr 1
  · blk_ext [iblk, V, idx ⟨t, ht⟩, idx ⟨2 * (t / 2) + s, _⟩]
  · blk_ext [iblk, V, idx ⟨t, ht⟩, idx ⟨2 * (t / 2) + s, _⟩]

theorem algebraic : Cert.algebraic_FfnOutIdeal_FfnOutReferenceIdeal := by
  pair_intro
  · run_from run_main m g
  · run_from Cert.FfnOutReferenceIdeal.Value.run m' g'
    refine (final m c _ _ _ rfl rfl fun j => ?_).symm
    pointwise

theorem frame_kernel : Cert.quiescent_FfnOut := fun m ρ _ => Cert.FfnOut.Gen.frame m ρ

theorem frame_ideal : Cert.quiescent_FfnOutIdeal := fun m ρ _ => frame m ρ

theorem frame_reference : Cert.quiescent_FfnOutReferenceIdeal := fun m ρ _ =>
  (θ_run Cert.FfnOutReferenceIdeal.defs _ _).mono (fun r h => ⟨fun c => (h c).2, sem_eq_zero_of_no_sems (by decide) r.2⟩)
    (Cert.FfnOutReferenceIdeal.Value.run m ρ)

end Cert.FfnOutProof
-- ==== Proof.SsmIn.lean ====
/- The SSD mixer's input projection, block by block. -/
module

public import proofs.«01_k».proof.Defs
public import proofs.«01_k».proof.Proof.Gen.SsmIn.Frame
public import proofs.«01_k».proof.Proof.Gen.SsmInIdeal.Frame
public import proofs.«01_k».proof.Proof.Gen.SsmInReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmInProof

open Cert.SsmInIdeal Cert.SsmInIdeal.Gen
open Idealize.ShloMosaic Idealize.ShloMosaic.TcCoe

variable (m : (ℓ : Loc nD τ sig) → Buf (Elt Ideal) ℓ) (c : Dev nD)

theorem zero_at (j : S1024x896.Idx) : k0_pay1 (F := Ideal) j = 0 := by pointwise [k0_pay1]

theorem part_at (acc : FVec Ideal S1024x896 .f32) (x : FVec Ideal S1024x1024 .bf16) (y : FVec Ideal S896x1024 .bf16) (j : S1024x896.Idx) :
    k0_pay2 acc x y j = acc j + ∑ k : Fin 1024, x (ix2 (j 0) k) * y (ix2 (j 1) k) := by
  pointwise [k0_pay2]

theorem idx : ∀ t : Fin cfg0.N, win0_0.index t = ![t.val / 7, 0] ∧ win0_1.index t = ![t.val % 7, 0] ∧ win0_2.index t = ![t.val / 7, t.val % 7] :=
  (by decide +kernel : ∀ t : Fin grid0.N, _)

theorem final (G : FVec Ideal S8192x6272 .f32) (X : FVec Ideal S8192x1024 .bf16) (Y : FVec Ideal S6272x1024 .bf16)
    (hX : m ((c.tc : Thread nD τ).loc main_arg0) = X) (hY : m ((c.tc : Thread nD τ).loc main_arg1) = Y)
    (hG : ∀ j, G j = ∑ k : Fin 1024, X (ix2 (j 0) k) * Y (ix2 (j 1) k)) :
    (dats m 0 c).arrAt 2 (cfgs 0).N = G := by
  subst hX hY
  refine (dats m 0 c).arrAt_eq_of_covers 2 _ (by decide +kernel) fun t _ y => ?_
  blk_simp
  rw [after0_2, outsAt0]
  frame_out
  refine (part_at _ _ _ y).trans ?_
  rw [zero_at, zero_add, hG]
  refine Finset.sum_congr rfl fun k _ => ?_
  congr 1
  · blk_ext [iblk, V, idx t]
  · blk_ext [iblk, V, idx t]

theorem algebraic : Cert.algebraic_SsmInIdeal_SsmInReferenceIdeal := by
  pair_intro
  · run_from run_main m g
  · run_from Cert.SsmInReferenceIdeal.Value.run m' g'
    refine (final m c _ _ _ rfl rfl fun j => ?_).symm
    pointwise

theorem frame_kernel : Cert.quiescent_SsmIn := fun m ρ _ => Cert.SsmIn.Gen.frame m ρ

theorem frame_ideal : Cert.quiescent_SsmInIdeal := fun m ρ _ => frame m ρ

theorem frame_reference : Cert.quiescent_SsmInReferenceIdeal := fun m ρ _ =>
  (θ_run Cert.SsmInReferenceIdeal.defs _ _).mono (fun r h => ⟨fun c => (h c).2, sem_eq_zero_of_no_sems (by decide) r.2⟩)
    (Cert.SsmInReferenceIdeal.Value.run m ρ)

end Cert.SsmInProof
-- ==== Proof.SsmInDx.lean ====
/- The gradient of the SSD mixer's input: the blocked product is the whole one. -/
module

public import proofs.«01_k».proof.Defs
public import proofs.«01_k».proof.Proof.Gen.SsmInDx.Frame
public import proofs.«01_k».proof.Proof.Gen.SsmInDxIdeal.Frame
public import proofs.«01_k».proof.Proof.Gen.SsmInDxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmInDxProof

open Cert.SsmInDxIdeal Cert.SsmInDxIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x896 .bf16) (y : FVec Ideal S896x1024 .bf16) (j : S1024x1024.Idx) :
    k0_pay2 acc x y j = acc j + ∑ k : Fin 896, x (ix2 (j 0) k) * y (ix2 k (j 1)) := by
  pointwise [k0_pay2]

theorem cast_at (acc : FVec Ideal S1024x1024 .f32) (j : S1024x1024.Idx) : k0_pay3 (F := Ideal) acc j = (acc j : EReal) := by
  pointwise [k0_pay3]

theorem idx : ∀ t : Fin cfg0.N, win0_0.index t = ![t.val / 7, t.val % 7] ∧ win0_1.index t = ![t.val % 7, 0] ∧ win0_2.index t = ![t.val / 7, 0] :=
  (by decide +kernel : ∀ t : Fin grid0.N, _)

/-- The product of a point's blocks, at an index. -/
def part (x : FVec Ideal S1024x896 .bf16) (y : FVec Ideal S896x1024 .bf16) (j : S1024x1024.Idx) : EReal :=
  ∑ k : Fin 896, x (ix2 (j 0) k) * y (ix2 k (j 1))

abbrev term (t : Fin cfg0.N) (j : S1024x1024.Idx) : EReal := part (iblk m c 0 t) (iblk m c 1 t) j

theorem scratch_first (t : Fin cfg0.N) (h : t.val % 7 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 7 = 0) (j : S1024x1024.Idx) :
    (outsAt0 m c t.val t.isLt).2 j = (outsAt0 m c (t.val - 1) (Nat.lt_of_le_of_lt (Nat.sub_le _ _) t.isLt)).2 j + term m c t j := by
  by_cases h6 : t.val % 7 = 6
  · rw [outsAt0_C m c t h h6]
    frame_out
    rw [read_unread_whole]
    exact part_at _ _ _ j
  · rw [outsAt0_B m c t h h6]
    frame_out
    rw [read_unread_whole]
    exact part_at _ _ _ j

theorem out_last (t : Fin cfg0.N) (h : t.val % 7 = 6) (j : S1024x1024.Idx) :
    (outsAt0 m c t.val t.isLt).1 j = (outsAt0 m c t.val t.isLt).2 j := by
  rw [outsAt0_C m c t (by omega) h]
  frame_out
  exact cast_at _ j

theorem final (G : FVec Ideal S8192x1024 .bf16) (X : FVec Ideal S8192x6272 .bf16) (Y : FVec Ideal S6272x1024 .bf16)
    (hX : m ((c.tc : Thread nD τ).loc main_arg0) = X) (hY : m ((c.tc : Thread nD τ).loc main_arg1) = Y)
    (hG : ∀ j, G j = ∑ k : Fin 6272, X (ix2 (j 0) k) * Y (ix2 k (j 1))) :
    (dats m 0 c).arrAt 2 (cfgs 0).N = G := by
  subst hX hY
  refine (dats m 0 c).arrAt_eq_of_covers 2 _ (by decide +kernel) fun t hf y => ?_
  have h6 := (flush0_2 t).mp hf
  blk_simp
  rw [after0_2, out_last m c t h6,
    Pipeline.eq_sum_fin_of_reset_step_apply_of_flush (fun n h => (outsAt0 m c n h).2) 7 (fun _ => 0) (term m c)
      (scratch_first m c) (scratch_next m c) t h6 y, hG, zero_add]
  refine Fin.sum_mul_add_congr fun s k hl => ?_
  obtain ⟨s, hs⟩ := s
  obtain ⟨t, ht⟩ := t
  congr 1
  · blk_ext [iblk, V, idx ⟨t, ht⟩, idx ⟨7 * (t / 7) + s, _⟩]
  · blk_ext [iblk, V, idx ⟨t, ht⟩, idx ⟨7 * (t / 7) + s, _⟩]

theorem algebraic : Cert.algebraic_SsmInDxIdeal_SsmInDxReferenceIdeal := by
  pair_intro
  · run_from run_main m g
  · run_from Cert.SsmInDxReferenceIdeal.Value.run m' g'
    refine (final m c _ _ _ rfl rfl fun j => ?_).symm
    pointwise

theorem frame_kernel : Cert.quiescent_SsmInDx := fun m ρ _ => Cert.SsmInDx.Gen.frame m ρ

theorem frame_ideal : Cert.quiescent_SsmInDxIdeal := fun m ρ _ => frame m ρ

theorem frame_reference : Cert.quiescent_SsmInDxReferenceIdeal := fun m ρ _ =>
  (θ_run Cert.SsmInDxReferenceIdeal.defs _ _).mono (fun r h => ⟨fun c => (h c).2, sem_eq_zero_of_no_sems (by decide) r.2⟩)
    (Cert.SsmInDxReferenceIdeal.Value.run m ρ)

end Cert.SsmInDxProof
-- ==== Proof.SsmInDw.lean ====
/- The gradient of the SSD mixer's input weights: the blocked product is the whole one. -/
module

public import proofs.«01_k».proof.Defs
public import proofs.«01_k».proof.Proof.Gen.SsmInDw.Frame
public import proofs.«01_k».proof.Proof.Gen.SsmInDwIdeal.Frame
public import proofs.«01_k».proof.Proof.Gen.SsmInDwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmInDwProof

open Cert.SsmInDwIdeal Cert.SsmInDwIdeal.Gen
open Idealize.ShloMosaic Idealize.ShloMosaic.TcCoe

variable (m : (ℓ : Loc nD τ sig) → Buf (Elt Ideal) ℓ) (c : Dev nD)

theorem zero_at (j : S896x1024.Idx) : k0_pay1 (F := Ideal) j = 0 := by pointwise [k0_pay1]

theorem part_at (acc : FVec Ideal S896x1024 .f32) (x : FVec Ideal S1024x896 .bf16) (y : FVec Ideal S1024x1024 .bf16) (j : S896x1024.Idx) :
    k0_pay2 acc x y j = acc j + ∑ k : Fin 1024, x (ix2 k (j 0)) * y (ix2 k (j 1)) := by
  pointwise [k0_pay2]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's blocks, at an index. -/
def part (x : FVec Ideal S1024x896 .bf16) (y : FVec Ideal S1024x1024 .bf16) (j : S896x1024.Idx) : EReal :=
  ∑ k : Fin 1024, x (ix2 k (j 0)) * y (ix2 k (j 1))

abbrev term (t : Fin cfg0.N) (j : S896x1024.Idx) : EReal := part (iblk m c 0 t) (iblk m c 1 t) j

theorem scratch_first (t : Fin cfg0.N) (h : t.val % 8 = 0) (j : S896x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S896x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

theorem final (G : FVec Ideal S6272x1024 .f32) (X : FVec Ideal S8192x6272 .bf16) (Y : FVec Ideal S8192x1024 .bf16)
    (hX : m ((c.tc : Thread nD τ).loc main_arg0) = X) (hY : m ((c.tc : Thread nD τ).loc main_arg1) = Y)
    (hG : ∀ j, G j = ∑ k : Fin 8192, X (ix2 k (j 0)) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_SsmInDwIdeal_SsmInDwReferenceIdeal := by
  pair_intro
  · run_from run_main m g
  · run_from Cert.SsmInDwReferenceIdeal.Value.run m' g'
    refine (final m c _ _ _ rfl rfl fun j => ?_).symm
    pointwise

theorem frame_kernel : Cert.quiescent_SsmInDw := fun m ρ _ => Cert.SsmInDw.Gen.frame m ρ

theorem frame_ideal : Cert.quiescent_SsmInDwIdeal := fun m ρ _ => frame m ρ

theorem frame_reference : Cert.quiescent_SsmInDwReferenceIdeal := fun m ρ _ =>
  (θ_run Cert.SsmInDwReferenceIdeal.defs _ _).mono (fun r h => ⟨fun c => (h c).2, sem_eq_zero_of_no_sems (by decide) r.2⟩)
    (Cert.SsmInDwReferenceIdeal.Value.run m ρ)

end Cert.SsmInDwProof
-- ==== Proof.SsmOut.lean ====
/- The SSD mixer's output: the blocked product is the whole one. -/
module

public import proofs.«01_k».proof.Defs
public import proofs.«01_k».proof.Proof.Gen.SsmOut.Frame
public import proofs.«01_k».proof.Proof.Gen.SsmOutIdeal.Frame
public import proofs.«01_k».proof.Proof.Gen.SsmOutReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmOutProof

open Cert.SsmOutIdeal Cert.SsmOutIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 (j 0) k) * y (ix2 k (j 1)) := by
  pointwise [k0_pay2]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The product of a point's blocks, at an index. -/
def part (x : FVec Ideal S1024x1024 .bf16) (y : FVec Ideal S1024x1024 .bf16) (j : S1024x1024.Idx) : EReal :=
  ∑ k : Fin 1024, x (ix2 (j 0) k) * y (ix2 k (j 1))

abbrev term (t : Fin cfg0.N) (j : S1024x1024.Idx) : EReal := part (iblk m c 0 t) (iblk m c 1 t) j

theorem scratch_first (t : Fin cfg0.N) (h : t.val % 2 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega)]
  frame_out
  rw [read_unread_whole]
  exact part_at _ _ _ j

theorem out_last (t : Fin cfg0.N) (h : t.val % 2 = 1) (j : S1024x1024.Idx) :
    (outsAt0 m c t.val t.isLt).1 j = (outsAt0 m c t.val t.isLt).2 j := by
  rw [outsAt0_B m c t (by omega) h]
  frame_out

theorem final (G : FVec Ideal S8192x1024 .f32) (X : FVec Ideal S8192x2048 .bf16) (Y : FVec Ideal S2048x1024 .bf16)
    (hX : m ((c.tc : Thread nD τ).loc main_arg0) = X) (hY : m ((c.tc : Thread nD τ).loc main_arg1) = Y)
    (hG : ∀ j, G j = ∑ k : Fin 2048, X (ix2 (j 0) k) * Y (ix2 k (j 1))) :
    (dats m 0 c).arrAt 2 (cfgs 0).N = G := by
  subst hX hY
  refine (dats m 0 c).arrAt_eq_of_covers 2 _ (by decide +kernel) fun t hf y => ?_
  have h1 := (flush0_2 t).mp hf
  blk_simp
  rw [after0_2, out_last m c t h1,
    Pipeline.eq_sum_fin_of_reset_step_apply_of_flush (fun n h => (outsAt0 m c n h).2) 2 (fun _ => 0) (term m c)
      (scratch_first m c) (scratch_next m c) t h1 y, hG, zero_add]
  refine Fin.sum_mul_add_congr fun s k hl => ?_
  obtain ⟨s, hs⟩ := s
  obtain ⟨t, ht⟩ := t
  congr 1
  · blk_ext [iblk, V, idx ⟨t, ht⟩, idx ⟨2 * (t / 2) + s, _⟩]
  · blk_ext [iblk, V, idx ⟨t, ht⟩, idx ⟨2 * (t / 2) + s, _⟩]

theorem algebraic : Cert.algebraic_SsmOutIdeal_SsmOutReferenceIdeal := by
  pair_intro
  · run_from run_main m g
  · run_from Cert.SsmOutReferenceIdeal.Value.run m' g'
    refine (final m c _ _ _ rfl rfl fun j => ?_).symm
    pointwise

theorem frame_kernel : Cert.quiescent_SsmOut := fun m ρ _ => Cert.SsmOut.Gen.frame m ρ

theorem frame_ideal : Cert.quiescent_SsmOutIdeal := fun m ρ _ => frame m ρ

theorem frame_reference : Cert.quiescent_SsmOutReferenceIdeal := fun m ρ _ =>
  (θ_run Cert.SsmOutReferenceIdeal.defs _ _).mono (fun r h => ⟨fun c => (h c).2, sem_eq_zero_of_no_sems (by decide) r.2⟩)
    (Cert.SsmOutReferenceIdeal.Value.run m ρ)

end Cert.SsmOutProof
-- ==== Proof.SsmOutDx.lean ====
/- The gradient of the SSD mixer's normed output, block by block. -/
module

public import proofs.«01_k».proof.Defs
public import proofs.«01_k».proof.Proof.Gen.SsmOutDx.Frame
public import proofs.«01_k».proof.Proof.Gen.SsmOutDxIdeal.Frame
public import proofs.«01_k».proof.Proof.Gen.SsmOutDxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmOutDxProof

open Cert.SsmOutDxIdeal Cert.SsmOutDxIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 (j 0) k) * y (ix2 (j 1) k) := by
  pointwise [k0_pay2]

theorem cast_at (acc : FVec Ideal S1024x1024 .f32) (j : S1024x1024.Idx) : k0_pay3 (F := Ideal) acc j = (acc j : EReal) := by
  pointwise [k0_pay3]

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (G : FVec Ideal S8192x2048 .bf16) (X : FVec Ideal S8192x1024 .bf16) (Y : FVec Ideal S2048x1024 .bf16)
    (hX : m ((c.tc : Thread nD τ).loc main_arg0) = X) (hY : m ((c.tc : Thread nD τ).loc main_arg1) = Y)
    (hG : ∀ j, G j = ∑ k : Fin 1024, X (ix2 (j 0) k) * Y (ix2 (j 1) k)) :
    (dats m 0 c).arrAt 2 (cfgs 0).N = G := by
  subst hX hY
  refine (dats m 0 c).arrAt_eq_of_covers 2 _ (by decide +kernel) fun t _ y => ?_
  blk_simp
  rw [after0_2, outsAt0]
  frame_out
  refine (cast_at _ y).trans ((part_at _ _ _ y).trans ?_)
  rw [zero_at, zero_add, hG]
  refine Finset.sum_congr rfl fun k _ => ?_
  congr 1
  · blk_ext [iblk, V, idx t]
  · blk_ext [iblk, V, idx t]

theorem algebraic : Cert.algebraic_SsmOutDxIdeal_SsmOutDxReferenceIdeal := by
  pair_intro
  · run_from run_main m g
  · run_from Cert.SsmOutDxReferenceIdeal.Value.run m' g'
    refine (final m c _ _ _ rfl rfl fun j => ?_).symm
    pointwise

theorem frame_kernel : Cert.quiescent_SsmOutDx := fun m ρ _ => Cert.SsmOutDx.Gen.frame m ρ

theorem frame_ideal : Cert.quiescent_SsmOutDxIdeal := fun m ρ _ => frame m ρ

theorem frame_reference : Cert.quiescent_SsmOutDxReferenceIdeal := fun m ρ _ =>
  (θ_run Cert.SsmOutDxReferenceIdeal.defs _ _).mono (fun r h => ⟨fun c => (h c).2, sem_eq_zero_of_no_sems (by decide) r.2⟩)
    (Cert.SsmOutDxReferenceIdeal.Value.run m ρ)

end Cert.SsmOutDxProof
-- ==== Proof.SsmOutDw.lean ====
/- The gradient of the SSD mixer's output weights: the blocked product is the whole one. -/
module

public import proofs.«01_k».proof.Defs
public import proofs.«01_k».proof.Proof.Gen.SsmOutDw.Frame
public import proofs.«01_k».proof.Proof.Gen.SsmOutDwIdeal.Frame
public import proofs.«01_k».proof.Proof.Gen.SsmOutDwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SsmOutDwProof

open Cert.SsmOutDwIdeal Cert.SsmOutDwIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 k (j 0)) * y (ix2 k (j 1)) := by
  pointwise [k0_pay2]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's blocks, at an index. -/
def part (x : FVec Ideal S1024x1024 .bf16) (y : FVec Ideal S1024x1024 .bf16) (j : S1024x1024.Idx) : EReal :=
  ∑ k : Fin 1024, x (ix2 k (j 0)) * y (ix2 k (j 1))

abbrev term (t : Fin cfg0.N) (j : S1024x1024.Idx) : EReal := part (iblk m c 0 t) (iblk m c 1 t) j

theorem scratch_first (t : Fin cfg0.N) (h : t.val % 8 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

theorem final (G : FVec Ideal S2048x1024 .f32) (X : FVec Ideal S8192x2048 .bf16) (Y : FVec Ideal S8192x1024 .bf16)
    (hX : m ((c.tc : Thread nD τ).loc main_arg0) = X) (hY : m ((c.tc : Thread nD τ).loc main_arg1) = Y)
    (hG : ∀ j, G j = ∑ k : Fin 8192, X (ix2 k (j 0)) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_SsmOutDwIdeal_SsmOutDwReferenceIdeal := by
  pair_intro
  · run_from run_main m g
  · run_from Cert.SsmOutDwReferenceIdeal.Value.run m' g'
    refine (final m c _ _ _ rfl rfl fun j => ?_).symm
    pointwise
    exact Finset.sum_congr rfl fun k _ => mul_comm _ _

theorem frame_kernel : Cert.quiescent_SsmOutDw := fun m ρ _ => Cert.SsmOutDw.Gen.frame m ρ

theorem frame_ideal : Cert.quiescent_SsmOutDwIdeal := fun m ρ _ => frame m ρ

theorem frame_reference : Cert.quiescent_SsmOutDwReferenceIdeal := fun m ρ _ =>
  (θ_run Cert.SsmOutDwReferenceIdeal.defs _ _).mono (fun r h => ⟨fun c => (h c).2, sem_eq_zero_of_no_sems (by decide) r.2⟩)
    (Cert.SsmOutDwReferenceIdeal.Value.run m ρ)

end Cert.SsmOutDwProof
-- ==== Proof.Qkv.lean ====
/- The attention's input projection, block by block. -/
module

public import proofs.«01_k».proof.Defs
public import proofs.«01_k».proof.Proof.Gen.Qkv.Frame
public import proofs.«01_k».proof.Proof.Gen.QkvIdeal.Frame
public import proofs.«01_k».proof.Proof.Gen.QkvReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.QkvProof

open Cert.QkvIdeal Cert.QkvIdeal.Gen
open Idealize.ShloMosaic Idealize.ShloMosaic.TcCoe

variable (m : (ℓ : Loc nD τ sig) → Buf (Elt Ideal) ℓ) (c : Dev nD)

theorem zero_at (j : S1024x1536.Idx) : k0_pay1 (F := Ideal) j = 0 := by pointwise [k0_pay1]

theorem part_at (acc : FVec Ideal S1024x1536 .f32) (x : FVec Ideal S1024x1024 .bf16) (y : FVec Ideal S1536x1024 .bf16) (j : S1024x1536.Idx) :
    k0_pay2 acc x y j = acc j + ∑ k : Fin 1024, x (ix2 (j 0) k) * y (ix2 (j 1) k) := by
  pointwise [k0_pay2]

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (G : FVec Ideal S8192x3072 .f32) (X : FVec Ideal S8192x1024 .bf16) (Y : FVec Ideal S3072x1024 .bf16)
    (hX : m ((c.tc : Thread nD τ).loc main_arg0) = X) (hY : m ((c.tc : Thread nD τ).loc main_arg1) = Y)
    (hG : ∀ j, G j = ∑ k : Fin 1024, X (ix2 (j 0) k) * Y (ix2 (j 1) k)) :
    (dats m 0 c).arrAt 2 (cfgs 0).N = G := by
  subst hX hY
  refine (dats m 0 c).arrAt_eq_of_covers 2 _ (by decide +kernel) fun t _ y => ?_
  blk_simp
  rw [after0_2, outsAt0]
  frame_out
  refine (part_at _ _ _ y).trans ?_
  rw [zero_at, zero_add, hG]
  refine Finset.sum_congr rfl fun k _ => ?_
  congr 1
  · blk_ext [iblk, V, idx t]
  · blk_ext [iblk, V, idx t]

theorem algebraic : Cert.algebraic_QkvIdeal_QkvReferenceIdeal := by
  pair_intro
  · run_from run_main m g
  · run_from Cert.QkvReferenceIdeal.Value.run m' g'
    refine (final m c _ _ _ rfl rfl fun j => ?_).symm
    pointwise

theorem frame_kernel : Cert.quiescent_Qkv := fun m ρ _ => Cert.Qkv.Gen.frame m ρ

theorem frame_ideal : Cert.quiescent_QkvIdeal := fun m ρ _ => frame m ρ

theorem frame_reference : Cert.quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run m ρ)

end Cert.QkvProof
-- ==== Proof.QkvDx.lean ====
/- The gradient of the attention's input: the blocked product is the whole one. -/
module

public import proofs.«01_k».proof.Defs
public import proofs.«01_k».proof.Proof.Gen.QkvDx.Frame
public import proofs.«01_k».proof.Proof.Gen.QkvDxIdeal.Frame
public import proofs.«01_k».proof.Proof.Gen.QkvDxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.QkvDxProof

open Cert.QkvDxIdeal Cert.QkvDxIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1536 .bf16) (y : FVec Ideal S1536x1024 .bf16) (j : S1024x1024.Idx) :
    k0_pay2 acc x y j = acc j + ∑ k : Fin 1536, x (ix2 (j 0) k) * y (ix2 k (j 1)) := by
  pointwise [k0_pay2]

theorem cast_at (acc : FVec Ideal S1024x1024 .f32) (j : S1024x1024.Idx) : k0_pay3 (F := Ideal) acc j = (acc j : EReal) := by
  pointwise [k0_pay3]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The product of a point's blocks, at an index. -/
def part (x : FVec Ideal S1024x1536 .bf16) (y : FVec Ideal S1536x1024 .bf16) (j : S1024x1024.Idx) : EReal :=
  ∑ k : Fin 1536, x (ix2 (j 0) k) * y (ix2 k (j 1))

abbrev term (t : Fin cfg0.N) (j : S1024x1024.Idx) : EReal := part (iblk m c 0 t) (iblk m c 1 t) j

theorem scratch_first (t : Fin cfg0.N) (h : t.val % 2 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega)]
  frame_out
  rw [read_unread_whole]
  exact part_at _ _ _ j

theorem out_last (t : Fin cfg0.N) (h : t.val % 2 = 1) (j : S1024x1024.Idx) :
    (outsAt0 m c t.val t.isLt).1 j = (outsAt0 m c t.val t.isLt).2 j := by
  rw [outsAt0_B m c t (by omega) h]
  frame_out
  exact cast_at _ j

theorem final (G : FVec Ideal S8192x1024 .bf16) (X : FVec Ideal S8192x3072 .bf16) (Y : FVec Ideal S3072x1024 .bf16)
    (hX : m ((c.tc : Thread nD τ).loc main_arg0) = X) (hY : m ((c.tc : Thread nD τ).loc main_arg1) = Y)
    (hG : ∀ j, G j = ∑ k : Fin 3072, X (ix2 (j 0) k) * Y (ix2 k (j 1))) :
    (dats m 0 c).arrAt 2 (cfgs 0).N = G := by
  subst hX hY
  refine (dats m 0 c).arrAt_eq_of_covers 2 _ (by decide +kernel) fun t hf y => ?_
  have h1 := (flush0_2 t).mp hf
  blk_simp
  rw [after0_2, out_last m c t h1,
    Pipeline.eq_sum_fin_of_reset_step_apply_of_flush (fun n h => (outsAt0 m c n h).2) 2 (fun _ => 0) (term m c)
      (scratch_first m c) (scratch_next m c) t h1 y, hG, zero_add]
  refine Fin.sum_mul_add_congr fun s k hl => ?_
  obtain ⟨s, hs⟩ := s
  obtain ⟨t, ht⟩ := t
  congr 1
  · blk_ext [iblk, V, idx ⟨t, ht⟩, idx ⟨2 * (t / 2) + s, _⟩]
  · blk_ext [iblk, V, idx ⟨t, ht⟩, idx ⟨2 * (t / 2) + s, _⟩]

theorem algebraic : Cert.algebraic_QkvDxIdeal_QkvDxReferenceIdeal := by
  pair_intro
  · run_from run_main m g
  · run_from Cert.QkvDxReferenceIdeal.Value.run m' g'
    refine (final m c _ _ _ rfl rfl fun j => ?_).symm
    pointwise

theorem frame_kernel : Cert.quiescent_QkvDx := fun m ρ _ => Cert.QkvDx.Gen.frame m ρ

theorem frame_ideal : Cert.quiescent_QkvDxIdeal := fun m ρ _ => frame m ρ

theorem frame_reference : Cert.quiescent_QkvDxReferenceIdeal := fun m ρ _ =>
  (θ_run Cert.QkvDxReferenceIdeal.defs _ _).mono (fun r h => ⟨fun c => (h c).2, sem_eq_zero_of_no_sems (by decide) r.2⟩)
    (Cert.QkvDxReferenceIdeal.Value.run m ρ)

end Cert.QkvDxProof
-- ==== Proof.QkvDw.lean ====
/- The gradient of the attention's input weights: the blocked product is the whole one. -/
module

public import proofs.«01_k».proof.Defs
public import proofs.«01_k».proof.Proof.Gen.QkvDw.Frame
public import proofs.«01_k».proof.Proof.Gen.QkvDwIdeal.Frame
public import proofs.«01_k».proof.Proof.Gen.QkvDwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.QkvDwProof

open Cert.QkvDwIdeal Cert.QkvDwIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 k (j 0)) * y (ix2 k (j 1)) := by
  pointwise [k0_pay2]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's blocks, at an index. -/
def part (x : FVec Ideal S1024x1024 .bf16) (y : FVec Ideal S1024x1024 .bf16) (j : S1024x1024.Idx) : EReal :=
  ∑ k : Fin 1024, x (ix2 k (j 0)) * y (ix2 k (j 1))

abbrev term (t : Fin cfg0.N) (j : S1024x1024.Idx) : EReal := part (iblk m c 0 t) (iblk m c 1 t) j

theorem scratch_first (t : Fin cfg0.N) (h : t.val % 8 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

theorem final (G : FVec Ideal S3072x1024 .f32) (X : FVec Ideal S8192x3072 .bf16) (Y : FVec Ideal S8192x1024 .bf16)
    (hX : m ((c.tc : Thread nD τ).loc main_arg0) = X) (hY : m ((c.tc : Thread nD τ).loc main_arg1) = Y)
    (hG : ∀ j, G j = ∑ k : Fin 8192, X (ix2 k (j 0)) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_QkvDwIdeal_QkvDwReferenceIdeal := by
  pair_intro
  · run_from run_main m g
  · run_from Cert.QkvDwReferenceIdeal.Value.run m' g'
    refine (final m c _ _ _ rfl rfl fun j => ?_).symm
    pointwise

theorem frame_kernel : Cert.quiescent_QkvDw := fun m ρ _ => Cert.QkvDw.Gen.frame m ρ

theorem frame_ideal : Cert.quiescent_QkvDwIdeal := fun m ρ _ => frame m ρ

theorem frame_reference : Cert.quiescent_QkvDwReferenceIdeal := fun m ρ _ =>
  (θ_run Cert.QkvDwReferenceIdeal.defs _ _).mono (fun r h => ⟨fun c => (h c).2, sem_eq_zero_of_no_sems (by decide) r.2⟩)
    (Cert.QkvDwReferenceIdeal.Value.run m ρ)

end Cert.QkvDwProof
-- ==== Proof.SbO.lean ====
/- The attention's output projection, block by block. -/
module

public import proofs.«01_k».proof.Defs
public import proofs.«01_k».proof.Proof.Gen.SbO.Frame
public import proofs.«01_k».proof.Proof.Gen.SbOIdeal.Frame
public import proofs.«01_k».proof.Proof.Gen.SbOReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SbOProof

open Cert.SbOIdeal Cert.SbOIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 (j 0) k) * y (ix2 k (j 1)) := by
  pointwise [k0_pay2]

theorem idx : ∀ t : Fin cfg0.N, win0_0.index t = ![t.val, 0] ∧ win0_1.index t = ![0, 0] ∧ win0_2.index t = ![t.val, 0] :=
  (by decide +kernel : ∀ t : Fin grid0.N, _)

theorem final (G : FVec Ideal S8192x1024 .f32) (X : FVec Ideal S8192x1024 .bf16) (Y : FVec Ideal S1024x1024 .bf16)
    (hX : m ((c.tc : Thread nD τ).loc main_arg0) = X) (hY : m ((c.tc : Thread nD τ).loc main_arg1) = Y)
    (hG : ∀ j, G j = ∑ k : Fin 1024, X (ix2 (j 0) k) * Y (ix2 k (j 1))) :
    (dats m 0 c).arrAt 2 (cfgs 0).N = G := by
  subst hX hY
  refine (dats m 0 c).arrAt_eq_of_covers 2 _ (by decide +kernel) fun t _ y => ?_
  blk_simp
  rw [after0_2, outsAt0]
  frame_out
  refine (part_at _ _ _ y).trans ?_
  rw [zero_at, zero_add, hG]
  refine Finset.sum_congr rfl fun k _ => ?_
  congr 1
  · blk_ext [iblk, V, idx t]
  · blk_ext [iblk, V, idx t]

theorem algebraic : Cert.algebraic_SbOIdeal_SbOReferenceIdeal := by
  pair_intro
  · run_from run_main m g
  · run_from Cert.SbOReferenceIdeal.Value.run m' g'
    refine (final m c _ _ _ rfl rfl fun j => ?_).symm
    pointwise

theorem frame_kernel : Cert.quiescent_SbO := fun m ρ _ => Cert.SbO.Gen.frame m ρ

theorem frame_ideal : Cert.quiescent_SbOIdeal := fun m ρ _ => frame m ρ

theorem frame_reference : Cert.quiescent_SbOReferenceIdeal := fun m ρ _ =>
  (θ_run Cert.SbOReferenceIdeal.defs _ _).mono (fun r h => ⟨fun c => (h c).2, sem_eq_zero_of_no_sems (by decide) r.2⟩)
    (Cert.SbOReferenceIdeal.Value.run m ρ)

end Cert.SbOProof
-- ==== Proof.SbODx.lean ====
/- The gradient of the attention's values, block by block. -/
module

public import proofs.«01_k».proof.Defs
public import proofs.«01_k».proof.Proof.Gen.SbODx.Frame
public import proofs.«01_k».proof.Proof.Gen.SbODxIdeal.Frame
public import proofs.«01_k».proof.Proof.Gen.SbODxReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SbODxProof

open Cert.SbODxIdeal Cert.SbODxIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 (j 0) k) * y (ix2 (j 1) k) := by
  pointwise [k0_pay2]

theorem idx : ∀ t : Fin cfg0.N, win0_0.index t = ![t.val, 0] ∧ win0_1.index t = ![0, 0] ∧ win0_2.index t = ![t.val, 0] :=
  (by decide +kernel : ∀ t : Fin grid0.N, _)

theorem final (G : FVec Ideal S8192x1024 .f32) (X : FVec Ideal S8192x1024 .bf16) (Y : FVec Ideal S1024x1024 .bf16)
    (hX : m ((c.tc : Thread nD τ).loc main_arg0) = X) (hY : m ((c.tc : Thread nD τ).loc main_arg1) = Y)
    (hG : ∀ j, G j = ∑ k : Fin 1024, X (ix2 (j 0) k) * Y (ix2 (j 1) k)) :
    (dats m 0 c).arrAt 2 (cfgs 0).N = G := by
  subst hX hY
  refine (dats m 0 c).arrAt_eq_of_covers 2 _ (by decide +kernel) fun t _ y => ?_
  blk_simp
  rw [after0_2, outsAt0]
  frame_out
  refine (part_at _ _ _ y).trans ?_
  rw [zero_at, zero_add, hG]
  refine Finset.sum_congr rfl fun k _ => ?_
  congr 1
  · blk_ext [iblk, V, idx t]
  · blk_ext [iblk, V, idx t]

theorem algebraic : Cert.algebraic_SbODxIdeal_SbODxReferenceIdeal := by
  pair_intro
  · run_from run_main m g
  · run_from Cert.SbODxReferenceIdeal.Value.run m' g'
    refine (final m c _ _ _ rfl rfl fun j => ?_).symm
    pointwise

theorem frame_kernel : Cert.quiescent_SbODx := fun m ρ _ => Cert.SbODx.Gen.frame m ρ

theorem frame_ideal : Cert.quiescent_SbODxIdeal := fun m ρ _ => frame m ρ

theorem frame_reference : Cert.quiescent_SbODxReferenceIdeal := fun m ρ _ =>
  (θ_run Cert.SbODxReferenceIdeal.defs _ _).mono (fun r h => ⟨fun c => (h c).2, sem_eq_zero_of_no_sems (by decide) r.2⟩)
    (Cert.SbODxReferenceIdeal.Value.run m ρ)

end Cert.SbODxProof
-- ==== Proof.SbODw.lean ====
/- The gradient of the attention's output weights: the blocked product is the whole one. -/
module

public import proofs.«01_k».proof.Defs
public import proofs.«01_k».proof.Proof.Gen.SbODw.Frame
public import proofs.«01_k».proof.Proof.Gen.SbODwIdeal.Frame
public import proofs.«01_k».proof.Proof.Gen.SbODwReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SbODwProof

open Cert.SbODwIdeal Cert.SbODwIdeal.Gen
open Idealize.ShloMosaic Idealize.ShloMosaic.TcCoe

variable (m : (ℓ : Loc nD τ sig) → Buf (Elt Ideal) ℓ) (c : Dev nD)

theorem zero_at (j : S1024x1024.Idx) : k0_pay1 (F := Ideal) j = 0 := by pointwise [k0_pay1]

theorem part_at (acc : FVec Ideal S1024x1024 .f32) (x : FVec Ideal S1024x1024 .bf16) (y : FVec Ideal S1024x1024 .bf16) (j : S1024x1024.Idx) :
    k0_pay2 acc x y j = acc j + ∑ k : Fin 1024, x (ix2 k (j 0)) * y (ix2 k (j 1)) := by
  pointwise [k0_pay2]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's blocks, at an index. -/
def part (x : FVec Ideal S1024x1024 .bf16) (y : FVec Ideal S1024x1024 .bf16) (j : S1024x1024.Idx) : EReal :=
  ∑ k : Fin 1024, x (ix2 k (j 0)) * y (ix2 k (j 1))

abbrev term (t : Fin cfg0.N) (j : S1024x1024.Idx) : EReal := part (iblk m c 0 t) (iblk m c 1 t) j

theorem scratch_first (t : Fin cfg0.N) (h : t.val % 8 = 0) (j : S1024x1024.Idx) :
    (outsAt0 m c t.val t.isLt).2 j = 0 + term m c t j := by
  rw [outsAt0_A m c t h (by omega)]
  frame_out
  exact (part_at _ _ _ j).trans (by rw [zero_at]; rfl)

theorem scratch_next (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + term m c t j := by
  by_cases h7 : t.val % 8 = 7
  · rw [outsAt0_C m c t h h7]
    frame_out
    rw [read_unread_whole]
    exact part_at _ _ _ j
  · rw [outsAt0_B m c t h h7]
    frame_out
    rw [read_unread_whole]
    exact part_at _ _ _ j

theorem out_last (t : Fin cfg0.N) (h : t.val % 8 = 7) : (outsAt0 m c t.val t.isLt).1 = (outsAt0 m c t.val t.isLt).2 := by
  rw [outsAt0_C m c t (by omega) h]
  frame_out

theorem final (G : FVec Ideal S1024x1024 .f32) (X : FVec Ideal S8192x1024 .bf16) (Y : FVec Ideal S8192x1024 .bf16)
    (hX : m ((c.tc : Thread nD τ).loc main_arg0) = X) (hY : m ((c.tc : Thread nD τ).loc main_arg1) = Y)
    (hG : ∀ j, G j = ∑ k : Fin 8192, X (ix2 k (j 0)) * Y (ix2 k (j 1))) :
    (dats m 0 c).arrAt 2 (cfgs 0).N = G := by
  subst hX hY
  refine (dats m 0 c).arrAt_eq_of_covers 2 _ (by decide +kernel) fun t hf y => ?_
  have h7 := (flush0_2 t).mp hf
  blk_simp
  rw [after0_2, out_last m c t h7,
    Pipeline.eq_sum_fin_of_reset_step_apply_of_flush (fun n h => (outsAt0 m c n h).2) 8 (fun _ => 0) (term m c)
      (scratch_first m c) (scratch_next m c) t h7 y, hG, zero_add]
  refine Fin.sum_mul_add_congr fun s k hl => ?_
  obtain ⟨s, hs⟩ := s
  obtain ⟨t, ht⟩ := t
  congr 1
  · blk_ext [iblk, V, idx ⟨t, ht⟩, idx ⟨8 * (t / 8) + s, _⟩]
  · blk_ext [iblk, V, idx ⟨t, ht⟩, idx ⟨8 * (t / 8) + s, _⟩]

theorem algebraic : Cert.algebraic_SbODwIdeal_SbODwReferenceIdeal := by
  pair_intro
  · run_from run_main m g
  · run_from Cert.SbODwReferenceIdeal.Value.run m' g'
    refine (final m c _ _ _ rfl rfl fun j => ?_).symm
    pointwise
    exact Finset.sum_congr rfl fun k _ => mul_comm _ _

theorem frame_kernel : Cert.quiescent_SbODw := fun m ρ _ => Cert.SbODw.Gen.frame m ρ

theorem frame_ideal : Cert.quiescent_SbODwIdeal := fun m ρ _ => frame m ρ

theorem frame_reference : Cert.quiescent_SbODwReferenceIdeal := fun m ρ _ =>
  (θ_run Cert.SbODwReferenceIdeal.defs _ _).mono (fun r h => ⟨fun c => (h c).2, sem_eq_zero_of_no_sems (by decide) r.2⟩)
    (Cert.SbODwReferenceIdeal.Value.run m ρ)

end Cert.SbODwProof
-- ==== Proof.FwdTile.lean ====
/- The forward pass of attention: one tile of 256 rows of the queries against one group of 512 keys, and one block of 512 rows,
   as functions of the values loaded. -/
module

public import proofs.«01_k».proof.Proof.Gen.SbFwdIdeal.Loops
public import proofs.«01_k».proof.Proof.Gen.SbFwdIdeal.Frame
public import Idealize.ShloMosaic.Lib.VecWindow

@[expose] public section

set_option maxRecDepth 16384

noncomputable section

namespace Cert.SbFwdProof

open Cert.SbFwdIdeal Cert.SbFwdIdeal.Gen
open Idealize.ShloMosaic Idealize.ShloMosaic.TcCoe

/-! The groups of keys a grid point loads, as closed forms over the point and the trip. -/

theorem off1_eq : ∀ i : grid0.Coords, k0_cond1 i = 1#1 → k0_off1 i = ![0, 512 * (i 1).val, 0] := by decide +kernel
theorem off2_eq : ∀ i : grid0.Coords, k0_cond1 i = 1#1 → k0_off2 i = ![0, 512 * ((i 1).val - 1), 0] := by decide +kernel
theorem off3_eq : ∀ i : grid0.Coords, k0_off3 i = ![0, 512 * (i 1).val, 0] := by decide +kernel
theorem trips_eq : ∀ i : grid0.Coords, (k0_t1_loop i).trips = (i 1).val / 2 := by decide +kernel
theorem rest_trips : ∀ i : grid0.Coords, (k0_t2_loop i).trips = 0 := by decide +kernel
theorem cond1_eq : ∀ i : grid0.Coords, k0_cond1 i = 1#1 ↔ (i 1).val % 2 = 1 := by decide +kernel
theorem off4_eq : ∀ (i : grid0.Coords) (k : Fin (k0_t1_loop i).trips),
    k0_off4 i k = ![0, 512 * (2 * ((i 1).val / 2) - 1 - 2 * k.val), 0] := by decide +kernel
theorem off5_eq : ∀ (i : grid0.Coords) (k : Fin (k0_t1_loop i).trips),
    k0_off5 i k = ![0, 512 * (2 * ((i 1).val / 2) - 2 - 2 * k.val), 0] := by decide +kernel

variable {F : FTy → Type} [FloatOps F] [Named F]

/-- What one tile hands to the next: the keep sum right of it, and the values weighted so far. -/
structure Carry (F : FTy → Type) where
  R : FVec F S256x1 .f32
  acc : FVec F S256x64 .f32

/-- Zero outside the mask; everything where there is no mask. -/
def keep (o : Option (IVec S256x512 1)) (x : FVec F S256x512 .f32) : FVec F S256x512 .f32 :=
  match o with
  | none => x
  | some m => select m x (broadcast S256x512 (Scalar.ofBits .f32 0x00000000#32 : F .f32))

/-- The scores. -/
def scores (q : FVec F S256x64 .bf16) (kg : Vec F S1x512x64 .bf16) : FVec F S256x512 .f32 :=
  matmul dot_S256x64_S512x64_S256x512_1_1_0_0_n_n none q (shapeCast S512x64 kg shapeCasts_S1x512x64_S512x64 : FVec F S512x64 .bf16) (constant S256x512 .f32 0x00000000#32)

/-- The logarithm of the sigmoid, to base 2. -/
def logBeta (z : FVec F S256x512 .f32) : FVec F S256x512 .f32 :=
  subf (minimumf z (broadcast S256x512 (Scalar.ofBits .f32 0x00000000#32 : F .f32)))
    (mulf (log (addf (broadcast S256x512 (Scalar.ofBits .f32 0x3F800000#32 : F .f32))
      (exp2 (subf (broadcast S256x512 (Scalar.ofBits .f32 0x00000000#32 : F .f32)) (absf z)))))
      (broadcast S256x512 (Named.named κ "log2_e" 0x3FB8AA3B#32 : F .f32)))

/-- The sum of the right half of each row. -/
def sumHi (x : FVec F S256x512 .f32) : FVec F S256x1 .f32 :=
  shapeCast S256x1 (multiReduction .add [1] S256 (extractStridedSlice S256x256 ![0, 256] x slices_S256x512_o0_256_S256x256 : FVec F S256x256 .f32) 0x00000000#32 reduces_S256x256_S256 (.inl rfl) rfl : FVec F S256 .f32) shapeCasts_S256_S256x1

/-- The sum of the left half of each row. -/
def sumLo (x : FVec F S256x512 .f32) : FVec F S256x1 .f32 :=
  shapeCast S256x1 (multiReduction .add [1] S256 (extractStridedSlice S256x256 ![0, 0] x slices_S256x512_o0_0_S256x256 : FVec F S256x256 .f32) 0x00000000#32 reduces_S256x256_S256 (.inl rfl) rfl : FVec F S256 .f32) shapeCasts_S256_S256x1

/-- The row sums. -/
def rowSum (x : FVec F S256x512 .f32) : FVec F S256x1 .f32 := addf (sumHi x) (sumLo x)

/-- The halves of each row, rounded and with the rounding's remainder beside them, one half under the other. -/
def splitRows (x : FVec F S256x512 .f32) : FVec F S512x512 .bf16 :=
  let h : FVec F S256x512 .bf16 := truncf .bf16 x bitsLt_bf16_f32
  let l : FVec F S256x512 .bf16 := truncf .bf16 (subf x (extf .f32 h bitsLt_bf16_f32)) bitsLt_bf16_f32
  concatenate S512x512 0
    [⟨S256x512, (concatenate S256x512 1 [⟨S256x256, (extractStridedSlice S256x256 ![0, 0] h slices_S256x512_o0_0_S256x256 : FVec F S256x256 .bf16)⟩,
        ⟨S256x256, (extractStridedSlice S256x256 ![0, 0] l slices_S256x512_o0_0_S256x256 : FVec F S256x256 .bf16)⟩] concatenates_S256x256_S256x256_S256x512_d1 : FVec F S256x512 .bf16)⟩,
     ⟨S256x512, (concatenate S256x512 1 [⟨S256x256, (extractStridedSlice S256x256 ![0, 256] h slices_S256x512_o0_256_S256x256 : FVec F S256x256 .bf16)⟩,
        ⟨S256x256, (extractStridedSlice S256x256 ![0, 256] l slices_S256x512_o0_256_S256x256 : FVec F S256x256 .bf16)⟩] concatenates_S256x256_S256x256_S256x512_d1 : FVec F S256x512 .bf16)⟩]
    concatenates_S256x512_S256x512_S512x512_d0

/-- The product that sums each half row right of every place in it. -/
def halfSums (x : FVec F S256x512 .f32) (a : Vec F S512x256 .bf16) : FVec F S512x256 .f32 :=
  matmul dot_S512x512_S512x256_S512x256_1_0_0_1_n_n none (splitRows x) (shapeCast S512x256 a shapeCasts_S512x256_S512x256 : FVec F S512x256 .bf16) (constant S512x256 .f32 0x00000000#32)

/-- The sums of each row right of every place in it. -/
def suffix (x : FVec F S256x512 .f32) (a : Vec F S512x256 .bf16) : FVec F S256x512 .f32 :=
  concatenate S256x512 1
    [⟨S256x256, (addf (extractStridedSlice S256x256 ![0, 0] (halfSums x a) slices_S512x256_o0_0_S256x256 : FVec F S256x256 .f32)
        (broadcastTo S256x256 (sumHi x) broadcasts_S256x1_S256x256 : FVec F S256x256 .f32) : FVec F S256x256 .f32)⟩,
     ⟨S256x256, (extractStridedSlice S256x256 ![256, 0] (halfSums x a) slices_S512x256_o256_0_S256x256 : FVec F S256x256 .f32)⟩]
    concatenates_S256x256_S256x256_S256x512_d1

/-- The logarithm of the probability to pass a key by, to base 2. -/
def logKeep (o : Option (IVec S256x512 1)) (z : FVec F S256x512 .f32) : FVec F S256x512 .f32 := keep o (subf (logBeta z) z)

/-- The weights. -/
def weights (o : Option (IVec S256x512 1)) (z : FVec F S256x512 .f32) (a : Vec F S512x256 .bf16) (R : FVec F S256x1 .f32) : FVec F S256x512 .bf16 :=
  truncf .bf16 (keep o (exp2 (addf (addf (logBeta z) (suffix (logKeep o z) a)) (broadcastTo S256x512 R broadcasts_S256x1_S256x512 : FVec F S256x512 .f32)))) bitsLt_bf16_f32

/-- What a tile hands on. -/
def tileNext (o : Option (IVec S256x512 1)) (q : FVec F S256x64 .bf16) (kg vg : Vec F S1x512x64 .bf16) (a : Vec F S512x256 .bf16) (s : Carry F) : Carry F where
  R := addf s.R (rowSum (logKeep o (scores q kg)))
  acc := addf s.acc (matmul dot_S256x512_S512x64_S256x64_1_0_0_1_n_n none (weights o (scores q kg) a s.R) (shapeCast S512x64 vg shapeCasts_S1x512x64_S512x64 : FVec F S512x64 .bf16) (constant S256x64 .f32 0x00000000#32))

/-- What one row block reads. -/
structure Blocks (F : FTy → Type) where
  q : Vec F S1x512x64 .bf16
  k : Vec F S1x8192x64 .bf16
  v : Vec F S1x8192x64 .bf16
  a : Vec F S512x256 .bf16

theorem inb_rows (r : Fin 2) : ∀ a, (![0, 256 * r.val, 0] : Fin 3 → ℕ) a + S1x256x64.size a ≤ S1x512x64.size a := by
  revert r; decide
theorem inb_keys (j : Fin 16) : ∀ a, (![0, 512 * j.val, 0] : Fin 3 → ℕ) a + S1x512x64.size a ≤ S1x8192x64.size a := by
  revert j; decide

/-- 256 rows of a block. -/
def rows (x : Vec F S1x512x64 .bf16) (r : Fin 2) : FVec F S256x64 .bf16 :=
  shapeCast S256x64 (VecWindow.window (s := S1x512x64) x ![0, 256 * r.val, 0] S1x256x64.size (inb_rows r) : Vec F S1x256x64 .bf16) shapeCasts_S1x256x64_S256x64

/-- Group `j` of the keys or values. -/
def keys (x : Vec F S1x8192x64 .bf16) (j : Fin 16) : Vec F S1x512x64 .bf16 :=
  VecWindow.window (s := S1x8192x64) x ![0, 512 * j.val, 0] S1x512x64.size (inb_keys j)

/-- The mask of a diagonal tile: the keys before the row. -/
def mask (a b : BitVec 32) (r : Fin 2) : IVec S256x512 1 :=
  cmpi .slt (addi (iota .tc S256x512 32 [1] iota_S256x512_d1_w32) (broadcast S256x512 (Scalar.muli b 512#32)))
    (addi (iota .tc S256x512 32 [0] iota_S256x512_d0_w32) (broadcast S256x512 (Scalar.addi (Scalar.muli a 512#32) (BitVec.ofNat 32 (256 * r.val)))))

/-- Nothing carried yet. -/
def carry0 : Carry F where
  R := broadcast S256x1 (Scalar.ofBits .f32 0x00000000#32 : F .f32)
  acc := broadcast S256x64 (Scalar.ofBits .f32 0x00000000#32 : F .f32)

/-- The mask at the `n`-th group: on the diagonal only. -/
def maskAt (i : Fin 16) (n : ℕ) (r : Fin 2) : Option (IVec S256x512 1) :=
  if n = 0 then some (mask (BitVec.ofNat 32 i.val) (BitVec.ofNat 32 i.val) r) else none

/-- The `n`-th group from the diagonal one down. -/
def groupAt (i : Fin 16) (n : ℕ) : Fin 16 := ⟨i.val - n, by omega⟩

/-- One tile at group `j`. -/
def groupStep (x : Blocks F) (o : Option (IVec S256x512 1)) (r : Fin 2) (j : Fin 16) (s : Carry F) : Carry F :=
  tileNext o (rows x.q r) (keys x.k j) (keys x.v j) x.a s

/-- What a tile carries after `n` groups. -/
def stateAt (x : Blocks F) (i : Fin 16) (r : Fin 2) : ℕ → Carry F
  | 0 => carry0
  | n + 1 => groupStep x (maskAt i n r) r (groupAt i n) (stateAt x i r n)

/-- The two tiles' rows one under the other. -/
def rowsOut (w : Fin 2 → FVec F S256x64 .f32) : Vec F S1x512x64 .f32 :=
  VecWindow.put (s := S1x512x64) (VecWindow.put (s := S1x512x64)
    (fun _ => (Scalar.ofBits .f32 0x00000000#32 : F .f32))
    ![0, 0, 0] S1x256x64.size (shapeCast S1x256x64 (w 0) shapeCasts_S256x64_S1x256x64))
    ![0, 256, 0] S1x256x64.size (shapeCast S1x256x64 (w 1) shapeCasts_S256x64_S1x256x64)

/-- A row block's output. -/
def blockOut (x : Blocks F) (i : Fin 16) : Vec F S1x512x64 .f32 := rowsOut fun r => (stateAt x i r (i.val + 1)).acc

end Cert.SbFwdProof
-- ==== Proof.FwdRun.lean ====
/- The forward body at one grid point, run once per case: an odd row block and an even one. -/
module

public import proofs.«01_k».proof.Proof.FwdTile

@[expose] public section

set_option maxRecDepth 16384

noncomputable section

namespace Cert.SbFwdProof

open Cert.SbFwdIdeal Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body holds: its inputs' blocks and the output's buffer. -/
abbrev BodyHeld (c : Dev nD) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
    (x : Blocks F) (f6 : Buf (Elt F) (arg6.view.loc (c : Thread nD τ))) : sProp 𝕄 :=
  iprop((arg2.view.loc (c : Thread nD τ) ↦[arg2.view.set]{fullShare} harg2.unread x.q)
    ∗ (arg3.view.loc (c : Thread nD τ) ↦[arg3.view.set]{fullShare} harg3.unread x.k)
    ∗ (arg4.view.loc (c : Thread nD τ) ↦[arg4.view.set]{fullShare} harg4.unread x.v)
    ∗ (arg5.view.loc (c : Thread nD τ) ↦[arg5.view.set]{fullShare} harg5.unread x.a)
    ∗ (arg6.view.loc (c : Thread nD τ) ↦[arg6.view.set]{fullShare} f6))

instance (i : grid0.Coords) : ClosedOff (k0_off3 i) := ⟨_, off3_eq i⟩

set_option maxHeartbeats 16000000 in
/-- An odd row block. -/
@[irreducible] def run_odd (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
    (x : Blocks F) (h : k0_cond1 i = 1#1) (f6 : Buf (Elt F) (arg6.view.loc (c : Thread nD τ))) :
    { F6 : Buf (Elt F) (arg6.view.loc (c : Thread nD τ)) //
        BodyHeld c arg2 harg2 arg3 harg3 arg4 harg4 arg5 harg5 arg6 harg6 x f6
          ⊢ wp frame (wpE (defs₀ (F := F)) Variants.none (c : Thread nD τ) none) Set.univ (cc0_sb_fwd (F := F) i arg2 harg2 arg3 harg3 arg4 harg4 arg5 harg5 arg6 harg6)
              (fun _ => BodyHeld c arg2 harg2 arg3 harg3 arg4 harg4 arg5 harg5 arg6 harg6 x F6) } := by
  refine ⟨?_, ?run⟩
  case run =>
    letI : ClosedOff (k0_off1 i) := ⟨_, off1_eq i h⟩
    letI : ClosedOff (k0_off2 i) := ⟨_, off2_eq i h⟩
    unfold BodyHeld
    iintro ⟨H2, H3, H4, H5, H6⟩
    unfold cc0_sb_fwd
    sl_exec
    sl_step
    sl_close

set_option maxHeartbeats 16000000 in
/-- An even row block. -/
@[irreducible] def run_even (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
    (x : Blocks F) (h : ¬ k0_cond1 i = 1#1) (f6 : Buf (Elt F) (arg6.view.loc (c : Thread nD τ))) :
    { F6 : Buf (Elt F) (arg6.view.loc (c : Thread nD τ)) //
        BodyHeld c arg2 harg2 arg3 harg3 arg4 harg4 arg5 harg5 arg6 harg6 x f6
          ⊢ wp frame (wpE (defs₀ (F := F)) Variants.none (c : Thread nD τ) none) Set.univ (cc0_sb_fwd (F := F) i arg2 harg2 arg3 harg3 arg4 harg4 arg5 harg5 arg6 harg6)
              (fun _ => BodyHeld c arg2 harg2 arg3 harg3 arg4 harg4 arg5 harg5 arg6 harg6 x F6) } := by
  refine ⟨?_, ?run⟩
  case run =>
    unfold BodyHeld
    iintro ⟨H2, H3, H4, H5, H6⟩
    unfold cc0_sb_fwd
    sl_exec
    sl_step
    sl_close

end Cert.SbFwdProof
-- ==== Proof.FwdValue.lean ====
/- What the forward body leaves, in terms of the row block's states. -/
module

public import proofs.«01_k».proof.Proof.FwdRun

@[expose] public section

set_option maxRecDepth 16384

noncomputable section

namespace Cert.SbFwdProof

open Cert.SbFwdIdeal Cert.SbFwdIdeal.Gen
open Idealize.ShloMosaic Idealize.ShloMosaic.TcCoe

variable {F : FTy → Type} [FloatOps F] [Named F]

/-- What a loop carries. -/
abbrev Acc (F : FTy → Type) : Type := FVec F S256x1 .f32 × FVec F S256x64 .f32 × FVec F S256x1 .f32 × FVec F S256x64 .f32

/-- The loop's carried value, of the two tiles'. -/
abbrev packAcc (s : Fin 2 → Carry F) : Acc F := ((s 0).R, (s 0).acc, (s 1).R, (s 1).acc)

/-- Rows as loaded. -/
abbrev ldRows (arg : Memref sig .tc .vmem S1x512x64 .bf16) (harg : arg.IsWhole) (x : Vec F S1x512x64 .bf16) (r : Fin 2) : FVec F S256x64 .bf16 :=
  shapeCast S256x64 (arg.view.readAt (Elt F) (Rect.unit (s := S1x512x64) ![0, 256 * r.val, 0] S1x256x64.size (inb_rows r)).toLoadRect (harg.unread x) : Vec F S1x256x64 .bf16) shapeCasts_S1x256x64_S256x64

/-- A group as loaded. -/
abbrev ldKeys (arg : Memref sig .tc .vmem S1x8192x64 .bf16) (harg : arg.IsWhole) (x : Vec F S1x8192x64 .bf16) (o : Fin 3 → ℕ) (h : ∀ a, o a + S1x512x64.size a ≤ S1x8192x64.size a) :
    Vec F S1x512x64 .bf16 :=
  arg.view.readAt (Elt F) (Rect.unit (s := S1x8192x64) o S1x512x64.size h).toLoadRect (harg.unread x)

/-- The matrix of the half sums as loaded. -/
abbrev ldW (arg : Memref sig .tc .vmem S512x256 .bf16) (harg : arg.IsWhole) (x : Vec F S512x256 .bf16) : Vec F S512x256 .bf16 :=
  arg.view.readAt (Elt F) (Rect.unit (s := S512x256) ![0, 0] S512x256.size inb_S512x256_S512x256_0_0).toLoadRect (harg.unread x)

theorem ldRows_eq (arg : Memref sig .tc .vmem S1x512x64 .bf16) (harg : arg.IsWhole) (x : Vec F S1x512x64 .bf16) (r : Fin 2) : ldRows arg harg x r = rows x r := by
  unfold ldRows
  rw [View.readAt_unit arg.view _ (inb_rows r) rfl (inb_rows r), harg.read_unread]
  rfl

theorem ldKeys_eq (arg : Memref sig .tc .vmem S1x8192x64 .bf16) (harg : arg.IsWhole) (x : Vec F S1x8192x64 .bf16) (o : Fin 3 → ℕ) (h) (j : Fin 16)
    (e : o = ![0, 512 * j.val, 0]) : ldKeys arg harg x o h = keys x j := by
  unfold ldKeys
  rw [View.readAt_unit arg.view _ h e (inb_keys j), harg.read_unread]
  rfl

theorem ldW_eq (arg : Memref sig .tc .vmem S512x256 .bf16) (harg : arg.IsWhole) (x : Vec F S512x256 .bf16) : ldW arg harg x = x := by
  unfold ldW
  exact (View.readAt_full arg.view _ _).trans (harg.read_unread _)

/-- Two windows of rows put over another's values. -/
theorem rows_cover (X : Vec F S1x512x64 .f32) (w : Fin 2 → FVec F S256x64 .f32) :
    VecWindow.put (s := S1x512x64) (VecWindow.put (s := S1x512x64) X
    ![0, 0, 0] S1x256x64.size (shapeCast S1x256x64 (w 0) shapeCasts_S256x64_S1x256x64))
    ![0, 256, 0] S1x256x64.size (shapeCast S1x256x64 (w 1) shapeCasts_S256x64_S1x256x64) = rowsOut w := by
  funext y
  unfold rowsOut VecWindow.put
  have h1 : (y 1).val < 512 := (y 1).isLt
  have key : ∀ o : ℕ, o ≤ (y 1).val → (y 1).val < o + 256 → ∀ a, (![0, o, 0] : Fin 3 → ℕ) a ≤ (y a).val ∧ (y a).val < (![0, o, 0] : Fin 3 → ℕ) a + S1x256x64.size a := by
    intro o h2 h3 a
    have h4 := (y a).isLt
    fin_cases a
    · exact ⟨Nat.zero_le _, by simpa using h4⟩
    · exact ⟨h2, h3⟩
    · exact ⟨Nat.zero_le _, by simpa using h4⟩
  split_ifs with c1 c0
  · rfl
  · rfl
  · exfalso
    by_cases q1 : 256 ≤ (y 1).val
    · exact c1 (key 256 q1 (by omega))
    · exact c0 (key 0 (Nat.zero_le _) (by omega))

/-- The two stores of the output, the last first. -/
abbrev outPieces (a : Acc F) : List (View.Piece (Elt F) S1x512x64 .f32) :=
  [⟨Rect.unit (s := S1x512x64) ![0, 256, 0] S1x256x64.size (inb_rows 1), shapeCast S1x256x64 a.2.2.2 shapeCasts_S256x64_S1x256x64⟩,
   ⟨Rect.unit (s := S1x512x64) ![0, 0, 0] S1x256x64.size (inb_rows 0), shapeCast S1x256x64 a.2.1 shapeCasts_S256x64_S1x256x64⟩]

theorem read_outPieces {κ : Kind} {sp : Space} (v : View sig κ sp S1x512x64 .f32) (f : v.ty.Contents (Elt F)) (s : Fin 2 → Carry F) :
    v.read (Elt F) (v.writes (Elt F) f (outPieces (packAcc s))) = rowsOut fun r => (s r).acc := by
  have step : ∀ (o : Fin 3 → ℕ) (h : ∀ a, o a + S1x256x64.size a ≤ S1x512x64.size a) (w : Vec F S1x256x64 .f32) (L : List (View.Piece (Elt F) S1x512x64 .f32)),
      v.read (Elt F) (v.writes (Elt F) f (⟨Rect.unit (s := S1x512x64) o S1x256x64.size h, w⟩ :: L))
        = VecWindow.put (s := S1x512x64) (v.read (Elt F) (v.writes (Elt F) f L)) o S1x256x64.size w :=
    fun o h w L => View.read_writes_cons_put v f h w L rfl
  rw [outPieces, step, step, View.writes_nil]
  exact rows_cover _ fun r => (s r).acc

section
variable (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
  (x : Blocks F) (arg1 v17 : BitVec 32) (v19 v21 : FVec F S256x64 .bf16) (v22 : FVec F S256x1 .f32) (v23 : FVec F S256x64 .f32) (v34 : BitVec 1) (v49 v71 : BitVec 32)

/-- Two groups, as loaded. -/
def twoLd (k3 k4 k3' k4' : Vec F S1x512x64 .bf16) (w : Vec F S512x256 .bf16) (q : FVec F S256x64 .bf16) (o : Option (IVec S256x512 1)) (s : Carry F) : Carry F :=
  tileNext none q k3' k4' w (tileNext o q k3 k4 w s)

/-- The values a trip carries on. -/
theorem trip_acc (k : Fin (k0_t1_loop i).trips) (a : Acc F) :
    tripR_k0_t1 Variants.none c none i arg2 harg2 arg3 harg3 arg4 harg4 arg5 harg5 arg6 harg6 arg1 v17 v19 v21 v22 v23 v34 v49 (harg3.unread x.k) (harg4.unread x.v) (harg5.unread x.a) k a
      = packAcc ![twoLd (ldKeys arg3 harg3 x.k (k0_off4 i k) (k0_off4_inb i k)) (ldKeys arg4 harg4 x.v (k0_off4 i k) (k0_off4_inb i k))
          (ldKeys arg3 harg3 x.k (k0_off5 i k) (k0_off5_inb i k)) (ldKeys arg4 harg4 x.v (k0_off5 i k) (k0_off5_inb i k)) (ldW arg5 harg5 x.a) v19 none ⟨a.1, a.2.1⟩,
        twoLd (ldKeys arg3 harg3 x.k (k0_off4 i k) (k0_off4_inb i k)) (ldKeys arg4 harg4 x.v (k0_off4 i k) (k0_off4_inb i k))
          (ldKeys arg3 harg3 x.k (k0_off5 i k) (k0_off5_inb i k)) (ldKeys arg4 harg4 x.v (k0_off5 i k) (k0_off5_inb i k)) (ldW arg5 harg5 x.a) v21 none ⟨a.2.2.1, a.2.2.2⟩] := by
  unfold tripR_k0_t1 trip_k0_t1
  rfl

variable (I : Fin 16) (hI : I.val = (i 1).val) (h0 : v19 = rows x.q 0) (h1 : v21 = rows x.q 1)

theorem twoLd_at (j j' : Fin 16) (r : Fin 2) (o : Option (IVec S256x512 1)) (s : Carry F) :
    twoLd (keys x.k j) (keys x.v j) (keys x.k j') (keys x.v j') x.a (rows x.q r) o s = groupStep x none r j' (groupStep x o r j s) := rfl

/-- Two groups after `n`, the diagonal one done or the first of the two. -/
theorem stateAt_two (n : ℕ) (r : Fin 2) : stateAt x I r (n + 2) = groupStep x none r (groupAt I (n + 1)) (groupStep x (maskAt I n r) r (groupAt I n) (stateAt x I r n)) := by
  rw [stateAt, stateAt]
  exact congrArg (fun o => groupStep x o r _ _) (if_neg (Nat.succ_ne_zero n))

include hI h0 h1 in
theorem trip_at (n : ℕ) (hn : n ≠ 0) (k : Fin (k0_t1_loop i).trips) (hk : I.val - n = 2 * ((i 1).val / 2) - 1 - 2 * k.val) :
    tripR_k0_t1 Variants.none c none i arg2 harg2 arg3 harg3 arg4 harg4 arg5 harg5 arg6 harg6 arg1 v17 v19 v21 v22 v23 v34 v49 (harg3.unread x.k) (harg4.unread x.v) (harg5.unread x.a) k (packAcc fun r => stateAt x I r n) = packAcc fun r => stateAt x I r (n + 2) := by
  have hg : (groupAt I n).val = 2 * ((i 1).val / 2) - 1 - 2 * k.val := hk
  have hg' : (groupAt I (n + 1)).val = 2 * ((i 1).val / 2) - 2 - 2 * k.val := by
    show I.val - (n + 1) = _
    omega
  rw [trip_acc, ldKeys_eq arg3 harg3 x.k _ _ (groupAt I n) (by rw [off4_eq, hg]), ldKeys_eq arg4 harg4 x.v _ _ (groupAt I n) (by rw [off4_eq, hg]),
    ldKeys_eq arg3 harg3 x.k _ _ (groupAt I (n + 1)) (by rw [off5_eq, hg']), ldKeys_eq arg4 harg4 x.v _ _ (groupAt I (n + 1)) (by rw [off5_eq, hg']), ldW_eq, h0, h1]
  simp only [twoLd_at, stateAt_two, maskAt, if_neg hn]
  rfl

include hI h0 h1 in
/-- The loop over pairs of groups. -/
theorem loop_at (n : ℕ) (hn : n = 1 + I.val % 2) (k : ℕ) (hk : k ≤ (k0_t1_loop i).trips) :
    st_k0_t1 Variants.none c none i arg2 harg2 arg3 harg3 arg4 harg4 arg5 harg5 arg6 harg6 arg1 v17 v19 v21 v22 v23 v34 v49 (harg3.unread x.k) (harg4.unread x.v) (harg5.unread x.a) (packAcc fun r => stateAt x I r n) k = packAcc fun r => stateAt x I r (n + 2 * k) := by
  induction k with
  | zero => rfl
  | succ k ih =>
    have ht := trips_eq i
    refine (st_k0_t1_succ Variants.none c none i arg2 harg2 arg3 harg3 arg4 harg4 arg5 harg5 arg6 harg6 arg1 v17 v19 v21 v22 v23 v34 v49 (harg3.unread x.k) (harg4.unread x.v) (harg5.unread x.a) _ ⟨k, hk⟩).trans ?_
    show tripR_k0_t1 Variants.none c none i arg2 harg2 arg3 harg3 arg4 harg4 arg5 harg5 arg6 harg6 arg1 v17 v19 v21 v22 v23 v34 v49 (harg3.unread x.k) (harg4.unread x.v) (harg5.unread x.a) ⟨k, hk⟩ (st_k0_t1 Variants.none c none i arg2 harg2 arg3 harg3 arg4 harg4 arg5 harg5 arg6 harg6 arg1 v17 v19 v21 v22 v23 v34 v49 (harg3.unread x.k) (harg4.unread x.v) (harg5.unread x.a) _ k) = _
    rw [ih (by omega), trip_at c i arg2 harg2 arg3 harg3 arg4 harg4 arg5 harg5 arg6 harg6 x arg1 v17 v19 v21 v22 v23 v34 v49 I hI h0 h1 (n + 2 * k) (by omega) ⟨k, hk⟩ (by show _ = 2 * ((i 1).val / 2) - 1 - 2 * k; omega)]
    rfl

include hI h0 h1 in
/-- The output after both loops. -/
theorem tail_value (n : ℕ) (hn : n = 1 + I.val % 2) (init : Acc F) (hi : init = packAcc fun r => stateAt x I r n) (f6 : Buf (Elt F) (arg6.view.loc (c : Thread nD τ))) :
    arg6.view.read (Elt F) (arg6.view.writes (Elt F) f6 (outPieces (st_k0_t2 Variants.none c none i arg2 harg2 arg3 harg3 arg4 harg4 arg5 harg5 arg6 harg6 arg1 v17 v19 v21 v22 v23 v34 v49 v71 (harg3.unread x.k) (harg4.unread x.v) (harg5.unread x.a)
      (st_k0_t1 Variants.none c none i arg2 harg2 arg3 harg3 arg4 harg4 arg5 harg5 arg6 harg6 arg1 v17 v19 v21 v22 v23 v34 v49 (harg3.unread x.k) (harg4.unread x.v) (harg5.unread x.a) init (k0_t1_loop i).trips) (k0_t2_loop i).trips))) = blockOut x I := by
  have ht := trips_eq i
  rw [rest_trips, st_k0_t2_zero, hi, loop_at c i arg2 harg2 arg3 harg3 arg4 harg4 arg5 harg5 arg6 harg6 x arg1 v17 v19 v21 v22 v23 v34 v49 I hI h0 h1 n hn _ le_rfl, read_outPieces, show n + 2 * (k0_t1_loop i).trips = I.val + 1 by omega]
  rfl

/-- One group at the start, as loaded. -/
def oneLd (a b : BitVec 32) (k3 k4 : Vec F S1x512x64 .bf16) (w : Vec F S512x256 .bf16) (r : Fin 2) (q : FVec F S256x64 .bf16) : Carry F :=
  tileNext (some (mask a b r)) q k3 k4 w carry0

end

theorem v17_even : ∀ i : grid0.Coords, run_even.sl.v17 i = BitVec.ofNat 32 (i 1).val := by decide +kernel
theorem v17_odd : ∀ i : grid0.Coords, run_odd.sl.v17 i = BitVec.ofNat 32 (i 1).val := by decide +kernel

section
variable (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
  (x : Blocks F) (I : Fin 16) (hI : I.val = (i 1).val)

include hI in
theorem one_at (b : BitVec 32) (hb : b = BitVec.ofNat 32 (i 1).val) (o : Fin 3 → ℕ) (h) (e : o = ![0, 512 * (i 1).val, 0]) :
    packAcc (fun r => oneLd (BitVec.ofNat 32 (i 1).val) b (ldKeys arg3 harg3 x.k o h) (ldKeys arg4 harg4 x.v o h) (ldW arg5 harg5 x.a) r (ldRows arg2 harg2 x.q r))
      = packAcc fun r => stateAt x I r 1 := by
  have e0 : o = ![0, 512 * (groupAt I 0).val, 0] := by rw [e, ← hI]; rfl
  rw [ldKeys_eq arg3 harg3 x.k o h _ e0, ldKeys_eq arg4 harg4 x.v o h _ e0, ldW_eq, hb, ← hI]
  simp only [ldRows_eq]
  rfl

include hI in
theorem two_at (b : BitVec 32) (hb : b = BitVec.ofNat 32 (i 1).val) (o : Fin 3 → ℕ) (h) (e : o = ![0, 512 * (i 1).val, 0])
    (o' : Fin 3 → ℕ) (h') (e' : o' = ![0, 512 * ((i 1).val - 1), 0]) :
    packAcc (fun r => twoLd (ldKeys arg3 harg3 x.k o h) (ldKeys arg4 harg4 x.v o h) (ldKeys arg3 harg3 x.k o' h') (ldKeys arg4 harg4 x.v o' h') (ldW arg5 harg5 x.a)
        (ldRows arg2 harg2 x.q r) (some (mask (BitVec.ofNat 32 (i 1).val) b r)) carry0)
      = packAcc fun r => stateAt x I r 2 := by
  have e0 : o = ![0, 512 * (groupAt I 0).val, 0] := by rw [e, ← hI]; rfl
  have e1 : o' = ![0, 512 * (groupAt I 1).val, 0] := by rw [e', ← hI]; rfl
  rw [ldKeys_eq arg3 harg3 x.k o h _ e0, ldKeys_eq arg4 harg4 x.v o h _ e0, ldKeys_eq arg3 harg3 x.k o' h' _ e1, ldKeys_eq arg4 harg4 x.v o' h' _ e1, ldW_eq, hb, ← hI]
  simp only [ldRows_eq, twoLd_at]
  rfl

set_option maxHeartbeats 4000000 in
include hI in
theorem even_value (h : ¬ k0_cond1 i = 1#1) (f6 : Buf (Elt F) (arg6.view.loc (c : Thread nD τ))) :
    arg6.view.read (Elt F) (run_even c i arg2 harg2 arg3 harg3 arg4 harg4 arg5 harg5 arg6 harg6 x h f6).1 = blockOut x I := by
  have hev : I.val % 2 = 0 := by have := (cond1_eq i).not.mp h; omega
  unfold run_even
  refine tail_value c i arg2 harg2 arg3 harg3 arg4 harg4 arg5 harg5 arg6 harg6 x _ _ _ _ _ _ _ _ _ I hI (ldRows_eq arg2 harg2 x.q 0) (ldRows_eq arg2 harg2 x.q 1) 1 (by omega) _ ?_ f6
  refine Eq.trans ?_ (one_at i arg2 harg2 arg3 harg3 arg4 harg4 arg5 harg5 x I hI (run_even.sl.v17 i) (v17_even i) (k0_off3 i) (k0_off3_inb i h) (off3_eq i))
  rfl

set_option maxHeartbeats 4000000 in
include hI in
theorem odd_value (h : k0_cond1 i = 1#1) (f6 : Buf (Elt F) (arg6.view.loc (c : Thread nD τ))) :
    arg6.view.read (Elt F) (run_odd c i arg2 harg2 arg3 harg3 arg4 harg4 arg5 harg5 arg6 harg6 x h f6).1 = blockOut x I := by
  have hod : I.val % 2 = 1 := by have := (cond1_eq i).mp h; omega
  unfold run_odd
  refine tail_value c i arg2 harg2 arg3 harg3 arg4 harg4 arg5 harg5 arg6 harg6 x _ _ _ _ _ _ _ _ _ I hI (ldRows_eq arg2 harg2 x.q 0) (ldRows_eq arg2 harg2 x.q 1) 2 (by omega) _ ?_ f6
  refine Eq.trans ?_ (two_at i arg2 harg2 arg3 harg3 arg4 harg4 arg5 harg5 x I hI (run_odd.sl.v17 i) (v17_odd i) (k0_off1 i) (k0_off1_inb i h) (off1_eq i h) (k0_off2 i) (k0_off2_inb i h) (off2_eq i h))
  rfl

end

end Cert.SbFwdProof
-- ==== Proof.FwdData.lean ====
/- The forward pass's grid point from the blocks the pipeline hands it, the pipeline's proof data, and the run of the whole program. -/
module

public import proofs.«01_k».proof.Proof.FwdValue
public import proofs.«01_k».proof.Proof.Gen.SbFwdIdeal.Launch
public import proofs.«01_k».proof.Proof.Gen.SbFwdIdeal.Points
public import proofs.«01_k».proof.Proof.Gen.SbFwdIdeal.Frame
public import Idealize.ShloMosaic.Adequacy
public import Idealize.ShloMosaic.Init
public import Idealize.ShloMosaic.Lib.Claim

@[expose] public section

set_option maxRecDepth 16384

noncomputable section

namespace Cert.SbFwdProof

open Cert.SbFwdIdeal Cert.SbFwdIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S512x256 .bf16) (harg5 : arg5.IsWhole) (arg6 : Memref sig .tc .vmem S1x512x64 .f32) (harg6 : arg6.IsWhole)
  (x : Blocks F)

set_option maxHeartbeats 4000000 in
/-- A run of the body between buffers is one between what the buffers hold. -/
theorem sound_of_run (I : Fin 16) (f6 F6 : Buf (Elt F) (arg6.view.loc (c : Thread nD τ)))
    (hrun : BodyHeld c arg2 harg2 arg3 harg3 arg4 harg4 arg5 harg5 arg6 harg6 x f6 ⊢ wp frame (wpE (defs₀ (F := F)) Variants.none (c : Thread nD τ) none) Set.univ (cc0_sb_fwd (F := F) i arg2 harg2 arg3 harg3 arg4 harg4 arg5 harg5 arg6 harg6) fun _ => BodyHeld c arg2 harg2 arg3 harg3 arg4 harg4 arg5 harg5 arg6 harg6 x F6)
    (hv : arg6.view.read (Elt F) F6 = blockOut x I) (Q : PUnit → sProp 𝕄) :
    iprop(BodyHeld c arg2 harg2 arg3 harg3 arg4 harg4 arg5 harg5 arg6 harg6 x f6 ∗ (iprop(owns (c : Thread nD τ) arg2 fullShare x.q ∗ owns (c : Thread nD τ) arg3 fullShare x.k ∗ owns (c : Thread nD τ) arg4 fullShare x.v ∗ owns (c : Thread nD τ) arg5 fullShare x.a ∗ owns (c : Thread nD τ) arg6 fullShare (blockOut x I) -∗ Q ⟨⟩)))
      ⊢ wp frame (wpE (defs₀ (F := F)) Variants.none (c : Thread nD τ) none) Set.univ (cc0_sb_fwd (F := F) i arg2 harg2 arg3 harg3 arg4 harg4 arg5 harg5 arg6 harg6) Q := by
  iintro ⟨HB, Hk⟩
  iapply (wp_wand_r frame _ Set.univ)
  isplitl [HB]
  · iapply hrun; iexact HB
  unfold BodyHeld owns
  iintro %a ⟨H2, H3, H4, H5, H6⟩
  iapply Hk
  isplitl [H2]; · iexists _; isplitr; swap; (· iexact H2); ipureintro; exact harg2.read_unread _
  isplitl [H3]; · iexists _; isplitr; swap; (· iexact H3); ipureintro; exact harg3.read_unread _
  isplitl [H4]; · iexists _; isplitr; swap; (· iexact H4); ipureintro; exact harg4.read_unread _
  isplitl [H5]; · iexists _; isplitr; swap; (· iexact H5); ipureintro; exact harg5.read_unread _
  iexists F6; isplitr; swap; (· iexact H6); ipureintro; exact hv

set_option maxHeartbeats 4000000 in
/-- THE BODY: from its inputs' blocks, the output of the row block `I`. -/
theorem sound_kernel (I : Fin 16) (hI : I.val = (i 1).val) (y6 : Vec F S1x512x64 .f32) (Q : PUnit → sProp 𝕄) :
    iprop((owns (c : Thread nD τ) arg2 fullShare x.q ∗ owns (c : Thread nD τ) arg3 fullShare x.k ∗ owns (c : Thread nD τ) arg4 fullShare x.v ∗ owns (c : Thread nD τ) arg5 fullShare x.a ∗ owns (c : Thread nD τ) arg6 fullShare y6) ∗ (iprop(owns (c : Thread nD τ) arg2 fullShare x.q ∗ owns (c : Thread nD τ) arg3 fullShare x.k ∗ owns (c : Thread nD τ) arg4 fullShare x.v ∗ owns (c : Thread nD τ) arg5 fullShare x.a ∗ owns (c : Thread nD τ) arg6 fullShare (blockOut x I) -∗ Q ⟨⟩)))
      ⊢ wp frame (wpE (defs₀ (F := F)) Variants.none (c : Thread nD τ) none) Set.univ (cc0_sb_fwd (F := F) i arg2 harg2 arg3 harg3 arg4 harg4 arg5 harg5 arg6 harg6) Q := by
  have key : ∀ f6 : Buf (Elt F) (arg6.view.loc (c : Thread nD τ)), iprop(BodyHeld c arg2 harg2 arg3 harg3 arg4 harg4 arg5 harg5 arg6 harg6 x f6 ∗ (iprop(owns (c : Thread nD τ) arg2 fullShare x.q ∗ owns (c : Thread nD τ) arg3 fullShare x.k ∗ owns (c : Thread nD τ) arg4 fullShare x.v ∗ owns (c : Thread nD τ) arg5 fullShare x.a ∗ owns (c : Thread nD τ) arg6 fullShare (blockOut x I) -∗ Q ⟨⟩)))
      ⊢ wp frame (wpE (defs₀ (F := F)) Variants.none (c : Thread nD τ) none) Set.univ (cc0_sb_fwd (F := F) i arg2 harg2 arg3 harg3 arg4 harg4 arg5 harg5 arg6 harg6) Q := by
    intro f6
    by_cases h : k0_cond1 i = 1#1
    · exact sound_of_run c i arg2 harg2 arg3 harg3 arg4 harg4 arg5 harg5 arg6 harg6 x I f6 _ (run_odd c i arg2 harg2 arg3 harg3 arg4 harg4 arg5 harg5 arg6 harg6 x h f6).2 (odd_value c i arg2 harg2 arg3 harg3 arg4 harg4 arg5 harg5 arg6 harg6 x I hI h f6) Q
    · exact sound_of_run c i arg2 harg2 arg3 harg3 arg4 harg4 arg5 harg5 arg6 harg6 x I f6 _ (run_even c i arg2 harg2 arg3 harg3 arg4 harg4 arg5 harg5 arg6 harg6 x h f6).2 (even_value c i arg2 harg2 arg3 harg3 arg4 harg4 arg5 harg5 arg6 harg6 x I hI h f6) Q
  unfold owns
  iintro ⟨⟨⟨%f2, %hf2, H2⟩, ⟨%f3, %hf3, H3⟩, ⟨%f4, %hf4, H4⟩, ⟨%f5, %hf5, H5⟩, ⟨%f6, %hf6, H6⟩⟩, Hk⟩
  obtain rfl := harg2.eq_unread hf2
  obtain rfl := harg3.eq_unread hf3
  obtain rfl := harg4.eq_unread hf4
  obtain rfl := harg5.eq_unread hf5
  iapply (key f6)
  unfold BodyHeld owns
  isplitr [Hk]
  · isplitl [H2]; · iexact H2
    isplitl [H3]; · iexact H3
    isplitl [H4]; · iexact H4
    isplitl [H5]; · iexact H5
    iexact H6
  · iexact Hk

end

variable (m : (ℓ : Loc nD τ sig) → Buf (Elt F) ℓ) (ρ : Dev nD → PrngReg)

/-- The row block of a point. -/
def rowAt (t : Fin cfg0.N) : Fin 16 := ⟨t.val % 16, Nat.mod_lt _ (by decide)⟩

theorem rowAt_eq : ∀ t : Fin grid0.N, t.val % 16 = (grid0.coords t 1).val := by decide +kernel

/-- The blocks a point reads. -/
def blocksAt (c : Dev nD) (t : Fin cfg0.N) : Blocks F where
  q := iblk m c 0 t
  k := iblk m c 1 t
  v := iblk m c 2 t
  a := iblk m c 3 t

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (blocksAt m c t) (rowAt t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockOut (blocksAt m c t) (rowAt t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (blocksAt m c t) (rowAt t) (rowAt_eq t) ((dats m 0 c).before 4 t d4) _)
  isplitr [HΦ Ho]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN of the program, every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_and (frame_of m ρ (dats m) (A_eq m) (run_main m ρ)) ((θ_run defs _ _).mono (fun _ h => h.2) (run_main_quiescent m ρ))

end Cert.SbFwdProof
-- ==== Proof.FwdFrames.lean ====
/- The frames of the forward pass, its idealization and its reference, and what the named constant is. -/
module

public import proofs.«01_k».proof.Defs
public import proofs.«01_k».proof.Proof.FwdData
public import proofs.«01_k».proof.Proof.Gen.SbFwd
public import proofs.«01_k».proof.Proof.Gen.SbFwdIdeal
public import proofs.«01_k».proof.Proof.Gen.SbFwdReferenceIdeal
public import proofs.«01_k».proof.Proof.Gen.SbFwdReferenceIdeal.Run
public import Idealize.ShloMosaic.Lib.Claim

@[expose] public section

set_option maxRecDepth 16384

noncomputable section

namespace Cert.SbFwdProof

open Idealize.ShloMosaic Idealize.ShloMosaic.TcCoe Idealize.SL.Sem

/-- A named constant as the bits it is printed with. -/
abbrev namedBits : Named Bits := ⟨fun _ _ _ bits => Scalar.ofBits _ bits⟩

set_option maxHeartbeats 4000000 in
/-- The two bodies are one text where the named constant is read as its bits. -/
theorem body_eq : letI := namedBits
    Cert.SbFwd.cc0_sb_fwd (F := Bits) = Cert.SbFwdIdeal.cc0_sb_fwd (F := Bits) := rfl

set_option maxHeartbeats 8000000 in
theorem defs₀_eq : letI := namedBits
    Cert.SbFwd.defs₀ (F := Bits) = Cert.SbFwdIdeal.defs₀ (F := Bits) := by
  unfold Cert.SbFwd.defs₀ Cert.SbFwdIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

set_option maxHeartbeats 8000000 in
theorem defs_eq : letI := namedBits
    Cert.SbFwd.defs (F := Bits) = Cert.SbFwdIdeal.defs (F := Bits) := by
  unfold Cert.SbFwd.defs Cert.SbFwdIdeal.defs
  exact congrArg (fun d => Pipeline.defs (Cert.SbFwd.pcfgs (F := Bits)) d) defs₀_eq

set_option maxHeartbeats 4000000 in
theorem main_eq : letI := namedBits
    Cert.SbFwd.main (F := Bits) = Cert.SbFwdIdeal.main (F := Bits) := rfl

set_option maxHeartbeats 8000000 in
theorem frame_kernel : Cert.quiescent_SbFwd := fun m ρ _ => by
  letI := namedBits
  rw [defs_eq, main_eq]
  exact frame_all (F := Bits) m ρ

theorem frame_kernelIdeal : Cert.quiescent_SbFwdIdeal := fun m ρ _ => frame_all (F := Ideal) m ρ

theorem frame_reference : Cert.quiescent_SbFwdReferenceIdeal := fun m ρ _ =>
  (θ_run Cert.SbFwdReferenceIdeal.defs _ _).mono (fun r h => ⟨fun c => (h c).2, Idealize.ShloMosaic.sem_eq_zero_of_no_sems (by decide) r.2⟩) (Cert.SbFwdReferenceIdeal.Value.run m ρ)

theorem preserves : Cert.preserves_SbFwd_SbFwdIdeal :=
  IdealRules.named_const.statement Cert.SbFwdIdeal.κ "log2_e" .f32 0x3FB8AA3B#32 (((Real.log 2)⁻¹ : ℝ) : EReal) rfl

end Cert.SbFwdProof
-- ==== Proof.FwdReal.lean ====
/- The forward pass over the extended reals, at queries and keys that are reals: one tile, and the output of one block of rows. -/
module

public import proofs.«01_k».proof.Proof.FwdTile
public import proofs.«01_k».proof.Proof.TileReal
public import Idealize.ShloMosaic.Lib.WordCmp

@[expose] public section

set_option maxRecDepth 16384

noncomputable section

namespace Cert.SbFwdProof

open Cert.SbFwdIdeal Cert.SbFwdIdeal.Gen
open Cert.SbBwd (up up_at eq_up coe_sum sp logBeta_scalar halves split_right sum_fin Head)
open Idealize.ShloMosaic Idealize.ShloMosaic.TcCoe

theorem named_log2_e : (Named.named (F := Ideal) κ "log2_e" (φ := .f32) 0x3FB8AA3B#32 : EReal) = (((Real.log 2)⁻¹ : ℝ) : EReal) :=
  IdealRules.named_const.ideal_named_scalar _ _ _ _ rfl

/-- The masked places of a tile at rows from `t0` and keys from `c0`: a key counts before its row. -/
def Seen (o : Option (IVec S256x512 1)) (t0 c0 : ℕ) : Prop :=
  match o with
  | none => c0 + 512 ≤ t0
  | some m => ∀ (r : Fin 256) (j : Fin 512), m (ix2 r j) = if c0 + j.val < t0 + r.val then 1#1 else 0#1

theorem keep_up (o : Option (IVec S256x512 1)) (t0 c0 : ℕ) (h : Seen o t0 c0) (x : Fin 256 → Fin 512 → ℝ) :
    keep (F := Ideal) o (up x) = up fun r j => if c0 + j.val < t0 + r.val then x r j else 0 := by
  refine eq_up _ _ fun r j => ?_
  cases o with
  | none =>
    have h' : c0 + 512 ≤ t0 := h
    rw [if_pos (by omega)]; rfl
  | some m =>
    pointwise [keep, up_at]
    rw [h r j]
    by_cases hc : c0 + j.val < t0 + r.val
    · rw [if_pos hc, if_pos hc]; rfl
    · rw [if_neg hc, if_neg hc]; exact EReal.coe_zero.symm

/-- The product of rows with the rows of a group. -/
theorem scores_up (q : Fin 256 → Fin 64 → ℝ) (kg : Vec Ideal S1x512x64 .bf16) (k : Fin 512 → Fin 64 → ℝ) (hk : ∀ j e, kg (ix3 0 j e) = ((k j e : ℝ) : EReal)) :
    scores (F := Ideal) (up q) kg = up fun r j => ∑ e, q r e * k j e := by
  refine eq_up _ _ fun r j => ?_
  pointwise [scores, hk, up_at]
  simp only [← EReal.coe_mul, coe_sum]

theorem logBeta_up (z : Fin 256 → Fin 512 → ℝ) : logBeta (F := Ideal) (up z) = up fun r j => sp (z r j) := by
  refine eq_up _ _ fun r j => ?_
  pointwise [logBeta, up_at, named_log2_e]
  exact logBeta_scalar (z r j)

theorem rowSum_up (x : Fin 256 → Fin 512 → ℝ) : rowSum (F := Ideal) (up x) = up fun r (_ : Fin 1) => ∑ j, x r j := by
  refine eq_up _ _ fun r j => ?_
  pointwise [rowSum, sumHi, sumLo, up_at]
  rw [coe_sum, coe_sum, ← EReal.coe_add, halves, add_comm]

theorem suffix_up (x : Fin 256 → Fin 512 → ℝ) (a : Vec Ideal S512x256 .bf16)
    (ha : ∀ i j, a (ix2 i j) = (((if j.val < i.val % 256 then 1 else 0 : ℝ)) : EReal)) :
    suffix (F := Ideal) (up x) a = up fun r j => ∑ j', if j.val < j'.val then x r j' else 0 := by
  refine eq_up _ _ fun r j => ?_
  have hm : ∀ i : Fin 256, (i.val % 256) = i.val := fun i => Nat.mod_eq_of_lt i.isLt
  pointwise [suffix, halfSums, splitRows, sumHi, up_at, ha]
  simp only [← EReal.coe_mul, ← EReal.coe_sub, sub_self, zero_mul, coe_sum, Finset.sum_const_zero, ← EReal.coe_add, add_zero, hm]
  by_cases h : j.val < 256
  · rw [dif_pos h]
    refine congrArg _ ?_
    rw [halves]
    refine congrArg₂ (· + ·) (Finset.sum_congr rfl fun i _ => ?_) (Finset.sum_congr rfl fun i _ => ?_)
    · rw [mul_ite, mul_one, mul_zero]
    · rw [if_pos (by show j.val < 256 + i.val; omega)]
  · rw [dif_neg h]
    refine congrArg _ ?_
    rw [halves, Finset.sum_eq_zero (fun i _ => if_neg (by show ¬ j.val < i.val; omega)), zero_add]
    refine Finset.sum_congr rfl fun i _ => ?_
    rw [mul_ite, mul_one, mul_zero]
    have := i.isLt
    by_cases hc : j.val - 256 < i.val
    · rw [if_pos hc, if_pos (by show j.val < 256 + i.val; omega)]
    · rw [if_neg hc, if_neg (by show ¬ j.val < 256 + i.val; omega)]

/-- A sum over a row's places, as a sum over an interval. -/
theorem sum_places (n c : ℕ) (f : ℕ → EReal) : ∑ j : Fin n, f (c + j.val) = ∑ s ∈ Finset.Ico c (c + n), f s := by
  rw [Finset.sum_Ico_eq_sum_range, Nat.add_sub_cancel_left, ← Fin.sum_univ_eq_sum_range (fun j => f (c + j)) n]

section
variable (H : Head) (v : ℕ → Fin 64 → EReal) (t0 c0 : ℕ)

/-- What is carried when the keys from `b` on are done. -/
structure CarryIs (b : ℕ) (s : Carry Ideal) : Prop where
  R : s.R = up fun ρ (_ : Fin 1) => ∑ j ∈ Finset.Ico b 8192, H.lk (t0 + ρ.val) j
  acc : ∀ (ρ : Fin 256) (e : Fin 64), s.acc (ix2 ρ e) = ∑ j ∈ Finset.Ico b 8192, ((H.wt (t0 + ρ.val) j : ℝ) : EReal) * v j e

variable (o : Option (IVec S256x512 1)) (q : FVec Ideal S256x64 .bf16) (kg vg : Vec Ideal S1x512x64 .bf16) (a : Vec Ideal S512x256 .bf16) (s : Carry Ideal)
  (ho : Seen o t0 c0) (hq : q = up fun ρ e => H.q (t0 + ρ.val) e) (hk : ∀ j e, kg (ix3 0 j e) = ((H.k (c0 + j.val) e : ℝ) : EReal))
  (hv : ∀ (j : Fin 512) (e : Fin 64), vg (ix3 0 j e) = v (c0 + j.val) e)
  (ha : ∀ i j, a (ix2 i j) = (((if j.val < i.val % 256 then 1 else 0 : ℝ)) : EReal))
  (hc : c0 + 512 ≤ 8192) (hs : CarryIs H v t0 (c0 + 512) s)

include hq hk in
theorem scores_tile : scores (F := Ideal) q kg = up fun ρ j => H.z (t0 + ρ.val) (c0 + j.val) := by
  rw [hq, scores_up _ _ (fun j e => H.k (c0 + j.val) e) hk]; rfl

include ho hq hk in
theorem logKeep_tile : logKeep (F := Ideal) o (scores q kg) = up fun ρ j => H.lk (t0 + ρ.val) (c0 + j.val) := by
  rw [scores_tile H t0 c0 q kg hq hk, logKeep, logBeta_up]
  rw [show subf (F := Ideal) (up (φ := .f32) fun (ρ : Fin 256) (j : Fin 512) => sp (H.z (t0 + ρ.val) (c0 + j.val))) (up fun ρ j => H.z (t0 + ρ.val) (c0 + j.val))
    = up fun ρ j => sp (H.z (t0 + ρ.val) (c0 + j.val)) - H.z (t0 + ρ.val) (c0 + j.val) from rfl, keep_up o t0 c0 ho]
  rfl

include ho hq hk ha hc hs in
theorem weights_tile : weights o (scores q kg) a s.R = up fun ρ j => H.wt (t0 + ρ.val) (c0 + j.val) := by
  rw [weights, logKeep_tile H t0 c0 o q kg ho hq hk, suffix_up _ a ha, scores_tile H t0 c0 q kg hq hk, logBeta_up, hs.R]
  rw [show exp2 (F := Ideal) (addf (addf (up (φ := .f32) fun (ρ : Fin 256) (j : Fin 512) => sp (H.z (t0 + ρ.val) (c0 + j.val)))
      (up fun ρ j => ∑ j' : Fin 512, if j.val < j'.val then H.lk (t0 + ρ.val) (c0 + j'.val) else 0))
      (broadcastTo S256x512 (up (φ := .f32) fun ρ (_ : Fin 1) => ∑ j ∈ Finset.Ico (c0 + 512) 8192, H.lk (t0 + ρ.val) j) broadcasts_S256x1_S256x512 : FVec Ideal S256x512 .f32))
    = up fun ρ j => (2 : ℝ) ^ (sp (H.z (t0 + ρ.val) (c0 + j.val)) + ∑ s' ∈ Finset.Ico (c0 + j.val + 1) 8192, H.lk (t0 + ρ.val) s') from by
      refine eq_up _ _ fun ρ j => ?_
      pointwise [up_at]
      rw [← EReal.coe_add, ← EReal.coe_add, add_assoc, split_right c0 _ j hc]
      rfl, keep_up o t0 c0 ho]
  rfl

include ho hq hk hv ha hc hs in
/-- What a tile hands on, with its group's keys done. -/
theorem tileNext_is : CarryIs H v t0 c0 (tileNext o q kg vg a s) where
  R := by
    show addf s.R (rowSum (logKeep o (scores q kg))) = _
    rw [logKeep_tile H t0 c0 o q kg ho hq hk, rowSum_up, hs.R]
    refine eq_up _ _ fun ρ j => ?_
    pointwise [up_at]
    rw [← EReal.coe_add, add_comm, sum_fin, Finset.sum_Ico_consecutive _ (by omega) hc]
  acc := by
    intro ρ e
    show (addf s.acc (matmul dot_S256x512_S512x64_S256x64_1_0_0_1_n_n none (weights o (scores q kg) a s.R) (shapeCast S512x64 vg shapeCasts_S1x512x64_S512x64 : FVec Ideal S512x64 .bf16) (constant S256x64 .f32 0x00000000#32)) : FVec Ideal S256x64 .f32) (ix2 ρ e) = _
    rw [weights_tile H v t0 c0 o q kg a s ho hq hk ha hc hs]
    pointwise [up_at, hv, hs.acc]
    rw [add_comm, sum_places 512 c0 (fun j => ((H.wt (t0 + ρ.val) j : ℝ) : EReal) * v j e), Finset.sum_Ico_consecutive _ (by omega) hc]

end

/-! Windows read and written at an index. -/

theorem cast_rows (Y : Vec Ideal S1x256x64 .bf16) (ρ : Fin 256) (i : Fin 64) :
    (shapeCast S256x64 Y shapeCasts_S1x256x64_S256x64 : FVec Ideal S256x64 .bf16) (ix2 ρ i) = Y (ix3 0 ρ i) := by
  pointwise []

theorem rows_at (x : Vec Ideal S1x512x64 .bf16) (r : Fin 2) (ρ : Fin 256) (i : Fin 64) :
    rows x r (ix2 ρ i) = x (ix3 0 ⟨256 * r.val + ρ.val, by omega⟩ i) := by
  refine (cast_rows _ ρ i).trans ?_
  refine congrArg x (funext fun a => Fin.ext ?_)
  match a with
  | ⟨0, _⟩ => rfl
  | ⟨1, _⟩ => show 256 * r.val + 1 * ρ.val = 256 * r.val + ρ.val; omega
  | ⟨2, _⟩ => show 0 + 1 * i.val = i.val; omega

theorem keys_at (x : Vec Ideal S1x8192x64 .bf16) (g : Fin 16) (j : Fin 512) (i : Fin 64) :
    keys x g (ix3 0 j i) = x (ix3 0 ⟨512 * g.val + j.val, by omega⟩ i) := by
  refine congrArg x (funext fun a => Fin.ext ?_)
  match a with
  | ⟨0, _⟩ => rfl
  | ⟨1, _⟩ => show 512 * g.val + 1 * j.val = 512 * g.val + j.val; omega
  | ⟨2, _⟩ => show 0 + 1 * i.val = i.val; omega

theorem rowPut_in (X : Vec Ideal S1x512x64 .f32) (c : ℕ) (w : Vec Ideal S1x256x64 .f32) (s : Fin 512) (i : Fin 64) (h : c ≤ s.val ∧ s.val < c + 256) :
    VecWindow.put (s := S1x512x64) X ![0, c, 0] S1x256x64.size w (ix3 0 s i) = w (ix3 0 ⟨s.val - c, by omega⟩ i) := by
  have hin : ∀ a : Fin 3, (![0, c, 0] : Fin 3 → ℕ) a ≤ ((ix3 (0 : Fin 1) s i : S1x512x64.Idx) a).val
      ∧ ((ix3 (0 : Fin 1) s i : S1x512x64.Idx) a).val < (![0, c, 0] : Fin 3 → ℕ) a + S1x256x64.size a := fun a =>
    match a with
    | ⟨0, _⟩ => ⟨Nat.le_refl _, Nat.zero_lt_one⟩
    | ⟨1, _⟩ => h
    | ⟨2, _⟩ => ⟨Nat.zero_le _, by show i.val < 0 + 64; omega⟩
  unfold VecWindow.put
  rw [dif_pos hin]
  refine congrArg w (funext fun a => Fin.ext ?_)
  match a with
  | ⟨0, _⟩ => rfl
  | ⟨1, _⟩ => rfl
  | ⟨2, _⟩ => rfl

theorem rowPut_out (X : Vec Ideal S1x512x64 .f32) (c : ℕ) (w : Vec Ideal S1x256x64 .f32) (s : Fin 512) (i : Fin 64) (h : ¬ (c ≤ s.val ∧ s.val < c + 256)) :
    VecWindow.put (s := S1x512x64) X ![0, c, 0] S1x256x64.size w (ix3 0 s i) = X (ix3 0 s i) := by
  unfold VecWindow.put
  rw [dif_neg fun hin => h (hin 1)]

theorem cast_rows_at (w : FVec Ideal S256x64 .f32) (ρ : Fin 256) (i : Fin 64) :
    (shapeCast S1x256x64 w shapeCasts_S256x64_S1x256x64 : Vec Ideal S1x256x64 .f32) (ix3 0 ρ i) = w (ix2 ρ i) := by
  pointwise []

/-- The two tiles' rows one under the other. -/
theorem rowsOut_at (w : Fin 2 → FVec Ideal S256x64 .f32) (f : ℕ → Fin 64 → EReal) (hw : ∀ (r : Fin 2) (ρ : Fin 256) (e : Fin 64), w r (ix2 ρ e) = f (256 * r.val + ρ.val) e)
    (s : Fin 512) (i : Fin 64) : rowsOut w (ix3 0 s i) = f s.val i := by
  have hs := s.isLt
  unfold rowsOut
  have key : ∀ (r : Fin 2) (h : 256 * r.val ≤ s.val ∧ s.val < 256 * r.val + 256),
      (shapeCast S1x256x64 (w r) shapeCasts_S256x64_S1x256x64 : Vec Ideal S1x256x64 .f32) (ix3 0 ⟨s.val - 256 * r.val, by omega⟩ i) = f s.val i := by
    intro r h
    rw [cast_rows_at, hw r, Nat.add_sub_cancel' h.1]
  by_cases h1 : 256 ≤ s.val ∧ s.val < 256 + 256
  · rw [rowPut_in _ _ _ _ _ h1]; exact key 1 h1
  rw [rowPut_out _ _ _ _ _ h1]
  have h0 : 0 ≤ s.val ∧ s.val < 0 + 256 := by omega
  rw [rowPut_in _ _ _ _ _ h0]; exact key 0 h0

/-- The mask of a diagonal tile: the keys before the row. -/
theorem mask_seen (I : Fin 16) (r : Fin 2) : Seen (some (mask (BitVec.ofNat 32 I.val) (BitVec.ofNat 32 I.val) r)) (512 * I.val + 256 * r.val) (512 * I.val) := by
  intro ρ j
  pointwise [mask]
  have e1 : IntOp.addi (BitVec.ofNat 32 j.val) (Scalar.muli (BitVec.ofNat 32 I.val) 512#32) = BitVec.ofNat 32 (j.val + I.val * 512) := by
    show BitVec.ofNat 32 j.val + BitVec.ofNat 32 I.val * BitVec.ofNat 32 512 = _
    rw [← BitVec.ofNat_mul, ← BitVec.ofNat_add]
  have e2 : IntOp.addi (BitVec.ofNat 32 ρ.val) (Scalar.addi (Scalar.muli (BitVec.ofNat 32 I.val) 512#32) (BitVec.ofNat 32 (256 * r.val)))
      = BitVec.ofNat 32 (ρ.val + (I.val * 512 + 256 * r.val)) := by
    show BitVec.ofNat 32 ρ.val + (BitVec.ofNat 32 I.val * BitVec.ofNat 32 512 + BitVec.ofNat 32 (256 * r.val)) = _
    rw [← BitVec.ofNat_mul, ← BitVec.ofNat_add, ← BitVec.ofNat_add]
  rw [e1, e2, WordCmp.cmpi_slt_ofNat (w := 32) (by omega) (by omega)]
  by_cases h : 512 * I.val + j.val < 512 * I.val + 256 * r.val + ρ.val
  · rw [if_pos h, decide_eq_true (by omega)]; rfl
  · rw [if_neg h, decide_eq_false (by omega)]; rfl

theorem seen_at (I : Fin 16) (n : ℕ) (hn : n ≤ I.val) (r : Fin 2) : Seen (maskAt I n r) (512 * I.val + 256 * r.val) (512 * (groupAt I n).val) := by
  unfold maskAt
  by_cases h : n = 0
  · subst h
    rw [if_pos rfl]
    exact mask_seen I r
  · rw [if_neg h]
    show 512 * (I.val - n) + 512 ≤ 512 * I.val + 256 * r.val
    omega

/-- What one row block reads, at a head's values: queries and keys are reals. -/
structure BlocksAre (H : Head) (v : ℕ → Fin 64 → EReal) (I : ℕ) (x : Blocks Ideal) : Prop where
  q : ∀ (ρ : Fin 512) (e : Fin 64), x.q (ix3 0 ρ e) = ((H.q (512 * I + ρ.val) e : ℝ) : EReal)
  k : ∀ (s : Fin 8192) (e : Fin 64), x.k (ix3 0 s e) = ((H.k s.val e : ℝ) : EReal)
  v : ∀ (s : Fin 8192) (e : Fin 64), x.v (ix3 0 s e) = v s.val e
  a : ∀ (i : Fin 512) (j : Fin 256), x.a (ix2 i j) = (((if j.val < i.val % 256 then 1 else 0 : ℝ)) : EReal)

section
variable (H : Head) (v : ℕ → Fin 64 → EReal) (I : Fin 16) (x : Blocks Ideal) (hx : BlocksAre H v I.val x)

include hx in
/-- What a tile carries after `n` groups. -/
theorem stateAt_is (r : Fin 2) : ∀ n ≤ I.val + 1, CarryIs H v (512 * I.val + 256 * r.val) (512 * (I.val + 1 - n)) (stateAt x I r n) := by
  intro n
  induction n with
  | zero =>
    intro _
    have hz : ∀ (ρ : Fin 256) (j : ℕ), j ∈ Finset.Ico (512 * (I.val + 1 - 0)) 8192 → 512 * I.val + 256 * r.val + ρ.val ≤ j := fun ρ j hj => by
      have := (Finset.mem_Ico.mp hj).1
      omega
    refine ⟨eq_up _ _ fun ρ _ => ?_, fun ρ e => ?_⟩
    · rw [Finset.sum_eq_zero fun j hj => H.lk_zero (hz ρ j hj)]
      show Ideal.ofBits .f32 0x00000000#32 = _
      simp
    · rw [Finset.sum_eq_zero fun j hj => by rw [H.wt_zero (hz ρ j hj), EReal.coe_zero, zero_mul]]
      show Ideal.ofBits .f32 0x00000000#32 = _
      simp
  | succ n ih =>
    intro hn
    have hI := I.isLt
    have hg : (groupAt I n).val = I.val - n := rfl
    have h := ih (by omega)
    rw [show 512 * (I.val + 1 - n) = 512 * (groupAt I n).val + 512 by omega] at h
    rw [show 512 * (I.val + 1 - (n + 1)) = 512 * (groupAt I n).val by omega]
    exact tileNext_is H v _ _ _ _ _ _ _ _ (seen_at I n (by omega) r)
      (eq_up _ _ fun ρ e => (rows_at x.q r ρ e).trans ((hx.q _ e).trans (by rw [← Nat.add_assoc])))
      (fun j e => (keys_at x.k _ j e).trans (hx.k _ e)) (fun j e => (keys_at x.v _ j e).trans (hx.v _ e)) hx.a (by omega) h

include hx in
/-- A row block's output. -/
theorem blockOut_at (ρ : Fin 512) (e : Fin 64) :
    blockOut x I (ix3 0 ρ e) = ∑ j ∈ Finset.Ico 0 8192, ((H.wt (512 * I.val + ρ.val) j : ℝ) : EReal) * v j e := by
  refine rowsOut_at _ (fun ρ e => ∑ j ∈ Finset.Ico 0 8192, ((H.wt (512 * I.val + ρ) j : ℝ) : EReal) * v j e) (fun r ρ e => ?_) ρ e
  have h := (stateAt_is H v I x hx r (I.val + 1) le_rfl).acc ρ e
  rw [show 512 * (I.val + 1 - (I.val + 1)) = 0 by omega, Nat.add_assoc] at h
  exact h

end

end Cert.SbFwdProof
-- ==== Proof.FwdResult.lean ====
/- What the forward pass returns, at real queries and keys. -/
module

public import proofs.«01_k».proof.Proof.FwdReal
public import proofs.«01_k».proof.Proof.FwdData
public import proofs.«01_k».proof.Proof.HostValue
public import proofs.«01_k».proof.Proof.Value
public import Idealize.ShloMosaic.Lib.Pipeline.ValueKit

@[expose] public section

set_option maxRecDepth 16384

noncomputable section

namespace Cert.SbFwdProof

open Cert.SbFwdIdeal Cert.SbFwdIdeal.Gen
open Cert.SbBwd (Head remWord remWord_eq bit_one bit_zero one_ix3)
open Idealize.ShloMosaic Idealize.ShloMosaic.TcCoe Idealize.ShloMosaic.StableHlo
open Idealize.ShloMosaic.Pipeline (Dat)

variable (m : (ℓ : Loc nD τ sig) → Buf (Elt Ideal) ℓ) (c : Dev nD)

set_option maxHeartbeats 4000000 in
theorem V_after (i : Fin 512) (j : Fin 256) : V m c main_v4 (ix2 i j) = (((if j.val < i.val % 256 then 1 else 0 : ℝ)) : EReal) := by
  simp only [V, hostOps0, hostOps0_1, hostOps0_2,
    List.flatten_cons, List.flatten_nil, List.append_nil, List.cons_append, List.nil_append, TRef.binary, TRef.nullary, TRef.ternary, TRef.unary, TRef.toBuf, TRef.ofBuf, cast_eq]
  after_results_simp
  pointwise []
  show FloatOps.uitofp (F := Ideal) .bf16 (IntOp.cmpi .sgt (remWord (BitVec.ofNat 32 i.val)) (BitVec.ofNat 32 j.val)) = _
  rw [remWord_eq, WordCmp.cmpi_sgt_ofNat (w := 32) (by omega) (by omega)]
  by_cases h : j.val < i.val % 256
  · rw [if_pos h, decide_eq_true h]; exact bit_one
  · rw [if_neg h, decide_eq_false h]; exact bit_zero

/-- The queries and keys are real numbers: those of the heads; the values are `v`. -/
structure ArgsAre (H : Fin 16 → Head) (v : Fin 16 → ℕ → Fin 64 → EReal) : Prop where
  q : ∀ (h : Fin 16) (t : Fin 8192) (e : Fin 64), m ((c.tc : Thread nD τ).loc main_arg0) (ix3 h t e) = (((H h).q t.val e : ℝ) : EReal)
  k : ∀ (h : Fin 16) (t : Fin 8192) (e : Fin 64), m ((c.tc : Thread nD τ).loc main_arg1) (ix3 h t e) = (((H h).k t.val e : ℝ) : EReal)
  v : ∀ (h : Fin 16) (t : Fin 8192) (e : Fin 64), m ((c.tc : Thread nD τ).loc main_arg2) (ix3 h t e) = v h t.val e

theorem idx : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_4.index t = ![t.val / 16, t.val % 16, 0] :=
  (by decide +kernel : ∀ t : Fin grid0.N, _)

/-- The head of a point. -/
def headAt (t : Fin cfg0.N) : Fin 16 := ⟨t.val / 16, by have h : t.val < 256 := t.isLt; omega⟩

theorem blk_q (t : Fin cfg0.N) (ρ : Fin 512) (e : Fin 64) :
    iblk m c 0 t (ix3 0 ρ e) = V m c main_arg0 (ix3 (headAt t) ⟨512 * (rowAt t).val + ρ.val, by have := (rowAt t).isLt; omega⟩ e) := by
  have h : t.val < 256 := t.isLt
  blk_ext [iblk, idx t]
  all_goals simp only [headAt, rowAt]; omega

theorem blk_k (t : Fin cfg0.N) (s : Fin 8192) (e : Fin 64) : iblk m c 1 t (ix3 0 s e) = V m c main_arg1 (ix3 (headAt t) s e) := by
  have h : t.val < 256 := t.isLt
  blk_ext [iblk, idx t]
  all_goals simp only [headAt, rowAt]; omega

theorem blk_v (t : Fin cfg0.N) (s : Fin 8192) (e : Fin 64) : iblk m c 2 t (ix3 0 s e) = V m c main_arg2 (ix3 (headAt t) s e) := by
  have h : t.val < 256 := t.isLt
  blk_ext [iblk, idx t]
  all_goals simp only [headAt, rowAt]; omega

theorem blk_a (t : Fin cfg0.N) (i : Fin 512) (j : Fin 256) : iblk m c 3 t (ix2 i j) = V m c main_v4 (ix2 i j) := by
  blk_ext [iblk, idx t]

variable (H : Fin 16 → Head) (v : Fin 16 → ℕ → Fin 64 → EReal) (hA : ArgsAre m c H v)

set_option maxHeartbeats 4000000 in
include hA in
theorem blocksAt_are (t : Fin cfg0.N) : BlocksAre (H (headAt t)) (v (headAt t)) (rowAt t).val (blocksAt m c t) := by
  refine ⟨fun ρ e => ?_, fun s e => ?_, fun s e => ?_, fun i j => ?_⟩
  · exact (blk_q m c t ρ e).trans ((congrFun (V_main_arg0 m c) _).trans (hA.q _ _ e))
  · exact (blk_k m c t s e).trans ((congrFun (V_main_arg1 m c) _).trans (hA.k _ _ e))
  · exact (blk_v m c t s e).trans ((congrFun (V_main_arg2 m c) _).trans (hA.v _ _ e))
  · exact (blk_a m c t i j).trans (V_after m c i j)

/-- The output: the weighted values. -/
def outOf : FVec Ideal S16x8192x64 .f32 := fun i => ∑ j ∈ Finset.Ico 0 8192, (((H (i 0)).wt (i 1).val j : ℝ) : EReal) * v (i 0) j (i 2)

include hA in
theorem final_4 : (dats m 0 c).arrAt 4 (cfgs 0).N = outOf H v := by
  refine (dats m 0 c).arrAt_eq_of_covers 4 _ (by decide +kernel) fun t hf y => ?_
  have h : t.val < 256 := t.isLt
  blk_simp
  rw [after_4]
  have he : (win0_4.blk t).view.emb y = ix3 (headAt t) ⟨512 * (rowAt t).val + (y 1).val, by have := (rowAt t).isLt; have : (y 1).val < 512 := (y 1).isLt; omega⟩ (y 2) := by
    blk_ext [idx t]
    all_goals simp only [headAt, rowAt] <;> omega
  rw [he]
  refine (congrArg (blockOut (blocksAt m c t) (rowAt t)) (one_ix3 (n1 := 512) (n2 := 64) y)).trans ?_
  exact blockOut_at (H (headAt t)) (v (headAt t)) (rowAt t) (blocksAt m c t) (blocksAt_are m c H v hA t) (y 1) (y 2)

end Cert.SbFwdProof
-- ==== Proof.FwdAlgebraic.lean ====
/- The forward pass and its reference leave the same output. -/
module

public import proofs.«01_k».proof.Defs
public import proofs.«01_k».proof.Proof.FwdResult
public import proofs.«01_k».proof.Proof.Finite
public import proofs.«01_k».proof.Proof.RefReal
public import proofs.«01_k».proof.Proof.Gen.SbFwdReferenceIdeal.Run
public import Idealize.ShloMosaic.Lib.Claim

@[expose] public section

set_option maxRecDepth 16384

noncomputable section

namespace Cert.SbFwdProof

open Cert.SbBwd (Head rowsOf rowsOf_at)
open Idealize.ShloMosaic Idealize.ShloMosaic.TcCoe Idealize.SL.Sem

/-- The shape facts the precondition's text takes. -/
instance finiteQkFacts : Cert.Pre_finite_qk.Facts where
  bitsLt_bf16_f32 := by decide
  bcast_S_S16x8192x64 := by decide

section
open Cert.SbFwdIdeal Cert.SbFwdIdeal.Gen

variable (m : (ℓ : Loc nD τ sig) → Buf (Elt Ideal) ℓ) (ρ : Dev nD → PrngReg) (c : Dev nD)

/-- The head `h` of the queries and keys. -/
def headOf (h : Fin 16) : Head :=
  ⟨rowsOf (m ((c.tc : Thread nD τ).loc main_arg0)) h, rowsOf (m ((c.tc : Thread nD τ).loc main_arg1)) h, fun _ _ => 0, fun _ _ => 0⟩

/-- The values of the head `h`. -/
def valuesOf (x : FVec Ideal S16x8192x64 .bf16) (h : Fin 16) (t : ℕ) (e : Fin 64) : EReal :=
  if ht : t < 8192 then x (ix3 h ⟨t, ht⟩ e) else 0

theorem valuesOf_at (x : FVec Ideal S16x8192x64 .bf16) (h : Fin 16) (t : Fin 8192) (e : Fin 64) : x (ix3 h t e) = valuesOf x h t.val e := by
  rw [valuesOf, dif_pos t.isLt]

theorem argsAre (hpre : Cert.Pre_SbFwdIdeal_finite_qk m) :
    ArgsAre m c (headOf m c) (valuesOf (m ((c.tc : Thread nD τ).loc main_arg2))) := by
  obtain ⟨h0, h1⟩ := hpre c
  exact ⟨rowsOf_at finiteQkFacts.bcast_S_S16x8192x64 _ h0, rowsOf_at finiteQkFacts.bcast_S_S16x8192x64 _ h1, valuesOf_at _⟩

/-- The run's result is the weighted values. -/
theorem run_out (H : Dev nD → Fin 16 → Head) (v : Dev nD → Fin 16 → ℕ → Fin 64 → EReal) (hA : ∀ c, ArgsAre m c (H c) (v c)) :
    θ_run (defs (F := Ideal)) (onTc (τ := τ) (main (F := Ideal))) ⟨m, fun _ => 0, ρ⟩ (fun r => ∀ c : Dev nD,
      r.2.mem ((c.tc : Thread nD τ).loc main_v5) = outOf (H c) (v c)) :=
  (θ_run defs _ _).mono (fun _ h c => ((h c).1 4).trans (final_4 m c (H c) (v c) (hA c))) (run_main m ρ)
end

section
open Cert.SbFwdReferenceIdeal Cert.SbFwdReferenceIdeal.Gen
open Cert.SbBwd.Ref

set_option maxHeartbeats 4000000 in
theorem res_out (m : (ℓ : Loc nD τ sig) → Buf (Elt Ideal) ℓ) (c : Dev nD) :
    Value.res_main_v28 m c = out (wide (m ((c.tc : Thread nD τ).loc main_arg2)))
      (weight (logits (wide (m ((c.tc : Thread nD τ).loc main_arg0))) (wide (m ((c.tc : Thread nD τ).loc main_arg1))))) := by
  unfold Value.res_main_v28 out weight Cert.SbBwd.Ref.logKeep logSigmoid Cert.SbBwd.Ref.keep softplus toRight logits pairs eightLn2 ln2 wide zero eighth before
  rfl

/-- The reference's output at real queries and keys. -/
theorem ref_out (H : Fin 16 → Head) (v : Fin 16 → ℕ → Fin 64 → EReal) (xq xk xv : FVec Ideal S16x8192x64 .bf16)
    (hq : ∀ (h : Fin 16) (t : Fin 8192) (e : Fin 64), xq (ix3 h t e) = (((H h).q t.val e : ℝ) : EReal))
    (hk : ∀ (h : Fin 16) (t : Fin 8192) (e : Fin 64), xk (ix3 h t e) = (((H h).k t.val e : ℝ) : EReal))
    (hv : ∀ (h : Fin 16) (t : Fin 8192) (e : Fin 64), xv (ix3 h t e) = v h t.val e) :
    out (wide xv) (weight (logits (wide xq) (wide xk))) = outOf H v := by
  funext i
  rw [eq_ix3 i]
  have hs := fun s : Fin 8192 => keptWeight_at (H (i 0)) (i 0) (wide xq) (wide xk) (hq (i 0)) (hk (i 0)) (i 1) s
  have hw : ∀ s : Fin 8192, wide xv (ix3 (i 0) s (i 2)) = v (i 0) s.val (i 2) := fun s => hv (i 0) s (i 2)
  pointwise [out, hs, hw]
  have hp := sum_places 8192 0 (fun s => (((H (i 0)).wt (i 1).val s : ℝ) : EReal) * v (i 0) s (i 2))
  simp only [Nat.zero_add] at hp
  exact hp
end

theorem algebraic : Cert.algebraic_SbFwdIdeal_SbFwdReferenceIdeal_pre_finite_qk := fun m g m' g' hpre hagree => by
  have hA := fun c => argsAre m c hpre
  refine ⟨fun c => outOf (headOf m c) (valuesOf (m ((c.tc : Thread Cert.SbFwdIdeal.nD Cert.SbFwdIdeal.τ).loc Cert.SbFwdIdeal.main_arg2))),
    (θ_run Cert.SbFwdIdeal.defs _ _).mono (fun r h c => ?_) (θ_run_and (run_out m g (headOf m) _ hA) (frame_all m g)),
    (θ_run Cert.SbFwdReferenceIdeal.defs _ _).mono (fun r h c => ?_) (Cert.SbFwdReferenceIdeal.Value.run m' g')⟩
  · exact ⟨h.1 c, h.2.1 c⟩
  · obtain ⟨h0, hr⟩ := h c
    obtain ⟨a0, a1, a2⟩ := hagree c
    refine ⟨h0.trans ?_, hr⟩
    rw [res_out, a0, a1, a2]
    exact ref_out (headOf m c) _ _ _ _ (hA c).q (hA c).k (hA c).v

end Cert.SbFwdProof
-- ==== Proof.lean ====
module

public import proofs.«01_k».proof.Defs
public import proofs.«01_k».proof.Proof.Frames
public import proofs.«01_k».proof.Proof.Algebraic
public import proofs.«01_k».proof.Proof.OutDx
public import proofs.«01_k».proof.Proof.InDx
public import proofs.«01_k».proof.Proof.InDw
public import proofs.«01_k».proof.Proof.OutDw
public import proofs.«01_k».proof.Proof.FfnIn
public import proofs.«01_k».proof.Proof.FfnOut
public import proofs.«01_k».proof.Proof.SsmIn
public import proofs.«01_k».proof.Proof.SsmInDx
public import proofs.«01_k».proof.Proof.SsmInDw
public import proofs.«01_k».proof.Proof.SsmOut
public import proofs.«01_k».proof.Proof.SsmOutDx
public import proofs.«01_k».proof.Proof.SsmOutDw
public import proofs.«01_k».proof.Proof.Qkv
public import proofs.«01_k».proof.Proof.QkvDx
public import proofs.«01_k».proof.Proof.QkvDw
public import proofs.«01_k».proof.Proof.SbO
public import proofs.«01_k».proof.Proof.SbODx
public import proofs.«01_k».proof.Proof.SbODw
public import proofs.«01_k».proof.Proof.FwdFrames
public import proofs.«01_k».proof.Proof.FwdAlgebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.OutDx.Gen.facts, Cert.OutDxIdeal.Gen.facts, Cert.OutDxReferenceIdeal.Gen.facts,
    Cert.InDx.Gen.facts, Cert.InDxIdeal.Gen.facts, Cert.InDxReferenceIdeal.Gen.facts,
    Cert.InDw.Gen.facts, Cert.InDwIdeal.Gen.facts, Cert.InDwReferenceIdeal.Gen.facts,
    Cert.OutDw.Gen.facts, Cert.OutDwIdeal.Gen.facts, Cert.OutDwReferenceIdeal.Gen.facts,
    Cert.FfnIn.Gen.facts, Cert.FfnInIdeal.Gen.facts, Cert.FfnInReferenceIdeal.Gen.facts,
    Cert.FfnOut.Gen.facts, Cert.FfnOutIdeal.Gen.facts, Cert.FfnOutReferenceIdeal.Gen.facts,
    Cert.SsmIn.Gen.facts, Cert.SsmInIdeal.Gen.facts, Cert.SsmInReferenceIdeal.Gen.facts,
    Cert.SsmInDx.Gen.facts, Cert.SsmInDxIdeal.Gen.facts, Cert.SsmInDxReferenceIdeal.Gen.facts,
    Cert.SsmInDw.Gen.facts, Cert.SsmInDwIdeal.Gen.facts, Cert.SsmInDwReferenceIdeal.Gen.facts,
    Cert.SsmOut.Gen.facts, Cert.SsmOutIdeal.Gen.facts, Cert.SsmOutReferenceIdeal.Gen.facts,
    Cert.SsmOutDx.Gen.facts, Cert.SsmOutDxIdeal.Gen.facts, Cert.SsmOutDxReferenceIdeal.Gen.facts,
    Cert.SsmOutDw.Gen.facts, Cert.SsmOutDwIdeal.Gen.facts, Cert.SsmOutDwReferenceIdeal.Gen.facts,
    Cert.Qkv.Gen.facts, Cert.QkvIdeal.Gen.facts, Cert.QkvReferenceIdeal.Gen.facts,
    Cert.QkvDx.Gen.facts, Cert.QkvDxIdeal.Gen.facts, Cert.QkvDxReferenceIdeal.Gen.facts,
    Cert.QkvDw.Gen.facts, Cert.QkvDwIdeal.Gen.facts, Cert.QkvDwReferenceIdeal.Gen.facts,
    Cert.SbO.Gen.facts, Cert.SbOIdeal.Gen.facts, Cert.SbOReferenceIdeal.Gen.facts,
    Cert.SbODx.Gen.facts, Cert.SbODxIdeal.Gen.facts, Cert.SbODxReferenceIdeal.Gen.facts,
    Cert.SbODw.Gen.facts, Cert.SbODwIdeal.Gen.facts, Cert.SbODwReferenceIdeal.Gen.facts,
    Cert.SbFwd.Gen.facts, Cert.SbFwdIdeal.Gen.facts, Cert.SbFwdReferenceIdeal.Gen.facts,
    SbBwd.finiteFacts, SbFwdProof.finiteQkFacts,
    SbBwd.frame_kernel, SbBwd.frame_kernelIdeal, fun m g _ => SbBwd.frame_kernelIdeal m g trivial,
    SbBwd.frame_reference, fun m g _ => SbBwd.frame_reference m g trivial,
    OutDxProof.frame_kernel, OutDxProof.frame_ideal, OutDxProof.frame_reference,
    InDxProof.frame_kernel, InDxProof.frame_ideal, InDxProof.frame_reference,
    InDwProof.frame_kernel, InDwProof.frame_ideal, InDwProof.frame_reference,
    OutDwProof.frame_kernel, OutDwProof.frame_ideal, OutDwProof.frame_reference,
    FfnInProof.frame_kernel, FfnInProof.frame_ideal, FfnInProof.frame_reference,
    FfnOutProof.frame_kernel, FfnOutProof.frame_ideal, FfnOutProof.frame_reference,
    SsmInProof.frame_kernel, SsmInProof.frame_ideal, SsmInProof.frame_reference,
    SsmInDxProof.frame_kernel, SsmInDxProof.frame_ideal, SsmInDxProof.frame_reference,
    SsmInDwProof.frame_kernel, SsmInDwProof.frame_ideal, SsmInDwProof.frame_reference,
    SsmOutProof.frame_kernel, SsmOutProof.frame_ideal, SsmOutProof.frame_reference,
    SsmOutDxProof.frame_kernel, SsmOutDxProof.frame_ideal, SsmOutDxProof.frame_reference,
    SsmOutDwProof.frame_kernel, SsmOutDwProof.frame_ideal, SsmOutDwProof.frame_reference,
    QkvProof.frame_kernel, QkvProof.frame_ideal, QkvProof.frame_reference,
    QkvDxProof.frame_kernel, QkvDxProof.frame_ideal, QkvDxProof.frame_reference,
    QkvDwProof.frame_kernel, QkvDwProof.frame_ideal, QkvDwProof.frame_reference,
    SbOProof.frame_kernel, SbOProof.frame_ideal, SbOProof.frame_reference,
    SbODxProof.frame_kernel, SbODxProof.frame_ideal, SbODxProof.frame_reference,
    SbODwProof.frame_kernel, SbODwProof.frame_ideal, SbODwProof.frame_reference,
    SbFwdProof.frame_kernel, SbFwdProof.frame_kernelIdeal, fun m g _ => SbFwdProof.frame_kernelIdeal m g trivial,
    SbFwdProof.frame_reference, fun m g _ => SbFwdProof.frame_reference m g trivial,
    SbBwd.preserves, SbBwd.algebraic,
    trivial, OutDxProof.algebraic,
    trivial, InDxProof.algebraic,
    trivial, InDwProof.algebraic,
    trivial, OutDwProof.algebraic,
    trivial, FfnInProof.algebraic,
    trivial, FfnOutProof.algebraic,
    trivial, SsmInProof.algebraic,
    trivial, SsmInDxProof.algebraic,
    trivial, SsmInDwProof.algebraic,
    trivial, SsmOutProof.algebraic,
    trivial, SsmOutDxProof.algebraic,
    trivial, SsmOutDwProof.algebraic,
    trivial, QkvProof.algebraic,
    trivial, QkvDxProof.algebraic,
    trivial, QkvDwProof.algebraic,
    trivial, SbOProof.algebraic,
    trivial, SbODxProof.algebraic,
    trivial, SbODwProof.algebraic,
    SbFwdProof.preserves, SbFwdProof.algebraic⟩

end Cert.Proof

end
